-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1062) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x3x160x160x160 : Shape := ⟨5, ![2, 3, 160, 160, 160]⟩
abbrev S2x1x160x160x160 : Shape := ⟨5, ![2, 1, 160, 160, 160]⟩
abbrev S2x160x160x160 : Shape := ⟨4, ![2, 160, 160, 160]⟩
abbrev S1x8x160x160 : Shape := ⟨4, ![1, 8, 160, 160]⟩
abbrev S1x2x160x160 : Shape := ⟨4, ![1, 2, 160, 160]⟩
abbrev S8x160x160 : Shape := ⟨3, ![8, 160, 160]⟩
abbrev S1x160x160 : Shape := ⟨3, ![1, 160, 160]⟩
abbrev S2x160x160 : Shape := ⟨3, ![2, 160, 160]⟩
abbrev S10x160x160 : Shape := ⟨3, ![10, 160, 160]⟩
abbrev S8x1x160 : Shape := ⟨3, ![8, 1, 160]⟩
abbrev S8x158x160 : Shape := ⟨3, ![8, 158, 160]⟩
abbrev S8x160x1 : Shape := ⟨3, ![8, 160, 1]⟩
abbrev S8x160x158 : Shape := ⟨3, ![8, 160, 158]⟩
abbrev S2x20x8x128 : Shape := ⟨4, ![2, 20, 8, 128]⟩
abbrev S1x3x8x160x160 : Shape := ⟨5, ![1, 3, 8, 160, 160]⟩
abbrev S1x3x2x160x160 : Shape := ⟨5, ![1, 3, 2, 160, 160]⟩
abbrev S1x4x160x160 : Shape := ⟨4, ![1, 4, 160, 160]⟩
abbrev S1x1x8x128 : Shape := ⟨4, ![1, 1, 8, 128]⟩
abbrev S4x160x160 : Shape := ⟨3, ![4, 160, 160]⟩
abbrev S12x160x160 : Shape := ⟨3, ![12, 160, 160]⟩
abbrev S12x160x1 : Shape := ⟨3, ![12, 160, 1]⟩
abbrev S12x160x164 : Shape := ⟨3, ![12, 160, 164]⟩
abbrev S12x1x160 : Shape := ⟨3, ![12, 1, 160]⟩
abbrev S12x164x160 : Shape := ⟨3, ![12, 164, 160]⟩
abbrev S3x8x160x160 : Shape := ⟨4, ![3, 8, 160, 160]⟩
abbrev S3x1x160x160 : Shape := ⟨4, ![3, 1, 160, 160]⟩
abbrev S3x2x160x160 : Shape := ⟨4, ![3, 2, 160, 160]⟩
abbrev S3x10x160x160 : Shape := ⟨4, ![3, 10, 160, 160]⟩
abbrev S1 : Shape := ⟨1, ![1]⟩
abbrev S1x1x1x1 : Shape := ⟨4, ![1, 1, 1, 1]⟩
abbrev S2x20x1x1 : Shape := ⟨4, ![2, 20, 1, 1]⟩
abbrev S2x20 : Shape := ⟨2, ![2, 20]⟩
abbrev S_ : Shape := ⟨0, ![]⟩
abbrev S80 : Shape := ⟨1, ![80]⟩
abbrev S80x1 : Shape := ⟨2, ![80, 1]⟩
abbrev S80x160 : Shape := ⟨2, ![80, 160]⟩
abbrev S80x2x3x160x160 : Shape := ⟨5, ![80, 2, 3, 160, 160]⟩
abbrev S2x3x80x160x160 : Shape := ⟨5, ![2, 3, 80, 160, 160]⟩
abbrev S80x2x3x80x160 : Shape := ⟨5, ![80, 2, 3, 80, 160]⟩
abbrev S2x3x80x80x160 : Shape := ⟨5, ![2, 3, 80, 80, 160]⟩
abbrev S2x3x80x80x80 : Shape := ⟨5, ![2, 3, 80, 80, 80]⟩
abbrev S80x2x1x160x160 : Shape := ⟨5, ![80, 2, 1, 160, 160]⟩
abbrev S2x1x80x160x160 : Shape := ⟨5, ![2, 1, 80, 160, 160]⟩
abbrev S80x2x1x80x160 : Shape := ⟨5, ![80, 2, 1, 80, 160]⟩
abbrev S2x1x80x80x160 : Shape := ⟨5, ![2, 1, 80, 80, 160]⟩
abbrev S2x1x80x80x80 : Shape := ⟨5, ![2, 1, 80, 80, 80]⟩
abbrev S2x80x80x80 : Shape := ⟨4, ![2, 80, 80, 80]⟩
abbrev S1x8x80x80 : Shape := ⟨4, ![1, 8, 80, 80]⟩
abbrev S1x2x80x80 : Shape := ⟨4, ![1, 2, 80, 80]⟩
abbrev S8x80x80 : Shape := ⟨3, ![8, 80, 80]⟩
abbrev S1x80x80 : Shape := ⟨3, ![1, 80, 80]⟩
abbrev S2x80x80 : Shape := ⟨3, ![2, 80, 80]⟩
abbrev S10x80x80 : Shape := ⟨3, ![10, 80, 80]⟩
abbrev S8x1x80 : Shape := ⟨3, ![8, 1, 80]⟩
abbrev S8x78x80 : Shape := ⟨3, ![8, 78, 80]⟩
abbrev S8x80x1 : Shape := ⟨3, ![8, 80, 1]⟩
abbrev S8x80x78 : Shape := ⟨3, ![8, 80, 78]⟩
abbrev S2x10x8x128 : Shape := ⟨4, ![2, 10, 8, 128]⟩
abbrev S1x3x8x80x80 : Shape := ⟨5, ![1, 3, 8, 80, 80]⟩
abbrev S1x3x2x80x80 : Shape := ⟨5, ![1, 3, 2, 80, 80]⟩
abbrev S1x4x80x80 : Shape := ⟨4, ![1, 4, 80, 80]⟩
abbrev S4x80x80 : Shape := ⟨3, ![4, 80, 80]⟩
abbrev S12x80x80 : Shape := ⟨3, ![12, 80, 80]⟩
abbrev S12x80x1 : Shape := ⟨3, ![12, 80, 1]⟩
abbrev S12x80x84 : Shape := ⟨3, ![12, 80, 84]⟩
abbrev S12x1x80 : Shape := ⟨3, ![12, 1, 80]⟩
abbrev S12x84x80 : Shape := ⟨3, ![12, 84, 80]⟩
abbrev S3x8x80x80 : Shape := ⟨4, ![3, 8, 80, 80]⟩
abbrev S3x1x80x80 : Shape := ⟨4, ![3, 1, 80, 80]⟩
abbrev S3x2x80x80 : Shape := ⟨4, ![3, 2, 80, 80]⟩
abbrev S3x10x80x80 : Shape := ⟨4, ![3, 10, 80, 80]⟩
abbrev S2x10x1x1 : Shape := ⟨4, ![2, 10, 1, 1]⟩
abbrev S2x10 : Shape := ⟨2, ![2, 10]⟩
abbrev S40 : Shape := ⟨1, ![40]⟩
abbrev S40x1 : Shape := ⟨2, ![40, 1]⟩
abbrev S40x160 : Shape := ⟨2, ![40, 160]⟩
abbrev S40x2x3x160x160 : Shape := ⟨5, ![40, 2, 3, 160, 160]⟩
abbrev S2x3x40x160x160 : Shape := ⟨5, ![2, 3, 40, 160, 160]⟩
abbrev S40x2x3x40x160 : Shape := ⟨5, ![40, 2, 3, 40, 160]⟩
abbrev S2x3x40x40x160 : Shape := ⟨5, ![2, 3, 40, 40, 160]⟩
abbrev S2x3x40x40x40 : Shape := ⟨5, ![2, 3, 40, 40, 40]⟩
abbrev S40x2x1x160x160 : Shape := ⟨5, ![40, 2, 1, 160, 160]⟩
abbrev S2x1x40x160x160 : Shape := ⟨5, ![2, 1, 40, 160, 160]⟩
abbrev S40x2x1x40x160 : Shape := ⟨5, ![40, 2, 1, 40, 160]⟩
abbrev S2x1x40x40x160 : Shape := ⟨5, ![2, 1, 40, 40, 160]⟩
abbrev S2x1x40x40x40 : Shape := ⟨5, ![2, 1, 40, 40, 40]⟩
abbrev S2x40x40x40 : Shape := ⟨4, ![2, 40, 40, 40]⟩
abbrev S1x8x40x40 : Shape := ⟨4, ![1, 8, 40, 40]⟩
abbrev S1x2x40x40 : Shape := ⟨4, ![1, 2, 40, 40]⟩
abbrev S8x40x40 : Shape := ⟨3, ![8, 40, 40]⟩
abbrev S1x40x40 : Shape := ⟨3, ![1, 40, 40]⟩
abbrev S2x40x40 : Shape := ⟨3, ![2, 40, 40]⟩
abbrev S10x40x40 : Shape := ⟨3, ![10, 40, 40]⟩
abbrev S8x1x40 : Shape := ⟨3, ![8, 1, 40]⟩
abbrev S8x38x40 : Shape := ⟨3, ![8, 38, 40]⟩
abbrev S8x40x1 : Shape := ⟨3, ![8, 40, 1]⟩
abbrev S8x40x38 : Shape := ⟨3, ![8, 40, 38]⟩
abbrev S2x5x8x128 : Shape := ⟨4, ![2, 5, 8, 128]⟩
abbrev S1x3x8x40x40 : Shape := ⟨5, ![1, 3, 8, 40, 40]⟩
abbrev S1x3x2x40x40 : Shape := ⟨5, ![1, 3, 2, 40, 40]⟩
abbrev S1x4x40x40 : Shape := ⟨4, ![1, 4, 40, 40]⟩
abbrev S4x40x40 : Shape := ⟨3, ![4, 40, 40]⟩
abbrev S12x40x40 : Shape := ⟨3, ![12, 40, 40]⟩
abbrev S12x40x1 : Shape := ⟨3, ![12, 40, 1]⟩
abbrev S12x40x44 : Shape := ⟨3, ![12, 40, 44]⟩
abbrev S12x1x40 : Shape := ⟨3, ![12, 1, 40]⟩
abbrev S12x44x40 : Shape := ⟨3, ![12, 44, 40]⟩
abbrev S3x8x40x40 : Shape := ⟨4, ![3, 8, 40, 40]⟩
abbrev S3x1x40x40 : Shape := ⟨4, ![3, 1, 40, 40]⟩
abbrev S3x2x40x40 : Shape := ⟨4, ![3, 2, 40, 40]⟩
abbrev S3x10x40x40 : Shape := ⟨4, ![3, 10, 40, 40]⟩
abbrev S2x5x1x1 : Shape := ⟨4, ![2, 5, 1, 1]⟩
abbrev S2x5 : Shape := ⟨2, ![2, 5]⟩
abbrev S2x3x1x1x1 : Shape := ⟨5, ![2, 3, 1, 1, 1]⟩
abbrev S2x3 : Shape := ⟨2, ![2, 3]⟩
abbrev S2x3x1 : Shape := ⟨3, ![2, 3, 1]⟩
abbrev S2x3x3 : Shape := ⟨3, ![2, 3, 3]⟩
abbrev S2x1x1 : Shape := ⟨3, ![2, 1, 1]⟩
abbrev S2 : Shape := ⟨1, ![2]⟩
abbrev S2x1 : Shape := ⟨2, ![2, 1]⟩
abbrev S2x1x3 : Shape := ⟨3, ![2, 1, 3]⟩

abbrev nBuf : Space → Nat
  | .hbm => 248
  | .vmem => 70
  | .smem => 0
  | _ => 0

abbrev hbmTy0_0 (i : Nat) : BufTy := match i % 128 with
  | 0 => ⟨S2x3x160x160x160, .f32⟩
  | 1 => ⟨S2x1x160x160x160, .f32⟩
  | 2 => ⟨S2x160x160x160, .f32⟩
  | 3 => ⟨S2x160x160x160, .f32⟩
  | 4 => ⟨S2x20x8x128, .f32⟩
  | 5 => ⟨S2x20x1x1, .f32⟩
  | 6 => ⟨S2x20, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S80, .f32⟩
  | 16 => ⟨S_, .f32⟩
  | 17 => ⟨S80, .f32⟩
  | 18 => ⟨S80, .f32⟩
  | 19 => ⟨S80x1, .f32⟩
  | 20 => ⟨S80x160, .f32⟩
  | 21 => ⟨S80x2x3x160x160, .f32⟩
  | 22 => ⟨S2x3x80x160x160, .f32⟩
  | 23 => ⟨S80x2x3x80x160, .f32⟩
  | 24 => ⟨S2x3x80x80x160, .f32⟩
  | 25 => ⟨S2x3x80x80x80, .f32⟩
  | 26 => ⟨S80x2x1x160x160, .f32⟩
  | 27 => ⟨S2x1x80x160x160, .f32⟩
  | 28 => ⟨S80x2x1x80x160, .f32⟩
  | 29 => ⟨S2x1x80x80x160, .f32⟩
  | 30 => ⟨S2x1x80x80x80, .f32⟩
  | 31 => ⟨S2x80x80x80, .f32⟩
  | 32 => ⟨S2x80x80x80, .f32⟩
  | 33 => ⟨S2x10x8x128, .f32⟩
  | 34 => ⟨S2x10x1x1, .f32⟩
  | 35 => ⟨S2x10, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S40, .f32⟩
  | 44 => ⟨S_, .f32⟩
  | 45 => ⟨S40, .f32⟩
  | 46 => ⟨S40, .f32⟩
  | 47 => ⟨S40x1, .f32⟩
  | 48 => ⟨S40x160, .f32⟩
  | 49 => ⟨S40x2x3x160x160, .f32⟩
  | 50 => ⟨S2x3x40x160x160, .f32⟩
  | 51 => ⟨S40x2x3x40x160, .f32⟩
  | 52 => ⟨S2x3x40x40x160, .f32⟩
  | 53 => ⟨S2x3x40x40x40, .f32⟩
  | 54 => ⟨S40x2x1x160x160, .f32⟩
  | 55 => ⟨S2x1x40x160x160, .f32⟩
  | 56 => ⟨S40x2x1x40x160, .f32⟩
  | 57 => ⟨S2x1x40x40x160, .f32⟩
  | 58 => ⟨S2x1x40x40x40, .f32⟩
  | 59 => ⟨S2x40x40x40, .f32⟩
  | 60 => ⟨S2x40x40x40, .f32⟩
  | 61 => ⟨S2x5x8x128, .f32⟩
  | 62 => ⟨S2x5x1x1, .f32⟩
  | 63 => ⟨S2x5, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S2x3x1x1x1, .f32⟩
  | 72 => ⟨S2x3, .f32⟩
  | 73 => ⟨S2x3x1x1x1, .f32⟩
  | 74 => ⟨S2x3, .f32⟩
  | 75 => ⟨S2x3, .f32⟩
  | 76 => ⟨S_, .f32⟩
  | 77 => ⟨S2x3, .f32⟩
  | 78 => ⟨S2x3, .f32⟩
  | 79 => ⟨S2x3x1x1x1, .f32⟩
  | 80 => ⟨S2x3, .f32⟩
  | 81 => ⟨S2x3x1x1x1, .f32⟩
  | 82 => ⟨S2x3, .f32⟩
  | 83 => ⟨S2x3, .f32⟩
  | 84 => ⟨S_, .f32⟩
  | 85 => ⟨S2x3, .f32⟩
  | 86 => ⟨S2x3, .f32⟩
  | 87 => ⟨S2x3x1x1x1, .f32⟩
  | 88 => ⟨S2x3, .f32⟩
  | 89 => ⟨S2x3x1x1x1, .f32⟩
  | 90 => ⟨S2x3, .f32⟩
  | 91 => ⟨S2x3, .f32⟩
  | 92 => ⟨S_, .f32⟩
  | 93 => ⟨S2x3, .f32⟩
  | 94 => ⟨S2x3, .f32⟩
  | 95 => ⟨S2x3x1, .f32⟩
  | 96 => ⟨S2x3x1, .f32⟩
  | 97 => ⟨S2x3x1, .f32⟩
  | 98 => ⟨S2x3x3, .f32⟩
  | 99 => ⟨S2x1x1, .f32⟩
  | 100 => ⟨S2, .f32⟩
  | 101 => ⟨S2, .f32⟩
  | 102 => ⟨S2x1x1, .f32⟩
  | 103 => ⟨S2, .f32⟩
  | 104 => ⟨S2, .f32⟩
  | 105 => ⟨S2, .i1⟩
  | 106 => ⟨S2x1, .i1⟩
  | 107 => ⟨S2x1x3, .f32⟩
  | 108 => ⟨S2x3, .f32⟩
  | 109 => ⟨S2x1x3, .f32⟩
  | 110 => ⟨S2x3, .f32⟩
  | 111 => ⟨S2x3, .i1⟩
  | 112 => ⟨S2x3, .f32⟩
  | 113 => ⟨S2x1, .i1⟩
  | 114 => ⟨S2x1x3, .f32⟩
  | 115 => ⟨S2x3, .f32⟩
  | 116 => ⟨S2x1x3, .f32⟩
  | 117 => ⟨S2x3, .f32⟩
  | 118 => ⟨S2x3, .i1⟩
  | 119 => ⟨S2x3, .f32⟩
  | 120 => ⟨S2x1x3, .f32⟩
  | 121 => ⟨S2x3, .f32⟩
  | 122 => ⟨S_, .i32⟩
  | 123 => ⟨S_, .i32⟩
  | 124 => ⟨S2, .i32⟩
  | 125 => ⟨S2, .i32⟩
  | 126 => ⟨S2, .i32⟩
  | 127 => ⟨S2x1, .f32⟩
  | _ => ⟨S2x3x160x160x160, .f32⟩

abbrev hbmTy0_1 (i : Nat) : BufTy := match i % 128 with
  | 0 => ⟨S2, .f32⟩
  | 1 => ⟨S2, .f32⟩
  | 2 => ⟨S2x1, .f32⟩
  | 3 => ⟨S2, .f32⟩
  | 4 => ⟨S2, .f32⟩
  | 5 => ⟨S2, .i1⟩
  | 6 => ⟨S2x1, .i1⟩
  | 7 => ⟨S2x3, .i1⟩
  | 8 => ⟨S2x3, .f32⟩
  | 9 => ⟨S2x1, .i1⟩
  | 10 => ⟨S2x3, .i1⟩
  | 11 => ⟨S2x3, .f32⟩
  | 12 => ⟨S2, .i32⟩
  | 13 => ⟨S2, .i32⟩
  | 14 => ⟨S2x1, .f32⟩
  | 15 => ⟨S2, .f32⟩
  | 16 => ⟨S_, .f32⟩
  | 17 => ⟨S2, .f32⟩
  | 18 => ⟨S2, .i1⟩
  | 19 => ⟨S2x1, .f32⟩
  | 20 => ⟨S2, .f32⟩
  | 21 => ⟨S_, .i32⟩
  | 22 => ⟨S_, .f32⟩
  | 23 => ⟨S2, .f32⟩
  | 24 => ⟨S2, .f32⟩
  | 25 => ⟨S2x1, .f32⟩
  | 26 => ⟨S2, .f32⟩
  | 27 => ⟨S_, .f32⟩
  | 28 => ⟨S2, .f32⟩
  | 29 => ⟨S2, .i1⟩
  | 30 => ⟨S2x1, .f32⟩
  | 31 => ⟨S2, .f32⟩
  | 32 => ⟨S2, .f32⟩
  | 33 => ⟨S_, .i32⟩
  | 34 => ⟨S_, .f32⟩
  | 35 => ⟨S2, .f32⟩
  | 36 => ⟨S2, .f32⟩
  | 37 => ⟨S2x1, .f32⟩
  | 38 => ⟨S2, .f32⟩
  | 39 => ⟨S_, .f32⟩
  | 40 => ⟨S2, .f32⟩
  | 41 => ⟨S2, .i1⟩
  | 42 => ⟨S2x1, .f32⟩
  | 43 => ⟨S2, .f32⟩
  | 44 => ⟨S2, .f32⟩
  | 45 => ⟨S_, .i32⟩
  | 46 => ⟨S_, .f32⟩
  | 47 => ⟨S2, .f32⟩
  | 48 => ⟨S2, .f32⟩
  | 49 => ⟨S2x1, .f32⟩
  | 50 => ⟨S2x3, .f32⟩
  | 51 => ⟨S2x3, .f32⟩
  | 52 => ⟨S2x3, .f32⟩
  | 53 => ⟨S2x1, .f32⟩
  | 54 => ⟨S2x3, .f32⟩
  | 55 => ⟨S2x3, .f32⟩
  | 56 => ⟨S2x3, .f32⟩
  | 57 => ⟨S2x1, .f32⟩
  | 58 => ⟨S2, .f32⟩
  | 59 => ⟨S2, .f32⟩
  | 60 => ⟨S2x1, .f32⟩
  | 61 => ⟨S2, .f32⟩
  | 62 => ⟨S2, .f32⟩
  | 63 => ⟨S2, .i1⟩
  | 64 => ⟨S2x1, .i1⟩
  | 65 => ⟨S2x3, .i1⟩
  | 66 => ⟨S2x3, .f32⟩
  | 67 => ⟨S2x1, .i1⟩
  | 68 => ⟨S2x3, .i1⟩
  | 69 => ⟨S2x3, .f32⟩
  | 70 => ⟨S2, .i32⟩
  | 71 => ⟨S2, .i32⟩
  | 72 => ⟨S2x1, .f32⟩
  | 73 => ⟨S2, .f32⟩
  | 74 => ⟨S_, .f32⟩
  | 75 => ⟨S2, .f32⟩
  | 76 => ⟨S2, .i1⟩
  | 77 => ⟨S2x1, .f32⟩
  | 78 => ⟨S2, .f32⟩
  | 79 => ⟨S_, .i32⟩
  | 80 => ⟨S_, .f32⟩
  | 81 => ⟨S2, .f32⟩
  | 82 => ⟨S2, .f32⟩
  | 83 => ⟨S2x1, .f32⟩
  | 84 => ⟨S2, .f32⟩
  | 85 => ⟨S_, .f32⟩
  | 86 => ⟨S2, .f32⟩
  | 87 => ⟨S2, .i1⟩
  | 88 => ⟨S2x1, .f32⟩
  | 89 => ⟨S2, .f32⟩
  | 90 => ⟨S2, .f32⟩
  | 91 => ⟨S_, .i32⟩
  | 92 => ⟨S_, .f32⟩
  | 93 => ⟨S2, .f32⟩
  | 94 => ⟨S2, .f32⟩
  | 95 => ⟨S2x1, .f32⟩
  | 96 => ⟨S2, .f32⟩
  | 97 => ⟨S2x1, .f32⟩
  | 98 => ⟨S2, .f32⟩
  | 99 => ⟨S2, .f32⟩
  | 100 => ⟨S2, .f32⟩
  | 101 => ⟨S2x1, .f32⟩
  | 102 => ⟨S2, .f32⟩
  | 103 => ⟨S2, .f32⟩
  | 104 => ⟨S2, .f32⟩
  | 105 => ⟨S2x1, .f32⟩
  | 106 => ⟨S2, .f32⟩
  | 107 => ⟨S2, .f32⟩
  | 108 => ⟨S2, .f32⟩
  | 109 => ⟨S2, .f32⟩
  | 110 => ⟨S_, .f32⟩
  | 111 => ⟨S2, .f32⟩
  | 112 => ⟨S2, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | _ => ⟨S2x3x160x160x160, .f32⟩

abbrev hbmTy (i : Nat) : BufTy := match i / 128 with
  | 0 => hbmTy0_0 i
  | 1 => hbmTy0_1 i
  | _ => ⟨S2x3x160x160x160, .f32⟩

abbrev bufTy : (tb : Table) → Fin (tcTables nBuf tb) → BufTy
  | .hbm, ⟨i, _⟩ => hbmTy i
  | .local _ .vmem, ⟨0, _⟩ => ⟨S1x8x160x160, .f32⟩
  | .local _ .vmem, ⟨1, _⟩ => ⟨S1x8x160x160, .f32⟩
  | .local _ .vmem, ⟨2, _⟩ => ⟨S1x2x160x160, .f32⟩
  | .local _ .vmem, ⟨3, _⟩ => ⟨S1x2x160x160, .f32⟩
  | .local _ .vmem, ⟨4, _⟩ => ⟨S1x2x160x160, .f32⟩
  | .local _ .vmem, ⟨5, _⟩ => ⟨S1x2x160x160, .f32⟩
  | .local _ .vmem, ⟨6, _⟩ => ⟨S1x8x160x160, .f32⟩
  | .local _ .vmem, ⟨7, _⟩ => ⟨S1x8x160x160, .f32⟩
  | .local _ .vmem, ⟨8, _⟩ => ⟨S1x3x8x160x160, .f32⟩
  | .local _ .vmem, ⟨9, _⟩ => ⟨S1x3x8x160x160, .f32⟩
  | .local _ .vmem, ⟨10, _⟩ => ⟨S1x3x2x160x160, .f32⟩
  | .local _ .vmem, ⟨11, _⟩ => ⟨S1x3x2x160x160, .f32⟩
  | .local _ .vmem, ⟨12, _⟩ => ⟨S1x3x2x160x160, .f32⟩
  | .local _ .vmem, ⟨13, _⟩ => ⟨S1x3x2x160x160, .f32⟩
  | .local _ .vmem, ⟨14, _⟩ => ⟨S1x8x160x160, .f32⟩
  | .local _ .vmem, ⟨15, _⟩ => ⟨S1x8x160x160, .f32⟩
  | .local _ .vmem, ⟨16, _⟩ => ⟨S1x4x160x160, .f32⟩
  | .local _ .vmem, ⟨17, _⟩ => ⟨S1x4x160x160, .f32⟩
  | .local _ .vmem, ⟨18, _⟩ => ⟨S1x4x160x160, .f32⟩
  | .local _ .vmem, ⟨19, _⟩ => ⟨S1x4x160x160, .f32⟩
  | .local _ .vmem, ⟨20, _⟩ => ⟨S1x1x8x128, .f32⟩
  | .local _ .vmem, ⟨21, _⟩ => ⟨S1x1x8x128, .f32⟩
  | .local _ .vmem, ⟨22, _⟩ => ⟨S80x1, .f32⟩
  | .local _ .vmem, ⟨23, _⟩ => ⟨S80x160, .f32⟩
  | .local _ .vmem, ⟨24, _⟩ => ⟨S1x8x80x80, .f32⟩
  | .local _ .vmem, ⟨25, _⟩ => ⟨S1x8x80x80, .f32⟩
  | .local _ .vmem, ⟨26, _⟩ => ⟨S1x2x80x80, .f32⟩
  | .local _ .vmem, ⟨27, _⟩ => ⟨S1x2x80x80, .f32⟩
  | .local _ .vmem, ⟨28, _⟩ => ⟨S1x2x80x80, .f32⟩
  | .local _ .vmem, ⟨29, _⟩ => ⟨S1x2x80x80, .f32⟩
  | .local _ .vmem, ⟨30, _⟩ => ⟨S1x8x80x80, .f32⟩
  | .local _ .vmem, ⟨31, _⟩ => ⟨S1x8x80x80, .f32⟩
  | .local _ .vmem, ⟨32, _⟩ => ⟨S1x3x8x80x80, .f32⟩
  | .local _ .vmem, ⟨33, _⟩ => ⟨S1x3x8x80x80, .f32⟩
  | .local _ .vmem, ⟨34, _⟩ => ⟨S1x3x2x80x80, .f32⟩
  | .local _ .vmem, ⟨35, _⟩ => ⟨S1x3x2x80x80, .f32⟩
  | .local _ .vmem, ⟨36, _⟩ => ⟨S1x3x2x80x80, .f32⟩
  | .local _ .vmem, ⟨37, _⟩ => ⟨S1x3x2x80x80, .f32⟩
  | .local _ .vmem, ⟨38, _⟩ => ⟨S1x8x80x80, .f32⟩
  | .local _ .vmem, ⟨39, _⟩ => ⟨S1x8x80x80, .f32⟩
  | .local _ .vmem, ⟨40, _⟩ => ⟨S1x4x80x80, .f32⟩
  | .local _ .vmem, ⟨41, _⟩ => ⟨S1x4x80x80, .f32⟩
  | .local _ .vmem, ⟨42, _⟩ => ⟨S1x4x80x80, .f32⟩
  | .local _ .vmem, ⟨43, _⟩ => ⟨S1x4x80x80, .f32⟩
  | .local _ .vmem, ⟨44, _⟩ => ⟨S1x1x8x128, .f32⟩
  | .local _ .vmem, ⟨45, _⟩ => ⟨S1x1x8x128, .f32⟩
  | .local _ .vmem, ⟨46, _⟩ => ⟨S40x1, .f32⟩
  | .local _ .vmem, ⟨47, _⟩ => ⟨S40x160, .f32⟩
  | .local _ .vmem, ⟨48, _⟩ => ⟨S1x8x40x40, .f32⟩
  | .local _ .vmem, ⟨49, _⟩ => ⟨S1x8x40x40, .f32⟩
  | .local _ .vmem, ⟨50, _⟩ => ⟨S1x2x40x40, .f32⟩
  | .local _ .vmem, ⟨51, _⟩ => ⟨S1x2x40x40, .f32⟩
  | .local _ .vmem, ⟨52, _⟩ => ⟨S1x2x40x40, .f32⟩
  | .local _ .vmem, ⟨53, _⟩ => ⟨S1x2x40x40, .f32⟩
  | .local _ .vmem, ⟨54, _⟩ => ⟨S1x8x40x40, .f32⟩
  | .local _ .vmem, ⟨55, _⟩ => ⟨S1x8x40x40, .f32⟩
  | .local _ .vmem, ⟨56, _⟩ => ⟨S1x3x8x40x40, .f32⟩
  | .local _ .vmem, ⟨57, _⟩ => ⟨S1x3x8x40x40, .f32⟩
  | .local _ .vmem, ⟨58, _⟩ => ⟨S1x3x2x40x40, .f32⟩
  | .local _ .vmem, ⟨59, _⟩ => ⟨S1x3x2x40x40, .f32⟩
  | .local _ .vmem, ⟨60, _⟩ => ⟨S1x3x2x40x40, .f32⟩
  | .local _ .vmem, ⟨61, _⟩ => ⟨S1x3x2x40x40, .f32⟩
  | .local _ .vmem, ⟨62, _⟩ => ⟨S1x8x40x40, .f32⟩
  | .local _ .vmem, ⟨63, _⟩ => ⟨S1x8x40x40, .f32⟩
  | .local _ .vmem, ⟨64, _⟩ => ⟨S1x4x40x40, .f32⟩
  | .local _ .vmem, ⟨65, _⟩ => ⟨S1x4x40x40, .f32⟩
  | .local _ .vmem, ⟨66, _⟩ => ⟨S1x4x40x40, .f32⟩
  | .local _ .vmem, ⟨67, _⟩ => ⟨S1x4x40x40, .f32⟩
  | .local _ .vmem, ⟨68, _⟩ => ⟨S1x1x8x128, .f32⟩
  | .local _ .vmem, ⟨69, _⟩ => ⟨S1x1x8x128, .f32⟩
  | _, _ => ⟨S2x3x160x160x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_4 : Ref sig .tc := ⟨.hbm, 36, rfl⟩
abbrev main_v29 : Ref sig .tc := ⟨.hbm, 37, rfl⟩
abbrev main_cst_5 : Ref sig .tc := ⟨.hbm, 38, rfl⟩
abbrev main_v30 : Ref sig .tc := ⟨.hbm, 39, rfl⟩
abbrev main_cst_6 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_7 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_8 : Ref sig .tc := ⟨.hbm, 64, rfl⟩
abbrev main_v53 : Ref sig .tc := ⟨.hbm, 65, rfl⟩
abbrev main_cst_9 : Ref sig .tc := ⟨.hbm, 66, rfl⟩
abbrev main_v54 : Ref sig .tc := ⟨.hbm, 67, rfl⟩
abbrev main_cst_10 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_11 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_12 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_cst_13 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_call0_v0 : Ref sig .tc := ⟨.hbm, 99, rfl⟩
abbrev main_call0_v1 : Ref sig .tc := ⟨.hbm, 100, rfl⟩
abbrev main_call0_v2 : Ref sig .tc := ⟨.hbm, 101, rfl⟩
abbrev main_call0_v3 : Ref sig .tc := ⟨.hbm, 102, rfl⟩
abbrev main_call0_v4 : Ref sig .tc := ⟨.hbm, 103, rfl⟩
abbrev main_call0_v5 : Ref sig .tc := ⟨.hbm, 104, rfl⟩
abbrev main_call0_v6 : Ref sig .tc := ⟨.hbm, 105, rfl⟩
abbrev main_call0_v7 : Ref sig .tc := ⟨.hbm, 106, rfl⟩
abbrev main_call0_v8 : Ref sig .tc := ⟨.hbm, 107, rfl⟩
abbrev main_call0_v9 : Ref sig .tc := ⟨.hbm, 108, rfl⟩
abbrev main_call0_v10 : Ref sig .tc := ⟨.hbm, 109, rfl⟩
abbrev main_call0_v11 : Ref sig .tc := ⟨.hbm, 110, rfl⟩
abbrev main_call0_call0_v0 : Ref sig .tc := ⟨.hbm, 111, rfl⟩
abbrev main_call0_v12 : Ref sig .tc := ⟨.hbm, 112, rfl⟩
abbrev main_call0_v13 : Ref sig .tc := ⟨.hbm, 113, rfl⟩
abbrev main_call0_v14 : Ref sig .tc := ⟨.hbm, 114, rfl⟩
abbrev main_call0_v15 : Ref sig .tc := ⟨.hbm, 115, rfl⟩
abbrev main_call0_v16 : Ref sig .tc := ⟨.hbm, 116, rfl⟩
abbrev main_call0_v17 : Ref sig .tc := ⟨.hbm, 117, rfl⟩
abbrev main_call0_call1_v0 : Ref sig .tc := ⟨.hbm, 118, rfl⟩
abbrev main_call0_v18 : Ref sig .tc := ⟨.hbm, 119, rfl⟩
abbrev main_call0_v19 : Ref sig .tc := ⟨.hbm, 120, rfl⟩
abbrev main_call0_v20 : Ref sig .tc := ⟨.hbm, 121, rfl⟩
abbrev main_call0_c : Ref sig .tc := ⟨.hbm, 122, rfl⟩
abbrev main_call0_c_0 : Ref sig .tc := ⟨.hbm, 123, rfl⟩
abbrev main_call0_call2_v0 : Ref sig .tc := ⟨.hbm, 124, rfl⟩
abbrev main_call0_call2_v1 : Ref sig .tc := ⟨.hbm, 125, rfl⟩
abbrev main_call0_v21 : Ref sig .tc := ⟨.hbm, 126, rfl⟩
abbrev main_call0_v22 : Ref sig .tc := ⟨.hbm, 127, rfl⟩
abbrev main_call0_v23 : Ref sig .tc := ⟨.hbm, 128, rfl⟩
abbrev main_call0_v24 : Ref sig .tc := ⟨.hbm, 129, rfl⟩
abbrev main_call0_v25 : Ref sig .tc := ⟨.hbm, 130, rfl⟩
abbrev main_call0_v26 : Ref sig .tc := ⟨.hbm, 131, rfl⟩
abbrev main_call0_v27 : Ref sig .tc := ⟨.hbm, 132, rfl⟩
abbrev main_call0_v28 : Ref sig .tc := ⟨.hbm, 133, rfl⟩
abbrev main_call0_v29 : Ref sig .tc := ⟨.hbm, 134, rfl⟩
abbrev main_call0_call3_v0 : Ref sig .tc := ⟨.hbm, 135, rfl⟩
abbrev main_call0_v30 : Ref sig .tc := ⟨.hbm, 136, rfl⟩
abbrev main_call0_v31 : Ref sig .tc := ⟨.hbm, 137, rfl⟩
abbrev main_call0_call4_v0 : Ref sig .tc := ⟨.hbm, 138, rfl⟩
abbrev main_call0_v32 : Ref sig .tc := ⟨.hbm, 139, rfl⟩
abbrev main_call0_v33 : Ref sig .tc := ⟨.hbm, 140, rfl⟩
abbrev main_call0_v34 : Ref sig .tc := ⟨.hbm, 141, rfl⟩
abbrev main_call0_v35 : Ref sig .tc := ⟨.hbm, 142, rfl⟩
abbrev main_call0_v36 : Ref sig .tc := ⟨.hbm, 143, rfl⟩
abbrev main_call0_cst : Ref sig .tc := ⟨.hbm, 144, rfl⟩
abbrev main_call0_v37 : Ref sig .tc := ⟨.hbm, 145, rfl⟩
abbrev main_call0_v38 : Ref sig .tc := ⟨.hbm, 146, rfl⟩
abbrev main_call0_v39 : Ref sig .tc := ⟨.hbm, 147, rfl⟩
abbrev main_call0_v40 : Ref sig .tc := ⟨.hbm, 148, rfl⟩
abbrev main_call0_c_1 : Ref sig .tc := ⟨.hbm, 149, rfl⟩
abbrev main_call0_call6_v0 : Ref sig .tc := ⟨.hbm, 150, rfl⟩
abbrev main_call0_call6_v1 : Ref sig .tc := ⟨.hbm, 151, rfl⟩
abbrev main_call0_v41 : Ref sig .tc := ⟨.hbm, 152, rfl⟩
abbrev main_call0_v42 : Ref sig .tc := ⟨.hbm, 153, rfl⟩
abbrev main_call0_v43 : Ref sig .tc := ⟨.hbm, 154, rfl⟩
abbrev main_call0_cst_2 : Ref sig .tc := ⟨.hbm, 155, rfl⟩
abbrev main_call0_v44 : Ref sig .tc := ⟨.hbm, 156, rfl⟩
abbrev main_call0_v45 : Ref sig .tc := ⟨.hbm, 157, rfl⟩
abbrev main_call0_v46 : Ref sig .tc := ⟨.hbm, 158, rfl⟩
abbrev main_call0_v47 : Ref sig .tc := ⟨.hbm, 159, rfl⟩
abbrev main_call0_v48 : Ref sig .tc := ⟨.hbm, 160, rfl⟩
abbrev main_call0_c_3 : Ref sig .tc := ⟨.hbm, 161, rfl⟩
abbrev main_call0_call7_v0 : Ref sig .tc := ⟨.hbm, 162, rfl⟩
abbrev main_call0_call7_v1 : Ref sig .tc := ⟨.hbm, 163, rfl⟩
abbrev main_call0_v49 : Ref sig .tc := ⟨.hbm, 164, rfl⟩
abbrev main_call0_v50 : Ref sig .tc := ⟨.hbm, 165, rfl⟩
abbrev main_call0_v51 : Ref sig .tc := ⟨.hbm, 166, rfl⟩
abbrev main_call0_cst_4 : Ref sig .tc := ⟨.hbm, 167, rfl⟩
abbrev main_call0_v52 : Ref sig .tc := ⟨.hbm, 168, rfl⟩
abbrev main_call0_v53 : Ref sig .tc := ⟨.hbm, 169, rfl⟩
abbrev main_call0_v54 : Ref sig .tc := ⟨.hbm, 170, rfl⟩
abbrev main_call0_v55 : Ref sig .tc := ⟨.hbm, 171, rfl⟩
abbrev main_call0_v56 : Ref sig .tc := ⟨.hbm, 172, rfl⟩
abbrev main_call0_c_5 : Ref sig .tc := ⟨.hbm, 173, rfl⟩
abbrev main_call0_call8_v0 : Ref sig .tc := ⟨.hbm, 174, rfl⟩
abbrev main_call0_call8_v1 : Ref sig .tc := ⟨.hbm, 175, rfl⟩
abbrev main_call0_v57 : Ref sig .tc := ⟨.hbm, 176, rfl⟩
abbrev main_call0_v58 : Ref sig .tc := ⟨.hbm, 177, rfl⟩
abbrev main_call0_v59 : Ref sig .tc := ⟨.hbm, 178, rfl⟩
abbrev main_call0_v60 : Ref sig .tc := ⟨.hbm, 179, rfl⟩
abbrev main_call0_v61 : Ref sig .tc := ⟨.hbm, 180, rfl⟩
abbrev main_call0_v62 : Ref sig .tc := ⟨.hbm, 181, rfl⟩
abbrev main_call0_v63 : Ref sig .tc := ⟨.hbm, 182, rfl⟩
abbrev main_call0_v64 : Ref sig .tc := ⟨.hbm, 183, rfl⟩
abbrev main_call0_v65 : Ref sig .tc := ⟨.hbm, 184, rfl⟩
abbrev main_call0_v66 : Ref sig .tc := ⟨.hbm, 185, rfl⟩
abbrev main_call0_v67 : Ref sig .tc := ⟨.hbm, 186, rfl⟩
abbrev main_call0_v68 : Ref sig .tc := ⟨.hbm, 187, rfl⟩
abbrev main_call0_v69 : Ref sig .tc := ⟨.hbm, 188, rfl⟩
abbrev main_call0_v70 : Ref sig .tc := ⟨.hbm, 189, rfl⟩
abbrev main_call0_v71 : Ref sig .tc := ⟨.hbm, 190, rfl⟩
abbrev main_call0_v72 : Ref sig .tc := ⟨.hbm, 191, rfl⟩
abbrev main_call0_v73 : Ref sig .tc := ⟨.hbm, 192, rfl⟩
abbrev main_call0_call9_v0 : Ref sig .tc := ⟨.hbm, 193, rfl⟩
abbrev main_call0_v74 : Ref sig .tc := ⟨.hbm, 194, rfl⟩
abbrev main_call0_v75 : Ref sig .tc := ⟨.hbm, 195, rfl⟩
abbrev main_call0_call10_v0 : Ref sig .tc := ⟨.hbm, 196, rfl⟩
abbrev main_call0_v76 : Ref sig .tc := ⟨.hbm, 197, rfl⟩
abbrev main_call0_v77 : Ref sig .tc := ⟨.hbm, 198, rfl⟩
abbrev main_call0_v78 : Ref sig .tc := ⟨.hbm, 199, rfl⟩
abbrev main_call0_v79 : Ref sig .tc := ⟨.hbm, 200, rfl⟩
abbrev main_call0_v80 : Ref sig .tc := ⟨.hbm, 201, rfl⟩
abbrev main_call0_cst_6 : Ref sig .tc := ⟨.hbm, 202, rfl⟩
abbrev main_call0_v81 : Ref sig .tc := ⟨.hbm, 203, rfl⟩
abbrev main_call0_v82 : Ref sig .tc := ⟨.hbm, 204, rfl⟩
abbrev main_call0_v83 : Ref sig .tc := ⟨.hbm, 205, rfl⟩
abbrev main_call0_v84 : Ref sig .tc := ⟨.hbm, 206, rfl⟩
abbrev main_call0_c_7 : Ref sig .tc := ⟨.hbm, 207, rfl⟩
abbrev main_call0_call12_v0 : Ref sig .tc := ⟨.hbm, 208, rfl⟩
abbrev main_call0_call12_v1 : Ref sig .tc := ⟨.hbm, 209, rfl⟩
abbrev main_call0_v85 : Ref sig .tc := ⟨.hbm, 210, rfl⟩
abbrev main_call0_v86 : Ref sig .tc := ⟨.hbm, 211, rfl⟩
abbrev main_call0_v87 : Ref sig .tc := ⟨.hbm, 212, rfl⟩
abbrev main_call0_cst_8 : Ref sig .tc := ⟨.hbm, 213, rfl⟩
abbrev main_call0_v88 : Ref sig .tc := ⟨.hbm, 214, rfl⟩
abbrev main_call0_v89 : Ref sig .tc := ⟨.hbm, 215, rfl⟩
abbrev main_call0_v90 : Ref sig .tc := ⟨.hbm, 216, rfl⟩
abbrev main_call0_v91 : Ref sig .tc := ⟨.hbm, 217, rfl⟩
abbrev main_call0_v92 : Ref sig .tc := ⟨.hbm, 218, rfl⟩
abbrev main_call0_c_9 : Ref sig .tc := ⟨.hbm, 219, rfl⟩
abbrev main_call0_call13_v0 : Ref sig .tc := ⟨.hbm, 220, rfl⟩
abbrev main_call0_call13_v1 : Ref sig .tc := ⟨.hbm, 221, rfl⟩
abbrev main_call0_v93 : Ref sig .tc := ⟨.hbm, 222, rfl⟩
abbrev main_call0_v94 : Ref sig .tc := ⟨.hbm, 223, rfl⟩
abbrev main_call0_v95 : Ref sig .tc := ⟨.hbm, 224, rfl⟩
abbrev main_call0_v96 : Ref sig .tc := ⟨.hbm, 225, rfl⟩
abbrev main_call0_v97 : Ref sig .tc := ⟨.hbm, 226, rfl⟩
abbrev main_call0_v98 : Ref sig .tc := ⟨.hbm, 227, rfl⟩
abbrev main_call0_v99 : Ref sig .tc := ⟨.hbm, 228, rfl⟩
abbrev main_call0_v100 : Ref sig .tc := ⟨.hbm, 229, rfl⟩
abbrev main_call0_v101 : Ref sig .tc := ⟨.hbm, 230, rfl⟩
abbrev main_call0_v102 : Ref sig .tc := ⟨.hbm, 231, rfl⟩
abbrev main_call0_v103 : Ref sig .tc := ⟨.hbm, 232, rfl⟩
abbrev main_call0_v104 : Ref sig .tc := ⟨.hbm, 233, rfl⟩
abbrev main_call0_v105 : Ref sig .tc := ⟨.hbm, 234, rfl⟩
abbrev main_call0_v106 : Ref sig .tc := ⟨.hbm, 235, rfl⟩
abbrev main_v82 : Ref sig .tc := ⟨.hbm, 236, rfl⟩
abbrev main_v83 : Ref sig .tc := ⟨.hbm, 237, rfl⟩
abbrev main_call1_cst : Ref sig .tc := ⟨.hbm, 238, rfl⟩
abbrev main_call1_v0 : Ref sig .tc := ⟨.hbm, 239, rfl⟩
abbrev main_v84 : Ref sig .tc := ⟨.hbm, 240, rfl⟩
abbrev main_cst_14 : Ref sig .tc := ⟨.hbm, 241, rfl⟩
abbrev main_v85 : Ref sig .tc := ⟨.hbm, 242, rfl⟩
abbrev main_cst_15 : Ref sig .tc := ⟨.hbm, 243, rfl⟩
abbrev main_v86 : Ref sig .tc := ⟨.hbm, 244, rfl⟩
abbrev main_cst_16 : Ref sig .tc := ⟨.hbm, 245, rfl⟩
abbrev main_v87 : Ref sig .tc := ⟨.hbm, 246, rfl⟩
abbrev main_v88 : Ref sig .tc := ⟨.hbm, 247, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg1_0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg3_1 : Ref sig .tc := ⟨.vmem, 39, rfl⟩
abbrev cc4_stg4_0 : Ref sig .tc := ⟨.vmem, 40, rfl⟩
abbrev cc4_stg4_1 : Ref sig .tc := ⟨.vmem, 41, rfl⟩
abbrev cc4_stg5_0 : Ref sig .tc := ⟨.vmem, 42, rfl⟩
abbrev cc4_stg5_1 : Ref sig .tc := ⟨.vmem, 43, rfl⟩
abbrev cc4_stg6_0 : Ref sig .tc := ⟨.vmem, 44, rfl⟩
abbrev cc4_stg6_1 : Ref sig .tc := ⟨.vmem, 45, rfl⟩
abbrev cc5_stg0_0 : Ref sig .tc := ⟨.vmem, 46, rfl⟩
abbrev cc5_stg1_0 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg2_1 : Ref sig .tc := ⟨.vmem, 53, rfl⟩
abbrev cc6_stg3_0 : Ref sig .tc := ⟨.vmem, 54, rfl⟩
abbrev cc6_stg3_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg1_1 : Ref sig .tc := ⟨.vmem, 59, rfl⟩
abbrev cc7_stg2_0 : Ref sig .tc := ⟨.vmem, 60, rfl⟩
abbrev cc7_stg2_1 : Ref sig .tc := ⟨.vmem, 61, rfl⟩
abbrev cc7_stg3_0 : Ref sig .tc := ⟨.vmem, 62, rfl⟩
abbrev cc7_stg3_1 : Ref sig .tc := ⟨.vmem, 63, rfl⟩
abbrev cc7_stg4_0 : Ref sig .tc := ⟨.vmem, 64, rfl⟩
abbrev cc7_stg4_1 : Ref sig .tc := ⟨.vmem, 65, rfl⟩
abbrev cc7_stg5_0 : Ref sig .tc := ⟨.vmem, 66, rfl⟩
abbrev cc7_stg5_1 : Ref sig .tc := ⟨.vmem, 67, rfl⟩
abbrev cc7_stg6_0 : Ref sig .tc := ⟨.vmem, 68, rfl⟩
abbrev cc7_stg6_1 : Ref sig .tc := ⟨.vmem, 69, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem1_0 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem3_1 : DmaSem sig := 39
abbrev cc4_sem4_0 : DmaSem sig := 40
abbrev cc4_sem4_1 : DmaSem sig := 41
abbrev cc4_sem5_0 : DmaSem sig := 42
abbrev cc4_sem5_1 : DmaSem sig := 43
abbrev cc4_sem6_0 : DmaSem sig := 44
abbrev cc4_sem6_1 : DmaSem sig := 45
abbrev cc5_sem0_0 : DmaSem sig := 46
abbrev cc5_sem1_0 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem2_1 : DmaSem sig := 53
abbrev cc6_sem3_0 : DmaSem sig := 54
abbrev cc6_sem3_1 : DmaSem sig := 55
abbrev cc7_sem0_0 : DmaSem sig := 56
abbrev cc7_sem0_1 : DmaSem sig := 57
abbrev cc7_sem1_0 : DmaSem sig := 58
abbrev cc7_sem1_1 : DmaSem sig := 59
abbrev cc7_sem2_0 : DmaSem sig := 60
abbrev cc7_sem2_1 : DmaSem sig := 61
abbrev cc7_sem3_0 : DmaSem sig := 62
abbrev cc7_sem3_1 : DmaSem sig := 63
abbrev cc7_sem4_0 : DmaSem sig := 64
abbrev cc7_sem4_1 : DmaSem sig := 65
abbrev cc7_sem5_0 : DmaSem sig := 66
abbrev cc7_sem5_1 : DmaSem sig := 67
abbrev cc7_sem6_0 : DmaSem sig := 68
abbrev cc7_sem6_1 : DmaSem sig := 69

abbrev nD : Nat := 1
abbrev τ : Topo := Topo.v7x

variable {F : FTy → Type} [FloatOps F]

abbrev grid0 : Pipeline.Grid := ⟨2, ![2, 20], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.subi v17 c1_i32_4
  let c0_i32_5 : BitVec 32 := 0#32
  let v19 : BitVec 32 := Scalar.maxsi v18 c0_i32_5
  let c0_i32_6 : BitVec 32 := 0#32
  let c0_i32_7 : BitVec 32 := 0#32
  let c0_i32_8 : BitVec 32 := 0#32
  ![arg0.toNat, v19.toNat, c0_i32_6.toNat, c0_i32_7.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c79_i32 : BitVec 32 := 79#32
  let v19 : BitVec 32 := Scalar.minsi v18 c79_i32
  let c0_i32_5 : BitVec 32 := 0#32
  let c0_i32_6 : BitVec 32 := 0#32
  let c0_i32_7 : BitVec 32 := 0#32
  ![arg0.toNat, v19.toNat, c0_i32_5.toNat, c0_i32_6.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x160x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x160x160 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x160x160 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x160x160 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 20], ![false, false]⟩

def cc1_transform_0 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc1_transform_1 (i : grid1.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.subi v17 c1_i32_4
  let c0_i32_5 : BitVec 32 := 0#32
  let v19 : BitVec 32 := Scalar.maxsi v18 c0_i32_5
  let c0_i32_6 : BitVec 32 := 0#32
  let c0_i32_7 : BitVec 32 := 0#32
  let c0_i32_8 : BitVec 32 := 0#32
  let c0_i32_9 : BitVec 32 := 0#32
  ![arg0.toNat, c0_i32_6.toNat, v19.toNat, c0_i32_7.toNat, c0_i32_8.toNat]

def cc1_transform_2 (i : grid1.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c79_i32 : BitVec 32 := 79#32
  let v19 : BitVec 32 := Scalar.minsi v18 c79_i32
  let c0_i32_5 : BitVec 32 := 0#32
  let c0_i32_6 : BitVec 32 := 0#32
  let c0_i32_7 : BitVec 32 := 0#32
  let c0_i32_8 : BitVec 32 := 0#32
  ![arg0.toNat, c0_i32_5.toNat, v19.toNat, c0_i32_6.toNat, c0_i32_7.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.subi v17 c1_i32_4
  let c0_i32_5 : BitVec 32 := 0#32
  let v19 : BitVec 32 := Scalar.maxsi v18 c0_i32_5
  let c0_i32_6 : BitVec 32 := 0#32
  let c0_i32_7 : BitVec 32 := 0#32
  let c0_i32_8 : BitVec 32 := 0#32
  ![arg0.toNat, v19.toNat, c0_i32_6.toNat, c0_i32_7.toNat]

def cc1_transform_5 (i : grid1.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c39_i32 : BitVec 32 := 39#32
  let v19 : BitVec 32 := Scalar.minsi v18 c39_i32
  let c0_i32_5 : BitVec 32 := 0#32
  let c0_i32_6 : BitVec 32 := 0#32
  let c0_i32_7 : BitVec 32 := 0#32
  ![arg0.toNat, v19.toNat, c0_i32_5.toNat, c0_i32_6.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x3x8x160x160 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x3x2x160x160 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x3x2x160x160 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x8x160x160 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x4x160x160 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x4x160x160 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1x8x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := .none

abbrev stage2_0 : Fin 1 → Memref sig .tc .vmem S80x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S80x160 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev grid3 : Pipeline.Grid := ⟨2, ![2, 10], ![false, false]⟩

def cc3_transform_0 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_1 (i : grid3.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.subi v17 c1_i32_4
  let c0_i32_5 : BitVec 32 := 0#32
  let v19 : BitVec 32 := Scalar.maxsi v18 c0_i32_5
  let c0_i32_6 : BitVec 32 := 0#32
  let c0_i32_7 : BitVec 32 := 0#32
  let c0_i32_8 : BitVec 32 := 0#32
  ![arg0.toNat, v19.toNat, c0_i32_6.toNat, c0_i32_7.toNat]

def cc3_transform_2 (i : grid3.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c39_i32 : BitVec 32 := 39#32
  let v19 : BitVec 32 := Scalar.minsi v18 c39_i32
  let c0_i32_5 : BitVec 32 := 0#32
  let c0_i32_6 : BitVec 32 := 0#32
  let c0_i32_7 : BitVec 32 := 0#32
  ![arg0.toNat, v19.toNat, c0_i32_5.toNat, c0_i32_6.toNat]

def cc3_transform_3 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage3_0 : Fin 2 → Memref sig .tc .vmem S1x8x80x80 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2x80x80 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x2x80x80 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x8x80x80 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![2, 10], ![false, false]⟩

def cc4_transform_0 (i : grid4.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc4_transform_1 (i : grid4.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.subi v17 c1_i32_4
  let c0_i32_5 : BitVec 32 := 0#32
  let v19 : BitVec 32 := Scalar.maxsi v18 c0_i32_5
  let c0_i32_6 : BitVec 32 := 0#32
  let c0_i32_7 : BitVec 32 := 0#32
  let c0_i32_8 : BitVec 32 := 0#32
  let c0_i32_9 : BitVec 32 := 0#32
  ![arg0.toNat, c0_i32_6.toNat, v19.toNat, c0_i32_7.toNat, c0_i32_8.toNat]

def cc4_transform_2 (i : grid4.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c39_i32 : BitVec 32 := 39#32
  let v19 : BitVec 32 := Scalar.minsi v18 c39_i32
  let c0_i32_5 : BitVec 32 := 0#32
  let c0_i32_6 : BitVec 32 := 0#32
  let c0_i32_7 : BitVec 32 := 0#32
  let c0_i32_8 : BitVec 32 := 0#32
  ![arg0.toNat, c0_i32_5.toNat, v19.toNat, c0_i32_6.toNat, c0_i32_7.toNat]

def cc4_transform_3 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc4_transform_4 (i : grid4.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.subi v17 c1_i32_4
  let c0_i32_5 : BitVec 32 := 0#32
  let v19 : BitVec 32 := Scalar.maxsi v18 c0_i32_5
  let c0_i32_6 : BitVec 32 := 0#32
  let c0_i32_7 : BitVec 32 := 0#32
  let c0_i32_8 : BitVec 32 := 0#32
  ![arg0.toNat, v19.toNat, c0_i32_6.toNat, c0_i32_7.toNat]

def cc4_transform_5 (i : grid4.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c19_i32 : BitVec 32 := 19#32
  let v19 : BitVec 32 := Scalar.minsi v18 c19_i32
  let c0_i32_5 : BitVec 32 := 0#32
  let c0_i32_6 : BitVec 32 := 0#32
  let c0_i32_7 : BitVec 32 := 0#32
  ![arg0.toNat, v19.toNat, c0_i32_5.toNat, c0_i32_6.toNat]

def cc4_transform_6 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage4_0 : Fin 2 → Memref sig .tc .vmem S1x3x8x80x80 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x3x2x80x80 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1x3x2x80x80 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S1x8x80x80 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S1x4x80x80 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 2 → Memref sig .tc .vmem S1x4x80x80 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev stage4_6 : Fin 2 → Memref sig .tc .vmem S1x1x8x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

abbrev grid5 : Pipeline.Grid := .none

abbrev stage5_0 : Fin 1 → Memref sig .tc .vmem S40x1 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S40x160 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev grid6 : Pipeline.Grid := ⟨2, ![2, 5], ![false, false]⟩

def cc6_transform_0 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc6_transform_1 (i : grid6.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.subi v17 c1_i32_4
  let c0_i32_5 : BitVec 32 := 0#32
  let v19 : BitVec 32 := Scalar.maxsi v18 c0_i32_5
  let c0_i32_6 : BitVec 32 := 0#32
  let c0_i32_7 : BitVec 32 := 0#32
  let c0_i32_8 : BitVec 32 := 0#32
  ![arg0.toNat, v19.toNat, c0_i32_6.toNat, c0_i32_7.toNat]

def cc6_transform_2 (i : grid6.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c19_i32 : BitVec 32 := 19#32
  let v19 : BitVec 32 := Scalar.minsi v18 c19_i32
  let c0_i32_5 : BitVec 32 := 0#32
  let c0_i32_6 : BitVec 32 := 0#32
  let c0_i32_7 : BitVec 32 := 0#32
  ![arg0.toNat, v19.toNat, c0_i32_5.toNat, c0_i32_6.toNat]

def cc6_transform_3 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage6_0 : Fin 2 → Memref sig .tc .vmem S1x8x40x40 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1x2x40x40 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 2 → Memref sig .tc .vmem S1x2x40x40 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev stage6_3 : Fin 2 → Memref sig .tc .vmem S1x8x40x40 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev grid7 : Pipeline.Grid := ⟨2, ![2, 5], ![false, false]⟩

def cc7_transform_0 (i : grid7.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc7_transform_1 (i : grid7.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.subi v17 c1_i32_4
  let c0_i32_5 : BitVec 32 := 0#32
  let v19 : BitVec 32 := Scalar.maxsi v18 c0_i32_5
  let c0_i32_6 : BitVec 32 := 0#32
  let c0_i32_7 : BitVec 32 := 0#32
  let c0_i32_8 : BitVec 32 := 0#32
  let c0_i32_9 : BitVec 32 := 0#32
  ![arg0.toNat, c0_i32_6.toNat, v19.toNat, c0_i32_7.toNat, c0_i32_8.toNat]

def cc7_transform_2 (i : grid7.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c19_i32 : BitVec 32 := 19#32
  let v19 : BitVec 32 := Scalar.minsi v18 c19_i32
  let c0_i32_5 : BitVec 32 := 0#32
  let c0_i32_6 : BitVec 32 := 0#32
  let c0_i32_7 : BitVec 32 := 0#32
  let c0_i32_8 : BitVec 32 := 0#32
  ![arg0.toNat, c0_i32_5.toNat, v19.toNat, c0_i32_6.toNat, c0_i32_7.toNat]

def cc7_transform_3 (i : grid7.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc7_transform_4 (i : grid7.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.subi v17 c1_i32_4
  let c0_i32_5 : BitVec 32 := 0#32
  let v19 : BitVec 32 := Scalar.maxsi v18 c0_i32_5
  let c0_i32_6 : BitVec 32 := 0#32
  let c0_i32_7 : BitVec 32 := 0#32
  let c0_i32_8 : BitVec 32 := 0#32
  ![arg0.toNat, v19.toNat, c0_i32_6.toNat, c0_i32_7.toNat]

def cc7_transform_5 (i : grid7.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c9_i32 : BitVec 32 := 9#32
  let v19 : BitVec 32 := Scalar.minsi v18 c9_i32
  let c0_i32_5 : BitVec 32 := 0#32
  let c0_i32_6 : BitVec 32 := 0#32
  let c0_i32_7 : BitVec 32 := 0#32
  ![arg0.toNat, v19.toNat, c0_i32_5.toNat, c0_i32_6.toNat]

def cc7_transform_6 (i : grid7.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage7_0 : Fin 2 → Memref sig .tc .vmem S1x3x8x40x40 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S1x3x2x40x40 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true]

abbrev stage7_2 : Fin 2 → Memref sig .tc .vmem S1x3x2x40x40 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev stage7_3 : Fin 2 → Memref sig .tc .vmem S1x8x40x40 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true]

abbrev stage7_4 : Fin 2 → Memref sig .tc .vmem S1x4x40x40 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, true]

abbrev stage7_5 : Fin 2 → Memref sig .tc .vmem S1x4x40x40 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true, true]

abbrev stage7_6 : Fin 2 → Memref sig .tc .vmem S1x1x8x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true, true]
-- ==== ReferenceIdeal.lean ====
abbrev S2x3x160x160x160 : Shape := ⟨5, ![2, 3, 160, 160, 160]⟩
abbrev S2x1x160x160x160 : Shape := ⟨5, ![2, 1, 160, 160, 160]⟩
abbrev S2x160x160x160 : Shape := ⟨4, ![2, 160, 160, 160]⟩
abbrev S2x1x160x160 : Shape := ⟨4, ![2, 1, 160, 160]⟩
abbrev S2x158x160x160 : Shape := ⟨4, ![2, 158, 160, 160]⟩
abbrev S_ : Shape := ⟨0, ![]⟩
abbrev S2x160x1x160 : Shape := ⟨4, ![2, 160, 1, 160]⟩
abbrev S2x160x158x160 : Shape := ⟨4, ![2, 160, 158, 160]⟩
abbrev S2x160x160x1 : Shape := ⟨4, ![2, 160, 160, 1]⟩
abbrev S2x160x160x158 : Shape := ⟨4, ![2, 160, 160, 158]⟩
abbrev S2x164x160x160 : Shape := ⟨4, ![2, 164, 160, 160]⟩
abbrev S2x160x164x160 : Shape := ⟨4, ![2, 160, 164, 160]⟩
abbrev S2x160x160x164 : Shape := ⟨4, ![2, 160, 160, 164]⟩
abbrev S2x3x1x160x160 : Shape := ⟨5, ![2, 3, 1, 160, 160]⟩
abbrev S2x3x158x160x160 : Shape := ⟨5, ![2, 3, 158, 160, 160]⟩
abbrev S2x3x160x1x160 : Shape := ⟨5, ![2, 3, 160, 1, 160]⟩
abbrev S2x3x160x158x160 : Shape := ⟨5, ![2, 3, 160, 158, 160]⟩
abbrev S2x3x160x160x1 : Shape := ⟨5, ![2, 3, 160, 160, 1]⟩
abbrev S2x3x160x160x158 : Shape := ⟨5, ![2, 3, 160, 160, 158]⟩
abbrev S80 : Shape := ⟨1, ![80]⟩
abbrev S1x1x80x1x1 : Shape := ⟨5, ![1, 1, 80, 1, 1]⟩
abbrev S80x1 : Shape := ⟨2, ![80, 1]⟩
abbrev S2x3x80x160x160 : Shape := ⟨5, ![2, 3, 80, 160, 160]⟩
abbrev S1x1x1x80x1 : Shape := ⟨5, ![1, 1, 1, 80, 1]⟩
abbrev S2x3x80x80x160 : Shape := ⟨5, ![2, 3, 80, 80, 160]⟩
abbrev S1x1x1x1x80 : Shape := ⟨5, ![1, 1, 1, 1, 80]⟩
abbrev S2x3x80x80x80 : Shape := ⟨5, ![2, 3, 80, 80, 80]⟩
abbrev S2x1x80x160x160 : Shape := ⟨5, ![2, 1, 80, 160, 160]⟩
abbrev S2x1x80x80x160 : Shape := ⟨5, ![2, 1, 80, 80, 160]⟩
abbrev S2x1x80x80x80 : Shape := ⟨5, ![2, 1, 80, 80, 80]⟩
abbrev S2x80x80x80 : Shape := ⟨4, ![2, 80, 80, 80]⟩
abbrev S2x1x80x80 : Shape := ⟨4, ![2, 1, 80, 80]⟩
abbrev S2x78x80x80 : Shape := ⟨4, ![2, 78, 80, 80]⟩
abbrev S2x80x1x80 : Shape := ⟨4, ![2, 80, 1, 80]⟩
abbrev S2x80x78x80 : Shape := ⟨4, ![2, 80, 78, 80]⟩
abbrev S2x80x80x1 : Shape := ⟨4, ![2, 80, 80, 1]⟩
abbrev S2x80x80x78 : Shape := ⟨4, ![2, 80, 80, 78]⟩
abbrev S2x84x80x80 : Shape := ⟨4, ![2, 84, 80, 80]⟩
abbrev S2x80x84x80 : Shape := ⟨4, ![2, 80, 84, 80]⟩
abbrev S2x80x80x84 : Shape := ⟨4, ![2, 80, 80, 84]⟩
abbrev S2x3x1x80x80 : Shape := ⟨5, ![2, 3, 1, 80, 80]⟩
abbrev S2x3x78x80x80 : Shape := ⟨5, ![2, 3, 78, 80, 80]⟩
abbrev S2x3x80x1x80 : Shape := ⟨5, ![2, 3, 80, 1, 80]⟩
abbrev S2x3x80x78x80 : Shape := ⟨5, ![2, 3, 80, 78, 80]⟩
abbrev S2x3x80x80x1 : Shape := ⟨5, ![2, 3, 80, 80, 1]⟩
abbrev S2x3x80x80x78 : Shape := ⟨5, ![2, 3, 80, 80, 78]⟩
abbrev S40 : Shape := ⟨1, ![40]⟩
abbrev S1x1x40x1x1 : Shape := ⟨5, ![1, 1, 40, 1, 1]⟩
abbrev S40x1 : Shape := ⟨2, ![40, 1]⟩
abbrev S2x3x40x160x160 : Shape := ⟨5, ![2, 3, 40, 160, 160]⟩
abbrev S1x1x1x40x1 : Shape := ⟨5, ![1, 1, 1, 40, 1]⟩
abbrev S2x3x40x40x160 : Shape := ⟨5, ![2, 3, 40, 40, 160]⟩
abbrev S1x1x1x1x40 : Shape := ⟨5, ![1, 1, 1, 1, 40]⟩
abbrev S2x3x40x40x40 : Shape := ⟨5, ![2, 3, 40, 40, 40]⟩
abbrev S2x1x40x160x160 : Shape := ⟨5, ![2, 1, 40, 160, 160]⟩
abbrev S2x1x40x40x160 : Shape := ⟨5, ![2, 1, 40, 40, 160]⟩
abbrev S2x1x40x40x40 : Shape := ⟨5, ![2, 1, 40, 40, 40]⟩
abbrev S2x40x40x40 : Shape := ⟨4, ![2, 40, 40, 40]⟩
abbrev S2x1x40x40 : Shape := ⟨4, ![2, 1, 40, 40]⟩
abbrev S2x38x40x40 : Shape := ⟨4, ![2, 38, 40, 40]⟩
abbrev S2x40x1x40 : Shape := ⟨4, ![2, 40, 1, 40]⟩
abbrev S2x40x38x40 : Shape := ⟨4, ![2, 40, 38, 40]⟩
abbrev S2x40x40x1 : Shape := ⟨4, ![2, 40, 40, 1]⟩
abbrev S2x40x40x38 : Shape := ⟨4, ![2, 40, 40, 38]⟩
abbrev S2x44x40x40 : Shape := ⟨4, ![2, 44, 40, 40]⟩
abbrev S2x40x44x40 : Shape := ⟨4, ![2, 40, 44, 40]⟩
abbrev S2x40x40x44 : Shape := ⟨4, ![2, 40, 40, 44]⟩
abbrev S2x3x1x40x40 : Shape := ⟨5, ![2, 3, 1, 40, 40]⟩
abbrev S2x3x38x40x40 : Shape := ⟨5, ![2, 3, 38, 40, 40]⟩
abbrev S2x3x40x1x40 : Shape := ⟨5, ![2, 3, 40, 1, 40]⟩
abbrev S2x3x40x38x40 : Shape := ⟨5, ![2, 3, 40, 38, 40]⟩
abbrev S2x3x40x40x1 : Shape := ⟨5, ![2, 3, 40, 40, 1]⟩
abbrev S2x3x40x40x38 : Shape := ⟨5, ![2, 3, 40, 40, 38]⟩
abbrev S2x3x1x1x1 : Shape := ⟨5, ![2, 3, 1, 1, 1]⟩
abbrev S2x3 : Shape := ⟨2, ![2, 3]⟩
abbrev S2x3x1 : Shape := ⟨3, ![2, 3, 1]⟩
abbrev S2x3x3 : Shape := ⟨3, ![2, 3, 3]⟩
abbrev S2x1x1 : Shape := ⟨3, ![2, 1, 1]⟩
abbrev S2 : Shape := ⟨1, ![2]⟩
abbrev S2x1 : Shape := ⟨2, ![2, 1]⟩
abbrev S2x1x3 : Shape := ⟨3, ![2, 1, 3]⟩

abbrev nBuf : Space → Nat
  | .hbm => 1332
  | .vmem => 0
  | .smem => 0
  | _ => 0

abbrev hbmTy0_0 (i : Nat) : BufTy := match i % 128 with
  | 0 => ⟨S2x3x160x160x160, .f32⟩
  | 1 => ⟨S2x1x160x160x160, .f32⟩
  | 2 => ⟨S2x160x160x160, .f32⟩
  | 3 => ⟨S2x1x160x160, .f32⟩
  | 4 => ⟨S2x1x160x160, .f32⟩
  | 5 => ⟨S2x1x160x160, .f32⟩
  | 6 => ⟨S2x158x160x160, .f32⟩
  | 7 => ⟨S2x158x160x160, .f32⟩
  | 8 => ⟨S2x158x160x160, .f32⟩
  | 9 => ⟨S_, .f32⟩
  | 10 => ⟨S2x158x160x160, .f32⟩
  | 11 => ⟨S2x158x160x160, .f32⟩
  | 12 => ⟨S2x1x160x160, .f32⟩
  | 13 => ⟨S2x1x160x160, .f32⟩
  | 14 => ⟨S2x1x160x160, .f32⟩
  | 15 => ⟨S2x160x160x160, .f32⟩
  | 16 => ⟨S2x160x1x160, .f32⟩
  | 17 => ⟨S2x160x1x160, .f32⟩
  | 18 => ⟨S2x160x1x160, .f32⟩
  | 19 => ⟨S2x160x158x160, .f32⟩
  | 20 => ⟨S2x160x158x160, .f32⟩
  | 21 => ⟨S2x160x158x160, .f32⟩
  | 22 => ⟨S_, .f32⟩
  | 23 => ⟨S2x160x158x160, .f32⟩
  | 24 => ⟨S2x160x158x160, .f32⟩
  | 25 => ⟨S2x160x1x160, .f32⟩
  | 26 => ⟨S2x160x1x160, .f32⟩
  | 27 => ⟨S2x160x1x160, .f32⟩
  | 28 => ⟨S2x160x160x160, .f32⟩
  | 29 => ⟨S2x160x160x1, .f32⟩
  | 30 => ⟨S2x160x160x1, .f32⟩
  | 31 => ⟨S2x160x160x1, .f32⟩
  | 32 => ⟨S2x160x160x158, .f32⟩
  | 33 => ⟨S2x160x160x158, .f32⟩
  | 34 => ⟨S2x160x160x158, .f32⟩
  | 35 => ⟨S_, .f32⟩
  | 36 => ⟨S2x160x160x158, .f32⟩
  | 37 => ⟨S2x160x160x158, .f32⟩
  | 38 => ⟨S2x160x160x1, .f32⟩
  | 39 => ⟨S2x160x160x1, .f32⟩
  | 40 => ⟨S2x160x160x1, .f32⟩
  | 41 => ⟨S2x160x160x160, .f32⟩
  | 42 => ⟨S2x160x160x160, .f32⟩
  | 43 => ⟨S2x160x160x160, .f32⟩
  | 44 => ⟨S2x160x160x160, .f32⟩
  | 45 => ⟨S2x160x160x160, .f32⟩
  | 46 => ⟨S2x160x160x160, .f32⟩
  | 47 => ⟨S2x160x160x160, .f32⟩
  | 48 => ⟨S2x1x160x160, .f32⟩
  | 49 => ⟨S2x1x160x160, .f32⟩
  | 50 => ⟨S2x1x160x160, .f32⟩
  | 51 => ⟨S2x1x160x160, .f32⟩
  | 52 => ⟨S2x164x160x160, .f32⟩
  | 53 => ⟨S2x160x160x160, .f32⟩
  | 54 => ⟨S_, .f32⟩
  | 55 => ⟨S2x160x160x160, .f32⟩
  | 56 => ⟨S2x160x160x160, .f32⟩
  | 57 => ⟨S_, .f32⟩
  | 58 => ⟨S2x160x160x160, .f32⟩
  | 59 => ⟨S2x160x160x160, .f32⟩
  | 60 => ⟨S2x160x160x160, .f32⟩
  | 61 => ⟨S_, .f32⟩
  | 62 => ⟨S2x160x160x160, .f32⟩
  | 63 => ⟨S2x160x160x160, .f32⟩
  | 64 => ⟨S2x160x160x160, .f32⟩
  | 65 => ⟨S2x160x160x160, .f32⟩
  | 66 => ⟨S_, .f32⟩
  | 67 => ⟨S2x160x160x160, .f32⟩
  | 68 => ⟨S2x160x160x160, .f32⟩
  | 69 => ⟨S2x160x160x160, .f32⟩
  | 70 => ⟨S2x160x160x160, .f32⟩
  | 71 => ⟨S_, .f32⟩
  | 72 => ⟨S2x160x160x160, .f32⟩
  | 73 => ⟨S2x160x160x160, .f32⟩
  | 74 => ⟨S2x160x160x160, .f32⟩
  | 75 => ⟨S2x160x160x160, .f32⟩
  | 76 => ⟨S_, .f32⟩
  | 77 => ⟨S2x160x160x160, .f32⟩
  | 78 => ⟨S2x160x160x160, .f32⟩
  | 79 => ⟨S2x160x160x160, .f32⟩
  | 80 => ⟨S2x160x1x160, .f32⟩
  | 81 => ⟨S2x160x1x160, .f32⟩
  | 82 => ⟨S2x160x1x160, .f32⟩
  | 83 => ⟨S2x160x1x160, .f32⟩
  | 84 => ⟨S2x160x164x160, .f32⟩
  | 85 => ⟨S2x160x160x160, .f32⟩
  | 86 => ⟨S_, .f32⟩
  | 87 => ⟨S2x160x160x160, .f32⟩
  | 88 => ⟨S2x160x160x160, .f32⟩
  | 89 => ⟨S_, .f32⟩
  | 90 => ⟨S2x160x160x160, .f32⟩
  | 91 => ⟨S2x160x160x160, .f32⟩
  | 92 => ⟨S2x160x160x160, .f32⟩
  | 93 => ⟨S_, .f32⟩
  | 94 => ⟨S2x160x160x160, .f32⟩
  | 95 => ⟨S2x160x160x160, .f32⟩
  | 96 => ⟨S2x160x160x160, .f32⟩
  | 97 => ⟨S2x160x160x160, .f32⟩
  | 98 => ⟨S_, .f32⟩
  | 99 => ⟨S2x160x160x160, .f32⟩
  | 100 => ⟨S2x160x160x160, .f32⟩
  | 101 => ⟨S2x160x160x160, .f32⟩
  | 102 => ⟨S2x160x160x160, .f32⟩
  | 103 => ⟨S_, .f32⟩
  | 104 => ⟨S2x160x160x160, .f32⟩
  | 105 => ⟨S2x160x160x160, .f32⟩
  | 106 => ⟨S2x160x160x160, .f32⟩
  | 107 => ⟨S2x160x160x160, .f32⟩
  | 108 => ⟨S_, .f32⟩
  | 109 => ⟨S2x160x160x160, .f32⟩
  | 110 => ⟨S2x160x160x160, .f32⟩
  | 111 => ⟨S2x160x160x160, .f32⟩
  | 112 => ⟨S2x160x160x1, .f32⟩
  | 113 => ⟨S2x160x160x1, .f32⟩
  | 114 => ⟨S2x160x160x1, .f32⟩
  | 115 => ⟨S2x160x160x1, .f32⟩
  | 116 => ⟨S2x160x160x164, .f32⟩
  | 117 => ⟨S2x160x160x160, .f32⟩
  | 118 => ⟨S_, .f32⟩
  | 119 => ⟨S2x160x160x160, .f32⟩
  | 120 => ⟨S2x160x160x160, .f32⟩
  | 121 => ⟨S_, .f32⟩
  | 122 => ⟨S2x160x160x160, .f32⟩
  | 123 => ⟨S2x160x160x160, .f32⟩
  | 124 => ⟨S2x160x160x160, .f32⟩
  | 125 => ⟨S_, .f32⟩
  | 126 => ⟨S2x160x160x160, .f32⟩
  | 127 => ⟨S2x160x160x160, .f32⟩
  | _ => ⟨S2x3x160x160x160, .f32⟩

abbrev hbmTy0_1 (i : Nat) : BufTy := match i % 128 with
  | 0 => ⟨S2x160x160x160, .f32⟩
  | 1 => ⟨S2x160x160x160, .f32⟩
  | 2 => ⟨S_, .f32⟩
  | 3 => ⟨S2x160x160x160, .f32⟩
  | 4 => ⟨S2x160x160x160, .f32⟩
  | 5 => ⟨S2x160x160x160, .f32⟩
  | 6 => ⟨S2x160x160x160, .f32⟩
  | 7 => ⟨S_, .f32⟩
  | 8 => ⟨S2x160x160x160, .f32⟩
  | 9 => ⟨S2x160x160x160, .f32⟩
  | 10 => ⟨S2x160x160x160, .f32⟩
  | 11 => ⟨S2x160x160x160, .f32⟩
  | 12 => ⟨S_, .f32⟩
  | 13 => ⟨S2x160x160x160, .f32⟩
  | 14 => ⟨S2x160x160x160, .f32⟩
  | 15 => ⟨S2x160x160x160, .f32⟩
  | 16 => ⟨S_, .f32⟩
  | 17 => ⟨S2x160x160x160, .f32⟩
  | 18 => ⟨S2x160x160x160, .f32⟩
  | 19 => ⟨S_, .f32⟩
  | 20 => ⟨S2x160x160x160, .f32⟩
  | 21 => ⟨S2x160x160x160, .f32⟩
  | 22 => ⟨S_, .f32⟩
  | 23 => ⟨S_, .f32⟩
  | 24 => ⟨S_, .f32⟩
  | 25 => ⟨S2x160x160x160, .f32⟩
  | 26 => ⟨S2x160x160x160, .f32⟩
  | 27 => ⟨S_, .f32⟩
  | 28 => ⟨S2x160x160x160, .f32⟩
  | 29 => ⟨S2x160x160x160, .f32⟩
  | 30 => ⟨S_, .f32⟩
  | 31 => ⟨S2x160x160x160, .f32⟩
  | 32 => ⟨S2x160x160x160, .f32⟩
  | 33 => ⟨S_, .f32⟩
  | 34 => ⟨S2x160x160x160, .f32⟩
  | 35 => ⟨S2x160x160x160, .f32⟩
  | 36 => ⟨S_, .f32⟩
  | 37 => ⟨S_, .f32⟩
  | 38 => ⟨S_, .f32⟩
  | 39 => ⟨S2x160x160x160, .f32⟩
  | 40 => ⟨S2x160x160x160, .f32⟩
  | 41 => ⟨S_, .f32⟩
  | 42 => ⟨S2x160x160x160, .f32⟩
  | 43 => ⟨S2x160x160x160, .f32⟩
  | 44 => ⟨S2x3x1x160x160, .f32⟩
  | 45 => ⟨S2x3x1x160x160, .f32⟩
  | 46 => ⟨S2x3x1x160x160, .f32⟩
  | 47 => ⟨S2x3x158x160x160, .f32⟩
  | 48 => ⟨S2x3x158x160x160, .f32⟩
  | 49 => ⟨S2x3x158x160x160, .f32⟩
  | 50 => ⟨S_, .f32⟩
  | 51 => ⟨S2x3x158x160x160, .f32⟩
  | 52 => ⟨S2x3x158x160x160, .f32⟩
  | 53 => ⟨S2x3x1x160x160, .f32⟩
  | 54 => ⟨S2x3x1x160x160, .f32⟩
  | 55 => ⟨S2x3x1x160x160, .f32⟩
  | 56 => ⟨S2x3x160x160x160, .f32⟩
  | 57 => ⟨S2x3x160x1x160, .f32⟩
  | 58 => ⟨S2x3x160x1x160, .f32⟩
  | 59 => ⟨S2x3x160x1x160, .f32⟩
  | 60 => ⟨S2x3x160x158x160, .f32⟩
  | 61 => ⟨S2x3x160x158x160, .f32⟩
  | 62 => ⟨S2x3x160x158x160, .f32⟩
  | 63 => ⟨S_, .f32⟩
  | 64 => ⟨S2x3x160x158x160, .f32⟩
  | 65 => ⟨S2x3x160x158x160, .f32⟩
  | 66 => ⟨S2x3x160x1x160, .f32⟩
  | 67 => ⟨S2x3x160x1x160, .f32⟩
  | 68 => ⟨S2x3x160x1x160, .f32⟩
  | 69 => ⟨S2x3x160x160x160, .f32⟩
  | 70 => ⟨S2x3x160x160x1, .f32⟩
  | 71 => ⟨S2x3x160x160x1, .f32⟩
  | 72 => ⟨S2x3x160x160x1, .f32⟩
  | 73 => ⟨S2x3x160x160x158, .f32⟩
  | 74 => ⟨S2x3x160x160x158, .f32⟩
  | 75 => ⟨S2x3x160x160x158, .f32⟩
  | 76 => ⟨S_, .f32⟩
  | 77 => ⟨S2x3x160x160x158, .f32⟩
  | 78 => ⟨S2x3x160x160x158, .f32⟩
  | 79 => ⟨S2x3x160x160x1, .f32⟩
  | 80 => ⟨S2x3x160x160x1, .f32⟩
  | 81 => ⟨S2x3x160x160x1, .f32⟩
  | 82 => ⟨S2x3x160x160x160, .f32⟩
  | 83 => ⟨S2x1x160x160x160, .f32⟩
  | 84 => ⟨S2x160x160x160, .f32⟩
  | 85 => ⟨S2x1x160x160x160, .f32⟩
  | 86 => ⟨S2x160x160x160, .f32⟩
  | 87 => ⟨S2x1x160x160x160, .f32⟩
  | 88 => ⟨S2x160x160x160, .f32⟩
  | 89 => ⟨S2x1x160x160x160, .f32⟩
  | 90 => ⟨S2x160x160x160, .f32⟩
  | 91 => ⟨S2x1x160x160x160, .f32⟩
  | 92 => ⟨S2x160x160x160, .f32⟩
  | 93 => ⟨S2x160x160x160, .f32⟩
  | 94 => ⟨S_, .f32⟩
  | 95 => ⟨S2x160x160x160, .f32⟩
  | 96 => ⟨S2x160x160x160, .f32⟩
  | 97 => ⟨S2x1x160x160x160, .f32⟩
  | 98 => ⟨S2x160x160x160, .f32⟩
  | 99 => ⟨S2x1x160x160x160, .f32⟩
  | 100 => ⟨S2x160x160x160, .f32⟩
  | 101 => ⟨S2x160x160x160, .f32⟩
  | 102 => ⟨S_, .f32⟩
  | 103 => ⟨S2x160x160x160, .f32⟩
  | 104 => ⟨S2x160x160x160, .f32⟩
  | 105 => ⟨S2x1x160x160x160, .f32⟩
  | 106 => ⟨S2x160x160x160, .f32⟩
  | 107 => ⟨S2x1x160x160x160, .f32⟩
  | 108 => ⟨S2x160x160x160, .f32⟩
  | 109 => ⟨S2x160x160x160, .f32⟩
  | 110 => ⟨S_, .f32⟩
  | 111 => ⟨S2x160x160x160, .f32⟩
  | 112 => ⟨S2x160x160x160, .f32⟩
  | 113 => ⟨S2x160x160x160, .f32⟩
  | 114 => ⟨S2x160x160x160, .f32⟩
  | 115 => ⟨S_, .f32⟩
  | 116 => ⟨S2x160x160x160, .f32⟩
  | 117 => ⟨S2x160x160x160, .f32⟩
  | 118 => ⟨S2x160x160x160, .f32⟩
  | 119 => ⟨S2x160x160x160, .f32⟩
  | 120 => ⟨S2x160x160x160, .f32⟩
  | 121 => ⟨S2x160x160x160, .f32⟩
  | 122 => ⟨S2x160x160x160, .f32⟩
  | 123 => ⟨S2x160x160x160, .f32⟩
  | 124 => ⟨S2x160x160x160, .f32⟩
  | 125 => ⟨S2x160x160x160, .f32⟩
  | 126 => ⟨S2x160x160x160, .f32⟩
  | 127 => ⟨S2x160x160x160, .f32⟩
  | _ => ⟨S2x3x160x160x160, .f32⟩

abbrev hbmTy0_2 (i : Nat) : BufTy := match i % 128 with
  | 0 => ⟨S2x160x160x160, .f32⟩
  | 1 => ⟨S2x160x160x160, .f32⟩
  | 2 => ⟨S_, .f32⟩
  | 3 => ⟨S2x160x160x160, .f32⟩
  | 4 => ⟨S2x160x160x160, .f32⟩
  | 5 => ⟨S2x160x160x160, .f32⟩
  | 6 => ⟨S2x160x160x160, .f32⟩
  | 7 => ⟨S2x160x160x160, .f32⟩
  | 8 => ⟨S_, .f32⟩
  | 9 => ⟨S2x160x160x160, .f32⟩
  | 10 => ⟨S2x160x160x160, .f32⟩
  | 11 => ⟨S_, .f32⟩
  | 12 => ⟨S2x160x160x160, .f32⟩
  | 13 => ⟨S2x160x160x160, .f32⟩
  | 14 => ⟨S2x160x160x160, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S80, .f32⟩
  | 24 => ⟨S_, .f32⟩
  | 25 => ⟨S80, .f32⟩
  | 26 => ⟨S80, .f32⟩
  | 27 => ⟨S80, .f32⟩
  | 28 => ⟨S80, .i32⟩
  | 29 => ⟨S_, .i32⟩
  | 30 => ⟨S80, .i32⟩
  | 31 => ⟨S80, .i32⟩
  | 32 => ⟨S_, .i32⟩
  | 33 => ⟨S80, .i32⟩
  | 34 => ⟨S80, .i32⟩
  | 35 => ⟨S80, .f32⟩
  | 36 => ⟨S80, .f32⟩
  | 37 => ⟨S1x1x80x1x1, .f32⟩
  | 38 => ⟨S80x1, .i32⟩
  | 39 => ⟨S2x3x80x160x160, .f32⟩
  | 40 => ⟨S80x1, .i32⟩
  | 41 => ⟨S2x3x80x160x160, .f32⟩
  | 42 => ⟨S_, .f32⟩
  | 43 => ⟨S1x1x80x1x1, .f32⟩
  | 44 => ⟨S1x1x80x1x1, .f32⟩
  | 45 => ⟨S2x3x80x160x160, .f32⟩
  | 46 => ⟨S2x3x80x160x160, .f32⟩
  | 47 => ⟨S2x3x80x160x160, .f32⟩
  | 48 => ⟨S2x3x80x160x160, .f32⟩
  | 49 => ⟨S2x3x80x160x160, .f32⟩
  | 50 => ⟨S80, .f32⟩
  | 51 => ⟨S_, .f32⟩
  | 52 => ⟨S80, .f32⟩
  | 53 => ⟨S80, .f32⟩
  | 54 => ⟨S80, .f32⟩
  | 55 => ⟨S80, .i32⟩
  | 56 => ⟨S_, .i32⟩
  | 57 => ⟨S80, .i32⟩
  | 58 => ⟨S80, .i32⟩
  | 59 => ⟨S_, .i32⟩
  | 60 => ⟨S80, .i32⟩
  | 61 => ⟨S80, .i32⟩
  | 62 => ⟨S80, .f32⟩
  | 63 => ⟨S80, .f32⟩
  | 64 => ⟨S1x1x1x80x1, .f32⟩
  | 65 => ⟨S80x1, .i32⟩
  | 66 => ⟨S2x3x80x80x160, .f32⟩
  | 67 => ⟨S80x1, .i32⟩
  | 68 => ⟨S2x3x80x80x160, .f32⟩
  | 69 => ⟨S_, .f32⟩
  | 70 => ⟨S1x1x1x80x1, .f32⟩
  | 71 => ⟨S1x1x1x80x1, .f32⟩
  | 72 => ⟨S2x3x80x80x160, .f32⟩
  | 73 => ⟨S2x3x80x80x160, .f32⟩
  | 74 => ⟨S2x3x80x80x160, .f32⟩
  | 75 => ⟨S2x3x80x80x160, .f32⟩
  | 76 => ⟨S2x3x80x80x160, .f32⟩
  | 77 => ⟨S80, .f32⟩
  | 78 => ⟨S_, .f32⟩
  | 79 => ⟨S80, .f32⟩
  | 80 => ⟨S80, .f32⟩
  | 81 => ⟨S80, .f32⟩
  | 82 => ⟨S80, .i32⟩
  | 83 => ⟨S_, .i32⟩
  | 84 => ⟨S80, .i32⟩
  | 85 => ⟨S80, .i32⟩
  | 86 => ⟨S_, .i32⟩
  | 87 => ⟨S80, .i32⟩
  | 88 => ⟨S80, .i32⟩
  | 89 => ⟨S80, .f32⟩
  | 90 => ⟨S80, .f32⟩
  | 91 => ⟨S1x1x1x1x80, .f32⟩
  | 92 => ⟨S80x1, .i32⟩
  | 93 => ⟨S2x3x80x80x80, .f32⟩
  | 94 => ⟨S80x1, .i32⟩
  | 95 => ⟨S2x3x80x80x80, .f32⟩
  | 96 => ⟨S_, .f32⟩
  | 97 => ⟨S1x1x1x1x80, .f32⟩
  | 98 => ⟨S1x1x1x1x80, .f32⟩
  | 99 => ⟨S2x3x80x80x80, .f32⟩
  | 100 => ⟨S2x3x80x80x80, .f32⟩
  | 101 => ⟨S2x3x80x80x80, .f32⟩
  | 102 => ⟨S2x3x80x80x80, .f32⟩
  | 103 => ⟨S2x3x80x80x80, .f32⟩
  | 104 => ⟨S80, .f32⟩
  | 105 => ⟨S_, .f32⟩
  | 106 => ⟨S80, .f32⟩
  | 107 => ⟨S80, .f32⟩
  | 108 => ⟨S80, .f32⟩
  | 109 => ⟨S80, .i32⟩
  | 110 => ⟨S_, .i32⟩
  | 111 => ⟨S80, .i32⟩
  | 112 => ⟨S80, .i32⟩
  | 113 => ⟨S_, .i32⟩
  | 114 => ⟨S80, .i32⟩
  | 115 => ⟨S80, .i32⟩
  | 116 => ⟨S80, .f32⟩
  | 117 => ⟨S80, .f32⟩
  | 118 => ⟨S1x1x80x1x1, .f32⟩
  | 119 => ⟨S80x1, .i32⟩
  | 120 => ⟨S2x1x80x160x160, .f32⟩
  | 121 => ⟨S80x1, .i32⟩
  | 122 => ⟨S2x1x80x160x160, .f32⟩
  | 123 => ⟨S_, .f32⟩
  | 124 => ⟨S1x1x80x1x1, .f32⟩
  | 125 => ⟨S1x1x80x1x1, .f32⟩
  | 126 => ⟨S2x1x80x160x160, .f32⟩
  | 127 => ⟨S2x1x80x160x160, .f32⟩
  | _ => ⟨S2x3x160x160x160, .f32⟩

abbrev hbmTy0_3 (i : Nat) : BufTy := match i % 128 with
  | 0 => ⟨S2x1x80x160x160, .f32⟩
  | 1 => ⟨S2x1x80x160x160, .f32⟩
  | 2 => ⟨S2x1x80x160x160, .f32⟩
  | 3 => ⟨S80, .f32⟩
  | 4 => ⟨S_, .f32⟩
  | 5 => ⟨S80, .f32⟩
  | 6 => ⟨S80, .f32⟩
  | 7 => ⟨S80, .f32⟩
  | 8 => ⟨S80, .i32⟩
  | 9 => ⟨S_, .i32⟩
  | 10 => ⟨S80, .i32⟩
  | 11 => ⟨S80, .i32⟩
  | 12 => ⟨S_, .i32⟩
  | 13 => ⟨S80, .i32⟩
  | 14 => ⟨S80, .i32⟩
  | 15 => ⟨S80, .f32⟩
  | 16 => ⟨S80, .f32⟩
  | 17 => ⟨S1x1x1x80x1, .f32⟩
  | 18 => ⟨S80x1, .i32⟩
  | 19 => ⟨S2x1x80x80x160, .f32⟩
  | 20 => ⟨S80x1, .i32⟩
  | 21 => ⟨S2x1x80x80x160, .f32⟩
  | 22 => ⟨S_, .f32⟩
  | 23 => ⟨S1x1x1x80x1, .f32⟩
  | 24 => ⟨S1x1x1x80x1, .f32⟩
  | 25 => ⟨S2x1x80x80x160, .f32⟩
  | 26 => ⟨S2x1x80x80x160, .f32⟩
  | 27 => ⟨S2x1x80x80x160, .f32⟩
  | 28 => ⟨S2x1x80x80x160, .f32⟩
  | 29 => ⟨S2x1x80x80x160, .f32⟩
  | 30 => ⟨S80, .f32⟩
  | 31 => ⟨S_, .f32⟩
  | 32 => ⟨S80, .f32⟩
  | 33 => ⟨S80, .f32⟩
  | 34 => ⟨S80, .f32⟩
  | 35 => ⟨S80, .i32⟩
  | 36 => ⟨S_, .i32⟩
  | 37 => ⟨S80, .i32⟩
  | 38 => ⟨S80, .i32⟩
  | 39 => ⟨S_, .i32⟩
  | 40 => ⟨S80, .i32⟩
  | 41 => ⟨S80, .i32⟩
  | 42 => ⟨S80, .f32⟩
  | 43 => ⟨S80, .f32⟩
  | 44 => ⟨S1x1x1x1x80, .f32⟩
  | 45 => ⟨S80x1, .i32⟩
  | 46 => ⟨S2x1x80x80x80, .f32⟩
  | 47 => ⟨S80x1, .i32⟩
  | 48 => ⟨S2x1x80x80x80, .f32⟩
  | 49 => ⟨S_, .f32⟩
  | 50 => ⟨S1x1x1x1x80, .f32⟩
  | 51 => ⟨S1x1x1x1x80, .f32⟩
  | 52 => ⟨S2x1x80x80x80, .f32⟩
  | 53 => ⟨S2x1x80x80x80, .f32⟩
  | 54 => ⟨S2x1x80x80x80, .f32⟩
  | 55 => ⟨S2x1x80x80x80, .f32⟩
  | 56 => ⟨S2x1x80x80x80, .f32⟩
  | 57 => ⟨S2x80x80x80, .f32⟩
  | 58 => ⟨S2x1x80x80, .f32⟩
  | 59 => ⟨S2x1x80x80, .f32⟩
  | 60 => ⟨S2x1x80x80, .f32⟩
  | 61 => ⟨S2x78x80x80, .f32⟩
  | 62 => ⟨S2x78x80x80, .f32⟩
  | 63 => ⟨S2x78x80x80, .f32⟩
  | 64 => ⟨S_, .f32⟩
  | 65 => ⟨S2x78x80x80, .f32⟩
  | 66 => ⟨S2x78x80x80, .f32⟩
  | 67 => ⟨S2x1x80x80, .f32⟩
  | 68 => ⟨S2x1x80x80, .f32⟩
  | 69 => ⟨S2x1x80x80, .f32⟩
  | 70 => ⟨S2x80x80x80, .f32⟩
  | 71 => ⟨S2x80x1x80, .f32⟩
  | 72 => ⟨S2x80x1x80, .f32⟩
  | 73 => ⟨S2x80x1x80, .f32⟩
  | 74 => ⟨S2x80x78x80, .f32⟩
  | 75 => ⟨S2x80x78x80, .f32⟩
  | 76 => ⟨S2x80x78x80, .f32⟩
  | 77 => ⟨S_, .f32⟩
  | 78 => ⟨S2x80x78x80, .f32⟩
  | 79 => ⟨S2x80x78x80, .f32⟩
  | 80 => ⟨S2x80x1x80, .f32⟩
  | 81 => ⟨S2x80x1x80, .f32⟩
  | 82 => ⟨S2x80x1x80, .f32⟩
  | 83 => ⟨S2x80x80x80, .f32⟩
  | 84 => ⟨S2x80x80x1, .f32⟩
  | 85 => ⟨S2x80x80x1, .f32⟩
  | 86 => ⟨S2x80x80x1, .f32⟩
  | 87 => ⟨S2x80x80x78, .f32⟩
  | 88 => ⟨S2x80x80x78, .f32⟩
  | 89 => ⟨S2x80x80x78, .f32⟩
  | 90 => ⟨S_, .f32⟩
  | 91 => ⟨S2x80x80x78, .f32⟩
  | 92 => ⟨S2x80x80x78, .f32⟩
  | 93 => ⟨S2x80x80x1, .f32⟩
  | 94 => ⟨S2x80x80x1, .f32⟩
  | 95 => ⟨S2x80x80x1, .f32⟩
  | 96 => ⟨S2x80x80x80, .f32⟩
  | 97 => ⟨S2x80x80x80, .f32⟩
  | 98 => ⟨S2x80x80x80, .f32⟩
  | 99 => ⟨S2x80x80x80, .f32⟩
  | 100 => ⟨S2x80x80x80, .f32⟩
  | 101 => ⟨S2x80x80x80, .f32⟩
  | 102 => ⟨S2x80x80x80, .f32⟩
  | 103 => ⟨S2x1x80x80, .f32⟩
  | 104 => ⟨S2x1x80x80, .f32⟩
  | 105 => ⟨S2x1x80x80, .f32⟩
  | 106 => ⟨S2x1x80x80, .f32⟩
  | 107 => ⟨S2x84x80x80, .f32⟩
  | 108 => ⟨S2x80x80x80, .f32⟩
  | 109 => ⟨S_, .f32⟩
  | 110 => ⟨S2x80x80x80, .f32⟩
  | 111 => ⟨S2x80x80x80, .f32⟩
  | 112 => ⟨S_, .f32⟩
  | 113 => ⟨S2x80x80x80, .f32⟩
  | 114 => ⟨S2x80x80x80, .f32⟩
  | 115 => ⟨S2x80x80x80, .f32⟩
  | 116 => ⟨S_, .f32⟩
  | 117 => ⟨S2x80x80x80, .f32⟩
  | 118 => ⟨S2x80x80x80, .f32⟩
  | 119 => ⟨S2x80x80x80, .f32⟩
  | 120 => ⟨S2x80x80x80, .f32⟩
  | 121 => ⟨S_, .f32⟩
  | 122 => ⟨S2x80x80x80, .f32⟩
  | 123 => ⟨S2x80x80x80, .f32⟩
  | 124 => ⟨S2x80x80x80, .f32⟩
  | 125 => ⟨S2x80x80x80, .f32⟩
  | 126 => ⟨S_, .f32⟩
  | 127 => ⟨S2x80x80x80, .f32⟩
  | _ => ⟨S2x3x160x160x160, .f32⟩

abbrev hbmTy0_4 (i : Nat) : BufTy := match i % 128 with
  | 0 => ⟨S2x80x80x80, .f32⟩
  | 1 => ⟨S2x80x80x80, .f32⟩
  | 2 => ⟨S2x80x80x80, .f32⟩
  | 3 => ⟨S_, .f32⟩
  | 4 => ⟨S2x80x80x80, .f32⟩
  | 5 => ⟨S2x80x80x80, .f32⟩
  | 6 => ⟨S2x80x80x80, .f32⟩
  | 7 => ⟨S2x80x1x80, .f32⟩
  | 8 => ⟨S2x80x1x80, .f32⟩
  | 9 => ⟨S2x80x1x80, .f32⟩
  | 10 => ⟨S2x80x1x80, .f32⟩
  | 11 => ⟨S2x80x84x80, .f32⟩
  | 12 => ⟨S2x80x80x80, .f32⟩
  | 13 => ⟨S_, .f32⟩
  | 14 => ⟨S2x80x80x80, .f32⟩
  | 15 => ⟨S2x80x80x80, .f32⟩
  | 16 => ⟨S_, .f32⟩
  | 17 => ⟨S2x80x80x80, .f32⟩
  | 18 => ⟨S2x80x80x80, .f32⟩
  | 19 => ⟨S2x80x80x80, .f32⟩
  | 20 => ⟨S_, .f32⟩
  | 21 => ⟨S2x80x80x80, .f32⟩
  | 22 => ⟨S2x80x80x80, .f32⟩
  | 23 => ⟨S2x80x80x80, .f32⟩
  | 24 => ⟨S2x80x80x80, .f32⟩
  | 25 => ⟨S_, .f32⟩
  | 26 => ⟨S2x80x80x80, .f32⟩
  | 27 => ⟨S2x80x80x80, .f32⟩
  | 28 => ⟨S2x80x80x80, .f32⟩
  | 29 => ⟨S2x80x80x80, .f32⟩
  | 30 => ⟨S_, .f32⟩
  | 31 => ⟨S2x80x80x80, .f32⟩
  | 32 => ⟨S2x80x80x80, .f32⟩
  | 33 => ⟨S2x80x80x80, .f32⟩
  | 34 => ⟨S2x80x80x80, .f32⟩
  | 35 => ⟨S_, .f32⟩
  | 36 => ⟨S2x80x80x80, .f32⟩
  | 37 => ⟨S2x80x80x80, .f32⟩
  | 38 => ⟨S2x80x80x80, .f32⟩
  | 39 => ⟨S2x80x80x1, .f32⟩
  | 40 => ⟨S2x80x80x1, .f32⟩
  | 41 => ⟨S2x80x80x1, .f32⟩
  | 42 => ⟨S2x80x80x1, .f32⟩
  | 43 => ⟨S2x80x80x84, .f32⟩
  | 44 => ⟨S2x80x80x80, .f32⟩
  | 45 => ⟨S_, .f32⟩
  | 46 => ⟨S2x80x80x80, .f32⟩
  | 47 => ⟨S2x80x80x80, .f32⟩
  | 48 => ⟨S_, .f32⟩
  | 49 => ⟨S2x80x80x80, .f32⟩
  | 50 => ⟨S2x80x80x80, .f32⟩
  | 51 => ⟨S2x80x80x80, .f32⟩
  | 52 => ⟨S_, .f32⟩
  | 53 => ⟨S2x80x80x80, .f32⟩
  | 54 => ⟨S2x80x80x80, .f32⟩
  | 55 => ⟨S2x80x80x80, .f32⟩
  | 56 => ⟨S2x80x80x80, .f32⟩
  | 57 => ⟨S_, .f32⟩
  | 58 => ⟨S2x80x80x80, .f32⟩
  | 59 => ⟨S2x80x80x80, .f32⟩
  | 60 => ⟨S2x80x80x80, .f32⟩
  | 61 => ⟨S2x80x80x80, .f32⟩
  | 62 => ⟨S_, .f32⟩
  | 63 => ⟨S2x80x80x80, .f32⟩
  | 64 => ⟨S2x80x80x80, .f32⟩
  | 65 => ⟨S2x80x80x80, .f32⟩
  | 66 => ⟨S2x80x80x80, .f32⟩
  | 67 => ⟨S_, .f32⟩
  | 68 => ⟨S2x80x80x80, .f32⟩
  | 69 => ⟨S2x80x80x80, .f32⟩
  | 70 => ⟨S2x80x80x80, .f32⟩
  | 71 => ⟨S_, .f32⟩
  | 72 => ⟨S2x80x80x80, .f32⟩
  | 73 => ⟨S2x80x80x80, .f32⟩
  | 74 => ⟨S_, .f32⟩
  | 75 => ⟨S2x80x80x80, .f32⟩
  | 76 => ⟨S2x80x80x80, .f32⟩
  | 77 => ⟨S_, .f32⟩
  | 78 => ⟨S_, .f32⟩
  | 79 => ⟨S_, .f32⟩
  | 80 => ⟨S2x80x80x80, .f32⟩
  | 81 => ⟨S2x80x80x80, .f32⟩
  | 82 => ⟨S_, .f32⟩
  | 83 => ⟨S2x80x80x80, .f32⟩
  | 84 => ⟨S2x80x80x80, .f32⟩
  | 85 => ⟨S_, .f32⟩
  | 86 => ⟨S2x80x80x80, .f32⟩
  | 87 => ⟨S2x80x80x80, .f32⟩
  | 88 => ⟨S_, .f32⟩
  | 89 => ⟨S2x80x80x80, .f32⟩
  | 90 => ⟨S2x80x80x80, .f32⟩
  | 91 => ⟨S_, .f32⟩
  | 92 => ⟨S_, .f32⟩
  | 93 => ⟨S_, .f32⟩
  | 94 => ⟨S2x80x80x80, .f32⟩
  | 95 => ⟨S2x80x80x80, .f32⟩
  | 96 => ⟨S_, .f32⟩
  | 97 => ⟨S2x80x80x80, .f32⟩
  | 98 => ⟨S2x80x80x80, .f32⟩
  | 99 => ⟨S2x3x1x80x80, .f32⟩
  | 100 => ⟨S2x3x1x80x80, .f32⟩
  | 101 => ⟨S2x3x1x80x80, .f32⟩
  | 102 => ⟨S2x3x78x80x80, .f32⟩
  | 103 => ⟨S2x3x78x80x80, .f32⟩
  | 104 => ⟨S2x3x78x80x80, .f32⟩
  | 105 => ⟨S_, .f32⟩
  | 106 => ⟨S2x3x78x80x80, .f32⟩
  | 107 => ⟨S2x3x78x80x80, .f32⟩
  | 108 => ⟨S2x3x1x80x80, .f32⟩
  | 109 => ⟨S2x3x1x80x80, .f32⟩
  | 110 => ⟨S2x3x1x80x80, .f32⟩
  | 111 => ⟨S2x3x80x80x80, .f32⟩
  | 112 => ⟨S2x3x80x1x80, .f32⟩
  | 113 => ⟨S2x3x80x1x80, .f32⟩
  | 114 => ⟨S2x3x80x1x80, .f32⟩
  | 115 => ⟨S2x3x80x78x80, .f32⟩
  | 116 => ⟨S2x3x80x78x80, .f32⟩
  | 117 => ⟨S2x3x80x78x80, .f32⟩
  | 118 => ⟨S_, .f32⟩
  | 119 => ⟨S2x3x80x78x80, .f32⟩
  | 120 => ⟨S2x3x80x78x80, .f32⟩
  | 121 => ⟨S2x3x80x1x80, .f32⟩
  | 122 => ⟨S2x3x80x1x80, .f32⟩
  | 123 => ⟨S2x3x80x1x80, .f32⟩
  | 124 => ⟨S2x3x80x80x80, .f32⟩
  | 125 => ⟨S2x3x80x80x1, .f32⟩
  | 126 => ⟨S2x3x80x80x1, .f32⟩
  | 127 => ⟨S2x3x80x80x1, .f32⟩
  | _ => ⟨S2x3x160x160x160, .f32⟩

abbrev hbmTy0_5 (i : Nat) : BufTy := match i % 128 with
  | 0 => ⟨S2x3x80x80x78, .f32⟩
  | 1 => ⟨S2x3x80x80x78, .f32⟩
  | 2 => ⟨S2x3x80x80x78, .f32⟩
  | 3 => ⟨S_, .f32⟩
  | 4 => ⟨S2x3x80x80x78, .f32⟩
  | 5 => ⟨S2x3x80x80x78, .f32⟩
  | 6 => ⟨S2x3x80x80x1, .f32⟩
  | 7 => ⟨S2x3x80x80x1, .f32⟩
  | 8 => ⟨S2x3x80x80x1, .f32⟩
  | 9 => ⟨S2x3x80x80x80, .f32⟩
  | 10 => ⟨S2x1x80x80x80, .f32⟩
  | 11 => ⟨S2x80x80x80, .f32⟩
  | 12 => ⟨S2x1x80x80x80, .f32⟩
  | 13 => ⟨S2x80x80x80, .f32⟩
  | 14 => ⟨S2x1x80x80x80, .f32⟩
  | 15 => ⟨S2x80x80x80, .f32⟩
  | 16 => ⟨S2x1x80x80x80, .f32⟩
  | 17 => ⟨S2x80x80x80, .f32⟩
  | 18 => ⟨S2x1x80x80x80, .f32⟩
  | 19 => ⟨S2x80x80x80, .f32⟩
  | 20 => ⟨S2x80x80x80, .f32⟩
  | 21 => ⟨S_, .f32⟩
  | 22 => ⟨S2x80x80x80, .f32⟩
  | 23 => ⟨S2x80x80x80, .f32⟩
  | 24 => ⟨S2x1x80x80x80, .f32⟩
  | 25 => ⟨S2x80x80x80, .f32⟩
  | 26 => ⟨S2x1x80x80x80, .f32⟩
  | 27 => ⟨S2x80x80x80, .f32⟩
  | 28 => ⟨S2x80x80x80, .f32⟩
  | 29 => ⟨S_, .f32⟩
  | 30 => ⟨S2x80x80x80, .f32⟩
  | 31 => ⟨S2x80x80x80, .f32⟩
  | 32 => ⟨S2x1x80x80x80, .f32⟩
  | 33 => ⟨S2x80x80x80, .f32⟩
  | 34 => ⟨S2x1x80x80x80, .f32⟩
  | 35 => ⟨S2x80x80x80, .f32⟩
  | 36 => ⟨S2x80x80x80, .f32⟩
  | 37 => ⟨S_, .f32⟩
  | 38 => ⟨S2x80x80x80, .f32⟩
  | 39 => ⟨S2x80x80x80, .f32⟩
  | 40 => ⟨S2x80x80x80, .f32⟩
  | 41 => ⟨S2x80x80x80, .f32⟩
  | 42 => ⟨S_, .f32⟩
  | 43 => ⟨S2x80x80x80, .f32⟩
  | 44 => ⟨S2x80x80x80, .f32⟩
  | 45 => ⟨S2x80x80x80, .f32⟩
  | 46 => ⟨S2x80x80x80, .f32⟩
  | 47 => ⟨S2x80x80x80, .f32⟩
  | 48 => ⟨S2x80x80x80, .f32⟩
  | 49 => ⟨S2x80x80x80, .f32⟩
  | 50 => ⟨S2x80x80x80, .f32⟩
  | 51 => ⟨S2x80x80x80, .f32⟩
  | 52 => ⟨S2x80x80x80, .f32⟩
  | 53 => ⟨S2x80x80x80, .f32⟩
  | 54 => ⟨S2x80x80x80, .f32⟩
  | 55 => ⟨S2x80x80x80, .f32⟩
  | 56 => ⟨S2x80x80x80, .f32⟩
  | 57 => ⟨S_, .f32⟩
  | 58 => ⟨S2x80x80x80, .f32⟩
  | 59 => ⟨S2x80x80x80, .f32⟩
  | 60 => ⟨S2x80x80x80, .f32⟩
  | 61 => ⟨S2x80x80x80, .f32⟩
  | 62 => ⟨S2x80x80x80, .f32⟩
  | 63 => ⟨S_, .f32⟩
  | 64 => ⟨S2x80x80x80, .f32⟩
  | 65 => ⟨S2x80x80x80, .f32⟩
  | 66 => ⟨S_, .f32⟩
  | 67 => ⟨S2x80x80x80, .f32⟩
  | 68 => ⟨S2x80x80x80, .f32⟩
  | 69 => ⟨S2x80x80x80, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S40, .f32⟩
  | 78 => ⟨S_, .f32⟩
  | 79 => ⟨S40, .f32⟩
  | 80 => ⟨S40, .f32⟩
  | 81 => ⟨S40, .f32⟩
  | 82 => ⟨S40, .i32⟩
  | 83 => ⟨S_, .i32⟩
  | 84 => ⟨S40, .i32⟩
  | 85 => ⟨S40, .i32⟩
  | 86 => ⟨S_, .i32⟩
  | 87 => ⟨S40, .i32⟩
  | 88 => ⟨S40, .i32⟩
  | 89 => ⟨S40, .f32⟩
  | 90 => ⟨S40, .f32⟩
  | 91 => ⟨S1x1x40x1x1, .f32⟩
  | 92 => ⟨S40x1, .i32⟩
  | 93 => ⟨S2x3x40x160x160, .f32⟩
  | 94 => ⟨S40x1, .i32⟩
  | 95 => ⟨S2x3x40x160x160, .f32⟩
  | 96 => ⟨S_, .f32⟩
  | 97 => ⟨S1x1x40x1x1, .f32⟩
  | 98 => ⟨S1x1x40x1x1, .f32⟩
  | 99 => ⟨S2x3x40x160x160, .f32⟩
  | 100 => ⟨S2x3x40x160x160, .f32⟩
  | 101 => ⟨S2x3x40x160x160, .f32⟩
  | 102 => ⟨S2x3x40x160x160, .f32⟩
  | 103 => ⟨S2x3x40x160x160, .f32⟩
  | 104 => ⟨S40, .f32⟩
  | 105 => ⟨S_, .f32⟩
  | 106 => ⟨S40, .f32⟩
  | 107 => ⟨S40, .f32⟩
  | 108 => ⟨S40, .f32⟩
  | 109 => ⟨S40, .i32⟩
  | 110 => ⟨S_, .i32⟩
  | 111 => ⟨S40, .i32⟩
  | 112 => ⟨S40, .i32⟩
  | 113 => ⟨S_, .i32⟩
  | 114 => ⟨S40, .i32⟩
  | 115 => ⟨S40, .i32⟩
  | 116 => ⟨S40, .f32⟩
  | 117 => ⟨S40, .f32⟩
  | 118 => ⟨S1x1x1x40x1, .f32⟩
  | 119 => ⟨S40x1, .i32⟩
  | 120 => ⟨S2x3x40x40x160, .f32⟩
  | 121 => ⟨S40x1, .i32⟩
  | 122 => ⟨S2x3x40x40x160, .f32⟩
  | 123 => ⟨S_, .f32⟩
  | 124 => ⟨S1x1x1x40x1, .f32⟩
  | 125 => ⟨S1x1x1x40x1, .f32⟩
  | 126 => ⟨S2x3x40x40x160, .f32⟩
  | 127 => ⟨S2x3x40x40x160, .f32⟩
  | _ => ⟨S2x3x160x160x160, .f32⟩

abbrev hbmTy0_6 (i : Nat) : BufTy := match i % 128 with
  | 0 => ⟨S2x3x40x40x160, .f32⟩
  | 1 => ⟨S2x3x40x40x160, .f32⟩
  | 2 => ⟨S2x3x40x40x160, .f32⟩
  | 3 => ⟨S40, .f32⟩
  | 4 => ⟨S_, .f32⟩
  | 5 => ⟨S40, .f32⟩
  | 6 => ⟨S40, .f32⟩
  | 7 => ⟨S40, .f32⟩
  | 8 => ⟨S40, .i32⟩
  | 9 => ⟨S_, .i32⟩
  | 10 => ⟨S40, .i32⟩
  | 11 => ⟨S40, .i32⟩
  | 12 => ⟨S_, .i32⟩
  | 13 => ⟨S40, .i32⟩
  | 14 => ⟨S40, .i32⟩
  | 15 => ⟨S40, .f32⟩
  | 16 => ⟨S40, .f32⟩
  | 17 => ⟨S1x1x1x1x40, .f32⟩
  | 18 => ⟨S40x1, .i32⟩
  | 19 => ⟨S2x3x40x40x40, .f32⟩
  | 20 => ⟨S40x1, .i32⟩
  | 21 => ⟨S2x3x40x40x40, .f32⟩
  | 22 => ⟨S_, .f32⟩
  | 23 => ⟨S1x1x1x1x40, .f32⟩
  | 24 => ⟨S1x1x1x1x40, .f32⟩
  | 25 => ⟨S2x3x40x40x40, .f32⟩
  | 26 => ⟨S2x3x40x40x40, .f32⟩
  | 27 => ⟨S2x3x40x40x40, .f32⟩
  | 28 => ⟨S2x3x40x40x40, .f32⟩
  | 29 => ⟨S2x3x40x40x40, .f32⟩
  | 30 => ⟨S40, .f32⟩
  | 31 => ⟨S_, .f32⟩
  | 32 => ⟨S40, .f32⟩
  | 33 => ⟨S40, .f32⟩
  | 34 => ⟨S40, .f32⟩
  | 35 => ⟨S40, .i32⟩
  | 36 => ⟨S_, .i32⟩
  | 37 => ⟨S40, .i32⟩
  | 38 => ⟨S40, .i32⟩
  | 39 => ⟨S_, .i32⟩
  | 40 => ⟨S40, .i32⟩
  | 41 => ⟨S40, .i32⟩
  | 42 => ⟨S40, .f32⟩
  | 43 => ⟨S40, .f32⟩
  | 44 => ⟨S1x1x40x1x1, .f32⟩
  | 45 => ⟨S40x1, .i32⟩
  | 46 => ⟨S2x1x40x160x160, .f32⟩
  | 47 => ⟨S40x1, .i32⟩
  | 48 => ⟨S2x1x40x160x160, .f32⟩
  | 49 => ⟨S_, .f32⟩
  | 50 => ⟨S1x1x40x1x1, .f32⟩
  | 51 => ⟨S1x1x40x1x1, .f32⟩
  | 52 => ⟨S2x1x40x160x160, .f32⟩
  | 53 => ⟨S2x1x40x160x160, .f32⟩
  | 54 => ⟨S2x1x40x160x160, .f32⟩
  | 55 => ⟨S2x1x40x160x160, .f32⟩
  | 56 => ⟨S2x1x40x160x160, .f32⟩
  | 57 => ⟨S40, .f32⟩
  | 58 => ⟨S_, .f32⟩
  | 59 => ⟨S40, .f32⟩
  | 60 => ⟨S40, .f32⟩
  | 61 => ⟨S40, .f32⟩
  | 62 => ⟨S40, .i32⟩
  | 63 => ⟨S_, .i32⟩
  | 64 => ⟨S40, .i32⟩
  | 65 => ⟨S40, .i32⟩
  | 66 => ⟨S_, .i32⟩
  | 67 => ⟨S40, .i32⟩
  | 68 => ⟨S40, .i32⟩
  | 69 => ⟨S40, .f32⟩
  | 70 => ⟨S40, .f32⟩
  | 71 => ⟨S1x1x1x40x1, .f32⟩
  | 72 => ⟨S40x1, .i32⟩
  | 73 => ⟨S2x1x40x40x160, .f32⟩
  | 74 => ⟨S40x1, .i32⟩
  | 75 => ⟨S2x1x40x40x160, .f32⟩
  | 76 => ⟨S_, .f32⟩
  | 77 => ⟨S1x1x1x40x1, .f32⟩
  | 78 => ⟨S1x1x1x40x1, .f32⟩
  | 79 => ⟨S2x1x40x40x160, .f32⟩
  | 80 => ⟨S2x1x40x40x160, .f32⟩
  | 81 => ⟨S2x1x40x40x160, .f32⟩
  | 82 => ⟨S2x1x40x40x160, .f32⟩
  | 83 => ⟨S2x1x40x40x160, .f32⟩
  | 84 => ⟨S40, .f32⟩
  | 85 => ⟨S_, .f32⟩
  | 86 => ⟨S40, .f32⟩
  | 87 => ⟨S40, .f32⟩
  | 88 => ⟨S40, .f32⟩
  | 89 => ⟨S40, .i32⟩
  | 90 => ⟨S_, .i32⟩
  | 91 => ⟨S40, .i32⟩
  | 92 => ⟨S40, .i32⟩
  | 93 => ⟨S_, .i32⟩
  | 94 => ⟨S40, .i32⟩
  | 95 => ⟨S40, .i32⟩
  | 96 => ⟨S40, .f32⟩
  | 97 => ⟨S40, .f32⟩
  | 98 => ⟨S1x1x1x1x40, .f32⟩
  | 99 => ⟨S40x1, .i32⟩
  | 100 => ⟨S2x1x40x40x40, .f32⟩
  | 101 => ⟨S40x1, .i32⟩
  | 102 => ⟨S2x1x40x40x40, .f32⟩
  | 103 => ⟨S_, .f32⟩
  | 104 => ⟨S1x1x1x1x40, .f32⟩
  | 105 => ⟨S1x1x1x1x40, .f32⟩
  | 106 => ⟨S2x1x40x40x40, .f32⟩
  | 107 => ⟨S2x1x40x40x40, .f32⟩
  | 108 => ⟨S2x1x40x40x40, .f32⟩
  | 109 => ⟨S2x1x40x40x40, .f32⟩
  | 110 => ⟨S2x1x40x40x40, .f32⟩
  | 111 => ⟨S2x40x40x40, .f32⟩
  | 112 => ⟨S2x1x40x40, .f32⟩
  | 113 => ⟨S2x1x40x40, .f32⟩
  | 114 => ⟨S2x1x40x40, .f32⟩
  | 115 => ⟨S2x38x40x40, .f32⟩
  | 116 => ⟨S2x38x40x40, .f32⟩
  | 117 => ⟨S2x38x40x40, .f32⟩
  | 118 => ⟨S_, .f32⟩
  | 119 => ⟨S2x38x40x40, .f32⟩
  | 120 => ⟨S2x38x40x40, .f32⟩
  | 121 => ⟨S2x1x40x40, .f32⟩
  | 122 => ⟨S2x1x40x40, .f32⟩
  | 123 => ⟨S2x1x40x40, .f32⟩
  | 124 => ⟨S2x40x40x40, .f32⟩
  | 125 => ⟨S2x40x1x40, .f32⟩
  | 126 => ⟨S2x40x1x40, .f32⟩
  | 127 => ⟨S2x40x1x40, .f32⟩
  | _ => ⟨S2x3x160x160x160, .f32⟩

abbrev hbmTy0_7 (i : Nat) : BufTy := match i % 128 with
  | 0 => ⟨S2x40x38x40, .f32⟩
  | 1 => ⟨S2x40x38x40, .f32⟩
  | 2 => ⟨S2x40x38x40, .f32⟩
  | 3 => ⟨S_, .f32⟩
  | 4 => ⟨S2x40x38x40, .f32⟩
  | 5 => ⟨S2x40x38x40, .f32⟩
  | 6 => ⟨S2x40x1x40, .f32⟩
  | 7 => ⟨S2x40x1x40, .f32⟩
  | 8 => ⟨S2x40x1x40, .f32⟩
  | 9 => ⟨S2x40x40x40, .f32⟩
  | 10 => ⟨S2x40x40x1, .f32⟩
  | 11 => ⟨S2x40x40x1, .f32⟩
  | 12 => ⟨S2x40x40x1, .f32⟩
  | 13 => ⟨S2x40x40x38, .f32⟩
  | 14 => ⟨S2x40x40x38, .f32⟩
  | 15 => ⟨S2x40x40x38, .f32⟩
  | 16 => ⟨S_, .f32⟩
  | 17 => ⟨S2x40x40x38, .f32⟩
  | 18 => ⟨S2x40x40x38, .f32⟩
  | 19 => ⟨S2x40x40x1, .f32⟩
  | 20 => ⟨S2x40x40x1, .f32⟩
  | 21 => ⟨S2x40x40x1, .f32⟩
  | 22 => ⟨S2x40x40x40, .f32⟩
  | 23 => ⟨S2x40x40x40, .f32⟩
  | 24 => ⟨S2x40x40x40, .f32⟩
  | 25 => ⟨S2x40x40x40, .f32⟩
  | 26 => ⟨S2x40x40x40, .f32⟩
  | 27 => ⟨S2x40x40x40, .f32⟩
  | 28 => ⟨S2x40x40x40, .f32⟩
  | 29 => ⟨S2x1x40x40, .f32⟩
  | 30 => ⟨S2x1x40x40, .f32⟩
  | 31 => ⟨S2x1x40x40, .f32⟩
  | 32 => ⟨S2x1x40x40, .f32⟩
  | 33 => ⟨S2x44x40x40, .f32⟩
  | 34 => ⟨S2x40x40x40, .f32⟩
  | 35 => ⟨S_, .f32⟩
  | 36 => ⟨S2x40x40x40, .f32⟩
  | 37 => ⟨S2x40x40x40, .f32⟩
  | 38 => ⟨S_, .f32⟩
  | 39 => ⟨S2x40x40x40, .f32⟩
  | 40 => ⟨S2x40x40x40, .f32⟩
  | 41 => ⟨S2x40x40x40, .f32⟩
  | 42 => ⟨S_, .f32⟩
  | 43 => ⟨S2x40x40x40, .f32⟩
  | 44 => ⟨S2x40x40x40, .f32⟩
  | 45 => ⟨S2x40x40x40, .f32⟩
  | 46 => ⟨S2x40x40x40, .f32⟩
  | 47 => ⟨S_, .f32⟩
  | 48 => ⟨S2x40x40x40, .f32⟩
  | 49 => ⟨S2x40x40x40, .f32⟩
  | 50 => ⟨S2x40x40x40, .f32⟩
  | 51 => ⟨S2x40x40x40, .f32⟩
  | 52 => ⟨S_, .f32⟩
  | 53 => ⟨S2x40x40x40, .f32⟩
  | 54 => ⟨S2x40x40x40, .f32⟩
  | 55 => ⟨S2x40x40x40, .f32⟩
  | 56 => ⟨S2x40x40x40, .f32⟩
  | 57 => ⟨S_, .f32⟩
  | 58 => ⟨S2x40x40x40, .f32⟩
  | 59 => ⟨S2x40x40x40, .f32⟩
  | 60 => ⟨S2x40x40x40, .f32⟩
  | 61 => ⟨S2x40x1x40, .f32⟩
  | 62 => ⟨S2x40x1x40, .f32⟩
  | 63 => ⟨S2x40x1x40, .f32⟩
  | 64 => ⟨S2x40x1x40, .f32⟩
  | 65 => ⟨S2x40x44x40, .f32⟩
  | 66 => ⟨S2x40x40x40, .f32⟩
  | 67 => ⟨S_, .f32⟩
  | 68 => ⟨S2x40x40x40, .f32⟩
  | 69 => ⟨S2x40x40x40, .f32⟩
  | 70 => ⟨S_, .f32⟩
  | 71 => ⟨S2x40x40x40, .f32⟩
  | 72 => ⟨S2x40x40x40, .f32⟩
  | 73 => ⟨S2x40x40x40, .f32⟩
  | 74 => ⟨S_, .f32⟩
  | 75 => ⟨S2x40x40x40, .f32⟩
  | 76 => ⟨S2x40x40x40, .f32⟩
  | 77 => ⟨S2x40x40x40, .f32⟩
  | 78 => ⟨S2x40x40x40, .f32⟩
  | 79 => ⟨S_, .f32⟩
  | 80 => ⟨S2x40x40x40, .f32⟩
  | 81 => ⟨S2x40x40x40, .f32⟩
  | 82 => ⟨S2x40x40x40, .f32⟩
  | 83 => ⟨S2x40x40x40, .f32⟩
  | 84 => ⟨S_, .f32⟩
  | 85 => ⟨S2x40x40x40, .f32⟩
  | 86 => ⟨S2x40x40x40, .f32⟩
  | 87 => ⟨S2x40x40x40, .f32⟩
  | 88 => ⟨S2x40x40x40, .f32⟩
  | 89 => ⟨S_, .f32⟩
  | 90 => ⟨S2x40x40x40, .f32⟩
  | 91 => ⟨S2x40x40x40, .f32⟩
  | 92 => ⟨S2x40x40x40, .f32⟩
  | 93 => ⟨S2x40x40x1, .f32⟩
  | 94 => ⟨S2x40x40x1, .f32⟩
  | 95 => ⟨S2x40x40x1, .f32⟩
  | 96 => ⟨S2x40x40x1, .f32⟩
  | 97 => ⟨S2x40x40x44, .f32⟩
  | 98 => ⟨S2x40x40x40, .f32⟩
  | 99 => ⟨S_, .f32⟩
  | 100 => ⟨S2x40x40x40, .f32⟩
  | 101 => ⟨S2x40x40x40, .f32⟩
  | 102 => ⟨S_, .f32⟩
  | 103 => ⟨S2x40x40x40, .f32⟩
  | 104 => ⟨S2x40x40x40, .f32⟩
  | 105 => ⟨S2x40x40x40, .f32⟩
  | 106 => ⟨S_, .f32⟩
  | 107 => ⟨S2x40x40x40, .f32⟩
  | 108 => ⟨S2x40x40x40, .f32⟩
  | 109 => ⟨S2x40x40x40, .f32⟩
  | 110 => ⟨S2x40x40x40, .f32⟩
  | 111 => ⟨S_, .f32⟩
  | 112 => ⟨S2x40x40x40, .f32⟩
  | 113 => ⟨S2x40x40x40, .f32⟩
  | 114 => ⟨S2x40x40x40, .f32⟩
  | 115 => ⟨S2x40x40x40, .f32⟩
  | 116 => ⟨S_, .f32⟩
  | 117 => ⟨S2x40x40x40, .f32⟩
  | 118 => ⟨S2x40x40x40, .f32⟩
  | 119 => ⟨S2x40x40x40, .f32⟩
  | 120 => ⟨S2x40x40x40, .f32⟩
  | 121 => ⟨S_, .f32⟩
  | 122 => ⟨S2x40x40x40, .f32⟩
  | 123 => ⟨S2x40x40x40, .f32⟩
  | 124 => ⟨S2x40x40x40, .f32⟩
  | 125 => ⟨S_, .f32⟩
  | 126 => ⟨S2x40x40x40, .f32⟩
  | 127 => ⟨S2x40x40x40, .f32⟩
  | _ => ⟨S2x3x160x160x160, .f32⟩

abbrev hbmTy0_8 (i : Nat) : BufTy := match i % 128 with
  | 0 => ⟨S_, .f32⟩
  | 1 => ⟨S2x40x40x40, .f32⟩
  | 2 => ⟨S2x40x40x40, .f32⟩
  | 3 => ⟨S_, .f32⟩
  | 4 => ⟨S_, .f32⟩
  | 5 => ⟨S_, .f32⟩
  | 6 => ⟨S2x40x40x40, .f32⟩
  | 7 => ⟨S2x40x40x40, .f32⟩
  | 8 => ⟨S_, .f32⟩
  | 9 => ⟨S2x40x40x40, .f32⟩
  | 10 => ⟨S2x40x40x40, .f32⟩
  | 11 => ⟨S_, .f32⟩
  | 12 => ⟨S2x40x40x40, .f32⟩
  | 13 => ⟨S2x40x40x40, .f32⟩
  | 14 => ⟨S_, .f32⟩
  | 15 => ⟨S2x40x40x40, .f32⟩
  | 16 => ⟨S2x40x40x40, .f32⟩
  | 17 => ⟨S_, .f32⟩
  | 18 => ⟨S_, .f32⟩
  | 19 => ⟨S_, .f32⟩
  | 20 => ⟨S2x40x40x40, .f32⟩
  | 21 => ⟨S2x40x40x40, .f32⟩
  | 22 => ⟨S_, .f32⟩
  | 23 => ⟨S2x40x40x40, .f32⟩
  | 24 => ⟨S2x40x40x40, .f32⟩
  | 25 => ⟨S2x3x1x40x40, .f32⟩
  | 26 => ⟨S2x3x1x40x40, .f32⟩
  | 27 => ⟨S2x3x1x40x40, .f32⟩
  | 28 => ⟨S2x3x38x40x40, .f32⟩
  | 29 => ⟨S2x3x38x40x40, .f32⟩
  | 30 => ⟨S2x3x38x40x40, .f32⟩
  | 31 => ⟨S_, .f32⟩
  | 32 => ⟨S2x3x38x40x40, .f32⟩
  | 33 => ⟨S2x3x38x40x40, .f32⟩
  | 34 => ⟨S2x3x1x40x40, .f32⟩
  | 35 => ⟨S2x3x1x40x40, .f32⟩
  | 36 => ⟨S2x3x1x40x40, .f32⟩
  | 37 => ⟨S2x3x40x40x40, .f32⟩
  | 38 => ⟨S2x3x40x1x40, .f32⟩
  | 39 => ⟨S2x3x40x1x40, .f32⟩
  | 40 => ⟨S2x3x40x1x40, .f32⟩
  | 41 => ⟨S2x3x40x38x40, .f32⟩
  | 42 => ⟨S2x3x40x38x40, .f32⟩
  | 43 => ⟨S2x3x40x38x40, .f32⟩
  | 44 => ⟨S_, .f32⟩
  | 45 => ⟨S2x3x40x38x40, .f32⟩
  | 46 => ⟨S2x3x40x38x40, .f32⟩
  | 47 => ⟨S2x3x40x1x40, .f32⟩
  | 48 => ⟨S2x3x40x1x40, .f32⟩
  | 49 => ⟨S2x3x40x1x40, .f32⟩
  | 50 => ⟨S2x3x40x40x40, .f32⟩
  | 51 => ⟨S2x3x40x40x1, .f32⟩
  | 52 => ⟨S2x3x40x40x1, .f32⟩
  | 53 => ⟨S2x3x40x40x1, .f32⟩
  | 54 => ⟨S2x3x40x40x38, .f32⟩
  | 55 => ⟨S2x3x40x40x38, .f32⟩
  | 56 => ⟨S2x3x40x40x38, .f32⟩
  | 57 => ⟨S_, .f32⟩
  | 58 => ⟨S2x3x40x40x38, .f32⟩
  | 59 => ⟨S2x3x40x40x38, .f32⟩
  | 60 => ⟨S2x3x40x40x1, .f32⟩
  | 61 => ⟨S2x3x40x40x1, .f32⟩
  | 62 => ⟨S2x3x40x40x1, .f32⟩
  | 63 => ⟨S2x3x40x40x40, .f32⟩
  | 64 => ⟨S2x1x40x40x40, .f32⟩
  | 65 => ⟨S2x40x40x40, .f32⟩
  | 66 => ⟨S2x1x40x40x40, .f32⟩
  | 67 => ⟨S2x40x40x40, .f32⟩
  | 68 => ⟨S2x1x40x40x40, .f32⟩
  | 69 => ⟨S2x40x40x40, .f32⟩
  | 70 => ⟨S2x1x40x40x40, .f32⟩
  | 71 => ⟨S2x40x40x40, .f32⟩
  | 72 => ⟨S2x1x40x40x40, .f32⟩
  | 73 => ⟨S2x40x40x40, .f32⟩
  | 74 => ⟨S2x40x40x40, .f32⟩
  | 75 => ⟨S_, .f32⟩
  | 76 => ⟨S2x40x40x40, .f32⟩
  | 77 => ⟨S2x40x40x40, .f32⟩
  | 78 => ⟨S2x1x40x40x40, .f32⟩
  | 79 => ⟨S2x40x40x40, .f32⟩
  | 80 => ⟨S2x1x40x40x40, .f32⟩
  | 81 => ⟨S2x40x40x40, .f32⟩
  | 82 => ⟨S2x40x40x40, .f32⟩
  | 83 => ⟨S_, .f32⟩
  | 84 => ⟨S2x40x40x40, .f32⟩
  | 85 => ⟨S2x40x40x40, .f32⟩
  | 86 => ⟨S2x1x40x40x40, .f32⟩
  | 87 => ⟨S2x40x40x40, .f32⟩
  | 88 => ⟨S2x1x40x40x40, .f32⟩
  | 89 => ⟨S2x40x40x40, .f32⟩
  | 90 => ⟨S2x40x40x40, .f32⟩
  | 91 => ⟨S_, .f32⟩
  | 92 => ⟨S2x40x40x40, .f32⟩
  | 93 => ⟨S2x40x40x40, .f32⟩
  | 94 => ⟨S2x40x40x40, .f32⟩
  | 95 => ⟨S2x40x40x40, .f32⟩
  | 96 => ⟨S_, .f32⟩
  | 97 => ⟨S2x40x40x40, .f32⟩
  | 98 => ⟨S2x40x40x40, .f32⟩
  | 99 => ⟨S2x40x40x40, .f32⟩
  | 100 => ⟨S2x40x40x40, .f32⟩
  | 101 => ⟨S2x40x40x40, .f32⟩
  | 102 => ⟨S2x40x40x40, .f32⟩
  | 103 => ⟨S2x40x40x40, .f32⟩
  | 104 => ⟨S2x40x40x40, .f32⟩
  | 105 => ⟨S2x40x40x40, .f32⟩
  | 106 => ⟨S2x40x40x40, .f32⟩
  | 107 => ⟨S2x40x40x40, .f32⟩
  | 108 => ⟨S2x40x40x40, .f32⟩
  | 109 => ⟨S2x40x40x40, .f32⟩
  | 110 => ⟨S2x40x40x40, .f32⟩
  | 111 => ⟨S_, .f32⟩
  | 112 => ⟨S2x40x40x40, .f32⟩
  | 113 => ⟨S2x40x40x40, .f32⟩
  | 114 => ⟨S2x40x40x40, .f32⟩
  | 115 => ⟨S2x40x40x40, .f32⟩
  | 116 => ⟨S2x40x40x40, .f32⟩
  | 117 => ⟨S_, .f32⟩
  | 118 => ⟨S2x40x40x40, .f32⟩
  | 119 => ⟨S2x40x40x40, .f32⟩
  | 120 => ⟨S_, .f32⟩
  | 121 => ⟨S2x40x40x40, .f32⟩
  | 122 => ⟨S2x40x40x40, .f32⟩
  | 123 => ⟨S2x40x40x40, .f32⟩
  | 124 => ⟨S_, .f32⟩
  | 125 => ⟨S_, .f32⟩
  | 126 => ⟨S_, .f32⟩
  | 127 => ⟨S_, .f32⟩
  | _ => ⟨S2x3x160x160x160, .f32⟩

abbrev hbmTy0_9 (i : Nat) : BufTy := match i % 128 with
  | 0 => ⟨S_, .f32⟩
  | 1 => ⟨S_, .f32⟩
  | 2 => ⟨S_, .f32⟩
  | 3 => ⟨S2x3x1x1x1, .f32⟩
  | 4 => ⟨S2x3, .f32⟩
  | 5 => ⟨S2x3x1x1x1, .f32⟩
  | 6 => ⟨S2x3, .f32⟩
  | 7 => ⟨S2x3, .f32⟩
  | 8 => ⟨S_, .f32⟩
  | 9 => ⟨S2x3, .f32⟩
  | 10 => ⟨S2x3, .f32⟩
  | 11 => ⟨S2x3x1x1x1, .f32⟩
  | 12 => ⟨S2x3, .f32⟩
  | 13 => ⟨S2x3x1x1x1, .f32⟩
  | 14 => ⟨S2x3, .f32⟩
  | 15 => ⟨S2x3, .f32⟩
  | 16 => ⟨S_, .f32⟩
  | 17 => ⟨S2x3, .f32⟩
  | 18 => ⟨S2x3, .f32⟩
  | 19 => ⟨S2x3x1x1x1, .f32⟩
  | 20 => ⟨S2x3, .f32⟩
  | 21 => ⟨S2x3x1x1x1, .f32⟩
  | 22 => ⟨S2x3, .f32⟩
  | 23 => ⟨S2x3, .f32⟩
  | 24 => ⟨S_, .f32⟩
  | 25 => ⟨S2x3, .f32⟩
  | 26 => ⟨S2x3, .f32⟩
  | 27 => ⟨S2x3x1, .f32⟩
  | 28 => ⟨S2x3x1, .f32⟩
  | 29 => ⟨S2x3x1, .f32⟩
  | 30 => ⟨S2x3x3, .f32⟩
  | 31 => ⟨S2x1x1, .f32⟩
  | 32 => ⟨S2, .f32⟩
  | 33 => ⟨S2, .f32⟩
  | 34 => ⟨S2x1x1, .f32⟩
  | 35 => ⟨S2, .f32⟩
  | 36 => ⟨S2, .f32⟩
  | 37 => ⟨S2, .i1⟩
  | 38 => ⟨S2x1, .i1⟩
  | 39 => ⟨S2x1x3, .f32⟩
  | 40 => ⟨S2x3, .f32⟩
  | 41 => ⟨S2x1x3, .f32⟩
  | 42 => ⟨S2x3, .f32⟩
  | 43 => ⟨S2x3, .i1⟩
  | 44 => ⟨S2x3, .f32⟩
  | 45 => ⟨S2x1, .i1⟩
  | 46 => ⟨S2x1x3, .f32⟩
  | 47 => ⟨S2x3, .f32⟩
  | 48 => ⟨S2x1x3, .f32⟩
  | 49 => ⟨S2x3, .f32⟩
  | 50 => ⟨S2x3, .i1⟩
  | 51 => ⟨S2x3, .f32⟩
  | 52 => ⟨S2x1x3, .f32⟩
  | 53 => ⟨S2x3, .f32⟩
  | 54 => ⟨S_, .i32⟩
  | 55 => ⟨S_, .i32⟩
  | 56 => ⟨S2, .i32⟩
  | 57 => ⟨S2, .i32⟩
  | 58 => ⟨S2, .i32⟩
  | 59 => ⟨S2x1, .f32⟩
  | 60 => ⟨S2, .f32⟩
  | 61 => ⟨S2, .f32⟩
  | 62 => ⟨S2x1, .f32⟩
  | 63 => ⟨S2, .f32⟩
  | 64 => ⟨S2, .f32⟩
  | 65 => ⟨S2, .i1⟩
  | 66 => ⟨S2x1, .i1⟩
  | 67 => ⟨S2x3, .i1⟩
  | 68 => ⟨S2x3, .f32⟩
  | 69 => ⟨S2x1, .i1⟩
  | 70 => ⟨S2x3, .i1⟩
  | 71 => ⟨S2x3, .f32⟩
  | 72 => ⟨S2, .i32⟩
  | 73 => ⟨S2, .i32⟩
  | 74 => ⟨S2x1, .f32⟩
  | 75 => ⟨S2, .f32⟩
  | 76 => ⟨S_, .f32⟩
  | 77 => ⟨S2, .f32⟩
  | 78 => ⟨S2, .i1⟩
  | 79 => ⟨S2x1, .f32⟩
  | 80 => ⟨S2, .f32⟩
  | 81 => ⟨S_, .i32⟩
  | 82 => ⟨S_, .f32⟩
  | 83 => ⟨S2, .f32⟩
  | 84 => ⟨S2, .f32⟩
  | 85 => ⟨S2x1, .f32⟩
  | 86 => ⟨S2, .f32⟩
  | 87 => ⟨S_, .f32⟩
  | 88 => ⟨S2, .f32⟩
  | 89 => ⟨S2, .i1⟩
  | 90 => ⟨S2x1, .f32⟩
  | 91 => ⟨S2, .f32⟩
  | 92 => ⟨S2, .f32⟩
  | 93 => ⟨S_, .i32⟩
  | 94 => ⟨S_, .f32⟩
  | 95 => ⟨S2, .f32⟩
  | 96 => ⟨S2, .f32⟩
  | 97 => ⟨S2x1, .f32⟩
  | 98 => ⟨S2, .f32⟩
  | 99 => ⟨S_, .f32⟩
  | 100 => ⟨S2, .f32⟩
  | 101 => ⟨S2, .i1⟩
  | 102 => ⟨S2x1, .f32⟩
  | 103 => ⟨S2, .f32⟩
  | 104 => ⟨S2, .f32⟩
  | 105 => ⟨S_, .i32⟩
  | 106 => ⟨S_, .f32⟩
  | 107 => ⟨S2, .f32⟩
  | 108 => ⟨S2, .f32⟩
  | 109 => ⟨S2x1, .f32⟩
  | 110 => ⟨S2x3, .f32⟩
  | 111 => ⟨S2x3, .f32⟩
  | 112 => ⟨S2x3, .f32⟩
  | 113 => ⟨S2x1, .f32⟩
  | 114 => ⟨S2x3, .f32⟩
  | 115 => ⟨S2x3, .f32⟩
  | 116 => ⟨S2x3, .f32⟩
  | 117 => ⟨S2x1, .f32⟩
  | 118 => ⟨S2, .f32⟩
  | 119 => ⟨S2, .f32⟩
  | 120 => ⟨S2x1, .f32⟩
  | 121 => ⟨S2, .f32⟩
  | 122 => ⟨S2, .f32⟩
  | 123 => ⟨S2, .i1⟩
  | 124 => ⟨S2x1, .i1⟩
  | 125 => ⟨S2x3, .i1⟩
  | 126 => ⟨S2x3, .f32⟩
  | 127 => ⟨S2x1, .i1⟩
  | _ => ⟨S2x3x160x160x160, .f32⟩

abbrev hbmTy0_10 (i : Nat) : BufTy := match i % 128 with
  | 0 => ⟨S2x3, .i1⟩
  | 1 => ⟨S2x3, .f32⟩
  | 2 => ⟨S2, .i32⟩
  | 3 => ⟨S2, .i32⟩
  | 4 => ⟨S2x1, .f32⟩
  | 5 => ⟨S2, .f32⟩
  | 6 => ⟨S_, .f32⟩
  | 7 => ⟨S2, .f32⟩
  | 8 => ⟨S2, .i1⟩
  | 9 => ⟨S2x1, .f32⟩
  | 10 => ⟨S2, .f32⟩
  | 11 => ⟨S_, .i32⟩
  | 12 => ⟨S_, .f32⟩
  | 13 => ⟨S2, .f32⟩
  | 14 => ⟨S2, .f32⟩
  | 15 => ⟨S2x1, .f32⟩
  | 16 => ⟨S2, .f32⟩
  | 17 => ⟨S_, .f32⟩
  | 18 => ⟨S2, .f32⟩
  | 19 => ⟨S2, .i1⟩
  | 20 => ⟨S2x1, .f32⟩
  | 21 => ⟨S2, .f32⟩
  | 22 => ⟨S2, .f32⟩
  | 23 => ⟨S_, .i32⟩
  | 24 => ⟨S_, .f32⟩
  | 25 => ⟨S2, .f32⟩
  | 26 => ⟨S2, .f32⟩
  | 27 => ⟨S2x1, .f32⟩
  | 28 => ⟨S2, .f32⟩
  | 29 => ⟨S2x1, .f32⟩
  | 30 => ⟨S2, .f32⟩
  | 31 => ⟨S2, .f32⟩
  | 32 => ⟨S2, .f32⟩
  | 33 => ⟨S2x1, .f32⟩
  | 34 => ⟨S2, .f32⟩
  | 35 => ⟨S2, .f32⟩
  | 36 => ⟨S2, .f32⟩
  | 37 => ⟨S2x1, .f32⟩
  | 38 => ⟨S2, .f32⟩
  | 39 => ⟨S2, .f32⟩
  | 40 => ⟨S2, .f32⟩
  | 41 => ⟨S2, .f32⟩
  | 42 => ⟨S_, .f32⟩
  | 43 => ⟨S2, .f32⟩
  | 44 => ⟨S2, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | _ => ⟨S2x3x160x160x160, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S2x3x160x160x160, .f32⟩

abbrev bufTy : (tb : Table) → Fin (tcTables nBuf tb) → BufTy
  | .hbm, ⟨i, _⟩ => hbmTy i
  | _, _ => ⟨S2x3x160x160x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_cst_1 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_cst_2 : Ref sig .tc := ⟨.hbm, 54, rfl⟩
abbrev main_v49 : Ref sig .tc := ⟨.hbm, 55, rfl⟩
abbrev main_v50 : Ref sig .tc := ⟨.hbm, 56, rfl⟩
abbrev main_cst_3 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_cst_4 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_cst_5 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_cst_6 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_7 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_cst_8 : Ref sig .tc := ⟨.hbm, 86, rfl⟩
abbrev main_v75 : Ref sig .tc := ⟨.hbm, 87, rfl⟩
abbrev main_v76 : Ref sig .tc := ⟨.hbm, 88, rfl⟩
abbrev main_cst_9 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_cst_10 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_cst_11 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_cst_12 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_cst_13 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_cst_14 : Ref sig .tc := ⟨.hbm, 118, rfl⟩
abbrev main_v101 : Ref sig .tc := ⟨.hbm, 119, rfl⟩
abbrev main_v102 : Ref sig .tc := ⟨.hbm, 120, rfl⟩
abbrev main_cst_15 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_cst_16 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_cst_17 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_cst_18 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_cst_19 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_cst_20 : Ref sig .tc := ⟨.hbm, 144, rfl⟩
abbrev main_v121 : Ref sig .tc := ⟨.hbm, 145, rfl⟩
abbrev main_v122 : Ref sig .tc := ⟨.hbm, 146, rfl⟩
abbrev main_cst_21 : Ref sig .tc := ⟨.hbm, 147, rfl⟩
abbrev main_v123 : Ref sig .tc := ⟨.hbm, 148, rfl⟩
abbrev main_v124 : Ref sig .tc := ⟨.hbm, 149, rfl⟩
abbrev main_cst_22 : Ref sig .tc := ⟨.hbm, 150, rfl⟩
abbrev main_cst_23 : Ref sig .tc := ⟨.hbm, 151, rfl⟩
abbrev main_call0_v0 : Ref sig .tc := ⟨.hbm, 152, rfl⟩
abbrev main_call0_v1 : Ref sig .tc := ⟨.hbm, 153, rfl⟩
abbrev main_call0_v2 : Ref sig .tc := ⟨.hbm, 154, rfl⟩
abbrev main_call0_v3 : Ref sig .tc := ⟨.hbm, 155, rfl⟩
abbrev main_call0_v4 : Ref sig .tc := ⟨.hbm, 156, rfl⟩
abbrev main_v125 : Ref sig .tc := ⟨.hbm, 157, rfl⟩
abbrev main_cst_24 : Ref sig .tc := ⟨.hbm, 158, rfl⟩
abbrev main_v126 : Ref sig .tc := ⟨.hbm, 159, rfl⟩
abbrev main_v127 : Ref sig .tc := ⟨.hbm, 160, rfl⟩
abbrev main_cst_25 : Ref sig .tc := ⟨.hbm, 161, rfl⟩
abbrev main_v128 : Ref sig .tc := ⟨.hbm, 162, rfl⟩
abbrev main_v129 : Ref sig .tc := ⟨.hbm, 163, rfl⟩
abbrev main_cst_26 : Ref sig .tc := ⟨.hbm, 164, rfl⟩
abbrev main_cst_27 : Ref sig .tc := ⟨.hbm, 165, rfl⟩
abbrev main_call1_v0 : Ref sig .tc := ⟨.hbm, 166, rfl⟩
abbrev main_call1_v1 : Ref sig .tc := ⟨.hbm, 167, rfl⟩
abbrev main_call1_v2 : Ref sig .tc := ⟨.hbm, 168, rfl⟩
abbrev main_call1_v3 : Ref sig .tc := ⟨.hbm, 169, rfl⟩
abbrev main_call1_v4 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_cst_28 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_cst_29 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_cst_30 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_cst_31 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_cst_32 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_cst_33 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_cst_34 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_v201 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_cst_35 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_cst_36 : Ref sig .tc := ⟨.hbm, 264, rfl⟩
abbrev main_v215 : Ref sig .tc := ⟨.hbm, 265, rfl⟩
abbrev main_v216 : Ref sig .tc := ⟨.hbm, 266, rfl⟩
abbrev main_cst_37 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_cst_38 : Ref sig .tc := ⟨.hbm, 271, rfl⟩
abbrev main_v220 : Ref sig .tc := ⟨.hbm, 272, rfl⟩
abbrev main_cst_39 : Ref sig .tc := ⟨.hbm, 273, rfl⟩
abbrev main_v221 : Ref sig .tc := ⟨.hbm, 274, rfl⟩
abbrev main_cst_40 : Ref sig .tc := ⟨.hbm, 275, rfl⟩
abbrev main_v222 : Ref sig .tc := ⟨.hbm, 276, rfl⟩
abbrev main_cst_41 : Ref sig .tc := ⟨.hbm, 277, rfl⟩
abbrev main_v223 : Ref sig .tc := ⟨.hbm, 278, rfl⟩
abbrev main_v224 : Ref sig .tc := ⟨.hbm, 279, rfl⟩
abbrev main_cst_42 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_v228 : Ref sig .tc := ⟨.hbm, 284, rfl⟩
abbrev main_c : Ref sig .tc := ⟨.hbm, 285, rfl⟩
abbrev main_v229 : Ref sig .tc := ⟨.hbm, 286, rfl⟩
abbrev main_v230 : Ref sig .tc := ⟨.hbm, 287, rfl⟩
abbrev main_c_43 : Ref sig .tc := ⟨.hbm, 288, rfl⟩
abbrev main_v231 : Ref sig .tc := ⟨.hbm, 289, rfl⟩
abbrev main_v232 : Ref sig .tc := ⟨.hbm, 290, rfl⟩
abbrev main_v233 : Ref sig .tc := ⟨.hbm, 291, rfl⟩
abbrev main_v234 : Ref sig .tc := ⟨.hbm, 292, rfl⟩
abbrev main_v235 : Ref sig .tc := ⟨.hbm, 293, rfl⟩
abbrev main_call2_v0 : Ref sig .tc := ⟨.hbm, 294, rfl⟩
abbrev main_v236 : Ref sig .tc := ⟨.hbm, 295, rfl⟩
abbrev main_call3_v0 : Ref sig .tc := ⟨.hbm, 296, rfl⟩
abbrev main_v237 : Ref sig .tc := ⟨.hbm, 297, rfl⟩
abbrev main_cst_44 : Ref sig .tc := ⟨.hbm, 298, rfl⟩
abbrev main_v238 : Ref sig .tc := ⟨.hbm, 299, rfl⟩
abbrev main_v239 : Ref sig .tc := ⟨.hbm, 300, rfl⟩
abbrev main_v240 : Ref sig .tc := ⟨.hbm, 301, rfl⟩
abbrev main_v241 : Ref sig .tc := ⟨.hbm, 302, rfl⟩
abbrev main_v242 : Ref sig .tc := ⟨.hbm, 303, rfl⟩
abbrev main_v243 : Ref sig .tc := ⟨.hbm, 304, rfl⟩
abbrev main_v244 : Ref sig .tc := ⟨.hbm, 305, rfl⟩
abbrev main_v245 : Ref sig .tc := ⟨.hbm, 306, rfl⟩
abbrev main_cst_45 : Ref sig .tc := ⟨.hbm, 307, rfl⟩
abbrev main_v246 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_c_46 : Ref sig .tc := ⟨.hbm, 312, rfl⟩
abbrev main_v250 : Ref sig .tc := ⟨.hbm, 313, rfl⟩
abbrev main_v251 : Ref sig .tc := ⟨.hbm, 314, rfl⟩
abbrev main_c_47 : Ref sig .tc := ⟨.hbm, 315, rfl⟩
abbrev main_v252 : Ref sig .tc := ⟨.hbm, 316, rfl⟩
abbrev main_v253 : Ref sig .tc := ⟨.hbm, 317, rfl⟩
abbrev main_v254 : Ref sig .tc := ⟨.hbm, 318, rfl⟩
abbrev main_v255 : Ref sig .tc := ⟨.hbm, 319, rfl⟩
abbrev main_v256 : Ref sig .tc := ⟨.hbm, 320, rfl⟩
abbrev main_call4_v0 : Ref sig .tc := ⟨.hbm, 321, rfl⟩
abbrev main_v257 : Ref sig .tc := ⟨.hbm, 322, rfl⟩
abbrev main_call5_v0 : Ref sig .tc := ⟨.hbm, 323, rfl⟩
abbrev main_v258 : Ref sig .tc := ⟨.hbm, 324, rfl⟩
abbrev main_cst_48 : Ref sig .tc := ⟨.hbm, 325, rfl⟩
abbrev main_v259 : Ref sig .tc := ⟨.hbm, 326, rfl⟩
abbrev main_v260 : Ref sig .tc := ⟨.hbm, 327, rfl⟩
abbrev main_v261 : Ref sig .tc := ⟨.hbm, 328, rfl⟩
abbrev main_v262 : Ref sig .tc := ⟨.hbm, 329, rfl⟩
abbrev main_v263 : Ref sig .tc := ⟨.hbm, 330, rfl⟩
abbrev main_v264 : Ref sig .tc := ⟨.hbm, 331, rfl⟩
abbrev main_v265 : Ref sig .tc := ⟨.hbm, 332, rfl⟩
abbrev main_v266 : Ref sig .tc := ⟨.hbm, 333, rfl⟩
abbrev main_cst_49 : Ref sig .tc := ⟨.hbm, 334, rfl⟩
abbrev main_v267 : Ref sig .tc := ⟨.hbm, 335, rfl⟩
abbrev main_v268 : Ref sig .tc := ⟨.hbm, 336, rfl⟩
abbrev main_v269 : Ref sig .tc := ⟨.hbm, 337, rfl⟩
abbrev main_v270 : Ref sig .tc := ⟨.hbm, 338, rfl⟩
abbrev main_c_50 : Ref sig .tc := ⟨.hbm, 339, rfl⟩
abbrev main_v271 : Ref sig .tc := ⟨.hbm, 340, rfl⟩
abbrev main_v272 : Ref sig .tc := ⟨.hbm, 341, rfl⟩
abbrev main_c_51 : Ref sig .tc := ⟨.hbm, 342, rfl⟩
abbrev main_v273 : Ref sig .tc := ⟨.hbm, 343, rfl⟩
abbrev main_v274 : Ref sig .tc := ⟨.hbm, 344, rfl⟩
abbrev main_v275 : Ref sig .tc := ⟨.hbm, 345, rfl⟩
abbrev main_v276 : Ref sig .tc := ⟨.hbm, 346, rfl⟩
abbrev main_v277 : Ref sig .tc := ⟨.hbm, 347, rfl⟩
abbrev main_call6_v0 : Ref sig .tc := ⟨.hbm, 348, rfl⟩
abbrev main_v278 : Ref sig .tc := ⟨.hbm, 349, rfl⟩
abbrev main_call7_v0 : Ref sig .tc := ⟨.hbm, 350, rfl⟩
abbrev main_v279 : Ref sig .tc := ⟨.hbm, 351, rfl⟩
abbrev main_cst_52 : Ref sig .tc := ⟨.hbm, 352, rfl⟩
abbrev main_v280 : Ref sig .tc := ⟨.hbm, 353, rfl⟩
abbrev main_v281 : Ref sig .tc := ⟨.hbm, 354, rfl⟩
abbrev main_v282 : Ref sig .tc := ⟨.hbm, 355, rfl⟩
abbrev main_v283 : Ref sig .tc := ⟨.hbm, 356, rfl⟩
abbrev main_v284 : Ref sig .tc := ⟨.hbm, 357, rfl⟩
abbrev main_v285 : Ref sig .tc := ⟨.hbm, 358, rfl⟩
abbrev main_v286 : Ref sig .tc := ⟨.hbm, 359, rfl⟩
abbrev main_v287 : Ref sig .tc := ⟨.hbm, 360, rfl⟩
abbrev main_cst_53 : Ref sig .tc := ⟨.hbm, 361, rfl⟩
abbrev main_v288 : Ref sig .tc := ⟨.hbm, 362, rfl⟩
abbrev main_v289 : Ref sig .tc := ⟨.hbm, 363, rfl⟩
abbrev main_v290 : Ref sig .tc := ⟨.hbm, 364, rfl⟩
abbrev main_v291 : Ref sig .tc := ⟨.hbm, 365, rfl⟩
abbrev main_c_54 : Ref sig .tc := ⟨.hbm, 366, rfl⟩
abbrev main_v292 : Ref sig .tc := ⟨.hbm, 367, rfl⟩
abbrev main_v293 : Ref sig .tc := ⟨.hbm, 368, rfl⟩
abbrev main_c_55 : Ref sig .tc := ⟨.hbm, 369, rfl⟩
abbrev main_v294 : Ref sig .tc := ⟨.hbm, 370, rfl⟩
abbrev main_v295 : Ref sig .tc := ⟨.hbm, 371, rfl⟩
abbrev main_v296 : Ref sig .tc := ⟨.hbm, 372, rfl⟩
abbrev main_v297 : Ref sig .tc := ⟨.hbm, 373, rfl⟩
abbrev main_v298 : Ref sig .tc := ⟨.hbm, 374, rfl⟩
abbrev main_call8_v0 : Ref sig .tc := ⟨.hbm, 375, rfl⟩
abbrev main_v299 : Ref sig .tc := ⟨.hbm, 376, rfl⟩
abbrev main_call9_v0 : Ref sig .tc := ⟨.hbm, 377, rfl⟩
abbrev main_v300 : Ref sig .tc := ⟨.hbm, 378, rfl⟩
abbrev main_cst_56 : Ref sig .tc := ⟨.hbm, 379, rfl⟩
abbrev main_v301 : Ref sig .tc := ⟨.hbm, 380, rfl⟩
abbrev main_v302 : Ref sig .tc := ⟨.hbm, 381, rfl⟩
abbrev main_v303 : Ref sig .tc := ⟨.hbm, 382, rfl⟩
abbrev main_v304 : Ref sig .tc := ⟨.hbm, 383, rfl⟩
abbrev main_v305 : Ref sig .tc := ⟨.hbm, 384, rfl⟩
abbrev main_v306 : Ref sig .tc := ⟨.hbm, 385, rfl⟩
abbrev main_v307 : Ref sig .tc := ⟨.hbm, 386, rfl⟩
abbrev main_v308 : Ref sig .tc := ⟨.hbm, 387, rfl⟩
abbrev main_cst_57 : Ref sig .tc := ⟨.hbm, 388, rfl⟩
abbrev main_v309 : Ref sig .tc := ⟨.hbm, 389, rfl⟩
abbrev main_v310 : Ref sig .tc := ⟨.hbm, 390, rfl⟩
abbrev main_v311 : Ref sig .tc := ⟨.hbm, 391, rfl⟩
abbrev main_v312 : Ref sig .tc := ⟨.hbm, 392, rfl⟩
abbrev main_c_58 : Ref sig .tc := ⟨.hbm, 393, rfl⟩
abbrev main_v313 : Ref sig .tc := ⟨.hbm, 394, rfl⟩
abbrev main_v314 : Ref sig .tc := ⟨.hbm, 395, rfl⟩
abbrev main_c_59 : Ref sig .tc := ⟨.hbm, 396, rfl⟩
abbrev main_v315 : Ref sig .tc := ⟨.hbm, 397, rfl⟩
abbrev main_v316 : Ref sig .tc := ⟨.hbm, 398, rfl⟩
abbrev main_v317 : Ref sig .tc := ⟨.hbm, 399, rfl⟩
abbrev main_v318 : Ref sig .tc := ⟨.hbm, 400, rfl⟩
abbrev main_v319 : Ref sig .tc := ⟨.hbm, 401, rfl⟩
abbrev main_call10_v0 : Ref sig .tc := ⟨.hbm, 402, rfl⟩
abbrev main_v320 : Ref sig .tc := ⟨.hbm, 403, rfl⟩
abbrev main_call11_v0 : Ref sig .tc := ⟨.hbm, 404, rfl⟩
abbrev main_v321 : Ref sig .tc := ⟨.hbm, 405, rfl⟩
abbrev main_cst_60 : Ref sig .tc := ⟨.hbm, 406, rfl⟩
abbrev main_v322 : Ref sig .tc := ⟨.hbm, 407, rfl⟩
abbrev main_v323 : Ref sig .tc := ⟨.hbm, 408, rfl⟩
abbrev main_v324 : Ref sig .tc := ⟨.hbm, 409, rfl⟩
abbrev main_v325 : Ref sig .tc := ⟨.hbm, 410, rfl⟩
abbrev main_v326 : Ref sig .tc := ⟨.hbm, 411, rfl⟩
abbrev main_v327 : Ref sig .tc := ⟨.hbm, 412, rfl⟩
abbrev main_v328 : Ref sig .tc := ⟨.hbm, 413, rfl⟩
abbrev main_v329 : Ref sig .tc := ⟨.hbm, 414, rfl⟩
abbrev main_cst_61 : Ref sig .tc := ⟨.hbm, 415, rfl⟩
abbrev main_v330 : Ref sig .tc := ⟨.hbm, 416, rfl⟩
abbrev main_v331 : Ref sig .tc := ⟨.hbm, 417, rfl⟩
abbrev main_v332 : Ref sig .tc := ⟨.hbm, 418, rfl⟩
abbrev main_v333 : Ref sig .tc := ⟨.hbm, 419, rfl⟩
abbrev main_c_62 : Ref sig .tc := ⟨.hbm, 420, rfl⟩
abbrev main_v334 : Ref sig .tc := ⟨.hbm, 421, rfl⟩
abbrev main_v335 : Ref sig .tc := ⟨.hbm, 422, rfl⟩
abbrev main_c_63 : Ref sig .tc := ⟨.hbm, 423, rfl⟩
abbrev main_v336 : Ref sig .tc := ⟨.hbm, 424, rfl⟩
abbrev main_v337 : Ref sig .tc := ⟨.hbm, 425, rfl⟩
abbrev main_v338 : Ref sig .tc := ⟨.hbm, 426, rfl⟩
abbrev main_v339 : Ref sig .tc := ⟨.hbm, 427, rfl⟩
abbrev main_v340 : Ref sig .tc := ⟨.hbm, 428, rfl⟩
abbrev main_call12_v0 : Ref sig .tc := ⟨.hbm, 429, rfl⟩
abbrev main_v341 : Ref sig .tc := ⟨.hbm, 430, rfl⟩
abbrev main_call13_v0 : Ref sig .tc := ⟨.hbm, 431, rfl⟩
abbrev main_v342 : Ref sig .tc := ⟨.hbm, 432, rfl⟩
abbrev main_cst_64 : Ref sig .tc := ⟨.hbm, 433, rfl⟩
abbrev main_v343 : Ref sig .tc := ⟨.hbm, 434, rfl⟩
abbrev main_v344 : Ref sig .tc := ⟨.hbm, 435, rfl⟩
abbrev main_v345 : Ref sig .tc := ⟨.hbm, 436, rfl⟩
abbrev main_v346 : Ref sig .tc := ⟨.hbm, 437, rfl⟩
abbrev main_v347 : Ref sig .tc := ⟨.hbm, 438, rfl⟩
abbrev main_v348 : Ref sig .tc := ⟨.hbm, 439, rfl⟩
abbrev main_v349 : Ref sig .tc := ⟨.hbm, 440, rfl⟩
abbrev main_v350 : Ref sig .tc := ⟨.hbm, 441, rfl⟩
abbrev main_v351 : Ref sig .tc := ⟨.hbm, 442, rfl⟩
abbrev main_v352 : Ref sig .tc := ⟨.hbm, 443, rfl⟩
abbrev main_v353 : Ref sig .tc := ⟨.hbm, 444, rfl⟩
abbrev main_v354 : Ref sig .tc := ⟨.hbm, 445, rfl⟩
abbrev main_v355 : Ref sig .tc := ⟨.hbm, 446, rfl⟩
abbrev main_v356 : Ref sig .tc := ⟨.hbm, 447, rfl⟩
abbrev main_cst_65 : Ref sig .tc := ⟨.hbm, 448, rfl⟩
abbrev main_v357 : Ref sig .tc := ⟨.hbm, 449, rfl⟩
abbrev main_v358 : Ref sig .tc := ⟨.hbm, 450, rfl⟩
abbrev main_v359 : Ref sig .tc := ⟨.hbm, 451, rfl⟩
abbrev main_v360 : Ref sig .tc := ⟨.hbm, 452, rfl⟩
abbrev main_v361 : Ref sig .tc := ⟨.hbm, 453, rfl⟩
abbrev main_v362 : Ref sig .tc := ⟨.hbm, 454, rfl⟩
abbrev main_v363 : Ref sig .tc := ⟨.hbm, 455, rfl⟩
abbrev main_v364 : Ref sig .tc := ⟨.hbm, 456, rfl⟩
abbrev main_v365 : Ref sig .tc := ⟨.hbm, 457, rfl⟩
abbrev main_v366 : Ref sig .tc := ⟨.hbm, 458, rfl⟩
abbrev main_v367 : Ref sig .tc := ⟨.hbm, 459, rfl⟩
abbrev main_v368 : Ref sig .tc := ⟨.hbm, 460, rfl⟩
abbrev main_cst_66 : Ref sig .tc := ⟨.hbm, 461, rfl⟩
abbrev main_v369 : Ref sig .tc := ⟨.hbm, 462, rfl⟩
abbrev main_v370 : Ref sig .tc := ⟨.hbm, 463, rfl⟩
abbrev main_v371 : Ref sig .tc := ⟨.hbm, 464, rfl⟩
abbrev main_v372 : Ref sig .tc := ⟨.hbm, 465, rfl⟩
abbrev main_v373 : Ref sig .tc := ⟨.hbm, 466, rfl⟩
abbrev main_v374 : Ref sig .tc := ⟨.hbm, 467, rfl⟩
abbrev main_v375 : Ref sig .tc := ⟨.hbm, 468, rfl⟩
abbrev main_v376 : Ref sig .tc := ⟨.hbm, 469, rfl⟩
abbrev main_v377 : Ref sig .tc := ⟨.hbm, 470, rfl⟩
abbrev main_v378 : Ref sig .tc := ⟨.hbm, 471, rfl⟩
abbrev main_v379 : Ref sig .tc := ⟨.hbm, 472, rfl⟩
abbrev main_v380 : Ref sig .tc := ⟨.hbm, 473, rfl⟩
abbrev main_cst_67 : Ref sig .tc := ⟨.hbm, 474, rfl⟩
abbrev main_v381 : Ref sig .tc := ⟨.hbm, 475, rfl⟩
abbrev main_v382 : Ref sig .tc := ⟨.hbm, 476, rfl⟩
abbrev main_v383 : Ref sig .tc := ⟨.hbm, 477, rfl⟩
abbrev main_v384 : Ref sig .tc := ⟨.hbm, 478, rfl⟩
abbrev main_v385 : Ref sig .tc := ⟨.hbm, 479, rfl⟩
abbrev main_v386 : Ref sig .tc := ⟨.hbm, 480, rfl⟩
abbrev main_v387 : Ref sig .tc := ⟨.hbm, 481, rfl⟩
abbrev main_v388 : Ref sig .tc := ⟨.hbm, 482, rfl⟩
abbrev main_v389 : Ref sig .tc := ⟨.hbm, 483, rfl⟩
abbrev main_v390 : Ref sig .tc := ⟨.hbm, 484, rfl⟩
abbrev main_v391 : Ref sig .tc := ⟨.hbm, 485, rfl⟩
abbrev main_v392 : Ref sig .tc := ⟨.hbm, 486, rfl⟩
abbrev main_v393 : Ref sig .tc := ⟨.hbm, 487, rfl⟩
abbrev main_v394 : Ref sig .tc := ⟨.hbm, 488, rfl⟩
abbrev main_v395 : Ref sig .tc := ⟨.hbm, 489, rfl⟩
abbrev main_v396 : Ref sig .tc := ⟨.hbm, 490, rfl⟩
abbrev main_v397 : Ref sig .tc := ⟨.hbm, 491, rfl⟩
abbrev main_v398 : Ref sig .tc := ⟨.hbm, 492, rfl⟩
abbrev main_cst_68 : Ref sig .tc := ⟨.hbm, 493, rfl⟩
abbrev main_v399 : Ref sig .tc := ⟨.hbm, 494, rfl⟩
abbrev main_v400 : Ref sig .tc := ⟨.hbm, 495, rfl⟩
abbrev main_cst_69 : Ref sig .tc := ⟨.hbm, 496, rfl⟩
abbrev main_v401 : Ref sig .tc := ⟨.hbm, 497, rfl⟩
abbrev main_v402 : Ref sig .tc := ⟨.hbm, 498, rfl⟩
abbrev main_v403 : Ref sig .tc := ⟨.hbm, 499, rfl⟩
abbrev main_cst_70 : Ref sig .tc := ⟨.hbm, 500, rfl⟩
abbrev main_v404 : Ref sig .tc := ⟨.hbm, 501, rfl⟩
abbrev main_v405 : Ref sig .tc := ⟨.hbm, 502, rfl⟩
abbrev main_v406 : Ref sig .tc := ⟨.hbm, 503, rfl⟩
abbrev main_v407 : Ref sig .tc := ⟨.hbm, 504, rfl⟩
abbrev main_cst_71 : Ref sig .tc := ⟨.hbm, 505, rfl⟩
abbrev main_v408 : Ref sig .tc := ⟨.hbm, 506, rfl⟩
abbrev main_v409 : Ref sig .tc := ⟨.hbm, 507, rfl⟩
abbrev main_v410 : Ref sig .tc := ⟨.hbm, 508, rfl⟩
abbrev main_v411 : Ref sig .tc := ⟨.hbm, 509, rfl⟩
abbrev main_cst_72 : Ref sig .tc := ⟨.hbm, 510, rfl⟩
abbrev main_v412 : Ref sig .tc := ⟨.hbm, 511, rfl⟩
abbrev main_v413 : Ref sig .tc := ⟨.hbm, 512, rfl⟩
abbrev main_v414 : Ref sig .tc := ⟨.hbm, 513, rfl⟩
abbrev main_v415 : Ref sig .tc := ⟨.hbm, 514, rfl⟩
abbrev main_cst_73 : Ref sig .tc := ⟨.hbm, 515, rfl⟩
abbrev main_v416 : Ref sig .tc := ⟨.hbm, 516, rfl⟩
abbrev main_v417 : Ref sig .tc := ⟨.hbm, 517, rfl⟩
abbrev main_v418 : Ref sig .tc := ⟨.hbm, 518, rfl⟩
abbrev main_v419 : Ref sig .tc := ⟨.hbm, 519, rfl⟩
abbrev main_v420 : Ref sig .tc := ⟨.hbm, 520, rfl⟩
abbrev main_v421 : Ref sig .tc := ⟨.hbm, 521, rfl⟩
abbrev main_v422 : Ref sig .tc := ⟨.hbm, 522, rfl⟩
abbrev main_v423 : Ref sig .tc := ⟨.hbm, 523, rfl⟩
abbrev main_v424 : Ref sig .tc := ⟨.hbm, 524, rfl⟩
abbrev main_cst_74 : Ref sig .tc := ⟨.hbm, 525, rfl⟩
abbrev main_v425 : Ref sig .tc := ⟨.hbm, 526, rfl⟩
abbrev main_v426 : Ref sig .tc := ⟨.hbm, 527, rfl⟩
abbrev main_cst_75 : Ref sig .tc := ⟨.hbm, 528, rfl⟩
abbrev main_v427 : Ref sig .tc := ⟨.hbm, 529, rfl⟩
abbrev main_v428 : Ref sig .tc := ⟨.hbm, 530, rfl⟩
abbrev main_v429 : Ref sig .tc := ⟨.hbm, 531, rfl⟩
abbrev main_cst_76 : Ref sig .tc := ⟨.hbm, 532, rfl⟩
abbrev main_v430 : Ref sig .tc := ⟨.hbm, 533, rfl⟩
abbrev main_v431 : Ref sig .tc := ⟨.hbm, 534, rfl⟩
abbrev main_v432 : Ref sig .tc := ⟨.hbm, 535, rfl⟩
abbrev main_v433 : Ref sig .tc := ⟨.hbm, 536, rfl⟩
abbrev main_cst_77 : Ref sig .tc := ⟨.hbm, 537, rfl⟩
abbrev main_v434 : Ref sig .tc := ⟨.hbm, 538, rfl⟩
abbrev main_v435 : Ref sig .tc := ⟨.hbm, 539, rfl⟩
abbrev main_v436 : Ref sig .tc := ⟨.hbm, 540, rfl⟩
abbrev main_v437 : Ref sig .tc := ⟨.hbm, 541, rfl⟩
abbrev main_cst_78 : Ref sig .tc := ⟨.hbm, 542, rfl⟩
abbrev main_v438 : Ref sig .tc := ⟨.hbm, 543, rfl⟩
abbrev main_v439 : Ref sig .tc := ⟨.hbm, 544, rfl⟩
abbrev main_v440 : Ref sig .tc := ⟨.hbm, 545, rfl⟩
abbrev main_v441 : Ref sig .tc := ⟨.hbm, 546, rfl⟩
abbrev main_cst_79 : Ref sig .tc := ⟨.hbm, 547, rfl⟩
abbrev main_v442 : Ref sig .tc := ⟨.hbm, 548, rfl⟩
abbrev main_v443 : Ref sig .tc := ⟨.hbm, 549, rfl⟩
abbrev main_v444 : Ref sig .tc := ⟨.hbm, 550, rfl⟩
abbrev main_v445 : Ref sig .tc := ⟨.hbm, 551, rfl⟩
abbrev main_v446 : Ref sig .tc := ⟨.hbm, 552, rfl⟩
abbrev main_v447 : Ref sig .tc := ⟨.hbm, 553, rfl⟩
abbrev main_v448 : Ref sig .tc := ⟨.hbm, 554, rfl⟩
abbrev main_v449 : Ref sig .tc := ⟨.hbm, 555, rfl⟩
abbrev main_v450 : Ref sig .tc := ⟨.hbm, 556, rfl⟩
abbrev main_cst_80 : Ref sig .tc := ⟨.hbm, 557, rfl⟩
abbrev main_v451 : Ref sig .tc := ⟨.hbm, 558, rfl⟩
abbrev main_v452 : Ref sig .tc := ⟨.hbm, 559, rfl⟩
abbrev main_cst_81 : Ref sig .tc := ⟨.hbm, 560, rfl⟩
abbrev main_v453 : Ref sig .tc := ⟨.hbm, 561, rfl⟩
abbrev main_v454 : Ref sig .tc := ⟨.hbm, 562, rfl⟩
abbrev main_v455 : Ref sig .tc := ⟨.hbm, 563, rfl⟩
abbrev main_cst_82 : Ref sig .tc := ⟨.hbm, 564, rfl⟩
abbrev main_v456 : Ref sig .tc := ⟨.hbm, 565, rfl⟩
abbrev main_v457 : Ref sig .tc := ⟨.hbm, 566, rfl⟩
abbrev main_v458 : Ref sig .tc := ⟨.hbm, 567, rfl⟩
abbrev main_v459 : Ref sig .tc := ⟨.hbm, 568, rfl⟩
abbrev main_cst_83 : Ref sig .tc := ⟨.hbm, 569, rfl⟩
abbrev main_v460 : Ref sig .tc := ⟨.hbm, 570, rfl⟩
abbrev main_v461 : Ref sig .tc := ⟨.hbm, 571, rfl⟩
abbrev main_v462 : Ref sig .tc := ⟨.hbm, 572, rfl⟩
abbrev main_v463 : Ref sig .tc := ⟨.hbm, 573, rfl⟩
abbrev main_cst_84 : Ref sig .tc := ⟨.hbm, 574, rfl⟩
abbrev main_v464 : Ref sig .tc := ⟨.hbm, 575, rfl⟩
abbrev main_v465 : Ref sig .tc := ⟨.hbm, 576, rfl⟩
abbrev main_v466 : Ref sig .tc := ⟨.hbm, 577, rfl⟩
abbrev main_v467 : Ref sig .tc := ⟨.hbm, 578, rfl⟩
abbrev main_cst_85 : Ref sig .tc := ⟨.hbm, 579, rfl⟩
abbrev main_v468 : Ref sig .tc := ⟨.hbm, 580, rfl⟩
abbrev main_v469 : Ref sig .tc := ⟨.hbm, 581, rfl⟩
abbrev main_v470 : Ref sig .tc := ⟨.hbm, 582, rfl⟩
abbrev main_cst_86 : Ref sig .tc := ⟨.hbm, 583, rfl⟩
abbrev main_v471 : Ref sig .tc := ⟨.hbm, 584, rfl⟩
abbrev main_v472 : Ref sig .tc := ⟨.hbm, 585, rfl⟩
abbrev main_cst_87 : Ref sig .tc := ⟨.hbm, 586, rfl⟩
abbrev main_v473 : Ref sig .tc := ⟨.hbm, 587, rfl⟩
abbrev main_v474 : Ref sig .tc := ⟨.hbm, 588, rfl⟩
abbrev main_cst_88 : Ref sig .tc := ⟨.hbm, 589, rfl⟩
abbrev main_cst_89 : Ref sig .tc := ⟨.hbm, 590, rfl⟩
abbrev main_call14_v0 : Ref sig .tc := ⟨.hbm, 591, rfl⟩
abbrev main_call14_v1 : Ref sig .tc := ⟨.hbm, 592, rfl⟩
abbrev main_call14_v2 : Ref sig .tc := ⟨.hbm, 593, rfl⟩
abbrev main_call14_v3 : Ref sig .tc := ⟨.hbm, 594, rfl⟩
abbrev main_call14_v4 : Ref sig .tc := ⟨.hbm, 595, rfl⟩
abbrev main_v475 : Ref sig .tc := ⟨.hbm, 596, rfl⟩
abbrev main_cst_90 : Ref sig .tc := ⟨.hbm, 597, rfl⟩
abbrev main_v476 : Ref sig .tc := ⟨.hbm, 598, rfl⟩
abbrev main_v477 : Ref sig .tc := ⟨.hbm, 599, rfl⟩
abbrev main_cst_91 : Ref sig .tc := ⟨.hbm, 600, rfl⟩
abbrev main_v478 : Ref sig .tc := ⟨.hbm, 601, rfl⟩
abbrev main_v479 : Ref sig .tc := ⟨.hbm, 602, rfl⟩
abbrev main_cst_92 : Ref sig .tc := ⟨.hbm, 603, rfl⟩
abbrev main_cst_93 : Ref sig .tc := ⟨.hbm, 604, rfl⟩
abbrev main_call15_v0 : Ref sig .tc := ⟨.hbm, 605, rfl⟩
abbrev main_call15_v1 : Ref sig .tc := ⟨.hbm, 606, rfl⟩
abbrev main_call15_v2 : Ref sig .tc := ⟨.hbm, 607, rfl⟩
abbrev main_call15_v3 : Ref sig .tc := ⟨.hbm, 608, rfl⟩
abbrev main_call15_v4 : Ref sig .tc := ⟨.hbm, 609, rfl⟩
abbrev main_v480 : Ref sig .tc := ⟨.hbm, 610, rfl⟩
abbrev main_v481 : Ref sig .tc := ⟨.hbm, 611, rfl⟩
abbrev main_v482 : Ref sig .tc := ⟨.hbm, 612, rfl⟩
abbrev main_v483 : Ref sig .tc := ⟨.hbm, 613, rfl⟩
abbrev main_v484 : Ref sig .tc := ⟨.hbm, 614, rfl⟩
abbrev main_v485 : Ref sig .tc := ⟨.hbm, 615, rfl⟩
abbrev main_v486 : Ref sig .tc := ⟨.hbm, 616, rfl⟩
abbrev main_cst_94 : Ref sig .tc := ⟨.hbm, 617, rfl⟩
abbrev main_v487 : Ref sig .tc := ⟨.hbm, 618, rfl⟩
abbrev main_v488 : Ref sig .tc := ⟨.hbm, 619, rfl⟩
abbrev main_v489 : Ref sig .tc := ⟨.hbm, 620, rfl⟩
abbrev main_v490 : Ref sig .tc := ⟨.hbm, 621, rfl⟩
abbrev main_v491 : Ref sig .tc := ⟨.hbm, 622, rfl⟩
abbrev main_v492 : Ref sig .tc := ⟨.hbm, 623, rfl⟩
abbrev main_v493 : Ref sig .tc := ⟨.hbm, 624, rfl⟩
abbrev main_v494 : Ref sig .tc := ⟨.hbm, 625, rfl⟩
abbrev main_v495 : Ref sig .tc := ⟨.hbm, 626, rfl⟩
abbrev main_v496 : Ref sig .tc := ⟨.hbm, 627, rfl⟩
abbrev main_v497 : Ref sig .tc := ⟨.hbm, 628, rfl⟩
abbrev main_v498 : Ref sig .tc := ⟨.hbm, 629, rfl⟩
abbrev main_cst_95 : Ref sig .tc := ⟨.hbm, 630, rfl⟩
abbrev main_v499 : Ref sig .tc := ⟨.hbm, 631, rfl⟩
abbrev main_v500 : Ref sig .tc := ⟨.hbm, 632, rfl⟩
abbrev main_v501 : Ref sig .tc := ⟨.hbm, 633, rfl⟩
abbrev main_v502 : Ref sig .tc := ⟨.hbm, 634, rfl⟩
abbrev main_v503 : Ref sig .tc := ⟨.hbm, 635, rfl⟩
abbrev main_v504 : Ref sig .tc := ⟨.hbm, 636, rfl⟩
abbrev main_v505 : Ref sig .tc := ⟨.hbm, 637, rfl⟩
abbrev main_v506 : Ref sig .tc := ⟨.hbm, 638, rfl⟩
abbrev main_v507 : Ref sig .tc := ⟨.hbm, 639, rfl⟩
abbrev main_v508 : Ref sig .tc := ⟨.hbm, 640, rfl⟩
abbrev main_v509 : Ref sig .tc := ⟨.hbm, 641, rfl⟩
abbrev main_v510 : Ref sig .tc := ⟨.hbm, 642, rfl⟩
abbrev main_cst_96 : Ref sig .tc := ⟨.hbm, 643, rfl⟩
abbrev main_v511 : Ref sig .tc := ⟨.hbm, 644, rfl⟩
abbrev main_v512 : Ref sig .tc := ⟨.hbm, 645, rfl⟩
abbrev main_v513 : Ref sig .tc := ⟨.hbm, 646, rfl⟩
abbrev main_v514 : Ref sig .tc := ⟨.hbm, 647, rfl⟩
abbrev main_v515 : Ref sig .tc := ⟨.hbm, 648, rfl⟩
abbrev main_v516 : Ref sig .tc := ⟨.hbm, 649, rfl⟩
abbrev main_v517 : Ref sig .tc := ⟨.hbm, 650, rfl⟩
abbrev main_v518 : Ref sig .tc := ⟨.hbm, 651, rfl⟩
abbrev main_v519 : Ref sig .tc := ⟨.hbm, 652, rfl⟩
abbrev main_v520 : Ref sig .tc := ⟨.hbm, 653, rfl⟩
abbrev main_v521 : Ref sig .tc := ⟨.hbm, 654, rfl⟩
abbrev main_v522 : Ref sig .tc := ⟨.hbm, 655, rfl⟩
abbrev main_v523 : Ref sig .tc := ⟨.hbm, 656, rfl⟩
abbrev main_v524 : Ref sig .tc := ⟨.hbm, 657, rfl⟩
abbrev main_v525 : Ref sig .tc := ⟨.hbm, 658, rfl⟩
abbrev main_v526 : Ref sig .tc := ⟨.hbm, 659, rfl⟩
abbrev main_v527 : Ref sig .tc := ⟨.hbm, 660, rfl⟩
abbrev main_cst_97 : Ref sig .tc := ⟨.hbm, 661, rfl⟩
abbrev main_v528 : Ref sig .tc := ⟨.hbm, 662, rfl⟩
abbrev main_v529 : Ref sig .tc := ⟨.hbm, 663, rfl⟩
abbrev main_v530 : Ref sig .tc := ⟨.hbm, 664, rfl⟩
abbrev main_v531 : Ref sig .tc := ⟨.hbm, 665, rfl⟩
abbrev main_v532 : Ref sig .tc := ⟨.hbm, 666, rfl⟩
abbrev main_v533 : Ref sig .tc := ⟨.hbm, 667, rfl⟩
abbrev main_v534 : Ref sig .tc := ⟨.hbm, 668, rfl⟩
abbrev main_cst_98 : Ref sig .tc := ⟨.hbm, 669, rfl⟩
abbrev main_v535 : Ref sig .tc := ⟨.hbm, 670, rfl⟩
abbrev main_v536 : Ref sig .tc := ⟨.hbm, 671, rfl⟩
abbrev main_v537 : Ref sig .tc := ⟨.hbm, 672, rfl⟩
abbrev main_v538 : Ref sig .tc := ⟨.hbm, 673, rfl⟩
abbrev main_v539 : Ref sig .tc := ⟨.hbm, 674, rfl⟩
abbrev main_v540 : Ref sig .tc := ⟨.hbm, 675, rfl⟩
abbrev main_v541 : Ref sig .tc := ⟨.hbm, 676, rfl⟩
abbrev main_cst_99 : Ref sig .tc := ⟨.hbm, 677, rfl⟩
abbrev main_v542 : Ref sig .tc := ⟨.hbm, 678, rfl⟩
abbrev main_v543 : Ref sig .tc := ⟨.hbm, 679, rfl⟩
abbrev main_v544 : Ref sig .tc := ⟨.hbm, 680, rfl⟩
abbrev main_v545 : Ref sig .tc := ⟨.hbm, 681, rfl⟩
abbrev main_cst_100 : Ref sig .tc := ⟨.hbm, 682, rfl⟩
abbrev main_v546 : Ref sig .tc := ⟨.hbm, 683, rfl⟩
abbrev main_v547 : Ref sig .tc := ⟨.hbm, 684, rfl⟩
abbrev main_v548 : Ref sig .tc := ⟨.hbm, 685, rfl⟩
abbrev main_v549 : Ref sig .tc := ⟨.hbm, 686, rfl⟩
abbrev main_v550 : Ref sig .tc := ⟨.hbm, 687, rfl⟩
abbrev main_v551 : Ref sig .tc := ⟨.hbm, 688, rfl⟩
abbrev main_v552 : Ref sig .tc := ⟨.hbm, 689, rfl⟩
abbrev main_v553 : Ref sig .tc := ⟨.hbm, 690, rfl⟩
abbrev main_v554 : Ref sig .tc := ⟨.hbm, 691, rfl⟩
abbrev main_v555 : Ref sig .tc := ⟨.hbm, 692, rfl⟩
abbrev main_v556 : Ref sig .tc := ⟨.hbm, 693, rfl⟩
abbrev main_v557 : Ref sig .tc := ⟨.hbm, 694, rfl⟩
abbrev main_v558 : Ref sig .tc := ⟨.hbm, 695, rfl⟩
abbrev main_v559 : Ref sig .tc := ⟨.hbm, 696, rfl⟩
abbrev main_cst_101 : Ref sig .tc := ⟨.hbm, 697, rfl⟩
abbrev main_v560 : Ref sig .tc := ⟨.hbm, 698, rfl⟩
abbrev main_v561 : Ref sig .tc := ⟨.hbm, 699, rfl⟩
abbrev main_v562 : Ref sig .tc := ⟨.hbm, 700, rfl⟩
abbrev main_v563 : Ref sig .tc := ⟨.hbm, 701, rfl⟩
abbrev main_v564 : Ref sig .tc := ⟨.hbm, 702, rfl⟩
abbrev main_cst_102 : Ref sig .tc := ⟨.hbm, 703, rfl⟩
abbrev main_v565 : Ref sig .tc := ⟨.hbm, 704, rfl⟩
abbrev main_v566 : Ref sig .tc := ⟨.hbm, 705, rfl⟩
abbrev main_cst_103 : Ref sig .tc := ⟨.hbm, 706, rfl⟩
abbrev main_v567 : Ref sig .tc := ⟨.hbm, 707, rfl⟩
abbrev main_v568 : Ref sig .tc := ⟨.hbm, 708, rfl⟩
abbrev main_v569 : Ref sig .tc := ⟨.hbm, 709, rfl⟩
abbrev main_cst_104 : Ref sig .tc := ⟨.hbm, 710, rfl⟩
abbrev main_v570 : Ref sig .tc := ⟨.hbm, 711, rfl⟩
abbrev main_cst_105 : Ref sig .tc := ⟨.hbm, 712, rfl⟩
abbrev main_v571 : Ref sig .tc := ⟨.hbm, 713, rfl⟩
abbrev main_cst_106 : Ref sig .tc := ⟨.hbm, 714, rfl⟩
abbrev main_v572 : Ref sig .tc := ⟨.hbm, 715, rfl⟩
abbrev main_v573 : Ref sig .tc := ⟨.hbm, 716, rfl⟩
abbrev main_v574 : Ref sig .tc := ⟨.hbm, 717, rfl⟩
abbrev main_cst_107 : Ref sig .tc := ⟨.hbm, 718, rfl⟩
abbrev main_v575 : Ref sig .tc := ⟨.hbm, 719, rfl⟩
abbrev main_v576 : Ref sig .tc := ⟨.hbm, 720, rfl⟩
abbrev main_v577 : Ref sig .tc := ⟨.hbm, 721, rfl⟩
abbrev main_v578 : Ref sig .tc := ⟨.hbm, 722, rfl⟩
abbrev main_c_108 : Ref sig .tc := ⟨.hbm, 723, rfl⟩
abbrev main_v579 : Ref sig .tc := ⟨.hbm, 724, rfl⟩
abbrev main_v580 : Ref sig .tc := ⟨.hbm, 725, rfl⟩
abbrev main_c_109 : Ref sig .tc := ⟨.hbm, 726, rfl⟩
abbrev main_v581 : Ref sig .tc := ⟨.hbm, 727, rfl⟩
abbrev main_v582 : Ref sig .tc := ⟨.hbm, 728, rfl⟩
abbrev main_v583 : Ref sig .tc := ⟨.hbm, 729, rfl⟩
abbrev main_v584 : Ref sig .tc := ⟨.hbm, 730, rfl⟩
abbrev main_v585 : Ref sig .tc := ⟨.hbm, 731, rfl⟩
abbrev main_call16_v0 : Ref sig .tc := ⟨.hbm, 732, rfl⟩
abbrev main_v586 : Ref sig .tc := ⟨.hbm, 733, rfl⟩
abbrev main_call17_v0 : Ref sig .tc := ⟨.hbm, 734, rfl⟩
abbrev main_v587 : Ref sig .tc := ⟨.hbm, 735, rfl⟩
abbrev main_cst_110 : Ref sig .tc := ⟨.hbm, 736, rfl⟩
abbrev main_v588 : Ref sig .tc := ⟨.hbm, 737, rfl⟩
abbrev main_v589 : Ref sig .tc := ⟨.hbm, 738, rfl⟩
abbrev main_v590 : Ref sig .tc := ⟨.hbm, 739, rfl⟩
abbrev main_v591 : Ref sig .tc := ⟨.hbm, 740, rfl⟩
abbrev main_v592 : Ref sig .tc := ⟨.hbm, 741, rfl⟩
abbrev main_v593 : Ref sig .tc := ⟨.hbm, 742, rfl⟩
abbrev main_v594 : Ref sig .tc := ⟨.hbm, 743, rfl⟩
abbrev main_v595 : Ref sig .tc := ⟨.hbm, 744, rfl⟩
abbrev main_cst_111 : Ref sig .tc := ⟨.hbm, 745, rfl⟩
abbrev main_v596 : Ref sig .tc := ⟨.hbm, 746, rfl⟩
abbrev main_v597 : Ref sig .tc := ⟨.hbm, 747, rfl⟩
abbrev main_v598 : Ref sig .tc := ⟨.hbm, 748, rfl⟩
abbrev main_v599 : Ref sig .tc := ⟨.hbm, 749, rfl⟩
abbrev main_c_112 : Ref sig .tc := ⟨.hbm, 750, rfl⟩
abbrev main_v600 : Ref sig .tc := ⟨.hbm, 751, rfl⟩
abbrev main_v601 : Ref sig .tc := ⟨.hbm, 752, rfl⟩
abbrev main_c_113 : Ref sig .tc := ⟨.hbm, 753, rfl⟩
abbrev main_v602 : Ref sig .tc := ⟨.hbm, 754, rfl⟩
abbrev main_v603 : Ref sig .tc := ⟨.hbm, 755, rfl⟩
abbrev main_v604 : Ref sig .tc := ⟨.hbm, 756, rfl⟩
abbrev main_v605 : Ref sig .tc := ⟨.hbm, 757, rfl⟩
abbrev main_v606 : Ref sig .tc := ⟨.hbm, 758, rfl⟩
abbrev main_call18_v0 : Ref sig .tc := ⟨.hbm, 759, rfl⟩
abbrev main_v607 : Ref sig .tc := ⟨.hbm, 760, rfl⟩
abbrev main_call19_v0 : Ref sig .tc := ⟨.hbm, 761, rfl⟩
abbrev main_v608 : Ref sig .tc := ⟨.hbm, 762, rfl⟩
abbrev main_cst_114 : Ref sig .tc := ⟨.hbm, 763, rfl⟩
abbrev main_v609 : Ref sig .tc := ⟨.hbm, 764, rfl⟩
abbrev main_v610 : Ref sig .tc := ⟨.hbm, 765, rfl⟩
abbrev main_v611 : Ref sig .tc := ⟨.hbm, 766, rfl⟩
abbrev main_v612 : Ref sig .tc := ⟨.hbm, 767, rfl⟩
abbrev main_v613 : Ref sig .tc := ⟨.hbm, 768, rfl⟩
abbrev main_v614 : Ref sig .tc := ⟨.hbm, 769, rfl⟩
abbrev main_v615 : Ref sig .tc := ⟨.hbm, 770, rfl⟩
abbrev main_v616 : Ref sig .tc := ⟨.hbm, 771, rfl⟩
abbrev main_cst_115 : Ref sig .tc := ⟨.hbm, 772, rfl⟩
abbrev main_v617 : Ref sig .tc := ⟨.hbm, 773, rfl⟩
abbrev main_v618 : Ref sig .tc := ⟨.hbm, 774, rfl⟩
abbrev main_v619 : Ref sig .tc := ⟨.hbm, 775, rfl⟩
abbrev main_v620 : Ref sig .tc := ⟨.hbm, 776, rfl⟩
abbrev main_c_116 : Ref sig .tc := ⟨.hbm, 777, rfl⟩
abbrev main_v621 : Ref sig .tc := ⟨.hbm, 778, rfl⟩
abbrev main_v622 : Ref sig .tc := ⟨.hbm, 779, rfl⟩
abbrev main_c_117 : Ref sig .tc := ⟨.hbm, 780, rfl⟩
abbrev main_v623 : Ref sig .tc := ⟨.hbm, 781, rfl⟩
abbrev main_v624 : Ref sig .tc := ⟨.hbm, 782, rfl⟩
abbrev main_v625 : Ref sig .tc := ⟨.hbm, 783, rfl⟩
abbrev main_v626 : Ref sig .tc := ⟨.hbm, 784, rfl⟩
abbrev main_v627 : Ref sig .tc := ⟨.hbm, 785, rfl⟩
abbrev main_call20_v0 : Ref sig .tc := ⟨.hbm, 786, rfl⟩
abbrev main_v628 : Ref sig .tc := ⟨.hbm, 787, rfl⟩
abbrev main_call21_v0 : Ref sig .tc := ⟨.hbm, 788, rfl⟩
abbrev main_v629 : Ref sig .tc := ⟨.hbm, 789, rfl⟩
abbrev main_cst_118 : Ref sig .tc := ⟨.hbm, 790, rfl⟩
abbrev main_v630 : Ref sig .tc := ⟨.hbm, 791, rfl⟩
abbrev main_v631 : Ref sig .tc := ⟨.hbm, 792, rfl⟩
abbrev main_v632 : Ref sig .tc := ⟨.hbm, 793, rfl⟩
abbrev main_v633 : Ref sig .tc := ⟨.hbm, 794, rfl⟩
abbrev main_v634 : Ref sig .tc := ⟨.hbm, 795, rfl⟩
abbrev main_v635 : Ref sig .tc := ⟨.hbm, 796, rfl⟩
abbrev main_v636 : Ref sig .tc := ⟨.hbm, 797, rfl⟩
abbrev main_v637 : Ref sig .tc := ⟨.hbm, 798, rfl⟩
abbrev main_cst_119 : Ref sig .tc := ⟨.hbm, 799, rfl⟩
abbrev main_v638 : Ref sig .tc := ⟨.hbm, 800, rfl⟩
abbrev main_v639 : Ref sig .tc := ⟨.hbm, 801, rfl⟩
abbrev main_v640 : Ref sig .tc := ⟨.hbm, 802, rfl⟩
abbrev main_v641 : Ref sig .tc := ⟨.hbm, 803, rfl⟩
abbrev main_c_120 : Ref sig .tc := ⟨.hbm, 804, rfl⟩
abbrev main_v642 : Ref sig .tc := ⟨.hbm, 805, rfl⟩
abbrev main_v643 : Ref sig .tc := ⟨.hbm, 806, rfl⟩
abbrev main_c_121 : Ref sig .tc := ⟨.hbm, 807, rfl⟩
abbrev main_v644 : Ref sig .tc := ⟨.hbm, 808, rfl⟩
abbrev main_v645 : Ref sig .tc := ⟨.hbm, 809, rfl⟩
abbrev main_v646 : Ref sig .tc := ⟨.hbm, 810, rfl⟩
abbrev main_v647 : Ref sig .tc := ⟨.hbm, 811, rfl⟩
abbrev main_v648 : Ref sig .tc := ⟨.hbm, 812, rfl⟩
abbrev main_call22_v0 : Ref sig .tc := ⟨.hbm, 813, rfl⟩
abbrev main_v649 : Ref sig .tc := ⟨.hbm, 814, rfl⟩
abbrev main_call23_v0 : Ref sig .tc := ⟨.hbm, 815, rfl⟩
abbrev main_v650 : Ref sig .tc := ⟨.hbm, 816, rfl⟩
abbrev main_cst_122 : Ref sig .tc := ⟨.hbm, 817, rfl⟩
abbrev main_v651 : Ref sig .tc := ⟨.hbm, 818, rfl⟩
abbrev main_v652 : Ref sig .tc := ⟨.hbm, 819, rfl⟩
abbrev main_v653 : Ref sig .tc := ⟨.hbm, 820, rfl⟩
abbrev main_v654 : Ref sig .tc := ⟨.hbm, 821, rfl⟩
abbrev main_v655 : Ref sig .tc := ⟨.hbm, 822, rfl⟩
abbrev main_v656 : Ref sig .tc := ⟨.hbm, 823, rfl⟩
abbrev main_v657 : Ref sig .tc := ⟨.hbm, 824, rfl⟩
abbrev main_v658 : Ref sig .tc := ⟨.hbm, 825, rfl⟩
abbrev main_cst_123 : Ref sig .tc := ⟨.hbm, 826, rfl⟩
abbrev main_v659 : Ref sig .tc := ⟨.hbm, 827, rfl⟩
abbrev main_v660 : Ref sig .tc := ⟨.hbm, 828, rfl⟩
abbrev main_v661 : Ref sig .tc := ⟨.hbm, 829, rfl⟩
abbrev main_v662 : Ref sig .tc := ⟨.hbm, 830, rfl⟩
abbrev main_c_124 : Ref sig .tc := ⟨.hbm, 831, rfl⟩
abbrev main_v663 : Ref sig .tc := ⟨.hbm, 832, rfl⟩
abbrev main_v664 : Ref sig .tc := ⟨.hbm, 833, rfl⟩
abbrev main_c_125 : Ref sig .tc := ⟨.hbm, 834, rfl⟩
abbrev main_v665 : Ref sig .tc := ⟨.hbm, 835, rfl⟩
abbrev main_v666 : Ref sig .tc := ⟨.hbm, 836, rfl⟩
abbrev main_v667 : Ref sig .tc := ⟨.hbm, 837, rfl⟩
abbrev main_v668 : Ref sig .tc := ⟨.hbm, 838, rfl⟩
abbrev main_v669 : Ref sig .tc := ⟨.hbm, 839, rfl⟩
abbrev main_call24_v0 : Ref sig .tc := ⟨.hbm, 840, rfl⟩
abbrev main_v670 : Ref sig .tc := ⟨.hbm, 841, rfl⟩
abbrev main_call25_v0 : Ref sig .tc := ⟨.hbm, 842, rfl⟩
abbrev main_v671 : Ref sig .tc := ⟨.hbm, 843, rfl⟩
abbrev main_cst_126 : Ref sig .tc := ⟨.hbm, 844, rfl⟩
abbrev main_v672 : Ref sig .tc := ⟨.hbm, 845, rfl⟩
abbrev main_v673 : Ref sig .tc := ⟨.hbm, 846, rfl⟩
abbrev main_v674 : Ref sig .tc := ⟨.hbm, 847, rfl⟩
abbrev main_v675 : Ref sig .tc := ⟨.hbm, 848, rfl⟩
abbrev main_v676 : Ref sig .tc := ⟨.hbm, 849, rfl⟩
abbrev main_v677 : Ref sig .tc := ⟨.hbm, 850, rfl⟩
abbrev main_v678 : Ref sig .tc := ⟨.hbm, 851, rfl⟩
abbrev main_v679 : Ref sig .tc := ⟨.hbm, 852, rfl⟩
abbrev main_cst_127 : Ref sig .tc := ⟨.hbm, 853, rfl⟩
abbrev main_v680 : Ref sig .tc := ⟨.hbm, 854, rfl⟩
abbrev main_v681 : Ref sig .tc := ⟨.hbm, 855, rfl⟩
abbrev main_v682 : Ref sig .tc := ⟨.hbm, 856, rfl⟩
abbrev main_v683 : Ref sig .tc := ⟨.hbm, 857, rfl⟩
abbrev main_c_128 : Ref sig .tc := ⟨.hbm, 858, rfl⟩
abbrev main_v684 : Ref sig .tc := ⟨.hbm, 859, rfl⟩
abbrev main_v685 : Ref sig .tc := ⟨.hbm, 860, rfl⟩
abbrev main_c_129 : Ref sig .tc := ⟨.hbm, 861, rfl⟩
abbrev main_v686 : Ref sig .tc := ⟨.hbm, 862, rfl⟩
abbrev main_v687 : Ref sig .tc := ⟨.hbm, 863, rfl⟩
abbrev main_v688 : Ref sig .tc := ⟨.hbm, 864, rfl⟩
abbrev main_v689 : Ref sig .tc := ⟨.hbm, 865, rfl⟩
abbrev main_v690 : Ref sig .tc := ⟨.hbm, 866, rfl⟩
abbrev main_call26_v0 : Ref sig .tc := ⟨.hbm, 867, rfl⟩
abbrev main_v691 : Ref sig .tc := ⟨.hbm, 868, rfl⟩
abbrev main_call27_v0 : Ref sig .tc := ⟨.hbm, 869, rfl⟩
abbrev main_v692 : Ref sig .tc := ⟨.hbm, 870, rfl⟩
abbrev main_cst_130 : Ref sig .tc := ⟨.hbm, 871, rfl⟩
abbrev main_v693 : Ref sig .tc := ⟨.hbm, 872, rfl⟩
abbrev main_v694 : Ref sig .tc := ⟨.hbm, 873, rfl⟩
abbrev main_v695 : Ref sig .tc := ⟨.hbm, 874, rfl⟩
abbrev main_v696 : Ref sig .tc := ⟨.hbm, 875, rfl⟩
abbrev main_v697 : Ref sig .tc := ⟨.hbm, 876, rfl⟩
abbrev main_v698 : Ref sig .tc := ⟨.hbm, 877, rfl⟩
abbrev main_v699 : Ref sig .tc := ⟨.hbm, 878, rfl⟩
abbrev main_v700 : Ref sig .tc := ⟨.hbm, 879, rfl⟩
abbrev main_v701 : Ref sig .tc := ⟨.hbm, 880, rfl⟩
abbrev main_v702 : Ref sig .tc := ⟨.hbm, 881, rfl⟩
abbrev main_v703 : Ref sig .tc := ⟨.hbm, 882, rfl⟩
abbrev main_v704 : Ref sig .tc := ⟨.hbm, 883, rfl⟩
abbrev main_v705 : Ref sig .tc := ⟨.hbm, 884, rfl⟩
abbrev main_v706 : Ref sig .tc := ⟨.hbm, 885, rfl⟩
abbrev main_cst_131 : Ref sig .tc := ⟨.hbm, 886, rfl⟩
abbrev main_v707 : Ref sig .tc := ⟨.hbm, 887, rfl⟩
abbrev main_v708 : Ref sig .tc := ⟨.hbm, 888, rfl⟩
abbrev main_v709 : Ref sig .tc := ⟨.hbm, 889, rfl⟩
abbrev main_v710 : Ref sig .tc := ⟨.hbm, 890, rfl⟩
abbrev main_v711 : Ref sig .tc := ⟨.hbm, 891, rfl⟩
abbrev main_v712 : Ref sig .tc := ⟨.hbm, 892, rfl⟩
abbrev main_v713 : Ref sig .tc := ⟨.hbm, 893, rfl⟩
abbrev main_v714 : Ref sig .tc := ⟨.hbm, 894, rfl⟩
abbrev main_v715 : Ref sig .tc := ⟨.hbm, 895, rfl⟩
abbrev main_v716 : Ref sig .tc := ⟨.hbm, 896, rfl⟩
abbrev main_v717 : Ref sig .tc := ⟨.hbm, 897, rfl⟩
abbrev main_v718 : Ref sig .tc := ⟨.hbm, 898, rfl⟩
abbrev main_cst_132 : Ref sig .tc := ⟨.hbm, 899, rfl⟩
abbrev main_v719 : Ref sig .tc := ⟨.hbm, 900, rfl⟩
abbrev main_v720 : Ref sig .tc := ⟨.hbm, 901, rfl⟩
abbrev main_v721 : Ref sig .tc := ⟨.hbm, 902, rfl⟩
abbrev main_v722 : Ref sig .tc := ⟨.hbm, 903, rfl⟩
abbrev main_v723 : Ref sig .tc := ⟨.hbm, 904, rfl⟩
abbrev main_v724 : Ref sig .tc := ⟨.hbm, 905, rfl⟩
abbrev main_v725 : Ref sig .tc := ⟨.hbm, 906, rfl⟩
abbrev main_v726 : Ref sig .tc := ⟨.hbm, 907, rfl⟩
abbrev main_v727 : Ref sig .tc := ⟨.hbm, 908, rfl⟩
abbrev main_v728 : Ref sig .tc := ⟨.hbm, 909, rfl⟩
abbrev main_v729 : Ref sig .tc := ⟨.hbm, 910, rfl⟩
abbrev main_v730 : Ref sig .tc := ⟨.hbm, 911, rfl⟩
abbrev main_cst_133 : Ref sig .tc := ⟨.hbm, 912, rfl⟩
abbrev main_v731 : Ref sig .tc := ⟨.hbm, 913, rfl⟩
abbrev main_v732 : Ref sig .tc := ⟨.hbm, 914, rfl⟩
abbrev main_v733 : Ref sig .tc := ⟨.hbm, 915, rfl⟩
abbrev main_v734 : Ref sig .tc := ⟨.hbm, 916, rfl⟩
abbrev main_v735 : Ref sig .tc := ⟨.hbm, 917, rfl⟩
abbrev main_v736 : Ref sig .tc := ⟨.hbm, 918, rfl⟩
abbrev main_v737 : Ref sig .tc := ⟨.hbm, 919, rfl⟩
abbrev main_v738 : Ref sig .tc := ⟨.hbm, 920, rfl⟩
abbrev main_v739 : Ref sig .tc := ⟨.hbm, 921, rfl⟩
abbrev main_v740 : Ref sig .tc := ⟨.hbm, 922, rfl⟩
abbrev main_v741 : Ref sig .tc := ⟨.hbm, 923, rfl⟩
abbrev main_v742 : Ref sig .tc := ⟨.hbm, 924, rfl⟩
abbrev main_v743 : Ref sig .tc := ⟨.hbm, 925, rfl⟩
abbrev main_v744 : Ref sig .tc := ⟨.hbm, 926, rfl⟩
abbrev main_v745 : Ref sig .tc := ⟨.hbm, 927, rfl⟩
abbrev main_v746 : Ref sig .tc := ⟨.hbm, 928, rfl⟩
abbrev main_v747 : Ref sig .tc := ⟨.hbm, 929, rfl⟩
abbrev main_v748 : Ref sig .tc := ⟨.hbm, 930, rfl⟩
abbrev main_cst_134 : Ref sig .tc := ⟨.hbm, 931, rfl⟩
abbrev main_v749 : Ref sig .tc := ⟨.hbm, 932, rfl⟩
abbrev main_v750 : Ref sig .tc := ⟨.hbm, 933, rfl⟩
abbrev main_cst_135 : Ref sig .tc := ⟨.hbm, 934, rfl⟩
abbrev main_v751 : Ref sig .tc := ⟨.hbm, 935, rfl⟩
abbrev main_v752 : Ref sig .tc := ⟨.hbm, 936, rfl⟩
abbrev main_v753 : Ref sig .tc := ⟨.hbm, 937, rfl⟩
abbrev main_cst_136 : Ref sig .tc := ⟨.hbm, 938, rfl⟩
abbrev main_v754 : Ref sig .tc := ⟨.hbm, 939, rfl⟩
abbrev main_v755 : Ref sig .tc := ⟨.hbm, 940, rfl⟩
abbrev main_v756 : Ref sig .tc := ⟨.hbm, 941, rfl⟩
abbrev main_v757 : Ref sig .tc := ⟨.hbm, 942, rfl⟩
abbrev main_cst_137 : Ref sig .tc := ⟨.hbm, 943, rfl⟩
abbrev main_v758 : Ref sig .tc := ⟨.hbm, 944, rfl⟩
abbrev main_v759 : Ref sig .tc := ⟨.hbm, 945, rfl⟩
abbrev main_v760 : Ref sig .tc := ⟨.hbm, 946, rfl⟩
abbrev main_v761 : Ref sig .tc := ⟨.hbm, 947, rfl⟩
abbrev main_cst_138 : Ref sig .tc := ⟨.hbm, 948, rfl⟩
abbrev main_v762 : Ref sig .tc := ⟨.hbm, 949, rfl⟩
abbrev main_v763 : Ref sig .tc := ⟨.hbm, 950, rfl⟩
abbrev main_v764 : Ref sig .tc := ⟨.hbm, 951, rfl⟩
abbrev main_v765 : Ref sig .tc := ⟨.hbm, 952, rfl⟩
abbrev main_cst_139 : Ref sig .tc := ⟨.hbm, 953, rfl⟩
abbrev main_v766 : Ref sig .tc := ⟨.hbm, 954, rfl⟩
abbrev main_v767 : Ref sig .tc := ⟨.hbm, 955, rfl⟩
abbrev main_v768 : Ref sig .tc := ⟨.hbm, 956, rfl⟩
abbrev main_v769 : Ref sig .tc := ⟨.hbm, 957, rfl⟩
abbrev main_v770 : Ref sig .tc := ⟨.hbm, 958, rfl⟩
abbrev main_v771 : Ref sig .tc := ⟨.hbm, 959, rfl⟩
abbrev main_v772 : Ref sig .tc := ⟨.hbm, 960, rfl⟩
abbrev main_v773 : Ref sig .tc := ⟨.hbm, 961, rfl⟩
abbrev main_v774 : Ref sig .tc := ⟨.hbm, 962, rfl⟩
abbrev main_cst_140 : Ref sig .tc := ⟨.hbm, 963, rfl⟩
abbrev main_v775 : Ref sig .tc := ⟨.hbm, 964, rfl⟩
abbrev main_v776 : Ref sig .tc := ⟨.hbm, 965, rfl⟩
abbrev main_cst_141 : Ref sig .tc := ⟨.hbm, 966, rfl⟩
abbrev main_v777 : Ref sig .tc := ⟨.hbm, 967, rfl⟩
abbrev main_v778 : Ref sig .tc := ⟨.hbm, 968, rfl⟩
abbrev main_v779 : Ref sig .tc := ⟨.hbm, 969, rfl⟩
abbrev main_cst_142 : Ref sig .tc := ⟨.hbm, 970, rfl⟩
abbrev main_v780 : Ref sig .tc := ⟨.hbm, 971, rfl⟩
abbrev main_v781 : Ref sig .tc := ⟨.hbm, 972, rfl⟩
abbrev main_v782 : Ref sig .tc := ⟨.hbm, 973, rfl⟩
abbrev main_v783 : Ref sig .tc := ⟨.hbm, 974, rfl⟩
abbrev main_cst_143 : Ref sig .tc := ⟨.hbm, 975, rfl⟩
abbrev main_v784 : Ref sig .tc := ⟨.hbm, 976, rfl⟩
abbrev main_v785 : Ref sig .tc := ⟨.hbm, 977, rfl⟩
abbrev main_v786 : Ref sig .tc := ⟨.hbm, 978, rfl⟩
abbrev main_v787 : Ref sig .tc := ⟨.hbm, 979, rfl⟩
abbrev main_cst_144 : Ref sig .tc := ⟨.hbm, 980, rfl⟩
abbrev main_v788 : Ref sig .tc := ⟨.hbm, 981, rfl⟩
abbrev main_v789 : Ref sig .tc := ⟨.hbm, 982, rfl⟩
abbrev main_v790 : Ref sig .tc := ⟨.hbm, 983, rfl⟩
abbrev main_v791 : Ref sig .tc := ⟨.hbm, 984, rfl⟩
abbrev main_cst_145 : Ref sig .tc := ⟨.hbm, 985, rfl⟩
abbrev main_v792 : Ref sig .tc := ⟨.hbm, 986, rfl⟩
abbrev main_v793 : Ref sig .tc := ⟨.hbm, 987, rfl⟩
abbrev main_v794 : Ref sig .tc := ⟨.hbm, 988, rfl⟩
abbrev main_v795 : Ref sig .tc := ⟨.hbm, 989, rfl⟩
abbrev main_v796 : Ref sig .tc := ⟨.hbm, 990, rfl⟩
abbrev main_v797 : Ref sig .tc := ⟨.hbm, 991, rfl⟩
abbrev main_v798 : Ref sig .tc := ⟨.hbm, 992, rfl⟩
abbrev main_v799 : Ref sig .tc := ⟨.hbm, 993, rfl⟩
abbrev main_v800 : Ref sig .tc := ⟨.hbm, 994, rfl⟩
abbrev main_cst_146 : Ref sig .tc := ⟨.hbm, 995, rfl⟩
abbrev main_v801 : Ref sig .tc := ⟨.hbm, 996, rfl⟩
abbrev main_v802 : Ref sig .tc := ⟨.hbm, 997, rfl⟩
abbrev main_cst_147 : Ref sig .tc := ⟨.hbm, 998, rfl⟩
abbrev main_v803 : Ref sig .tc := ⟨.hbm, 999, rfl⟩
abbrev main_v804 : Ref sig .tc := ⟨.hbm, 1000, rfl⟩
abbrev main_v805 : Ref sig .tc := ⟨.hbm, 1001, rfl⟩
abbrev main_cst_148 : Ref sig .tc := ⟨.hbm, 1002, rfl⟩
abbrev main_v806 : Ref sig .tc := ⟨.hbm, 1003, rfl⟩
abbrev main_v807 : Ref sig .tc := ⟨.hbm, 1004, rfl⟩
abbrev main_v808 : Ref sig .tc := ⟨.hbm, 1005, rfl⟩
abbrev main_v809 : Ref sig .tc := ⟨.hbm, 1006, rfl⟩
abbrev main_cst_149 : Ref sig .tc := ⟨.hbm, 1007, rfl⟩
abbrev main_v810 : Ref sig .tc := ⟨.hbm, 1008, rfl⟩
abbrev main_v811 : Ref sig .tc := ⟨.hbm, 1009, rfl⟩
abbrev main_v812 : Ref sig .tc := ⟨.hbm, 1010, rfl⟩
abbrev main_v813 : Ref sig .tc := ⟨.hbm, 1011, rfl⟩
abbrev main_cst_150 : Ref sig .tc := ⟨.hbm, 1012, rfl⟩
abbrev main_v814 : Ref sig .tc := ⟨.hbm, 1013, rfl⟩
abbrev main_v815 : Ref sig .tc := ⟨.hbm, 1014, rfl⟩
abbrev main_v816 : Ref sig .tc := ⟨.hbm, 1015, rfl⟩
abbrev main_v817 : Ref sig .tc := ⟨.hbm, 1016, rfl⟩
abbrev main_cst_151 : Ref sig .tc := ⟨.hbm, 1017, rfl⟩
abbrev main_v818 : Ref sig .tc := ⟨.hbm, 1018, rfl⟩
abbrev main_v819 : Ref sig .tc := ⟨.hbm, 1019, rfl⟩
abbrev main_v820 : Ref sig .tc := ⟨.hbm, 1020, rfl⟩
abbrev main_cst_152 : Ref sig .tc := ⟨.hbm, 1021, rfl⟩
abbrev main_v821 : Ref sig .tc := ⟨.hbm, 1022, rfl⟩
abbrev main_v822 : Ref sig .tc := ⟨.hbm, 1023, rfl⟩
abbrev main_cst_153 : Ref sig .tc := ⟨.hbm, 1024, rfl⟩
abbrev main_v823 : Ref sig .tc := ⟨.hbm, 1025, rfl⟩
abbrev main_v824 : Ref sig .tc := ⟨.hbm, 1026, rfl⟩
abbrev main_cst_154 : Ref sig .tc := ⟨.hbm, 1027, rfl⟩
abbrev main_cst_155 : Ref sig .tc := ⟨.hbm, 1028, rfl⟩
abbrev main_call28_v0 : Ref sig .tc := ⟨.hbm, 1029, rfl⟩
abbrev main_call28_v1 : Ref sig .tc := ⟨.hbm, 1030, rfl⟩
abbrev main_call28_v2 : Ref sig .tc := ⟨.hbm, 1031, rfl⟩
abbrev main_call28_v3 : Ref sig .tc := ⟨.hbm, 1032, rfl⟩
abbrev main_call28_v4 : Ref sig .tc := ⟨.hbm, 1033, rfl⟩
abbrev main_v825 : Ref sig .tc := ⟨.hbm, 1034, rfl⟩
abbrev main_cst_156 : Ref sig .tc := ⟨.hbm, 1035, rfl⟩
abbrev main_v826 : Ref sig .tc := ⟨.hbm, 1036, rfl⟩
abbrev main_v827 : Ref sig .tc := ⟨.hbm, 1037, rfl⟩
abbrev main_cst_157 : Ref sig .tc := ⟨.hbm, 1038, rfl⟩
abbrev main_v828 : Ref sig .tc := ⟨.hbm, 1039, rfl⟩
abbrev main_v829 : Ref sig .tc := ⟨.hbm, 1040, rfl⟩
abbrev main_cst_158 : Ref sig .tc := ⟨.hbm, 1041, rfl⟩
abbrev main_cst_159 : Ref sig .tc := ⟨.hbm, 1042, rfl⟩
abbrev main_call29_v0 : Ref sig .tc := ⟨.hbm, 1043, rfl⟩
abbrev main_call29_v1 : Ref sig .tc := ⟨.hbm, 1044, rfl⟩
abbrev main_call29_v2 : Ref sig .tc := ⟨.hbm, 1045, rfl⟩
abbrev main_call29_v3 : Ref sig .tc := ⟨.hbm, 1046, rfl⟩
abbrev main_call29_v4 : Ref sig .tc := ⟨.hbm, 1047, rfl⟩
abbrev main_v830 : Ref sig .tc := ⟨.hbm, 1048, rfl⟩
abbrev main_v831 : Ref sig .tc := ⟨.hbm, 1049, rfl⟩
abbrev main_v832 : Ref sig .tc := ⟨.hbm, 1050, rfl⟩
abbrev main_v833 : Ref sig .tc := ⟨.hbm, 1051, rfl⟩
abbrev main_v834 : Ref sig .tc := ⟨.hbm, 1052, rfl⟩
abbrev main_v835 : Ref sig .tc := ⟨.hbm, 1053, rfl⟩
abbrev main_v836 : Ref sig .tc := ⟨.hbm, 1054, rfl⟩
abbrev main_cst_160 : Ref sig .tc := ⟨.hbm, 1055, rfl⟩
abbrev main_v837 : Ref sig .tc := ⟨.hbm, 1056, rfl⟩
abbrev main_v838 : Ref sig .tc := ⟨.hbm, 1057, rfl⟩
abbrev main_v839 : Ref sig .tc := ⟨.hbm, 1058, rfl⟩
abbrev main_v840 : Ref sig .tc := ⟨.hbm, 1059, rfl⟩
abbrev main_v841 : Ref sig .tc := ⟨.hbm, 1060, rfl⟩
abbrev main_v842 : Ref sig .tc := ⟨.hbm, 1061, rfl⟩
abbrev main_v843 : Ref sig .tc := ⟨.hbm, 1062, rfl⟩
abbrev main_v844 : Ref sig .tc := ⟨.hbm, 1063, rfl⟩
abbrev main_v845 : Ref sig .tc := ⟨.hbm, 1064, rfl⟩
abbrev main_v846 : Ref sig .tc := ⟨.hbm, 1065, rfl⟩
abbrev main_v847 : Ref sig .tc := ⟨.hbm, 1066, rfl⟩
abbrev main_v848 : Ref sig .tc := ⟨.hbm, 1067, rfl⟩
abbrev main_cst_161 : Ref sig .tc := ⟨.hbm, 1068, rfl⟩
abbrev main_v849 : Ref sig .tc := ⟨.hbm, 1069, rfl⟩
abbrev main_v850 : Ref sig .tc := ⟨.hbm, 1070, rfl⟩
abbrev main_v851 : Ref sig .tc := ⟨.hbm, 1071, rfl⟩
abbrev main_v852 : Ref sig .tc := ⟨.hbm, 1072, rfl⟩
abbrev main_v853 : Ref sig .tc := ⟨.hbm, 1073, rfl⟩
abbrev main_v854 : Ref sig .tc := ⟨.hbm, 1074, rfl⟩
abbrev main_v855 : Ref sig .tc := ⟨.hbm, 1075, rfl⟩
abbrev main_v856 : Ref sig .tc := ⟨.hbm, 1076, rfl⟩
abbrev main_v857 : Ref sig .tc := ⟨.hbm, 1077, rfl⟩
abbrev main_v858 : Ref sig .tc := ⟨.hbm, 1078, rfl⟩
abbrev main_v859 : Ref sig .tc := ⟨.hbm, 1079, rfl⟩
abbrev main_v860 : Ref sig .tc := ⟨.hbm, 1080, rfl⟩
abbrev main_cst_162 : Ref sig .tc := ⟨.hbm, 1081, rfl⟩
abbrev main_v861 : Ref sig .tc := ⟨.hbm, 1082, rfl⟩
abbrev main_v862 : Ref sig .tc := ⟨.hbm, 1083, rfl⟩
abbrev main_v863 : Ref sig .tc := ⟨.hbm, 1084, rfl⟩
abbrev main_v864 : Ref sig .tc := ⟨.hbm, 1085, rfl⟩
abbrev main_v865 : Ref sig .tc := ⟨.hbm, 1086, rfl⟩
abbrev main_v866 : Ref sig .tc := ⟨.hbm, 1087, rfl⟩
abbrev main_v867 : Ref sig .tc := ⟨.hbm, 1088, rfl⟩
abbrev main_v868 : Ref sig .tc := ⟨.hbm, 1089, rfl⟩
abbrev main_v869 : Ref sig .tc := ⟨.hbm, 1090, rfl⟩
abbrev main_v870 : Ref sig .tc := ⟨.hbm, 1091, rfl⟩
abbrev main_v871 : Ref sig .tc := ⟨.hbm, 1092, rfl⟩
abbrev main_v872 : Ref sig .tc := ⟨.hbm, 1093, rfl⟩
abbrev main_v873 : Ref sig .tc := ⟨.hbm, 1094, rfl⟩
abbrev main_v874 : Ref sig .tc := ⟨.hbm, 1095, rfl⟩
abbrev main_v875 : Ref sig .tc := ⟨.hbm, 1096, rfl⟩
abbrev main_v876 : Ref sig .tc := ⟨.hbm, 1097, rfl⟩
abbrev main_v877 : Ref sig .tc := ⟨.hbm, 1098, rfl⟩
abbrev main_cst_163 : Ref sig .tc := ⟨.hbm, 1099, rfl⟩
abbrev main_v878 : Ref sig .tc := ⟨.hbm, 1100, rfl⟩
abbrev main_v879 : Ref sig .tc := ⟨.hbm, 1101, rfl⟩
abbrev main_v880 : Ref sig .tc := ⟨.hbm, 1102, rfl⟩
abbrev main_v881 : Ref sig .tc := ⟨.hbm, 1103, rfl⟩
abbrev main_v882 : Ref sig .tc := ⟨.hbm, 1104, rfl⟩
abbrev main_v883 : Ref sig .tc := ⟨.hbm, 1105, rfl⟩
abbrev main_v884 : Ref sig .tc := ⟨.hbm, 1106, rfl⟩
abbrev main_cst_164 : Ref sig .tc := ⟨.hbm, 1107, rfl⟩
abbrev main_v885 : Ref sig .tc := ⟨.hbm, 1108, rfl⟩
abbrev main_v886 : Ref sig .tc := ⟨.hbm, 1109, rfl⟩
abbrev main_v887 : Ref sig .tc := ⟨.hbm, 1110, rfl⟩
abbrev main_v888 : Ref sig .tc := ⟨.hbm, 1111, rfl⟩
abbrev main_v889 : Ref sig .tc := ⟨.hbm, 1112, rfl⟩
abbrev main_v890 : Ref sig .tc := ⟨.hbm, 1113, rfl⟩
abbrev main_v891 : Ref sig .tc := ⟨.hbm, 1114, rfl⟩
abbrev main_cst_165 : Ref sig .tc := ⟨.hbm, 1115, rfl⟩
abbrev main_v892 : Ref sig .tc := ⟨.hbm, 1116, rfl⟩
abbrev main_v893 : Ref sig .tc := ⟨.hbm, 1117, rfl⟩
abbrev main_v894 : Ref sig .tc := ⟨.hbm, 1118, rfl⟩
abbrev main_v895 : Ref sig .tc := ⟨.hbm, 1119, rfl⟩
abbrev main_cst_166 : Ref sig .tc := ⟨.hbm, 1120, rfl⟩
abbrev main_v896 : Ref sig .tc := ⟨.hbm, 1121, rfl⟩
abbrev main_v897 : Ref sig .tc := ⟨.hbm, 1122, rfl⟩
abbrev main_v898 : Ref sig .tc := ⟨.hbm, 1123, rfl⟩
abbrev main_v899 : Ref sig .tc := ⟨.hbm, 1124, rfl⟩
abbrev main_v900 : Ref sig .tc := ⟨.hbm, 1125, rfl⟩
abbrev main_v901 : Ref sig .tc := ⟨.hbm, 1126, rfl⟩
abbrev main_v902 : Ref sig .tc := ⟨.hbm, 1127, rfl⟩
abbrev main_v903 : Ref sig .tc := ⟨.hbm, 1128, rfl⟩
abbrev main_v904 : Ref sig .tc := ⟨.hbm, 1129, rfl⟩
abbrev main_v905 : Ref sig .tc := ⟨.hbm, 1130, rfl⟩
abbrev main_v906 : Ref sig .tc := ⟨.hbm, 1131, rfl⟩
abbrev main_v907 : Ref sig .tc := ⟨.hbm, 1132, rfl⟩
abbrev main_v908 : Ref sig .tc := ⟨.hbm, 1133, rfl⟩
abbrev main_v909 : Ref sig .tc := ⟨.hbm, 1134, rfl⟩
abbrev main_cst_167 : Ref sig .tc := ⟨.hbm, 1135, rfl⟩
abbrev main_v910 : Ref sig .tc := ⟨.hbm, 1136, rfl⟩
abbrev main_v911 : Ref sig .tc := ⟨.hbm, 1137, rfl⟩
abbrev main_v912 : Ref sig .tc := ⟨.hbm, 1138, rfl⟩
abbrev main_v913 : Ref sig .tc := ⟨.hbm, 1139, rfl⟩
abbrev main_v914 : Ref sig .tc := ⟨.hbm, 1140, rfl⟩
abbrev main_cst_168 : Ref sig .tc := ⟨.hbm, 1141, rfl⟩
abbrev main_v915 : Ref sig .tc := ⟨.hbm, 1142, rfl⟩
abbrev main_v916 : Ref sig .tc := ⟨.hbm, 1143, rfl⟩
abbrev main_cst_169 : Ref sig .tc := ⟨.hbm, 1144, rfl⟩
abbrev main_v917 : Ref sig .tc := ⟨.hbm, 1145, rfl⟩
abbrev main_v918 : Ref sig .tc := ⟨.hbm, 1146, rfl⟩
abbrev main_v919 : Ref sig .tc := ⟨.hbm, 1147, rfl⟩
abbrev main_cst_170 : Ref sig .tc := ⟨.hbm, 1148, rfl⟩
abbrev main_v920 : Ref sig .tc := ⟨.hbm, 1149, rfl⟩
abbrev main_cst_171 : Ref sig .tc := ⟨.hbm, 1150, rfl⟩
abbrev main_v921 : Ref sig .tc := ⟨.hbm, 1151, rfl⟩
abbrev main_cst_172 : Ref sig .tc := ⟨.hbm, 1152, rfl⟩
abbrev main_v922 : Ref sig .tc := ⟨.hbm, 1153, rfl⟩
abbrev main_v923 : Ref sig .tc := ⟨.hbm, 1154, rfl⟩
abbrev main_v924 : Ref sig .tc := ⟨.hbm, 1155, rfl⟩
abbrev main_v925 : Ref sig .tc := ⟨.hbm, 1156, rfl⟩
abbrev main_v926 : Ref sig .tc := ⟨.hbm, 1157, rfl⟩
abbrev main_v927 : Ref sig .tc := ⟨.hbm, 1158, rfl⟩
abbrev main_v928 : Ref sig .tc := ⟨.hbm, 1159, rfl⟩
abbrev main_cst_173 : Ref sig .tc := ⟨.hbm, 1160, rfl⟩
abbrev main_v929 : Ref sig .tc := ⟨.hbm, 1161, rfl⟩
abbrev main_v930 : Ref sig .tc := ⟨.hbm, 1162, rfl⟩
abbrev main_v931 : Ref sig .tc := ⟨.hbm, 1163, rfl⟩
abbrev main_v932 : Ref sig .tc := ⟨.hbm, 1164, rfl⟩
abbrev main_v933 : Ref sig .tc := ⟨.hbm, 1165, rfl⟩
abbrev main_v934 : Ref sig .tc := ⟨.hbm, 1166, rfl⟩
abbrev main_v935 : Ref sig .tc := ⟨.hbm, 1167, rfl⟩
abbrev main_cst_174 : Ref sig .tc := ⟨.hbm, 1168, rfl⟩
abbrev main_v936 : Ref sig .tc := ⟨.hbm, 1169, rfl⟩
abbrev main_v937 : Ref sig .tc := ⟨.hbm, 1170, rfl⟩
abbrev main_v938 : Ref sig .tc := ⟨.hbm, 1171, rfl⟩
abbrev main_v939 : Ref sig .tc := ⟨.hbm, 1172, rfl⟩
abbrev main_v940 : Ref sig .tc := ⟨.hbm, 1173, rfl⟩
abbrev main_v941 : Ref sig .tc := ⟨.hbm, 1174, rfl⟩
abbrev main_v942 : Ref sig .tc := ⟨.hbm, 1175, rfl⟩
abbrev main_cst_175 : Ref sig .tc := ⟨.hbm, 1176, rfl⟩
abbrev main_v943 : Ref sig .tc := ⟨.hbm, 1177, rfl⟩
abbrev main_v944 : Ref sig .tc := ⟨.hbm, 1178, rfl⟩
abbrev main_v945 : Ref sig .tc := ⟨.hbm, 1179, rfl⟩
abbrev main_v946 : Ref sig .tc := ⟨.hbm, 1180, rfl⟩
abbrev main_v947 : Ref sig .tc := ⟨.hbm, 1181, rfl⟩
abbrev main_v948 : Ref sig .tc := ⟨.hbm, 1182, rfl⟩
abbrev main_v949 : Ref sig .tc := ⟨.hbm, 1183, rfl⟩
abbrev main_v950 : Ref sig .tc := ⟨.hbm, 1184, rfl⟩
abbrev main_v951 : Ref sig .tc := ⟨.hbm, 1185, rfl⟩
abbrev main_v952 : Ref sig .tc := ⟨.hbm, 1186, rfl⟩
abbrev main_v953 : Ref sig .tc := ⟨.hbm, 1187, rfl⟩
abbrev main_v954 : Ref sig .tc := ⟨.hbm, 1188, rfl⟩
abbrev main_v955 : Ref sig .tc := ⟨.hbm, 1189, rfl⟩
abbrev main_v956 : Ref sig .tc := ⟨.hbm, 1190, rfl⟩
abbrev main_v957 : Ref sig .tc := ⟨.hbm, 1191, rfl⟩
abbrev main_v958 : Ref sig .tc := ⟨.hbm, 1192, rfl⟩
abbrev main_v959 : Ref sig .tc := ⟨.hbm, 1193, rfl⟩
abbrev main_v960 : Ref sig .tc := ⟨.hbm, 1194, rfl⟩
abbrev main_call30_v0 : Ref sig .tc := ⟨.hbm, 1195, rfl⟩
abbrev main_v961 : Ref sig .tc := ⟨.hbm, 1196, rfl⟩
abbrev main_v962 : Ref sig .tc := ⟨.hbm, 1197, rfl⟩
abbrev main_v963 : Ref sig .tc := ⟨.hbm, 1198, rfl⟩
abbrev main_v964 : Ref sig .tc := ⟨.hbm, 1199, rfl⟩
abbrev main_v965 : Ref sig .tc := ⟨.hbm, 1200, rfl⟩
abbrev main_v966 : Ref sig .tc := ⟨.hbm, 1201, rfl⟩
abbrev main_call31_v0 : Ref sig .tc := ⟨.hbm, 1202, rfl⟩
abbrev main_v967 : Ref sig .tc := ⟨.hbm, 1203, rfl⟩
abbrev main_v968 : Ref sig .tc := ⟨.hbm, 1204, rfl⟩
abbrev main_v969 : Ref sig .tc := ⟨.hbm, 1205, rfl⟩
abbrev main_c_176 : Ref sig .tc := ⟨.hbm, 1206, rfl⟩
abbrev main_c_177 : Ref sig .tc := ⟨.hbm, 1207, rfl⟩
abbrev main_call32_v0 : Ref sig .tc := ⟨.hbm, 1208, rfl⟩
abbrev main_call32_v1 : Ref sig .tc := ⟨.hbm, 1209, rfl⟩
abbrev main_v970 : Ref sig .tc := ⟨.hbm, 1210, rfl⟩
abbrev main_v971 : Ref sig .tc := ⟨.hbm, 1211, rfl⟩
abbrev main_v972 : Ref sig .tc := ⟨.hbm, 1212, rfl⟩
abbrev main_v973 : Ref sig .tc := ⟨.hbm, 1213, rfl⟩
abbrev main_v974 : Ref sig .tc := ⟨.hbm, 1214, rfl⟩
abbrev main_v975 : Ref sig .tc := ⟨.hbm, 1215, rfl⟩
abbrev main_v976 : Ref sig .tc := ⟨.hbm, 1216, rfl⟩
abbrev main_v977 : Ref sig .tc := ⟨.hbm, 1217, rfl⟩
abbrev main_v978 : Ref sig .tc := ⟨.hbm, 1218, rfl⟩
abbrev main_call33_v0 : Ref sig .tc := ⟨.hbm, 1219, rfl⟩
abbrev main_v979 : Ref sig .tc := ⟨.hbm, 1220, rfl⟩
abbrev main_v980 : Ref sig .tc := ⟨.hbm, 1221, rfl⟩
abbrev main_call34_v0 : Ref sig .tc := ⟨.hbm, 1222, rfl⟩
abbrev main_v981 : Ref sig .tc := ⟨.hbm, 1223, rfl⟩
abbrev main_v982 : Ref sig .tc := ⟨.hbm, 1224, rfl⟩
abbrev main_v983 : Ref sig .tc := ⟨.hbm, 1225, rfl⟩
abbrev main_v984 : Ref sig .tc := ⟨.hbm, 1226, rfl⟩
abbrev main_v985 : Ref sig .tc := ⟨.hbm, 1227, rfl⟩
abbrev main_cst_178 : Ref sig .tc := ⟨.hbm, 1228, rfl⟩
abbrev main_v986 : Ref sig .tc := ⟨.hbm, 1229, rfl⟩
abbrev main_v987 : Ref sig .tc := ⟨.hbm, 1230, rfl⟩
abbrev main_v988 : Ref sig .tc := ⟨.hbm, 1231, rfl⟩
abbrev main_v989 : Ref sig .tc := ⟨.hbm, 1232, rfl⟩
abbrev main_c_179 : Ref sig .tc := ⟨.hbm, 1233, rfl⟩
abbrev main_call36_v0 : Ref sig .tc := ⟨.hbm, 1234, rfl⟩
abbrev main_call36_v1 : Ref sig .tc := ⟨.hbm, 1235, rfl⟩
abbrev main_v990 : Ref sig .tc := ⟨.hbm, 1236, rfl⟩
abbrev main_v991 : Ref sig .tc := ⟨.hbm, 1237, rfl⟩
abbrev main_v992 : Ref sig .tc := ⟨.hbm, 1238, rfl⟩
abbrev main_cst_180 : Ref sig .tc := ⟨.hbm, 1239, rfl⟩
abbrev main_v993 : Ref sig .tc := ⟨.hbm, 1240, rfl⟩
abbrev main_v994 : Ref sig .tc := ⟨.hbm, 1241, rfl⟩
abbrev main_v995 : Ref sig .tc := ⟨.hbm, 1242, rfl⟩
abbrev main_v996 : Ref sig .tc := ⟨.hbm, 1243, rfl⟩
abbrev main_v997 : Ref sig .tc := ⟨.hbm, 1244, rfl⟩
abbrev main_c_181 : Ref sig .tc := ⟨.hbm, 1245, rfl⟩
abbrev main_call37_v0 : Ref sig .tc := ⟨.hbm, 1246, rfl⟩
abbrev main_call37_v1 : Ref sig .tc := ⟨.hbm, 1247, rfl⟩
abbrev main_v998 : Ref sig .tc := ⟨.hbm, 1248, rfl⟩
abbrev main_v999 : Ref sig .tc := ⟨.hbm, 1249, rfl⟩
abbrev main_v1000 : Ref sig .tc := ⟨.hbm, 1250, rfl⟩
abbrev main_cst_182 : Ref sig .tc := ⟨.hbm, 1251, rfl⟩
abbrev main_v1001 : Ref sig .tc := ⟨.hbm, 1252, rfl⟩
abbrev main_v1002 : Ref sig .tc := ⟨.hbm, 1253, rfl⟩
abbrev main_v1003 : Ref sig .tc := ⟨.hbm, 1254, rfl⟩
abbrev main_v1004 : Ref sig .tc := ⟨.hbm, 1255, rfl⟩
abbrev main_v1005 : Ref sig .tc := ⟨.hbm, 1256, rfl⟩
abbrev main_c_183 : Ref sig .tc := ⟨.hbm, 1257, rfl⟩
abbrev main_call38_v0 : Ref sig .tc := ⟨.hbm, 1258, rfl⟩
abbrev main_call38_v1 : Ref sig .tc := ⟨.hbm, 1259, rfl⟩
abbrev main_v1006 : Ref sig .tc := ⟨.hbm, 1260, rfl⟩
abbrev main_v1007 : Ref sig .tc := ⟨.hbm, 1261, rfl⟩
abbrev main_v1008 : Ref sig .tc := ⟨.hbm, 1262, rfl⟩
abbrev main_v1009 : Ref sig .tc := ⟨.hbm, 1263, rfl⟩
abbrev main_v1010 : Ref sig .tc := ⟨.hbm, 1264, rfl⟩
abbrev main_v1011 : Ref sig .tc := ⟨.hbm, 1265, rfl⟩
abbrev main_v1012 : Ref sig .tc := ⟨.hbm, 1266, rfl⟩
abbrev main_v1013 : Ref sig .tc := ⟨.hbm, 1267, rfl⟩
abbrev main_v1014 : Ref sig .tc := ⟨.hbm, 1268, rfl⟩
abbrev main_v1015 : Ref sig .tc := ⟨.hbm, 1269, rfl⟩
abbrev main_v1016 : Ref sig .tc := ⟨.hbm, 1270, rfl⟩
abbrev main_v1017 : Ref sig .tc := ⟨.hbm, 1271, rfl⟩
abbrev main_v1018 : Ref sig .tc := ⟨.hbm, 1272, rfl⟩
abbrev main_v1019 : Ref sig .tc := ⟨.hbm, 1273, rfl⟩
abbrev main_v1020 : Ref sig .tc := ⟨.hbm, 1274, rfl⟩
abbrev main_v1021 : Ref sig .tc := ⟨.hbm, 1275, rfl⟩
abbrev main_v1022 : Ref sig .tc := ⟨.hbm, 1276, rfl⟩
abbrev main_call39_v0 : Ref sig .tc := ⟨.hbm, 1277, rfl⟩
abbrev main_v1023 : Ref sig .tc := ⟨.hbm, 1278, rfl⟩
abbrev main_v1024 : Ref sig .tc := ⟨.hbm, 1279, rfl⟩
abbrev main_call40_v0 : Ref sig .tc := ⟨.hbm, 1280, rfl⟩
abbrev main_v1025 : Ref sig .tc := ⟨.hbm, 1281, rfl⟩
abbrev main_v1026 : Ref sig .tc := ⟨.hbm, 1282, rfl⟩
abbrev main_v1027 : Ref sig .tc := ⟨.hbm, 1283, rfl⟩
abbrev main_v1028 : Ref sig .tc := ⟨.hbm, 1284, rfl⟩
abbrev main_v1029 : Ref sig .tc := ⟨.hbm, 1285, rfl⟩
abbrev main_cst_184 : Ref sig .tc := ⟨.hbm, 1286, rfl⟩
abbrev main_v1030 : Ref sig .tc := ⟨.hbm, 1287, rfl⟩
abbrev main_v1031 : Ref sig .tc := ⟨.hbm, 1288, rfl⟩
abbrev main_v1032 : Ref sig .tc := ⟨.hbm, 1289, rfl⟩
abbrev main_v1033 : Ref sig .tc := ⟨.hbm, 1290, rfl⟩
abbrev main_c_185 : Ref sig .tc := ⟨.hbm, 1291, rfl⟩
abbrev main_call42_v0 : Ref sig .tc := ⟨.hbm, 1292, rfl⟩
abbrev main_call42_v1 : Ref sig .tc := ⟨.hbm, 1293, rfl⟩
abbrev main_v1034 : Ref sig .tc := ⟨.hbm, 1294, rfl⟩
abbrev main_v1035 : Ref sig .tc := ⟨.hbm, 1295, rfl⟩
abbrev main_v1036 : Ref sig .tc := ⟨.hbm, 1296, rfl⟩
abbrev main_cst_186 : Ref sig .tc := ⟨.hbm, 1297, rfl⟩
abbrev main_v1037 : Ref sig .tc := ⟨.hbm, 1298, rfl⟩
abbrev main_v1038 : Ref sig .tc := ⟨.hbm, 1299, rfl⟩
abbrev main_v1039 : Ref sig .tc := ⟨.hbm, 1300, rfl⟩
abbrev main_v1040 : Ref sig .tc := ⟨.hbm, 1301, rfl⟩
abbrev main_v1041 : Ref sig .tc := ⟨.hbm, 1302, rfl⟩
abbrev main_c_187 : Ref sig .tc := ⟨.hbm, 1303, rfl⟩
abbrev main_call43_v0 : Ref sig .tc := ⟨.hbm, 1304, rfl⟩
abbrev main_call43_v1 : Ref sig .tc := ⟨.hbm, 1305, rfl⟩
abbrev main_v1042 : Ref sig .tc := ⟨.hbm, 1306, rfl⟩
abbrev main_v1043 : Ref sig .tc := ⟨.hbm, 1307, rfl⟩
abbrev main_v1044 : Ref sig .tc := ⟨.hbm, 1308, rfl⟩
abbrev main_v1045 : Ref sig .tc := ⟨.hbm, 1309, rfl⟩
abbrev main_v1046 : Ref sig .tc := ⟨.hbm, 1310, rfl⟩
abbrev main_v1047 : Ref sig .tc := ⟨.hbm, 1311, rfl⟩
abbrev main_v1048 : Ref sig .tc := ⟨.hbm, 1312, rfl⟩
abbrev main_v1049 : Ref sig .tc := ⟨.hbm, 1313, rfl⟩
abbrev main_v1050 : Ref sig .tc := ⟨.hbm, 1314, rfl⟩
abbrev main_v1051 : Ref sig .tc := ⟨.hbm, 1315, rfl⟩
abbrev main_v1052 : Ref sig .tc := ⟨.hbm, 1316, rfl⟩
abbrev main_v1053 : Ref sig .tc := ⟨.hbm, 1317, rfl⟩
abbrev main_v1054 : Ref sig .tc := ⟨.hbm, 1318, rfl⟩
abbrev main_v1055 : Ref sig .tc := ⟨.hbm, 1319, rfl⟩
abbrev main_v1056 : Ref sig .tc := ⟨.hbm, 1320, rfl⟩
abbrev main_v1057 : Ref sig .tc := ⟨.hbm, 1321, rfl⟩
abbrev main_call44_cst : Ref sig .tc := ⟨.hbm, 1322, rfl⟩
abbrev main_call44_v0 : Ref sig .tc := ⟨.hbm, 1323, rfl⟩
abbrev main_v1058 : Ref sig .tc := ⟨.hbm, 1324, rfl⟩
abbrev main_cst_188 : Ref sig .tc := ⟨.hbm, 1325, rfl⟩
abbrev main_v1059 : Ref sig .tc := ⟨.hbm, 1326, rfl⟩
abbrev main_cst_189 : Ref sig .tc := ⟨.hbm, 1327, rfl⟩
abbrev main_v1060 : Ref sig .tc := ⟨.hbm, 1328, rfl⟩
abbrev main_cst_190 : Ref sig .tc := ⟨.hbm, 1329, rfl⟩
abbrev main_v1061 : Ref sig .tc := ⟨.hbm, 1330, rfl⟩
abbrev main_v1062 : Ref sig .tc := ⟨.hbm, 1331, rfl⟩

abbrev nD : Nat := 1
abbrev τ : Topo := Topo.v7x

variable {F : FTy → Type} [FloatOps F]
-- ==== Proof.Launched.lean ====
/- The kernel's program run from its launch, read at its result as well as at its arguments. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every fair run ends with the result at the last boundary's contents and the arguments as launched: the frame's launch,
    its last state read at one buffer more. -/
theorem launched : θ_run defs (onTc (τ := τ) (main (F := F))) ⟨m, fun _ => 0, ρ⟩ (fun r => ∀ c : Dev nD,
      r.2.mem ((c.tc : Thread nD τ).loc main_v88) = W18 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h _ c =>
      ⟨h c _ (mem_uc main_v88 (by decide)),
       (h c _ (mem_uc main_arg0 (by decide))).trans (W18_main_arg0 m ρ c),
       (h c _ (mem_uc main_arg1 (by decide))).trans (W18_main_arg1 m ρ c)⟩)

end Cert.KernelIdeal.Gen

end
-- ==== Proof.Reads.lean ====
/- Vectors read as functions of natural-number coordinates: the composition lemmas, at any rank and any sizes. -/
module

public import Idealize.ShloMosaic.Lib.Pipeline.Value
public import Idealize.ShloMosaic.Lib.Pointwise

@[expose] public section

set_option maxRecDepth 16384

noncomputable section

namespace Cert.Elastic

open Idealize.ShloMosaic

/-- The vector `v` holds, at every index, the value of `f` at the index's coordinates. -/
def Reads {r : ℕ} {sz : Fin r → ℕ} {α : Type} (v : (⟨r, sz⟩ : Shape).Idx → α) (f : (Fin r → ℕ) → α) : Prop :=
  ∀ (x : Fin r → ℕ) (hx : ∀ a, x a < sz a), v (fun a => ⟨x a, hx a⟩) = f x

section
variable {r : ℕ} {sz : Fin r → ℕ} {α : Type}

theorem Reads.at {v : (⟨r, sz⟩ : Shape).Idx → α} {f : (Fin r → ℕ) → α} (h : Reads v f) (i : (⟨r, sz⟩ : Shape).Idx) :
    v i = f (fun a => (i a).val) :=
  h (fun a => (i a).val) (fun a => (i a).isLt)

theorem Reads.of_forall {v : (⟨r, sz⟩ : Shape).Idx → α} {f : (Fin r → ℕ) → α} (h : ∀ i, v i = f (fun a => (i a).val)) :
    Reads v f :=
  fun x hx => h _

theorem Reads.congr {v : (⟨r, sz⟩ : Shape).Idx → α} {f g : (Fin r → ℕ) → α} (h : Reads v f)
    (e : ∀ x, (∀ a, x a < sz a) → f x = g x) : Reads v g :=
  fun x hx => (h x hx).trans (e x hx)

theorem Reads.eq {v w : (⟨r, sz⟩ : Shape).Idx → α} {f g : (Fin r → ℕ) → α} (h : Reads v f) (h' : Reads w g)
    (e : ∀ x, (∀ a, x a < sz a) → f x = g x) : v = w :=
  funext fun i => (h.at i).trans ((e _ fun a => (i a).isLt).trans (h'.at i).symm)

theorem Reads.const {v : (⟨r, sz⟩ : Shape).Idx → α} {c : α} (h : ∀ i, v i = c) : Reads v (fun _ => c) :=
  fun _ _ => h _

/-- A slice of unit stride. -/
theorem Reads.slice {t off : Fin r → ℕ} {v : (⟨r, sz⟩ : Shape).Idx → α} {f : (Fin r → ℕ) → α} (hv : Reads v f)
    (h : Shape.Slices ⟨r, sz⟩ off ⟨r, t⟩) :
    Reads (sz := t) (extractStridedSlice ⟨r, t⟩ off v h) (fun x => f (fun a => off a + x a)) :=
  fun x hx => hv _ _

theorem off_update {a : Fin r} {o : ℕ} {off : Fin r → ℕ} (hoff : ∀ b, off b = if b = a then o else 0) (x : Fin r → ℕ) :
    (fun b => off b + x b) = Function.update x a (o + x a) := by
  funext b
  rw [hoff b]
  by_cases h : b = a
  · subst h; simp
  · simp [h]

/-- A slice along the one axis `a`, from `o`. -/
theorem Reads.slice1 (a : Fin r) (o : ℕ) {t off : Fin r → ℕ} {v : (⟨r, sz⟩ : Shape).Idx → α} {f : (Fin r → ℕ) → α}
    (hv : Reads v f) (h : Shape.Slices ⟨r, sz⟩ off ⟨r, t⟩) (hoff : ∀ b, off b = if b = a then o else 0) :
    Reads (sz := t) (extractStridedSlice ⟨r, t⟩ off v h) (fun x => f (Function.update x a (o + x a))) :=
  (hv.slice h).congr fun x _ => congrArg f (off_update hoff x)

/-- A vector chosen by a scalar condition. -/
theorem Reads.sel {v w : (⟨r, sz⟩ : Shape).Idx → α} {f g : (Fin r → ℕ) → α} (c : BitVec 1) (hv : Reads v f) (hw : Reads w g) :
    Reads (sz := sz) (Scalar.select c v w) (fun x => if c = 1 then f x else g x) := by
  intro x hx
  unfold Scalar.select
  by_cases h : c = 1
  · simp only [h, if_true]; exact hv x hx
  · simp only [h, if_false]; exact hw x hx

/-- Piece `k` of a concatenation. -/
theorem concat_at (a : Fin r) (xs : List ((s : Shape) × (s.Idx → α)))
    (h : Shape.Concatenates (xs.map (·.1)) ⟨r, sz⟩ a) (k : ℕ) (hk : k < xs.length) {sk : Fin r → ℕ}
    {v : (⟨r, sk⟩ : Shape).Idx → α} (hxk : xs[k] = ⟨⟨r, sk⟩, v⟩) {f : (Fin r → ℕ) → α} (hv : Reads v f) (pre : ℕ)
    (hpre : (((xs.take k).map (·.1)).map fun s => if h : s.rank = r then s.size (a.cast h.symm) else 0).sum = pre)
    (x : Fin r → ℕ) (hx : ∀ b, x b < sz b) (hlo : pre ≤ x a) (hhi : x a < pre + sk a) :
    concatenate ⟨r, sz⟩ a xs h (fun b => ⟨x b, hx b⟩) = f (Function.update x a (x a - pre)) := by
  have hm : (⟨r, sk⟩ : Shape) ∈ xs.map (·.1) := List.mem_map.2 ⟨xs[k], List.getElem_mem hk, by rw [hxk]⟩
  have hs : ∀ b : Fin r, b ≠ a → sk b = sz b := fun b hb => by
    obtain ⟨hr, h2⟩ := h.2.1 _ hm
    exact h2 b hb
  have hy : ∀ b, Function.update x a (x a - pre) b < sk b := fun b => by
    by_cases hb : b = a
    · subst hb; simp only [Function.update_self]; omega
    · simp only [Function.update_of_ne hb, hs b hb]; exact hx b
  refine (concatenate_apply_piece (t := ⟨r, sz⟩) a xs h _ k hk ⟨r, sk⟩ v hxk rfl pre hpre
    (fun b => ⟨Function.update x a (x a - pre) b, hy b⟩) ?_ ?_).trans (hv _ hy)
  · intro b hb
    show Function.update x a (x a - pre) b = x b
    exact Function.update_of_ne hb _ _
  · show pre + Function.update x a (x a - pre) a = x a
    simp only [Function.update_self]; omega

theorem Reads.concat2 {a : Fin r} {s1 s2 : Fin r → ℕ} {v1 : (⟨r, s1⟩ : Shape).Idx → α} {v2 : (⟨r, s2⟩ : Shape).Idx → α}
    {f1 f2 : (Fin r → ℕ) → α} (h1 : Reads v1 f1) (h2 : Reads v2 f2)
    (h : Shape.Concatenates (([⟨⟨r, s1⟩, v1⟩, ⟨⟨r, s2⟩, v2⟩] : List ((s : Shape) × (s.Idx → α))).map (·.1)) ⟨r, sz⟩ a) :
    Reads (sz := sz) (concatenate ⟨r, sz⟩ a [⟨⟨r, s1⟩, v1⟩, ⟨⟨r, s2⟩, v2⟩] h) (fun x =>
      if x a < s1 a then f1 x else f2 (Function.update x a (x a - s1 a))) := by
  intro x hx
  have hsum : s1 a + s2 a = sz a := by have := h.2.2; simpa using this
  have hxa := hx a
  by_cases c1 : x a < s1 a
  · simp only [c1, if_true]
    refine (concat_at a _ h 0 (by simp) rfl h1 0 (by simp) x hx (by omega) (by omega)).trans ?_
    simp
  · simp only [c1, if_false]
    exact concat_at a _ h 1 (by simp) rfl h2 (s1 a) (by simp) x hx (by omega) (by omega)

theorem Reads.concat3 {a : Fin r} {s1 s2 s3 : Fin r → ℕ} {v1 : (⟨r, s1⟩ : Shape).Idx → α} {v2 : (⟨r, s2⟩ : Shape).Idx → α}
    {v3 : (⟨r, s3⟩ : Shape).Idx → α} {f1 f2 f3 : (Fin r → ℕ) → α} (h1 : Reads v1 f1) (h2 : Reads v2 f2) (h3 : Reads v3 f3)
    (h : Shape.Concatenates (([⟨⟨r, s1⟩, v1⟩, ⟨⟨r, s2⟩, v2⟩, ⟨⟨r, s3⟩, v3⟩] : List ((s : Shape) × (s.Idx → α))).map (·.1)) ⟨r, sz⟩ a) :
    Reads (sz := sz) (concatenate ⟨r, sz⟩ a [⟨⟨r, s1⟩, v1⟩, ⟨⟨r, s2⟩, v2⟩, ⟨⟨r, s3⟩, v3⟩] h) (fun x =>
      if x a < s1 a then f1 x else if x a < s1 a + s2 a then f2 (Function.update x a (x a - s1 a))
      else f3 (Function.update x a (x a - (s1 a + s2 a)))) := by
  intro x hx
  have hsum : s1 a + (s2 a + s3 a) = sz a := by have := h.2.2; simpa using this
  have hxa := hx a
  by_cases c1 : x a < s1 a
  · simp only [c1, if_true]
    refine (concat_at a _ h 0 (by simp) rfl h1 0 (by simp) x hx (by omega) (by omega)).trans ?_
    simp
  · simp only [c1, if_false]
    by_cases c2 : x a < s1 a + s2 a
    · simp only [c2, if_true]
      exact concat_at a _ h 1 (by simp) rfl h2 (s1 a) (by simp) x hx (by omega) (by omega)
    · simp only [c2, if_false]
      exact concat_at a _ h 2 (by simp) rfl h3 (s1 a + s2 a) (by simp) x hx (by omega) (by omega)

theorem Reads.concat5 {a : Fin r} {s1 s2 s3 s4 s5 : Fin r → ℕ} {v1 : (⟨r, s1⟩ : Shape).Idx → α}
    {v2 : (⟨r, s2⟩ : Shape).Idx → α} {v3 : (⟨r, s3⟩ : Shape).Idx → α} {v4 : (⟨r, s4⟩ : Shape).Idx → α}
    {v5 : (⟨r, s5⟩ : Shape).Idx → α} {f1 f2 f3 f4 f5 : (Fin r → ℕ) → α}
    (h1 : Reads v1 f1) (h2 : Reads v2 f2) (h3 : Reads v3 f3) (h4 : Reads v4 f4) (h5 : Reads v5 f5)
    (h : Shape.Concatenates (([⟨⟨r, s1⟩, v1⟩, ⟨⟨r, s2⟩, v2⟩, ⟨⟨r, s3⟩, v3⟩, ⟨⟨r, s4⟩, v4⟩, ⟨⟨r, s5⟩, v5⟩] :
      List ((s : Shape) × (s.Idx → α))).map (·.1)) ⟨r, sz⟩ a) :
    Reads (sz := sz) (concatenate ⟨r, sz⟩ a [⟨⟨r, s1⟩, v1⟩, ⟨⟨r, s2⟩, v2⟩, ⟨⟨r, s3⟩, v3⟩, ⟨⟨r, s4⟩, v4⟩, ⟨⟨r, s5⟩, v5⟩] h) (fun x =>
      if x a < s1 a then f1 x else if x a < s1 a + s2 a then f2 (Function.update x a (x a - s1 a))
      else if x a < s1 a + (s2 a + s3 a) then f3 (Function.update x a (x a - (s1 a + s2 a)))
      else if x a < s1 a + (s2 a + (s3 a + s4 a)) then f4 (Function.update x a (x a - (s1 a + (s2 a + s3 a))))
      else f5 (Function.update x a (x a - (s1 a + (s2 a + (s3 a + s4 a)))))) := by
  intro x hx
  have hsum : s1 a + (s2 a + (s3 a + (s4 a + s5 a))) = sz a := by have := h.2.2; simpa using this
  have hxa := hx a
  by_cases c1 : x a < s1 a
  · simp only [c1, if_true]
    refine (concat_at a _ h 0 (by simp) rfl h1 0 (by simp) x hx (by omega) (by omega)).trans ?_
    simp
  · simp only [c1, if_false]
    by_cases c2 : x a < s1 a + s2 a
    · simp only [c2, if_true]
      exact concat_at a _ h 1 (by simp) rfl h2 (s1 a) (by simp) x hx (by omega) (by omega)
    · simp only [c2, if_false]
      by_cases c3 : x a < s1 a + (s2 a + s3 a)
      · simp only [c3, if_true]
        exact concat_at a _ h 2 (by simp) rfl h3 (s1 a + s2 a) (by simp) x hx (by omega) (by omega)
      · simp only [c3, if_false]
        by_cases c4 : x a < s1 a + (s2 a + (s3 a + s4 a))
        · simp only [c4, if_true]
          exact concat_at a _ h 3 (by simp) rfl h4 (s1 a + (s2 a + s3 a)) (by simp) x hx (by omega) (by omega)
        · simp only [c4, if_false]
          exact concat_at a _ h 4 (by simp) rfl h5 (s1 a + (s2 a + (s3 a + s4 a))) (by simp) x hx (by omega) (by omega)

/-- A reversal along one axis. -/
theorem Reads.reverse (a : Fin r) {v : (⟨r, sz⟩ : Shape).Idx → α} {f : (Fin r → ℕ) → α} (hv : Reads v f) :
    Reads (sz := sz) (Host.reverse (s := ⟨r, sz⟩) [a] v) (fun x => f (Function.update x a (sz a - 1 - x a))) := by
  intro x hx
  have hy : ∀ b, Function.update x a (sz a - 1 - x a) b < sz b := fun b => by
    by_cases hb : b = a
    · subst hb; simp only [Function.update_self]; have := hx b; omega
    · simp only [Function.update_of_ne hb]; exact hx b
  refine Eq.trans ?_ (hv _ hy)
  unfold Host.reverse
  refine congrArg v (funext fun b => Fin.ext ?_)
  by_cases hb : b = a
  · subst hb
    simp only [List.mem_singleton, if_true, Function.update_self, Fin.val_rev]
    show sz b - (x b + 1) = sz b - 1 - x b
    omega
  · simp only [List.mem_singleton, hb, if_false, Function.update_of_ne hb]

/-- Dropping a leading axis of one. -/
theorem Reads.dropUnit {d : Fin r → ℕ} {v : (⟨r + 1, Matrix.vecCons 1 d⟩ : Shape).Idx → α} {f : (Fin (r + 1) → ℕ) → α}
    (hv : Reads v f) (h : (⟨r + 1, Matrix.vecCons 1 d⟩ : Shape).ShapeCasts ⟨r, d⟩) :
    Reads (sz := d) (shapeCast ⟨r, d⟩ v h) (fun x => f (Fin.cons 0 x)) := by
  intro x hx
  rw [shapeCast_dropUnit_apply]
  refine (hv.at _).trans (congrArg f (funext fun a => ?_))
  refine Fin.cases rfl (fun b => rfl) a

/-- Adding a leading axis of one. -/
theorem Reads.addUnit {d : Fin r → ℕ} {v : (⟨r, d⟩ : Shape).Idx → α} {f : (Fin r → ℕ) → α}
    (hv : Reads v f) (h : (⟨r, d⟩ : Shape).ShapeCasts ⟨r + 1, Matrix.vecCons 1 d⟩) :
    Reads (sz := Matrix.vecCons 1 d) (shapeCast ⟨r + 1, Matrix.vecCons 1 d⟩ v h) (fun x => f (fun a => x a.succ)) := by
  intro x hx
  rw [shapeCast_addUnit_apply]
  exact hv.at _

end

section
variable {r : ℕ} {sz : Fin r → ℕ} {v w : FVec Ideal ⟨r, sz⟩ .f32} {f g : (Fin r → ℕ) → EReal}

theorem Reads.addf (hv : Reads v f) (hw : Reads w g) : Reads (Idealize.ShloMosaic.addf v w) (fun x => f x + g x) :=
  fun x hx => congrArg₂ (· + ·) (hv x hx) (hw x hx)

theorem Reads.subf (hv : Reads v f) (hw : Reads w g) : Reads (Idealize.ShloMosaic.subf v w) (fun x => f x - g x) :=
  fun x hx => congrArg₂ (· - ·) (hv x hx) (hw x hx)

theorem Reads.mulf (hv : Reads v f) (hw : Reads w g) : Reads (Idealize.ShloMosaic.mulf v w) (fun x => f x * g x) :=
  fun x hx => congrArg₂ (· * ·) (hv x hx) (hw x hx)

theorem Reads.maximumf (hv : Reads v f) (hw : Reads w g) : Reads (Idealize.ShloMosaic.maximumf v w) (fun x => max (f x) (g x)) :=
  fun x hx => congrArg₂ max (hv x hx) (hw x hx)

theorem Reads.minimumf (hv : Reads v f) (hw : Reads w g) : Reads (Idealize.ShloMosaic.minimumf v w) (fun x => min (f x) (g x)) :=
  fun x hx => congrArg₂ min (hv x hx) (hw x hx)

theorem Reads.sqrt (hv : Reads v f) : Reads (Idealize.ShloMosaic.sqrt v) (fun x => Ideal.sqrt (f x)) :=
  fun x hx => congrArg Ideal.sqrt (hv x hx)

theorem Reads.hsqrt (hv : Reads v f) : Reads (Host.sqrt v) (fun x => Ideal.sqrt (f x)) :=
  fun x hx => congrArg Ideal.sqrt (hv x hx)

end

end Cert.Elastic

end
-- ==== Proof.Stages.lean ====
/- The stages both programs are made of, read at coordinates: differences along an axis, the padded five-tap blur. -/
module

public import proofs.«01_k».proof.Proof.Reads

@[expose] public section

set_option maxRecDepth 16384

noncomputable section

namespace Cert.Elastic

open Idealize.ShloMosaic

/-- The literal one half. -/
def half : EReal := Ideal.ofBits .f32 0x3F000000#32
/-- The literal two. -/
def two : EReal := Ideal.ofBits .f32 0x40000000#32
/-- The five literals of the blur. -/
def tap (k : ℕ) : EReal :=
  if k = 0 ∨ k = 4 then Ideal.ofBits .f32 0x3D90EDF6#32
  else if k = 1 ∨ k = 3 then Ideal.ofBits .f32 0x3E7A53D4#32
  else Ideal.ofBits .f32 0x3EBD3532#32

/-- Central differences inside, one-sided differences at the two ends of `n` points. -/
def grad1 (n : ℕ) (g : ℕ → EReal) (p : ℕ) : EReal :=
  if p = 0 then g 1 - g 0 else if p = n - 1 then g (n - 1) - g (n - 2) else half * (g (p + 1) - g (p - 1))

/-- The position `p - 2` reflected into `n` points. -/
def refl (n p : ℕ) : ℕ := if p < 2 then 2 - p else if p < n + 2 then p - 2 else 2 * n - p

/-- The weighted sum of five consecutive values. -/
def taps5 (g : ℕ → EReal) (p : ℕ) : EReal :=
  0 + tap 0 * g p + tap 1 * g (p + 1) + tap 2 * g (p + 2) + tap 3 * g (p + 3) + tap 4 * g (p + 4)

section
variable {r : ℕ} {sz : Fin r → ℕ} {v : FVec Ideal ⟨r, sz⟩ .f32} {f : (Fin r → ℕ) → EReal}

/-- The difference along axis `a`, as three pieces laid end to end. -/
theorem reads_grad (a : Fin r) (n : ℕ) (hv : Reads v f) {s1 s2 o0 o1 o2 o3 o4 o5 : Fin r → ℕ}
    {c : FVec Ideal ⟨r, s2⟩ .f32}
    {p1 : Shape.Slices ⟨r, sz⟩ o1 ⟨r, s1⟩} {p0 : Shape.Slices ⟨r, sz⟩ o0 ⟨r, s1⟩}
    {p2 : Shape.Slices ⟨r, sz⟩ o2 ⟨r, s2⟩} {p3 : Shape.Slices ⟨r, sz⟩ o3 ⟨r, s2⟩}
    {p4 : Shape.Slices ⟨r, sz⟩ o4 ⟨r, s1⟩} {p5 : Shape.Slices ⟨r, sz⟩ o5 ⟨r, s1⟩}
    {h : Shape.Concatenates [⟨r, s1⟩, ⟨r, s2⟩, ⟨r, s1⟩] ⟨r, sz⟩ a}
    (hc : ∀ i, c i = half) (hn : 2 ≤ n) (hsz : sz a = n) (hs1 : s1 a = 1)
    (e0 : ∀ b, o0 b = if b = a then 0 else 0) (e1 : ∀ b, o1 b = if b = a then 1 else 0)
    (e2 : ∀ b, o2 b = if b = a then 2 else 0) (e3 : ∀ b, o3 b = if b = a then 0 else 0)
    (e4 : ∀ b, o4 b = if b = a then n - 1 else 0) (e5 : ∀ b, o5 b = if b = a then n - 2 else 0) :
    Reads (sz := sz) (concatenate ⟨r, sz⟩ a
      [⟨⟨r, s1⟩, subf (extractStridedSlice ⟨r, s1⟩ o1 v p1) (extractStridedSlice ⟨r, s1⟩ o0 v p0)⟩,
       ⟨⟨r, s2⟩, mulf c
         (subf (extractStridedSlice ⟨r, s2⟩ o2 v p2) (extractStridedSlice ⟨r, s2⟩ o3 v p3))⟩,
       ⟨⟨r, s1⟩, subf (extractStridedSlice ⟨r, s1⟩ o4 v p4) (extractStridedSlice ⟨r, s1⟩ o5 v p5)⟩] h)
      (fun x => grad1 n (fun q => f (Function.update x a q)) (x a)) := by
  have hsum : s1 a + (s2 a + s1 a) = sz a := by have := h.2.2; simpa using this
  refine (Reads.concat3 ((hv.slice1 a 1 p1 e1).subf (hv.slice1 a 0 p0 e0))
    ((Reads.const hc).mulf ((hv.slice1 a 2 p2 e2).subf (hv.slice1 a 0 p3 e3)))
    ((hv.slice1 a (n - 1) p4 e4).subf (hv.slice1 a (n - 2) p5 e5)) h).congr fun x hx => ?_
  have hxa := hx a
  simp only [grad1, Function.update_self, Function.update_idem]
  by_cases c1 : x a < s1 a
  · have : x a = 0 := by omega
    simp [this, hs1]
  · rw [if_neg c1, if_neg (by omega : ¬ x a = 0)]
    by_cases c2 : x a < s1 a + s2 a
    · rw [if_pos c2, if_neg (by omega : ¬ x a = n - 1), show 2 + (x a - s1 a) = x a + 1 by omega,
        show 0 + (x a - s1 a) = x a - 1 by omega]
    · rw [if_neg c2, if_pos (by omega : x a = n - 1), show n - 1 + (x a - (s1 a + s2 a)) = n - 1 by omega,
        show n - 2 + (x a - (s1 a + s2 a)) = n - 2 by omega]

/-- Two reflected rows in front and two behind, laid end to end. -/
theorem reads_pad5 (a : Fin r) (n : ℕ) (hv : Reads v f) {s1 st o1 o2 o4 o5 : Fin r → ℕ}
    {p1 : Shape.Slices ⟨r, sz⟩ o1 ⟨r, s1⟩} {p2 : Shape.Slices ⟨r, sz⟩ o2 ⟨r, s1⟩}
    {p4 : Shape.Slices ⟨r, sz⟩ o4 ⟨r, s1⟩} {p5 : Shape.Slices ⟨r, sz⟩ o5 ⟨r, s1⟩}
    {h : Shape.Concatenates [⟨r, s1⟩, ⟨r, s1⟩, ⟨r, sz⟩, ⟨r, s1⟩, ⟨r, s1⟩] ⟨r, st⟩ a}
    (hn : 3 ≤ n) (hsz : sz a = n) (hs1 : s1 a = 1)
    (e1 : ∀ b, o1 b = if b = a then 2 else 0) (e2 : ∀ b, o2 b = if b = a then 1 else 0)
    (e4 : ∀ b, o4 b = if b = a then n - 2 else 0) (e5 : ∀ b, o5 b = if b = a then n - 3 else 0) :
    Reads (sz := st) (concatenate ⟨r, st⟩ a
      [⟨⟨r, s1⟩, extractStridedSlice ⟨r, s1⟩ o1 v p1⟩, ⟨⟨r, s1⟩, extractStridedSlice ⟨r, s1⟩ o2 v p2⟩, ⟨⟨r, sz⟩, v⟩,
       ⟨⟨r, s1⟩, extractStridedSlice ⟨r, s1⟩ o4 v p4⟩, ⟨⟨r, s1⟩, extractStridedSlice ⟨r, s1⟩ o5 v p5⟩] h)
      (fun x => f (Function.update x a (refl n (x a)))) := by
  have hsum : s1 a + (s1 a + (sz a + (s1 a + s1 a))) = st a := by have := h.2.2; simpa using this
  refine (Reads.concat5 (hv.slice1 a 2 p1 e1) (hv.slice1 a 1 p2 e2) hv (hv.slice1 a (n - 2) p4 e4)
    (hv.slice1 a (n - 3) p5 e5) h).congr fun x hx => ?_
  have hxa := hx a
  simp only [refl, Function.update_self, Function.update_idem]
  split_ifs <;> first | omega | (refine congrArg (fun q => f (Function.update x a q)) ?_; omega)

/-- The same by reversed pairs of rows. -/
theorem reads_padRev (a : Fin r) (n : ℕ) (hv : Reads v f) {s2 su st o1 o2 : Fin r → ℕ}
    {p1 : Shape.Slices ⟨r, sz⟩ o1 ⟨r, s2⟩} {p2 : Shape.Slices ⟨r, su⟩ o2 ⟨r, s2⟩}
    {h1 : Shape.Concatenates [⟨r, s2⟩, ⟨r, sz⟩] ⟨r, su⟩ a}
    {h2 : Shape.Concatenates [⟨r, su⟩, ⟨r, s2⟩] ⟨r, st⟩ a}
    (hn : 3 ≤ n) (hsz : sz a = n) (hs2 : s2 a = 2)
    (e1 : ∀ b, o1 b = if b = a then 1 else 0) (e2 : ∀ b, o2 b = if b = a then n - 1 else 0) :
    Reads (sz := st) (concatenate ⟨r, st⟩ a
      [⟨⟨r, su⟩, concatenate ⟨r, su⟩ a
          [⟨⟨r, s2⟩, Host.reverse (s := ⟨r, s2⟩) [a] (extractStridedSlice ⟨r, s2⟩ o1 v p1)⟩, ⟨⟨r, sz⟩, v⟩] h1⟩,
       ⟨⟨r, s2⟩, Host.reverse (s := ⟨r, s2⟩) [a] (extractStridedSlice ⟨r, s2⟩ o2 (concatenate ⟨r, su⟩ a
          [⟨⟨r, s2⟩, Host.reverse (s := ⟨r, s2⟩) [a] (extractStridedSlice ⟨r, s2⟩ o1 v p1)⟩, ⟨⟨r, sz⟩, v⟩] h1) p2)⟩] h2)
      (fun x => f (Function.update x a (refl n (x a)))) := by
  have hsum1 : s2 a + sz a = su a := by have := h1.2.2; simpa using this
  have hsum2 : su a + s2 a = st a := by have := h2.2.2; simpa using this
  have hu := Reads.concat2 ((hv.slice1 a 1 p1 e1).reverse a) hv h1
  refine (Reads.concat2 hu ((hu.slice1 a (n - 1) p2 e2).reverse a) h2).congr fun x hx => ?_
  have hxa := hx a
  simp only [refl, Function.update_self, Function.update_idem]
  split_ifs <;> first | omega | (refine congrArg (fun q => f (Function.update x a q)) ?_; omega)

/-- Five shifted slices along axis `a`, weighted and summed. -/
theorem reads_taps (a : Fin r) (hv : Reads v f) {t o0 o1 o2 o3 o4 : Fin r → ℕ} {z c0 c1 c2 c3 c4 : FVec Ideal ⟨r, t⟩ .f32}
    {p0 : Shape.Slices ⟨r, sz⟩ o0 ⟨r, t⟩} {p1 : Shape.Slices ⟨r, sz⟩ o1 ⟨r, t⟩} {p2 : Shape.Slices ⟨r, sz⟩ o2 ⟨r, t⟩}
    {p3 : Shape.Slices ⟨r, sz⟩ o3 ⟨r, t⟩} {p4 : Shape.Slices ⟨r, sz⟩ o4 ⟨r, t⟩}
    (hz : ∀ i, z i = Ideal.ofBits .f32 0x00000000#32)
    (k0 : ∀ i, c0 i = Ideal.ofBits .f32 0x3D90EDF6#32) (k1 : ∀ i, c1 i = Ideal.ofBits .f32 0x3E7A53D4#32)
    (k2 : ∀ i, c2 i = Ideal.ofBits .f32 0x3EBD3532#32) (k3 : ∀ i, c3 i = Ideal.ofBits .f32 0x3E7A53D4#32)
    (k4 : ∀ i, c4 i = Ideal.ofBits .f32 0x3D90EDF6#32)
    (e0 : ∀ b, o0 b = if b = a then 0 else 0) (e1 : ∀ b, o1 b = if b = a then 1 else 0)
    (e2 : ∀ b, o2 b = if b = a then 2 else 0) (e3 : ∀ b, o3 b = if b = a then 3 else 0)
    (e4 : ∀ b, o4 b = if b = a then 4 else 0) :
    Reads (sz := t) (addf (addf (addf
      (addf (addf z
        (mulf c0 (extractStridedSlice ⟨r, t⟩ o0 v p0)))
        (mulf c1 (extractStridedSlice ⟨r, t⟩ o1 v p1)))
        (mulf c2 (extractStridedSlice ⟨r, t⟩ o2 v p2)))
        (mulf c3 (extractStridedSlice ⟨r, t⟩ o3 v p3)))
        (mulf c4 (extractStridedSlice ⟨r, t⟩ o4 v p4)))
      (fun x => taps5 (fun q => f (Function.update x a q)) (x a)) := by
  have h0 : Ideal.ofBits .f32 0x00000000#32 = (0 : EReal) := by simp
  refine ((((((Reads.const (fun i => (hz i).trans h0)).addf ((Reads.const k0).mulf (hv.slice1 a 0 p0 e0))).addf
    ((Reads.const k1).mulf (hv.slice1 a 1 p1 e1))).addf ((Reads.const k2).mulf (hv.slice1 a 2 p2 e2))).addf
    ((Reads.const k3).mulf (hv.slice1 a 3 p3 e3))).addf ((Reads.const k4).mulf (hv.slice1 a 4 p4 e4))).congr fun x hx => ?_
  simp only [taps5, tap, Nat.zero_add, Nat.add_comm (x a)]
  simp

end

end Cert.Elastic

end
-- ==== Proof.Halo.lean ====
/- The kernel's blocks with their neighbour rows, read at coordinates, and the values the kernel computes per point. -/
module

public import proofs.«01_k».proof.Proof.Stages

@[expose] public section

set_option maxRecDepth 16384

noncomputable section

namespace Cert.Elastic

open Idealize.ShloMosaic

/-- A row of `n` values continued linearly by one at each end, position `p` standing for `p - 1`. -/
def ext1 (n : ℕ) (g : ℕ → EReal) (p : ℕ) : EReal :=
  if p = 0 then two * g 0 - g 1 else if p = n + 1 then two * g (n - 1) - g (n - 2) else g (p - 1)

/-- The central difference of the continued row. -/
def gradK1 (n : ℕ) (g : ℕ → EReal) (p : ℕ) : EReal := half * (ext1 n g (p + 2) - ext1 n g p)

/-- The reflected five-tap blur. -/
def blur1 (n : ℕ) (g : ℕ → EReal) (p : ℕ) : EReal := taps5 (fun q => g (refl n q)) p

/-- The comparison of two small grid coordinates. -/
theorem cmp_eq_one {a b : ℕ} (ha : a < 2 ^ 32) (hb : b < 2 ^ 32) :
    Scalar.cmpi .eq (BitVec.ofNat 32 a) (BitVec.ofNat 32 b) = 1 ↔ a = b := by
  have h : (BitVec.ofNat 32 a = BitVec.ofNat 32 b) ↔ a = b := by
    constructor
    · intro h
      have := congrArg BitVec.toNat h
      rw [BitVec.toNat_ofNat, BitVec.toNat_ofNat, Nat.mod_eq_of_lt ha, Nat.mod_eq_of_lt hb] at this
      exact this
    · rintro rfl; rfl
  rw [← h]
  show BitVec.ofBool (decide _) = 1 ↔ _
  by_cases c : BitVec.ofNat 32 a = BitVec.ofNat 32 b <;> simp [c] <;> decide

section
variable {r : ℕ} {sz : Fin r → ℕ} {α : Type}

/-- One component of a vector with a leading component axis. -/
theorem Reads.comp (c : ℕ) {d off : Fin (r + 1) → ℕ} {e : Fin r → ℕ} {v : (⟨r + 1, d⟩ : Shape).Idx → α}
    {f : (Fin (r + 1) → ℕ) → α} (hv : Reads v f) (h : Shape.Slices ⟨r + 1, d⟩ off ⟨r + 1, Matrix.vecCons 1 e⟩)
    (h' : (⟨r + 1, Matrix.vecCons 1 e⟩ : Shape).ShapeCasts ⟨r, e⟩) (hoff : ∀ b, off b = Fin.cons (α := fun _ => ℕ) c (fun _ => 0) b) :
    Reads (sz := e) (shapeCast ⟨r, e⟩ (extractStridedSlice ⟨r + 1, Matrix.vecCons 1 e⟩ off v h) h') (fun x => f (Fin.cons c x)) := by
  refine ((hv.slice h).dropUnit h').congr fun x _ => congrArg f (funext fun b => ?_)
  rw [hoff b]
  refine Fin.cases ?_ (fun b => ?_) b <;> simp

/-- One component, its rows along axis `a` taken from `o`. -/
theorem Reads.compRow (c : ℕ) (a : Fin r) (o : ℕ) {d off : Fin (r + 1) → ℕ} {e : Fin r → ℕ} {v : (⟨r + 1, d⟩ : Shape).Idx → α}
    {f : (Fin (r + 1) → ℕ) → α} (hv : Reads v f) (h : Shape.Slices ⟨r + 1, d⟩ off ⟨r + 1, Matrix.vecCons 1 e⟩)
    (h' : (⟨r + 1, Matrix.vecCons 1 e⟩ : Shape).ShapeCasts ⟨r, e⟩)
    (hoff : ∀ b, off b = Fin.cons (α := fun _ => ℕ) c (fun b => if b = a then o else 0) b) :
    Reads (sz := e) (shapeCast ⟨r, e⟩ (extractStridedSlice ⟨r + 1, Matrix.vecCons 1 e⟩ off v h) h')
      (fun x => f (Fin.cons c (Function.update x a (o + x a)))) := by
  refine ((hv.slice h).dropUnit h').congr fun x _ => congrArg f (funext fun b => ?_)
  rw [hoff b]
  refine Fin.cases ?_ (fun b => ?_) b
  · simp
  · by_cases hb : b = a
    · subst hb; simp
    · simp [hb]

end

section
variable {r : ℕ} {sz : Fin r → ℕ}

/-- Eight rows with one more at each end: continued linearly at the ends of the array, taken from the neighbours elsewhere. -/
theorem reads_halo1 (a : Fin r) (n it : ℕ) (F : (Fin r → ℕ) → EReal) {sL sR s1 st o0 o1 oL o7 o6 oR : Fin r → ℕ}
    {m : FVec Ideal ⟨r, sz⟩ .f32} {L : FVec Ideal ⟨r, sL⟩ .f32} {R : FVec Ideal ⟨r, sR⟩ .f32} {c c' : FVec Ideal ⟨r, s1⟩ .f32}
    {b0 b1 : BitVec 1}
    (hm : Reads m (fun x => F (Function.update x a (8 * it + x a))))
    (hL : Reads L (fun x => F (Function.update x a (2 * (4 * it - 1) + x a))))
    (hR : Reads R (fun x => F (Function.update x a (2 * (min (4 * it + 4) (n / 2 - 1)) + x a))))
    (hb0 : b0 = 1 ↔ it = 0) (hb1 : b1 = 1 ↔ 8 * it + 8 = n)
    {q0 : Shape.Slices ⟨r, sz⟩ o0 ⟨r, s1⟩} {q1 : Shape.Slices ⟨r, sz⟩ o1 ⟨r, s1⟩} {qL : Shape.Slices ⟨r, sL⟩ oL ⟨r, s1⟩}
    {q7 : Shape.Slices ⟨r, sz⟩ o7 ⟨r, s1⟩} {q6 : Shape.Slices ⟨r, sz⟩ o6 ⟨r, s1⟩} {qR : Shape.Slices ⟨r, sR⟩ oR ⟨r, s1⟩}
    {h : Shape.Concatenates [⟨r, s1⟩, ⟨r, sz⟩, ⟨r, s1⟩] ⟨r, st⟩ a}
    (hc : ∀ i, c i = two) (hc' : ∀ i, c' i = two) (hsz : sz a = 8) (hs1 : s1 a = 1) (hn : n % 8 = 0) (hit : 8 * it + 8 ≤ n)
    (e0 : ∀ b, o0 b = if b = a then 0 else 0) (e1 : ∀ b, o1 b = if b = a then 1 else 0) (eL : ∀ b, oL b = if b = a then 1 else 0)
    (e7 : ∀ b, o7 b = if b = a then 7 else 0) (e6 : ∀ b, o6 b = if b = a then 6 else 0) (eR : ∀ b, oR b = if b = a then 0 else 0) :
    Reads (sz := st) (concatenate ⟨r, st⟩ a
      [⟨⟨r, s1⟩, Scalar.select b0 (subf (mulf c (extractStridedSlice ⟨r, s1⟩ o0 m q0)) (extractStridedSlice ⟨r, s1⟩ o1 m q1))
          (extractStridedSlice ⟨r, s1⟩ oL L qL)⟩,
       ⟨⟨r, sz⟩, m⟩,
       ⟨⟨r, s1⟩, Scalar.select b1 (subf (mulf c' (extractStridedSlice ⟨r, s1⟩ o7 m q7)) (extractStridedSlice ⟨r, s1⟩ o6 m q6))
          (extractStridedSlice ⟨r, s1⟩ oR R qR)⟩] h)
      (fun x => ext1 n (fun q => F (Function.update x a q)) (8 * it + x a)) := by
  have hsum : s1 a + (sz a + s1 a) = st a := by have := h.2.2; simpa using this
  refine (Reads.concat3 (Reads.sel b0 (((Reads.const hc).mulf (hm.slice1 a 0 q0 e0)).subf (hm.slice1 a 1 q1 e1)) (hL.slice1 a 1 qL eL))
    hm (Reads.sel b1 (((Reads.const hc').mulf (hm.slice1 a 7 q7 e7)).subf (hm.slice1 a 6 q6 e6)) (hR.slice1 a 0 qR eR)) h).congr
    fun x hx => ?_
  have hxa := hx a
  simp only [ext1, Function.update_self, Function.update_idem, hb0, hb1, hs1, hsz]
  split_ifs <;> first | omega | skip
  all_goals first
    | (refine congrArg (fun q => F (Function.update x a q)) ?_; omega)
    | (refine congrArg₂ (· - ·) (congrArg (two * ·) (congrArg (fun q => F (Function.update x a q)) ?_))
        (congrArg (fun q => F (Function.update x a q)) ?_) <;> omega)

/-- Eight rows with two more at each end: reflected at the ends of the array, taken from the neighbours elsewhere. -/
theorem reads_halo2 (a : Fin r) (n it : ℕ) (F : (Fin r → ℕ) → EReal) {sL sR s1 s2 st o0 o1 oL o7 o6 oR : Fin r → ℕ}
    {m : FVec Ideal ⟨r, sz⟩ .f32} {L : FVec Ideal ⟨r, sL⟩ .f32} {R : FVec Ideal ⟨r, sR⟩ .f32}
    {b0 b1 : BitVec 1}
    (hm : Reads m (fun x => F (Function.update x a (8 * it + x a))))
    (hL : Reads L (fun x => F (Function.update x a (4 * (2 * it - 1) + x a))))
    (hR : Reads R (fun x => F (Function.update x a (4 * (min (2 * it + 2) (n / 4 - 1)) + x a))))
    (hb0 : b0 = 1 ↔ it = 0) (hb1 : b1 = 1 ↔ 8 * it + 8 = n)
    {q0 : Shape.Slices ⟨r, sz⟩ o0 ⟨r, s1⟩} {q1 : Shape.Slices ⟨r, sz⟩ o1 ⟨r, s1⟩} {qL : Shape.Slices ⟨r, sL⟩ oL ⟨r, s2⟩}
    {q7 : Shape.Slices ⟨r, sz⟩ o7 ⟨r, s1⟩} {q6 : Shape.Slices ⟨r, sz⟩ o6 ⟨r, s1⟩} {qR : Shape.Slices ⟨r, sR⟩ oR ⟨r, s2⟩}
    {h0 h1 : Shape.Concatenates [⟨r, s1⟩, ⟨r, s1⟩] ⟨r, s2⟩ a}
    {h : Shape.Concatenates [⟨r, s2⟩, ⟨r, sz⟩, ⟨r, s2⟩] ⟨r, st⟩ a}
    (hsz : sz a = 8) (hs1 : s1 a = 1) (hn : n % 8 = 0) (hit : 8 * it + 8 ≤ n)
    (e0 : ∀ b, o0 b = if b = a then 2 else 0) (e1 : ∀ b, o1 b = if b = a then 1 else 0) (eL : ∀ b, oL b = if b = a then 2 else 0)
    (e7 : ∀ b, o7 b = if b = a then 6 else 0) (e6 : ∀ b, o6 b = if b = a then 5 else 0) (eR : ∀ b, oR b = if b = a then 0 else 0) :
    Reads (sz := st) (concatenate ⟨r, st⟩ a
      [⟨⟨r, s2⟩, Scalar.select b0 (concatenate ⟨r, s2⟩ a [⟨⟨r, s1⟩, extractStridedSlice ⟨r, s1⟩ o0 m q0⟩,
          ⟨⟨r, s1⟩, extractStridedSlice ⟨r, s1⟩ o1 m q1⟩] h0) (extractStridedSlice ⟨r, s2⟩ oL L qL)⟩,
       ⟨⟨r, sz⟩, m⟩,
       ⟨⟨r, s2⟩, Scalar.select b1 (concatenate ⟨r, s2⟩ a [⟨⟨r, s1⟩, extractStridedSlice ⟨r, s1⟩ o7 m q7⟩,
          ⟨⟨r, s1⟩, extractStridedSlice ⟨r, s1⟩ o6 m q6⟩] h1) (extractStridedSlice ⟨r, s2⟩ oR R qR)⟩] h)
      (fun x => F (Function.update x a (refl n (8 * it + x a)))) := by
  have hsum : s2 a + (sz a + s2 a) = st a := by have := h.2.2; simpa using this
  have hsum2 : s1 a + s1 a = s2 a := by have := h0.2.2; simpa using this
  refine (Reads.concat3 (Reads.sel b0 (Reads.concat2 (hm.slice1 a 2 q0 e0) (hm.slice1 a 1 q1 e1) h0) (hL.slice1 a 2 qL eL))
    hm (Reads.sel b1 (Reads.concat2 (hm.slice1 a 6 q7 e7) (hm.slice1 a 5 q6 e6) h1) (hR.slice1 a 0 qR eR)) h).congr
    fun x hx => ?_
  have hxa := hx a
  have hs2 : s2 a = 2 := by omega
  simp only [refl, Function.update_self, Function.update_idem, hb0, hb1, hs1, hs2, hsz]
  split_ifs <;> first | omega | (refine congrArg (fun q => F (Function.update x a q)) ?_; omega)

end

/-- What the kernel adds up at a point, from the smoothed magnitude and the strains. -/
def densK (s exx eyy ezz exy exz eyz : EReal) : EReal :=
  (Ideal.ofBits .f32 0x3F800000#32 + Ideal.ofBits .f32 0x40A00000#32 * s) *
    (half * min (Ideal.ofBits .f32 0x41200000#32) (max (Ideal.ofBits .f32 0x3DCCCCCD#32) (Ideal.ofBits .f32 0x3F800000#32 + two * s)) *
        (exx + eyy + ezz) * (exx + eyy + ezz) +
      min (Ideal.ofBits .f32 0x41200000#32) (max (Ideal.ofBits .f32 0x3DCCCCCD#32) (half + Ideal.ofBits .f32 0x3F800000#32 * s)) *
        (exx * exx + eyy * eyy + ezz * ezz + two * (exy * exy + exz * exz + eyz * eyz)))

/-- The kernel's smoothing of `G`: the last axis first. -/
def smoothK (n : ℕ) (G : ℕ → ℕ → ℕ → EReal) (i j k : ℕ) : EReal :=
  blur1 n (fun p => blur1 n (fun q => blur1 n (fun r => G p q r) k) j) i

/-- The kernel's density at a point. -/
def pointK (n : ℕ) (D : ℕ → ℕ → ℕ → ℕ → EReal) (G : ℕ → ℕ → ℕ → EReal) (i j k : ℕ) : EReal :=
  densK (smoothK n G i j k) (gradK1 n (fun q => D 0 q j k) i) (grad1 n (fun q => D 1 i q k) j) (grad1 n (fun q => D 2 i j q) k)
    (half * (grad1 n (fun q => D 0 i q k) j + gradK1 n (fun q => D 1 q j k) i))
    (half * (grad1 n (fun q => D 0 i j q) k + gradK1 n (fun q => D 2 q j k) i))
    (half * (grad1 n (fun q => D 1 i j q) k + grad1 n (fun q => D 2 i q k) j))

/-- The kernel's gradient magnitude at a point of `I`. -/
def magK (n : ℕ) (I : ℕ → ℕ → ℕ → EReal) (i j k : ℕ) : EReal :=
  Ideal.sqrt (gradK1 n (fun q => I q j k) i * gradK1 n (fun q => I q j k) i + grad1 n (fun q => I i q k) j * grad1 n (fun q => I i q k) j
    + grad1 n (fun q => I i j q) k * grad1 n (fun q => I i j q) k)

end Cert.Elastic

end
-- ==== Proof.Block.lean ====
/- The sum a run of the kernel's body leaves, and the reading of the reduction that computes it. -/
module

public import proofs.«01_k».proof.Proof.Halo
public import Idealize.ShloMosaic.Lib.Pipeline.Value
public import Idealize.ShloMosaic.Lib.Pointwise

@[expose] public section

set_option maxRecDepth 16384

noncomputable section

namespace Cert.Elastic

open Idealize.ShloMosaic

theorem zero4 : (![0, 0, 0, 0] : Fin 4 → ℕ) = fun _ => 0 := funext fun a => by fin_cases a <;> rfl
theorem zero5 : (![0, 0, 0, 0, 0] : Fin 5 → ℕ) = fun _ => 0 := funext fun a => by fin_cases a <;> rfl

/-- The kernel's densities added up over the eight rows from `8 * it`. -/
def blockSum (n : ℕ) (D : ℕ → ℕ → ℕ → ℕ → EReal) (G : ℕ → ℕ → ℕ → EReal) (it : ℕ) : EReal :=
  ∑ p ∈ Finset.range 8, ∑ q ∈ Finset.range n, ∑ r ∈ Finset.range n, pointK n D G (8 * it + p) q r

/-- Five taps from a shifted start. -/
theorem taps5_shift (g : ℕ → EReal) (a b : ℕ) : taps5 (fun q => g (a + q)) b = taps5 g (a + b) := by
  simp only [taps5, Nat.add_assoc]

theorem cong4 (I : ℕ → ℕ → ℕ → ℕ → EReal) {a b c d a' b' c' d' : ℕ} (h1 : a = a') (h2 : b = b') (h3 : c = c') (h4 : d = d') :
    I a b c d = I a' b' c' d' := by subst h1 h2 h3 h4; rfl

theorem cong5 (I : ℕ → ℕ → ℕ → ℕ → ℕ → EReal) {a b c d e a' b' c' d' e' : ℕ} (h1 : a = a') (h2 : b = b') (h3 : c = c') (h4 : d = d')
    (h5 : e = e') : I a b c d e = I a' b' c' d' e' := by subst h1 h2 h3 h4 h5; rfl

/-- A reading's sum over a block of rank four. -/
theorem Reads.sum4 {a b c d : ℕ} {v : (⟨4, ![a, b, c, d]⟩ : Shape).Idx → EReal} {f : (Fin 4 → ℕ) → EReal} (hv : Reads v f) :
    ∑ i, v i = ∑ x ∈ Finset.range a, ∑ p ∈ Finset.range b, ∑ q ∈ Finset.range c, ∑ r ∈ Finset.range d, f ![x, p, q, r] := by
  rw [sum_idx4]
  simp only [Finset.sum_range]
  refine Finset.sum_congr rfl fun x _ => Finset.sum_congr rfl fun p _ => Finset.sum_congr rfl fun q _ => Finset.sum_congr rfl fun r _ => ?_
  refine (hv.at _).trans (congrArg f (funext fun k => ?_))
  fin_cases k <;> rfl

/-- The reduction of a block to one number, spread over an output block. -/
theorem block_reads {n : ℕ} {v : FVec Ideal ⟨4, ![1, 8, n, n]⟩ .f32} {f : (Fin 4 → ℕ) → EReal} (hv : Reads v f)
    (h : Shape.Reduces ⟨4, ![1, 8, n, n]⟩ [1, 2, 3] ⟨1, ![1]⟩) (hk) (ha)
    (h1 : (⟨1, ![1]⟩ : Shape).ShapeCasts ⟨4, ![1, 1, 1, 1]⟩) (h2) (h3 : (⟨4, ![1, 1, 1, 1]⟩ : Shape).ShapeCasts ⟨4, ![1, 1, 1, 1]⟩)
    (h4 : Shape.Broadcasts ⟨4, ![1, 1, 1, 1]⟩ ⟨4, ![1, 1, 8, 128]⟩) :
    broadcastTo ⟨4, ![1, 1, 8, 128]⟩ (shapeCast ⟨4, ![1, 1, 1, 1]⟩ (broadcast ⟨4, ![1, 1, 1, 1]⟩ (extractAt ![0, 0, 0, 0]
      (shapeCast ⟨4, ![1, 1, 1, 1]⟩ (multiReduction .add [1, 2, 3] ⟨1, ![1]⟩ v 0x00000000#32 h hk ha) h1) h2)) h3) h4
      = fun _ => ∑ p ∈ Finset.range 8, ∑ q ∈ Finset.range n, ∑ r ∈ Finset.range n, f ![0, p, q, r] := by
  funext y
  have key : ∀ j, multiReduction .add [1, 2, 3] ⟨1, ![1]⟩ v 0x00000000#32 h hk ha j
      = ∑ p ∈ Finset.range 8, ∑ q ∈ Finset.range n, ∑ r ∈ Finset.range n, f ![0, p, q, r] := by
    intro j
    show ∑ i ∈ Finset.univ.filter (fun i => h.drop i = j), v i = _
    have : Finset.univ.filter (fun i => h.drop i = j) = Finset.univ := by
      refine Finset.filter_true_of_mem fun i _ => funext fun a => ?_
      apply Fin.ext
      have e := (h.drop i a).isLt; have e' := (j a).isLt
      fin_cases a
      simp only [Matrix.cons_val_zero] at e e'
      exact (Nat.lt_one_iff.mp e).trans (Nat.lt_one_iff.mp e').symm
    rw [this, hv.sum4]
    simp
  exact key _

/-- The central difference along the rows, of one component of a block with its neighbour rows. -/
theorem reads_gradx (c n it : ℕ) (D : ℕ → ℕ → ℕ → ℕ → EReal) {d o2 o0 : Fin 4 → ℕ} {e : Fin 3 → ℕ} {v : FVec Ideal ⟨4, d⟩ .f32}
    {k : FVec Ideal ⟨3, e⟩ .f32}
    (hv : Reads v (fun x => ext1 n (fun q => D (x 0) q (x 2) (x 3)) (8 * it + x 1)))
    {p2 : Shape.Slices ⟨4, d⟩ o2 ⟨4, Matrix.vecCons 1 e⟩} {p0 : Shape.Slices ⟨4, d⟩ o0 ⟨4, Matrix.vecCons 1 e⟩}
    {q2 q0 : (⟨4, Matrix.vecCons 1 e⟩ : Shape).ShapeCasts ⟨3, e⟩} (hk : ∀ i, k i = half)
    (e2 : ∀ b, o2 b = Fin.cons (α := fun _ => ℕ) c (fun b : Fin 3 => if b = 0 then 2 else 0) b)
    (e0 : ∀ b, o0 b = Fin.cons (α := fun _ => ℕ) c (fun b : Fin 3 => if b = 0 then 0 else 0) b) :
    Reads (sz := e) (mulf k (subf (shapeCast ⟨3, e⟩ (extractStridedSlice ⟨4, Matrix.vecCons 1 e⟩ o2 v p2) q2)
      (shapeCast ⟨3, e⟩ (extractStridedSlice ⟨4, Matrix.vecCons 1 e⟩ o0 v p0) q0)))
      (fun x => gradK1 n (fun q => D c q (x 1) (x 2)) (8 * it + x 0)) := by
  refine ((Reads.const hk).mulf ((hv.compRow c 0 2 p2 q2 e2).subf (hv.compRow c 0 0 p0 q0 e0))).congr fun x _ => ?_
  show half * (ext1 n (fun q => D c q (x 1) (x 2)) (8 * it + (2 + x 0)) - ext1 n (fun q => D c q (x 1) (x 2)) (8 * it + (0 + x 0))) = _
  rw [gradK1, show 8 * it + (2 + x 0) = 8 * it + x 0 + 2 by omega, Nat.zero_add]

/-- The central difference along the rows of a block with its neighbour rows. -/
theorem reads_gradx3 (n it : ℕ) (I : ℕ → ℕ → ℕ → EReal) {d o2 o0 e : Fin 3 → ℕ} {v : FVec Ideal ⟨3, d⟩ .f32} {k : FVec Ideal ⟨3, e⟩ .f32}
    (hv : Reads v (fun x => ext1 n (fun q => I q (x 1) (x 2)) (8 * it + x 0)))
    {p2 : Shape.Slices ⟨3, d⟩ o2 ⟨3, e⟩} {p0 : Shape.Slices ⟨3, d⟩ o0 ⟨3, e⟩} (hk : ∀ i, k i = half)
    (e2 : ∀ b, o2 b = if b = 0 then 2 else 0) (e0 : ∀ b, o0 b = if b = 0 then 0 else 0) :
    Reads (sz := e) (mulf k (subf (extractStridedSlice ⟨3, e⟩ o2 v p2) (extractStridedSlice ⟨3, e⟩ o0 v p0)))
      (fun x => gradK1 n (fun q => I q (x 1) (x 2)) (8 * it + x 0)) := by
  refine ((Reads.const hk).mulf ((hv.slice1 0 2 p2 e2).subf (hv.slice1 0 0 p0 e0))).congr fun x _ => ?_
  show half * (ext1 n (fun q => I q (x 1) (x 2)) (8 * it + (2 + x 0)) - ext1 n (fun q => I q (x 1) (x 2)) (8 * it + (0 + x 0))) = _
  rw [gradK1, show 8 * it + (2 + x 0) = 8 * it + x 0 + 2 by omega, Nat.zero_add]

/-- The density of a point from the readings of its factors. -/
theorem reads_dens {sz : Fin 3 → ℕ} {s exx eyy ezz exy exz eyz : FVec Ideal ⟨3, sz⟩ .f32} {c1 c2 c3 c4 c5 c6 c7 c8 c9 ca cb cc : FVec Ideal ⟨3, sz⟩ .f32}
    {fs fxx fyy fzz fxy fxz fyz : (Fin 3 → ℕ) → EReal}
    (hs : Reads s fs) (hxx : Reads exx fxx) (hyy : Reads eyy fyy) (hzz : Reads ezz fzz) (hxy : Reads exy fxy) (hxz : Reads exz fxz) (hyz : Reads eyz fyz)
    (k1 : ∀ i, c1 i = Ideal.ofBits .f32 0x3F800000#32) (k2 : ∀ i, c2 i = Ideal.ofBits .f32 0x40A00000#32) (k3 : ∀ i, c3 i = half)
    (k4 : ∀ i, c4 i = Ideal.ofBits .f32 0x41200000#32) (k5 : ∀ i, c5 i = Ideal.ofBits .f32 0x3DCCCCCD#32)
    (k6 : ∀ i, c6 i = Ideal.ofBits .f32 0x3F800000#32) (k7 : ∀ i, c7 i = two)
    (k8 : ∀ i, c8 i = Ideal.ofBits .f32 0x41200000#32) (k9 : ∀ i, c9 i = Ideal.ofBits .f32 0x3DCCCCCD#32)
    (ka : ∀ i, ca i = half) (kb : ∀ i, cb i = Ideal.ofBits .f32 0x3F800000#32) (kc : ∀ i, cc i = two) :
    Reads (mulf (addf c1 (mulf c2 s))
        (addf (mulf (mulf (mulf c3 (minimumf c4 (maximumf c5 (addf c6 (mulf c7 s))))) (addf (addf exx eyy) ezz)) (addf (addf exx eyy) ezz))
          (mulf (minimumf c8 (maximumf c9 (addf ca (mulf cb s))))
            (addf (addf (addf (mulf exx exx) (mulf eyy eyy)) (mulf ezz ezz))
              (mulf cc (addf (addf (mulf exy exy) (mulf exz exz)) (mulf eyz eyz)))))))
      (fun x => densK (fs x) (fxx x) (fyy x) (fzz x) (fxy x) (fxz x) (fyz x)) :=
  have tr := (hxx.addf hyy).addf hzz
  ((Reads.const k1).addf ((Reads.const k2).mulf hs)).mulf
    (((((Reads.const k3).mulf ((Reads.const k4).minimumf ((Reads.const k5).maximumf ((Reads.const k6).addf ((Reads.const k7).mulf hs))))).mulf tr).mulf tr).addf
      (((Reads.const k8).minimumf ((Reads.const k9).maximumf ((Reads.const ka).addf ((Reads.const kb).mulf hs)))).mulf
        ((((hxx.mulf hxx).addf (hyy.mulf hyy)).addf (hzz.mulf hzz)).addf
          ((Reads.const kc).mulf (((hxy.mulf hxy).addf (hxz.mulf hxz)).addf (hyz.mulf hyz))))))

end Cert.Elastic

end
-- ==== Proof.Algebra.lean ====
/- The two forms of the loss agree: the differences at the first axis' ends, the order of the blurs, the blocks of the sum. -/
module

public import proofs.«01_k».proof.Proof.Block
public import Idealize.ShloMosaic.Lib.IdealHost
public import Mathlib.Data.EReal.Operations

@[expose] public section

noncomputable section

namespace Cert.Elastic

open Idealize.ShloMosaic
open scoped BigOperators

theorem half_eq : half = ((1 / 2 : ℝ) : EReal) := by
  simp [half, Ideal.ofBits, Ideal.ieee, -EReal.coe_mul]
  try norm_num

theorem two_eq : two = ((2 : ℝ) : EReal) := by
  simp [two, Ideal.ofBits, Ideal.ieee, -EReal.coe_mul]
  try norm_num

/-- Each literal of the blur is a nonnegative real. -/
theorem tap_real (k : ℕ) : ∃ r : ℝ, 0 ≤ r ∧ tap k = (r : EReal) := by
  unfold tap
  split
  · exact ⟨9498102 * (2 ^ 27)⁻¹, by positivity, by simp [Ideal.ofBits, Ideal.ieee, -EReal.coe_mul]⟩
  · split
    · exact ⟨16405460 * (2 ^ 26)⁻¹, by positivity, by simp [Ideal.ofBits, Ideal.ieee, -EReal.coe_mul]⟩
    · exact ⟨12399922 * (2 ^ 25)⁻¹, by positivity, by simp [Ideal.ofBits, Ideal.ieee, -EReal.coe_mul]⟩

/-- Equal, or both infinite. -/
def Alike (a b : EReal) : Prop := a = b ∨ ((a = ⊤ ∨ a = ⊥) ∧ (b = ⊤ ∨ b = ⊥))

theorem Alike.refl (a : EReal) : Alike a a := .inl rfl

theorem Alike.sq {a b : EReal} (h : Alike a b) : a * a = b * b := by
  rcases h with rfl | ⟨h1 | h1, h2 | h2⟩ <;> first | rfl | (subst h1 h2; simp)

theorem inf_add {a : EReal} (h : a = ⊤ ∨ a = ⊥) (b : EReal) : a + b = ⊤ ∨ a + b = ⊥ := by
  rcases h with rfl | rfl
  · induction b using EReal.rec <;> simp
  · simp

theorem Alike.add {a b c d : EReal} (h : Alike a b) (h' : Alike c d) : Alike (a + c) (b + d) := by
  rcases h with rfl | ⟨h1, h2⟩
  · rcases h' with rfl | ⟨h3, h4⟩
    · exact .inl rfl
    · rw [add_comm a c, add_comm a d]; exact .inr ⟨inf_add h3 _, inf_add h4 _⟩
  · exact .inr ⟨inf_add h1 _, inf_add h2 _⟩

theorem Alike.half {a b : EReal} (h : Alike a b) : Alike (half * a) (half * b) := by
  rcases h with rfl | ⟨h1, h2⟩
  · exact .inl rfl
  · refine .inr ⟨?_, ?_⟩
    · rcases h1 with rfl | rfl
      · left; rw [half_eq]; exact EReal.coe_mul_top_of_pos (by norm_num)
      · right; rw [half_eq]; exact EReal.coe_mul_bot_of_pos (by norm_num)
    · rcases h2 with rfl | rfl
      · left; rw [half_eq]; exact EReal.coe_mul_top_of_pos (by norm_num)
      · right; rw [half_eq]; exact EReal.coe_mul_bot_of_pos (by norm_num)

theorem two_top : ((2 : ℝ) : EReal) * ⊤ = ⊤ := EReal.coe_mul_top_of_pos (by norm_num)
theorem two_bot : ((2 : ℝ) : EReal) * ⊥ = ⊥ := EReal.coe_mul_bot_of_pos (by norm_num)
theorem half_top : ((1 / 2 : ℝ) : EReal) * ⊤ = ⊤ := EReal.coe_mul_top_of_pos (by norm_num)
theorem half_bot : ((1 / 2 : ℝ) : EReal) * ⊥ = ⊥ := EReal.coe_mul_bot_of_pos (by norm_num)

/-- The first end: the difference of the continued row is the one-sided difference, or both are infinite. -/
theorem end0 (a b : EReal) : Alike (half * (b - (two * a - b))) (b - a) := by
  rw [half_eq, two_eq]
  induction a using EReal.rec <;> induction b using EReal.rec
  case coe.coe a b =>
    left
    rw [← EReal.coe_mul, ← EReal.coe_sub, ← EReal.coe_sub, ← EReal.coe_mul, ← EReal.coe_sub]
    congr 1; ring
  all_goals (first | rw [two_top] | rw [two_bot] | rw [← EReal.coe_mul]) <;> right <;> simp [sub_eq_add_neg, half_top, half_bot, -one_div, -EReal.coe_mul]

/-- The last end, likewise. -/
theorem end1 (a b : EReal) : Alike (half * ((two * a - b) - b)) (a - b) := by
  rw [half_eq, two_eq]
  induction a using EReal.rec <;> induction b using EReal.rec
  case coe.coe a b =>
    left
    rw [← EReal.coe_mul, ← EReal.coe_sub, ← EReal.coe_sub, ← EReal.coe_mul, ← EReal.coe_sub]
    congr 1; ring
  all_goals (first | rw [two_top] | rw [two_bot] | rw [← EReal.coe_mul]) <;> right <;> simp [sub_eq_add_neg, half_top, half_bot, -one_div, -EReal.coe_mul]

theorem grad_alike (n : ℕ) (hn : 3 ≤ n) (g : ℕ → EReal) (p : ℕ) (hp : p < n) : Alike (gradK1 n g p) (grad1 n g p) := by
  unfold gradK1 grad1 ext1
  by_cases h0 : p = 0
  · subst h0
    have := end0 (g 0) (g 1)
    rw [if_pos rfl, if_pos rfl, if_neg (by omega), if_neg (by omega)]
    exact this
  · by_cases h1 : p = n - 1
    · subst h1
      have := end1 (g (n - 1)) (g (n - 2))
      rw [if_neg h0, if_pos rfl, if_neg (by omega), if_pos (by omega), if_neg (by omega), if_neg (by omega)]
      exact this
    · rw [if_neg h0, if_neg h1, if_neg (by omega), if_neg (by omega), if_neg (by omega), if_neg (by omega)]
      exact Alike.refl _

/-- The reference's gradient magnitude. -/
def magR (n : ℕ) (I : ℕ → ℕ → ℕ → EReal) (i j k : ℕ) : EReal :=
  Ideal.sqrt (grad1 n (fun q => I q j k) i * grad1 n (fun q => I q j k) i + grad1 n (fun q => I i q k) j * grad1 n (fun q => I i q k) j
    + grad1 n (fun q => I i j q) k * grad1 n (fun q => I i j q) k)

theorem mag_eq (n : ℕ) (hn : 3 ≤ n) (I : ℕ → ℕ → ℕ → EReal) (i j k : ℕ) (hi : i < n) : magK n I i j k = magR n I i j k := by
  unfold magK magR
  rw [(grad_alike n hn _ i hi).sq]

/-- A nonnegative real distributes over a sum of five. -/
theorem taps_sum (g : ℕ → EReal) (p : ℕ) : taps5 g p = ∑ t ∈ Finset.range 5, tap t * g (p + t) := by
  simp [taps5, Finset.sum_range_succ]

theorem mul_sum5 (c : EReal) (hc : ∃ r : ℝ, 0 ≤ r ∧ c = (r : EReal)) (m : ℕ) (g : ℕ → EReal) :
    c * ∑ t ∈ Finset.range m, g t = ∑ t ∈ Finset.range m, c * g t := by
  obtain ⟨r, h0, rfl⟩ := hc
  induction m with
  | zero => simp
  | succ m ih =>
    rw [Finset.sum_range_succ, Finset.sum_range_succ, ← ih]
    exact EReal.left_distrib_of_nonneg_of_ne_top (by exact_mod_cast h0) (EReal.coe_ne_top r) _ _

/-- Blurs along two axes commute. -/
theorem blur_comm (n : ℕ) (F : ℕ → ℕ → EReal) (i j : ℕ) :
    blur1 n (fun p => blur1 n (fun q => F p q) j) i = blur1 n (fun q => blur1 n (fun p => F p q) i) j := by
  simp only [blur1, taps_sum]
  rw [Finset.sum_congr rfl fun t _ => mul_sum5 _ (tap_real t) _ _, Finset.sum_comm,
    Finset.sum_congr rfl fun t _ => (mul_sum5 _ (tap_real t) 5 _)]
  refine Finset.sum_congr rfl fun t _ => Finset.sum_congr rfl fun s _ => ?_
  rw [mul_left_comm]

/-- The reference's smoothing: the first axis first. -/
def smoothR (n : ℕ) (G : ℕ → ℕ → ℕ → EReal) (i j k : ℕ) : EReal :=
  blur1 n (fun r => blur1 n (fun q => blur1 n (fun p => G p q r) i) j) k

theorem smooth_eq (n : ℕ) (G : ℕ → ℕ → ℕ → EReal) (i j k : ℕ) : smoothK n G i j k = smoothR n G i j k := by
  unfold smoothK smoothR
  rw [blur_comm n (fun p q => blur1 n (fun r => G p q r) k) i j]
  have e : ∀ q, blur1 n (fun p => blur1 n (fun r => G p q r) k) i = blur1 n (fun r => blur1 n (fun p => G p q r) i) k :=
    fun q => blur_comm n (fun p r => G p q r) i k
  simp only [e]
  exact blur_comm n (fun q r => blur1 n (fun p => G p q r) i) j k

/-- A blur reads its row inside the axis only. -/
theorem blur_congr (n : ℕ) (hn : 3 ≤ n) (g g' : ℕ → EReal) (h : ∀ q, q < n → g q = g' q) (p : ℕ) (hp : p < n) :
    blur1 n g p = blur1 n g' p := by
  have r : ∀ q, q < n + 4 → refl n q < n := by intro q hq; unfold refl; split <;> [skip; split] <;> omega
  simp only [blur1, taps5]
  rw [h _ (r p (by omega)), h _ (r (p + 1) (by omega)), h _ (r (p + 2) (by omega)), h _ (r (p + 3) (by omega)), h _ (r (p + 4) (by omega))]

/-- The density as the reference writes it. -/
def densR (s exx eyy ezz exy exz eyz : EReal) : EReal :=
  (Ideal.ofBits .f32 0x3F800000#32 + Ideal.ofBits .f32 0x40A00000#32 * s) *
    (half * min (Ideal.ofBits .f32 0x41200000#32) (max (Ideal.ofBits .f32 0x3DCCCCCD#32) (Ideal.ofBits .f32 0x3F800000#32 + two * s)) *
        ((exx + eyy + ezz) * (exx + eyy + ezz)) +
      min (Ideal.ofBits .f32 0x41200000#32) (max (Ideal.ofBits .f32 0x3DCCCCCD#32) (half + Ideal.ofBits .f32 0x3F800000#32 * s)) *
        (exx * exx + eyy * eyy + ezz * ezz + two * (exy * exy + exz * exz + eyz * eyz)))

theorem dens_eq {s s' a1 a2 a3 a4 a5 a6 b1 b2 b3 b4 b5 b6 : EReal} (hs : s = s') (h1 : Alike a1 b1) (h2 : Alike a2 b2) (h3 : Alike a3 b3)
    (h4 : Alike a4 b4) (h5 : Alike a5 b5) (h6 : Alike a6 b6) : densK s a1 a2 a3 a4 a5 a6 = densR s' b1 b2 b3 b4 b5 b6 := by
  subst hs
  unfold densK densR
  rw [mul_assoc (half * _) _ _, ((h1.add h2).add h3).sq, h1.sq, h2.sq, h3.sq, h4.sq, h5.sq, h6.sq]

/-- The reference's density at a point. -/
def pointR (n : ℕ) (D : ℕ → ℕ → ℕ → ℕ → EReal) (I : ℕ → ℕ → ℕ → EReal) (i j k : ℕ) : EReal :=
  densR (smoothR n (magR n I) i j k) (grad1 n (fun q => D 0 q j k) i) (grad1 n (fun q => D 1 i q k) j) (grad1 n (fun q => D 2 i j q) k)
    (half * (grad1 n (fun q => D 0 i q k) j + grad1 n (fun q => D 1 q j k) i))
    (half * (grad1 n (fun q => D 0 i j q) k + grad1 n (fun q => D 2 q j k) i))
    (half * (grad1 n (fun q => D 1 i j q) k + grad1 n (fun q => D 2 i q k) j))

theorem smooth_congr (n : ℕ) (hn : 3 ≤ n) (G G' : ℕ → ℕ → ℕ → EReal) (h : ∀ i j k, i < n → j < n → k < n → G i j k = G' i j k)
    (i j k : ℕ) (hi : i < n) (hj : j < n) (hk : k < n) : smoothR n G i j k = smoothR n G' i j k :=
  blur_congr n hn _ _ (fun r hr => blur_congr n hn _ _ (fun q hq => blur_congr n hn _ _ (fun p hp => h p q r hp hq hr) i hi) j hj) k hk

theorem point_eq (n : ℕ) (hn : 3 ≤ n) (D : ℕ → ℕ → ℕ → ℕ → EReal) (I : ℕ → ℕ → ℕ → EReal) (i j k : ℕ)
    (hi : i < n) (hj : j < n) (hk : k < n) : pointK n D (magK n I) i j k = pointR n D I i j k := by
  unfold pointK pointR
  refine dens_eq ?_ (grad_alike n hn _ i hi) (.refl _) (.refl _) ((Alike.refl _).add (grad_alike n hn _ i hi)).half
    ((Alike.refl _).add (grad_alike n hn _ i hi)).half (.refl _)
  rw [smooth_eq]
  exact smooth_congr n hn _ _ (fun a b c ha hb hc => mag_eq n hn I a b c ha) i j k hi hj hk

theorem sum_blocks (T : ℕ) (f : ℕ → EReal) :
    ∑ it ∈ Finset.range T, ∑ p ∈ Finset.range 8, f (8 * it + p) = ∑ i ∈ Finset.range (8 * T), f i := by
  induction T with
  | zero => simp
  | succ T ih => rw [Finset.sum_range_succ, ih, show 8 * (T + 1) = 8 * T + 8 by ring, Finset.sum_range_add]

/-- The blocks' sums add up to the sum over all points. -/
theorem total_eq (n T : ℕ) (hn : 3 ≤ n) (hT : 8 * T = n) (D : ℕ → ℕ → ℕ → ℕ → EReal) (I : ℕ → ℕ → ℕ → EReal) :
    ∑ it ∈ Finset.range T, blockSum n D (magK n I) it
      = ∑ i ∈ Finset.range n, ∑ j ∈ Finset.range n, ∑ k ∈ Finset.range n, pointR n D I i j k := by
  unfold blockSum
  rw [sum_blocks T fun i => ∑ q ∈ Finset.range n, ∑ r ∈ Finset.range n, pointK n D (magK n I) i q r, hT]
  refine Finset.sum_congr rfl fun i hi => Finset.sum_congr rfl fun j hj => Finset.sum_congr rfl fun k hk => ?_
  exact point_eq n hn D I i j k (Finset.mem_range.mp hi) (Finset.mem_range.mp hj) (Finset.mem_range.mp hk)

end Cert.Elastic

end
-- ==== Proof.Resize.lean ====
/- Linear interpolation along an axis: by a matrix product, and by two neighbours and their weights. -/
module

public import proofs.«01_k».proof.Proof.Stages
public import Idealize.ShloMosaic.Lib.ValueIdxCore
public import Idealize.ShloMosaic.Lib.IdealHost
public import Mathlib.Data.EReal.Operations

@[expose] public section

set_option maxRecDepth 16384

noncomputable section

namespace Cert.Elastic

open Idealize.ShloMosaic
open scoped BigOperators

/-- The position below a coordinate. -/
def lo (c : EReal) : BitVec 32 := Ideal.fptosi 32 (Ideal.liftRound Int.floor c)
/-- The position above it, no further than the last. -/
def hi (n : ℕ) (c : EReal) : BitVec 32 := IntOp.minsi (IntOp.addi (lo c) 1#32) (BitVec.ofNat 32 (n - 1))
/-- The weight of the position above. -/
def wt (c : EReal) : EReal := c - (((lo c).toInt : ℝ) : EReal)
/-- A position held inside the axis. -/
def inside (n : ℕ) (b : BitVec 32) : ℕ := min b.toInt.toNat (n - 1)
/-- One or zero. -/
def ind (p : Prop) [Decidable p] : EReal := if p then 1 else 0
/-- The interpolation of `g` at a coordinate. -/
def lerp (n : ℕ) (c : EReal) (g : ℕ → EReal) : EReal :=
  g (inside n (lo c)) * (1 - wt c) + g (inside n (hi n c)) * wt c
/-- The row of the interpolation matrix for a coordinate. -/
def lerpM (n : ℕ) (c : EReal) (q : ℕ) : EReal :=
  (1 - wt c) * ind (BitVec.ofNat 32 q = lo c) + wt c * ind (BitVec.ofNat 32 q = hi n c)

/-- A coordinate inside the axis: its whole part and its weight. -/
theorem lo_real {n : ℕ} (hn : n ≤ 1000) (r : ℝ) (h0 : 0 ≤ r) (h1 : r < n) :
    ∃ m : ℕ, m < n ∧ lo (r : EReal) = BitVec.ofNat 32 m ∧ (lo (r : EReal)).toInt = m ∧ (m : ℝ) ≤ r ∧ r < m + 1 := by
  have hf0 : 0 ≤ ⌊r⌋ := Int.floor_nonneg.mpr h0
  obtain ⟨m, hm⟩ := Int.eq_ofNat_of_zero_le hf0
  have hle : (m : ℝ) ≤ r := by have := Int.floor_le r; rw [hm] at this; simpa using this
  have hlt : r < m + 1 := by have := Int.lt_floor_add_one r; rw [hm] at this; simpa using this
  have hmn : m < n := by have : (m : ℝ) < n := lt_of_le_of_lt hle h1; exact_mod_cast this
  have e : lo (r : EReal) = BitVec.ofNat 32 m := by
    have hfl : ⌊((m : ℤ) : ℝ)⌋ = (m : ℤ) := Int.floor_intCast _
    unfold lo Ideal.fptosi
    rw [Ideal.liftRound_coe, hm, Ideal.toIntClamped_coe, if_pos (by positivity), hfl]
    have : max (-((2 ^ (32 - 1) : ℕ) : ℤ)) (min (((2 ^ (32 - 1) : ℕ) : ℤ) - 1) (m : ℤ)) = (m : ℤ) := by
      norm_num; omega
    rw [this]; exact BitVec.ofInt_natCast 32 m
  refine ⟨m, hmn, e, ?_, hle, hlt⟩
  rw [e, BitVec.toInt_eq_toNat_bmod, BitVec.toNat_ofNat]
  simp only [Int.bmod]; omega

theorem toInt_small {m : ℕ} (h : m ≤ 1000) : (BitVec.ofNat 32 m).toInt = m := by
  rw [BitVec.toInt_eq_toNat_bmod, BitVec.toNat_ofNat]; simp only [Int.bmod]; omega

theorem hi_small {n m : ℕ} (hn : n ≤ 1000) (hm : m < n) (c : EReal) (e : lo c = BitVec.ofNat 32 m) :
    hi n c = BitVec.ofNat 32 (min (m + 1) (n - 1)) := by
  have a : IntOp.addi (BitVec.ofNat 32 m) 1#32 = BitVec.ofNat 32 (m + 1) := by
    simp only [IntOp.addi]; rw [BitVec.ofNat_add]
  unfold hi; rw [e, a]; unfold IntOp.minsi
  simp only [BitVec.slt, toInt_small (show m + 1 ≤ 1000 by omega), toInt_small (show n - 1 ≤ 1000 by omega)]
  by_cases c : m + 1 < n - 1
  · rw [if_pos (by simpa using by omega), min_eq_left (by omega)]
  · rw [if_neg (by simpa using by omega), min_eq_right (by omega)]

theorem ofNat_inj {n a b : ℕ} (hn : n ≤ 1000) (ha : a < n) (hb : b < n) : (BitVec.ofNat 32 a = BitVec.ofNat 32 b) ↔ a = b := by
  constructor
  · intro h
    have := congrArg BitVec.toNat h
    simp only [BitVec.toNat_ofNat] at this; omega
  · rintro rfl; rfl

theorem sum_ind {n : ℕ} (w : EReal) (g : ℕ → EReal) (m : ℕ) (hm : m < n) (hn : n ≤ 1000) :
    ∑ q : Fin n, w * ind (BitVec.ofNat 32 q.val = BitVec.ofNat 32 m) * g q.val = w * g m := by
  rw [Finset.sum_eq_single (⟨m, hm⟩ : Fin n)]
  · simp [ind]
  · intro b _ hb
    have : ¬ b.val = m := fun h => hb (Fin.ext h)
    simp only [ind, ofNat_inj hn b.isLt hm, if_neg this, mul_zero, zero_mul]
  · intro h; exact absurd (Finset.mem_univ _) h

/-- A row of the matrix against a vector is the interpolation. -/
theorem lerp_sum {n : ℕ} (hn : n ≤ 1000) (c : EReal) (r : ℝ) (hc : c = r) (h0 : 0 ≤ r) (h1 : r < n) (g : ℕ → EReal) :
    ∑ q : Fin n, lerpM n c q.val * g q.val = lerp n c g := by
  subst hc
  obtain ⟨m, hm, e, ei, hle, hlt⟩ := lo_real hn r h0 h1
  have eh := hi_small hn hm _ e
  have ew : wt (r : EReal) = ((r - m : ℝ) : EReal) := by
    unfold wt; rw [ei]; rw [EReal.coe_sub]; simp
  have w0 : 0 ≤ wt (r : EReal) := by rw [ew]; exact_mod_cast sub_nonneg.mpr hle
  have w1 : (0 : EReal) ≤ 1 - wt (r : EReal) := by
    rw [ew, ← EReal.coe_one, ← EReal.coe_sub]; exact_mod_cast (by linarith : (0 : ℝ) ≤ 1 - (r - m))
  have i0 : ∀ (p : Prop) [Decidable p], (0 : EReal) ≤ ind p := fun p _ => by unfold ind; split <;> norm_num
  have step : ∀ q : Fin n, lerpM n (r : EReal) q.val * g q.val
      = (1 - wt (r : EReal)) * ind (BitVec.ofNat 32 q.val = BitVec.ofNat 32 m) * g q.val
        + wt (r : EReal) * ind (BitVec.ofNat 32 q.val = BitVec.ofNat 32 (min (m + 1) (n - 1))) * g q.val := by
    intro q
    unfold lerpM
    rw [e, eh, EReal.right_distrib_of_nonneg (mul_nonneg w1 (i0 _)) (mul_nonneg w0 (i0 _))]
  rw [Finset.sum_congr rfl fun q _ => step q, Finset.sum_add_distrib, sum_ind _ g m hm hn,
    sum_ind _ g (min (m + 1) (n - 1)) (by omega) hn]
  unfold lerp inside
  rw [e, eh, toInt_small (by omega), toInt_small (by omega), mul_comm, mul_comm (wt _)]
  have a1 : min ((m : ℤ).toNat) (n - 1) = m := by omega
  have a2 : min (((min (m + 1) (n - 1) : ℕ) : ℤ).toNat) (n - 1) = min (m + 1) (n - 1) := by omega
  rw [a1, a2]

/-- The matrix the small call writes. -/
theorem reads_interp {n m : ℕ} {v : FVec Ideal ⟨2, ![m, 1]⟩ .f32} {f : ℕ → EReal} (hv : Reads (sz := ![m, 1]) v (fun x => f (x 0)))
    (hm : m ≠ 1) (hi0 : Shape.Iotas (⟨2, ![m, n]⟩ : Shape) .tc 32 [1]) (hb : Shape.Broadcasts ⟨2, ![m, 1]⟩ ⟨2, ![m, n]⟩) (h132 : 1 < 32)
    (c0 : IVec ⟨2, ![m, 1]⟩ 32) (hc0 : ∀ i, c0 i = 1#32) (c1 : IVec ⟨2, ![m, 1]⟩ 32) (hc1 : ∀ i, c1 i = BitVec.ofNat 32 (n - 1))
    (c2 : FVec Ideal ⟨2, ![m, 1]⟩ .f32) (hc2 : ∀ i, c2 i = 1) :
    Reads (sz := ![m, n]) (addf
      (mulf (broadcastTo ⟨2, ![m, n]⟩ (subf c2 (subf v (sitofp .f32 (fptosi 32 (floor v))))) hb)
        (sitofp .f32 (extui 32 (cmpi .eq (iota .tc ⟨2, ![m, n]⟩ 32 [1] hi0) (broadcastTo ⟨2, ![m, n]⟩ (fptosi 32 (floor v)) hb)) h132)))
      (mulf (broadcastTo ⟨2, ![m, n]⟩ (subf v (sitofp .f32 (fptosi 32 (floor v)))) hb)
        (sitofp .f32 (extui 32 (cmpi .eq (iota .tc ⟨2, ![m, n]⟩ 32 [1] hi0)
          (broadcastTo ⟨2, ![m, n]⟩ (minsi (addi (fptosi 32 (floor v)) c0) c1) hb)) h132))))
      (fun x => lerpM n (f (x 0)) (x 1)) := by
  refine Reads.of_forall fun j => ?_
  obtain ⟨k, hk, hb1, hb2⟩ : ∃ k : (⟨2, ![m, 1]⟩ : Shape).Idx, (k 0).val = (j 0).val
      ∧ (∀ w : FVec Ideal ⟨2, ![m, 1]⟩ .f32, broadcastTo ⟨2, ![m, n]⟩ w hb j = w k)
      ∧ (∀ w : IVec ⟨2, ![m, 1]⟩ 32, broadcastTo ⟨2, ![m, n]⟩ w hb j = w k) := by
    have hb' : ∀ {α : Type} (w : (⟨2, ![m, 1]⟩ : Shape).Idx → α), broadcastTo ⟨2, ![m, n]⟩ w hb j
        = w (fun a => match a with | ⟨0, _⟩ => ⟨(j 0).val, (j 0).isLt⟩ | ⟨1, _⟩ => ⟨0, Nat.one_pos⟩) := by
      intro α w
      refine broadcastTo_apply w hb j _ (fun a => ?_)
      match a with
      | ⟨0, _⟩ => exact (if_neg (show ¬ (![m, 1] 0 = 1) from hm)).symm
      | ⟨1, _⟩ => exact (if_pos rfl).symm
    exact ⟨_, rfl, hb', hb'⟩
  have hv' : v k = f (j 0).val := (hv.at k).trans (congrArg f hk)
  have hs : ∀ a b : BitVec 32, FloatOps.sitofp (F := Ideal) .f32 ((IntOp.cmpi .eq a b).setWidth 32) = ind (a = b) := by
    intro a b
    unfold ind
    by_cases h : a = b
    · have e : (IntOp.cmpi .eq a b).setWidth 32 = 1#32 := by simp [IntOp.cmpi, h]
      rw [e, if_pos h]
      exact (show (((1#32 : BitVec 32).toInt : ℝ) : EReal) = 1 by norm_num)
    · have e : (IntOp.cmpi .eq a b).setWidth 32 = 0#32 := by
        have : (a == b) = false := by simpa using h
        simp [IntOp.cmpi, this]
      rw [e, if_neg h]
      exact (show (((0#32 : BitVec 32).toInt : ℝ) : EReal) = 0 by norm_num)
  simp only [pointwise, hb1, hb2, hv', hc0, hc1, hc2, hs]
  have e1 : List.foldl (fun (t : ℕ) (a : Fin 2) => t * ![m, n] a + (j a).val) 0 [1] = (j 1).val := by simp
  rw [e1]
  rfl

variable {sl sr so : Shape}

/-- A product that contracts one axis, at coordinates. -/
theorem dot_at (d : DotDims sl sr so) (K : ℕ) (hr : d.contr.rank = 1) (hs : d.contr.size ⟨0, by omega⟩ = K)
    (prec : Option ContractPrecision) (L : FVec Ideal sl .f32) (R : FVec Ideal sr .f32) (j : so.Idx) (t : ℕ → EReal)
    (e : ∀ q : d.contr.Idx, L (d.lhsIdx j q) * R (d.rhsIdx j q) = t (q ⟨0, by omega⟩).val) :
    Host.dotGeneral d prec L R j = ∑ q : Fin K, t q.val := by
  refine (Ideal.dotGeneral_apply d prec _ L R j).trans ?_
  rw [← Equiv.sum_comp (ValueIdx.contrEquiv1 d K hr hs).symm]
  refine Finset.sum_congr rfl fun q _ => (e _).trans ?_
  rw [ValueIdx.contrEquiv1_symm_val]

end Cert.Elastic

end
-- ==== Proof.HostStages.lean ====
/- Host stages at coordinates: one component of a field, the gather along an axis, the mean's sum. -/
module

public import proofs.«01_k».proof.Proof.Algebra
public import proofs.«01_k».proof.Proof.Resize

@[expose] public section

set_option maxRecDepth 16384

noncomputable section

namespace Cert.Elastic

open Idealize.ShloMosaic
open scoped BigOperators

section
variable {α : Type} {a m n1 n2 n3 : ℕ}

/-- Dropping an axis of one behind the batch. -/
theorem Reads.drop1 {v : (⟨5, ![a, 1, n1, n2, n3]⟩ : Shape).Idx → α} {f : (Fin 5 → ℕ) → α} (hv : Reads (sz := ![a, 1, n1, n2, n3]) v f)
    (h' : (⟨5, ![a, 1, n1, n2, n3]⟩ : Shape).ShapeCasts ⟨4, ![a, n1, n2, n3]⟩) :
    Reads (sz := ![a, n1, n2, n3]) (shapeCast ⟨4, ![a, n1, n2, n3]⟩ v h') (fun x => f ![x 0, 0, x 1, x 2, x 3]) := by
  intro x hx
  have hy : ∀ b : Fin 5, (![x 0, 0, x 1, x 2, x 3] : Fin 5 → ℕ) b < (![a, 1, n1, n2, n3] : Fin 5 → ℕ) b := by
    intro b
    fin_cases b
    · exact hx 0
    · exact Nat.one_pos
    · exact hx 1
    · exact hx 2
    · exact hx 3
  refine (shapeCast_apply v h' _ (fun b => ⟨(![x 0, 0, x 1, x 2, x 3] : Fin 5 → ℕ) b, hy b⟩) ?_).trans (hv _ hy)
  rw [Shape.rowMajor_val_five, Shape.rowMajor_val_four]
  show (((x 0 * 1 + 0) * n1 + x 1) * n2 + x 2) * n3 + x 3 = ((x 0 * n1 + x 1) * n2 + x 2) * n3 + x 3
  simp

/-- One component. -/
theorem Reads.pick (c : ℕ) {off : Fin 5 → ℕ} {v : (⟨5, ![a, m, n1, n2, n3]⟩ : Shape).Idx → α} {f : (Fin 5 → ℕ) → α}
    (hv : Reads (sz := ![a, m, n1, n2, n3]) v f) (h : Shape.Slices ⟨5, ![a, m, n1, n2, n3]⟩ off ⟨5, ![a, 1, n1, n2, n3]⟩)
    (h' : (⟨5, ![a, 1, n1, n2, n3]⟩ : Shape).ShapeCasts ⟨4, ![a, n1, n2, n3]⟩) (hoff : ∀ b, off b = if b = 1 then c else 0) :
    Reads (sz := ![a, n1, n2, n3]) (shapeCast ⟨4, ![a, n1, n2, n3]⟩ (extractStridedSlice ⟨5, ![a, 1, n1, n2, n3]⟩ off v h) h')
      (fun x => f ![x 0, c, x 1, x 2, x 3]) := by
  refine ((hv.slice h).drop1 h').congr fun x _ => congrArg f (funext fun b => ?_)
  rw [hoff b]
  fin_cases b <;> simp

/-- A gather along axis `k`: whole slices elsewhere, the start index held inside the axis. -/
theorem reads_take (k : Fin 5) (n o : ℕ) {s t : Fin 5 → ℕ} {d : GatherDims ⟨5, s⟩ ⟨2, ![o, 1]⟩ ⟨5, t⟩} {v : (⟨5, s⟩ : Shape).Idx → α}
    {f : (Fin 5 → ℕ) → α} (hv : Reads (sz := s) v f) {idx : IVec ⟨2, ![o, 1]⟩ 32} {g : ℕ → BitVec 32}
    (hi : Reads (sz := ![o, 1]) idx (fun x => g (x 0)))
    (hd : ∀ (j : (⟨5, t⟩ : Shape).Idx) (b : Fin 5), (d.operandIdx j idx b).val = if b = k then inside n (g (j k).val) else (j b).val) :
    Reads (sz := t) (Host.gather d v idx) (fun x => f (Function.update x k (inside n (g (x k))))) := by
  refine Reads.of_forall fun j => ?_
  unfold Host.gather
  refine (hv.at _).trans (congrArg f (funext fun b => ?_))
  refine (hd j b).trans ?_
  by_cases hb : b = k
  · subst hb; simp
  · simp [hb]

end

/-- The sum of everything, read over the four axes, is the sum of the blocks. -/
theorem whole_sum (n T : ℕ) (hn : 3 ≤ n) (hT : 8 * T = n) (D : ℕ → ℕ → ℕ → ℕ → ℕ → EReal) (I : ℕ → ℕ → ℕ → ℕ → EReal)
    {v : (⟨4, ![2, n, n, n]⟩ : Shape).Idx → EReal} (hv : Reads (sz := ![2, n, n, n]) v (fun x => pointR n (D (x 0)) (I (x 0)) (x 1) (x 2) (x 3)))
    {w : (⟨2, ![2, T]⟩ : Shape).Idx → EReal} (hw : Reads (sz := ![2, T]) w (fun x => blockSum n (D (x 0)) (magK n (I (x 0))) (x 1))) :
    ∑ j, w j = ∑ j, v j := by
  rw [hv.sum4, sum_idx2]
  simp only [Finset.sum_range, Matrix.cons_val_zero, Matrix.cons_val_one]
  refine Finset.sum_congr rfl fun b _ => ?_
  have e := total_eq n T hn hT (D b.val) (I b.val)
  simp only [Finset.sum_range] at e
  refine Eq.trans (Finset.sum_congr rfl fun q _ => ?_) e
  exact hw.at _

end Cert.Elastic

end
-- ==== Proof.Take.lean ====
/- The gather of whole slices along one axis of five: the operand's index. -/
module

public import proofs.«01_k».proof.Proof.HostStages

@[expose] public section

set_option maxRecDepth 16384

noncomputable section

namespace Cert.Elastic

open Idealize.ShloMosaic

/-- On an axis with no start index the operand's coordinate is the result's on the paired axis. -/
theorem operand_kept {s si t : Shape} (d : GatherDims s si t) {w : ℕ} (idx : IVec si w) (j : t.Idx) (b : Fin s.rank) (hs : b ∉ d.startIndexMap)
    (hb : b ∉ d.operandBatchingDims) (hk : b ∈ d.sKept) (c : Fin t.rank)
    (hc : d.offsetDims[d.sKept.idxOf b]'(by rw [d.offset_length]; exact List.idxOf_lt_length_iff.2 hk) = c) :
    (d.operandIdx j idx b).val = (j c).val := by
  show d.start j idx b + d.batchCoord j b + d.offCoord j b = _
  rw [GatherDims.batchCoord_eq_zero _ _ _ hb]
  unfold GatherDims.start GatherDims.offCoord
  rw [dif_neg hs, dif_pos hk, hc]
  simp

/-- On the gathered axis it is the start index held inside the axis. -/
theorem operand_taken {s si t : Shape} (d : GatherDims s si t) {w : ℕ} (idx : IVec si w) (j : t.Idx) (b : Fin s.rank) (hs : b ∈ d.startIndexMap)
    (hb : b ∉ d.operandBatchingDims) (hk : b ∉ d.sKept) (n : ℕ) (hn : s.size b - d.sliceSizes b = n - 1) (i : si.Idx)
    (hi : d.siIdx j ⟨d.startIndexMap.idxOf b, List.idxOf_lt_length_iff.2 hs⟩ = i) :
    (d.operandIdx j idx b).val = min (idx i).toInt.toNat (n - 1) := by
  show d.start j idx b + d.batchCoord j b + d.offCoord j b = _
  rw [GatherDims.batchCoord_eq_zero _ _ _ hb, GatherDims.offCoord_eq_zero _ _ _ hk]
  unfold GatherDims.start
  rw [dif_pos hs, hn, hi]
  simp

variable {α : Type} {p0 p1 p2 p3 p4 o : ℕ}

/-- Along axis 2. -/
theorem reads_take2 (wf : GatherDims.WF ⟨5, ![p0, p1, p2, p3, p4]⟩ ⟨2, ![o, 1]⟩ ⟨5, ![p0, p1, o, p3, p4]⟩ [0, 1, 3, 4] [2] [] [2] [] 1 ![p0, p1, 1, p3, p4])
    {v : (⟨5, ![p0, p1, p2, p3, p4]⟩ : Shape).Idx → α} {f : (Fin 5 → ℕ) → α} (hv : Reads (sz := ![p0, p1, p2, p3, p4]) v f) {idx : IVec ⟨2, ![o, 1]⟩ 32} {g : ℕ → BitVec 32}
    (hi : Reads (sz := ![o, 1]) idx (fun x => g (x 0))) :
    Reads (sz := ![p0, p1, o, p3, p4]) (Host.gather (⟨[0, 1, 3, 4], [2], [], [], [2], 1, ![p0, p1, 1, p3, p4], wf⟩ : GatherDims ⟨5, ![p0, p1, p2, p3, p4]⟩ ⟨2, ![o, 1]⟩ ⟨5, ![p0, p1, o, p3, p4]⟩) v idx)
      (fun x => f (Function.update x 2 (inside p2 (g (x 2))))) := by
  refine reads_take 2 p2 o hv hi fun j b => ?_
  fin_cases b
  · exact operand_kept _ idx j 0 (show (0 : Fin 5) ∉ ([2] : List (Fin 5)) by decide) List.not_mem_nil ((GatherDims.mem_sKept _ _).2 ⟨(show (0 : Fin 5) ∉ ([2] : List (Fin 5)) by decide), List.not_mem_nil⟩) 0 rfl
  · exact operand_kept _ idx j 1 (show (1 : Fin 5) ∉ ([2] : List (Fin 5)) by decide) List.not_mem_nil ((GatherDims.mem_sKept _ _).2 ⟨(show (1 : Fin 5) ∉ ([2] : List (Fin 5)) by decide), List.not_mem_nil⟩) 1 rfl
  · refine Eq.trans ?_ (if_pos rfl).symm
    refine (operand_taken _ idx j 2 (List.mem_singleton.2 rfl) List.not_mem_nil (fun h => ((GatherDims.mem_sKept _ _).1 h).1 (List.mem_singleton.2 rfl)) p2 rfl (ValueIdx.ix2 ⟨(j 2).val, (j 2).isLt⟩ ⟨0, Nat.one_pos⟩) ?_).trans ?_
    · funext b; refine Fin.ext ?_
      match b with
      | ⟨0, _⟩ => rfl
      | ⟨1, _⟩ => rfl
    · exact congrArg (fun b : BitVec 32 => min b.toInt.toNat (p2 - 1)) (hi.at _)
  · exact operand_kept _ idx j 3 (show (3 : Fin 5) ∉ ([2] : List (Fin 5)) by decide) List.not_mem_nil ((GatherDims.mem_sKept _ _).2 ⟨(show (3 : Fin 5) ∉ ([2] : List (Fin 5)) by decide), List.not_mem_nil⟩) 3 rfl
  · exact operand_kept _ idx j 4 (show (4 : Fin 5) ∉ ([2] : List (Fin 5)) by decide) List.not_mem_nil ((GatherDims.mem_sKept _ _).2 ⟨(show (4 : Fin 5) ∉ ([2] : List (Fin 5)) by decide), List.not_mem_nil⟩) 4 rfl

/-- Along axis 3. -/
theorem reads_take3 (wf : GatherDims.WF ⟨5, ![p0, p1, p2, p3, p4]⟩ ⟨2, ![o, 1]⟩ ⟨5, ![p0, p1, p2, o, p4]⟩ [0, 1, 2, 4] [3] [] [3] [] 1 ![p0, p1, p2, 1, p4])
    {v : (⟨5, ![p0, p1, p2, p3, p4]⟩ : Shape).Idx → α} {f : (Fin 5 → ℕ) → α} (hv : Reads (sz := ![p0, p1, p2, p3, p4]) v f) {idx : IVec ⟨2, ![o, 1]⟩ 32} {g : ℕ → BitVec 32}
    (hi : Reads (sz := ![o, 1]) idx (fun x => g (x 0))) :
    Reads (sz := ![p0, p1, p2, o, p4]) (Host.gather (⟨[0, 1, 2, 4], [3], [], [], [3], 1, ![p0, p1, p2, 1, p4], wf⟩ : GatherDims ⟨5, ![p0, p1, p2, p3, p4]⟩ ⟨2, ![o, 1]⟩ ⟨5, ![p0, p1, p2, o, p4]⟩) v idx)
      (fun x => f (Function.update x 3 (inside p3 (g (x 3))))) := by
  refine reads_take 3 p3 o hv hi fun j b => ?_
  fin_cases b
  · exact operand_kept _ idx j 0 (show (0 : Fin 5) ∉ ([3] : List (Fin 5)) by decide) List.not_mem_nil ((GatherDims.mem_sKept _ _).2 ⟨(show (0 : Fin 5) ∉ ([3] : List (Fin 5)) by decide), List.not_mem_nil⟩) 0 rfl
  · exact operand_kept _ idx j 1 (show (1 : Fin 5) ∉ ([3] : List (Fin 5)) by decide) List.not_mem_nil ((GatherDims.mem_sKept _ _).2 ⟨(show (1 : Fin 5) ∉ ([3] : List (Fin 5)) by decide), List.not_mem_nil⟩) 1 rfl
  · exact operand_kept _ idx j 2 (show (2 : Fin 5) ∉ ([3] : List (Fin 5)) by decide) List.not_mem_nil ((GatherDims.mem_sKept _ _).2 ⟨(show (2 : Fin 5) ∉ ([3] : List (Fin 5)) by decide), List.not_mem_nil⟩) 2 rfl
  · refine Eq.trans ?_ (if_pos rfl).symm
    refine (operand_taken _ idx j 3 (List.mem_singleton.2 rfl) List.not_mem_nil (fun h => ((GatherDims.mem_sKept _ _).1 h).1 (List.mem_singleton.2 rfl)) p3 rfl (ValueIdx.ix2 ⟨(j 3).val, (j 3).isLt⟩ ⟨0, Nat.one_pos⟩) ?_).trans ?_
    · funext b; refine Fin.ext ?_
      match b with
      | ⟨0, _⟩ => rfl
      | ⟨1, _⟩ => rfl
    · exact congrArg (fun b : BitVec 32 => min b.toInt.toNat (p3 - 1)) (hi.at _)
  · exact operand_kept _ idx j 4 (show (4 : Fin 5) ∉ ([3] : List (Fin 5)) by decide) List.not_mem_nil ((GatherDims.mem_sKept _ _).2 ⟨(show (4 : Fin 5) ∉ ([3] : List (Fin 5)) by decide), List.not_mem_nil⟩) 4 rfl

/-- Along axis 4. -/
theorem reads_take4 (wf : GatherDims.WF ⟨5, ![p0, p1, p2, p3, p4]⟩ ⟨2, ![o, 1]⟩ ⟨5, ![p0, p1, p2, p3, o]⟩ [0, 1, 2, 3] [4] [] [4] [] 1 ![p0, p1, p2, p3, 1])
    {v : (⟨5, ![p0, p1, p2, p3, p4]⟩ : Shape).Idx → α} {f : (Fin 5 → ℕ) → α} (hv : Reads (sz := ![p0, p1, p2, p3, p4]) v f) {idx : IVec ⟨2, ![o, 1]⟩ 32} {g : ℕ → BitVec 32}
    (hi : Reads (sz := ![o, 1]) idx (fun x => g (x 0))) :
    Reads (sz := ![p0, p1, p2, p3, o]) (Host.gather (⟨[0, 1, 2, 3], [4], [], [], [4], 1, ![p0, p1, p2, p3, 1], wf⟩ : GatherDims ⟨5, ![p0, p1, p2, p3, p4]⟩ ⟨2, ![o, 1]⟩ ⟨5, ![p0, p1, p2, p3, o]⟩) v idx)
      (fun x => f (Function.update x 4 (inside p4 (g (x 4))))) := by
  refine reads_take 4 p4 o hv hi fun j b => ?_
  fin_cases b
  · exact operand_kept _ idx j 0 (show (0 : Fin 5) ∉ ([4] : List (Fin 5)) by decide) List.not_mem_nil ((GatherDims.mem_sKept _ _).2 ⟨(show (0 : Fin 5) ∉ ([4] : List (Fin 5)) by decide), List.not_mem_nil⟩) 0 rfl
  · exact operand_kept _ idx j 1 (show (1 : Fin 5) ∉ ([4] : List (Fin 5)) by decide) List.not_mem_nil ((GatherDims.mem_sKept _ _).2 ⟨(show (1 : Fin 5) ∉ ([4] : List (Fin 5)) by decide), List.not_mem_nil⟩) 1 rfl
  · exact operand_kept _ idx j 2 (show (2 : Fin 5) ∉ ([4] : List (Fin 5)) by decide) List.not_mem_nil ((GatherDims.mem_sKept _ _).2 ⟨(show (2 : Fin 5) ∉ ([4] : List (Fin 5)) by decide), List.not_mem_nil⟩) 2 rfl
  · exact operand_kept _ idx j 3 (show (3 : Fin 5) ∉ ([4] : List (Fin 5)) by decide) List.not_mem_nil ((GatherDims.mem_sKept _ _).2 ⟨(show (3 : Fin 5) ∉ ([4] : List (Fin 5)) by decide), List.not_mem_nil⟩) 3 rfl
  · refine Eq.trans ?_ (if_pos rfl).symm
    refine (operand_taken _ idx j 4 (List.mem_singleton.2 rfl) List.not_mem_nil (fun h => ((GatherDims.mem_sKept _ _).1 h).1 (List.mem_singleton.2 rfl)) p4 rfl (ValueIdx.ix2 ⟨(j 4).val, (j 4).isLt⟩ ⟨0, Nat.one_pos⟩) ?_).trans ?_
    · funext b; refine Fin.ext ?_
      match b with
      | ⟨0, _⟩ => rfl
      | ⟨1, _⟩ => rfl
    · exact congrArg (fun b : BitVec 32 => min b.toInt.toNat (p4 - 1)) (hi.at _)

end Cert.Elastic

end
-- ==== Proof.Interp.lean ====
/- The reference's interpolation along one axis, at coordinates. -/
module

public import proofs.«01_k».proof.Proof.Take

@[expose] public section

set_option maxRecDepth 16384

noncomputable section

namespace Cert.Elastic

open Idealize.ShloMosaic

/-- The coordinate of an output position: the position times the ratio of the two lengths. -/
def pos (c : BitVec 32) (o : ℕ) : EReal := (((BitVec.ofNat 32 o).toInt : ℝ) : EReal) * Ideal.ofBits .f32 c

theorem reads_pos (c : BitVec 32) {o : ℕ} {b : FVec Ideal ⟨1, ![o]⟩ .f32} (hb : ∀ i, b i = Ideal.ofBits .f32 c) :
    Reads (sz := ![o]) (α := EReal) (mulf (sitofp .f32 (iotaInDim ⟨1, ![o]⟩ 32 0)) b) (fun x => pos c (x 0)) := by
  intro x hx
  exact congrArg (fun t : EReal => (((BitVec.ofNat 32 (x 0)).toInt : ℝ) : EReal) * t) (hb _)

section
variable {o : ℕ} {cf : ℕ → EReal} {v : FVec Ideal ⟨1, ![o]⟩ .f32}

theorem reads_lo (hv : Reads (sz := ![o]) (α := EReal) v (fun x => cf (x 0))) :
    Reads (sz := ![o]) (fptosi 32 (Host.floor v)) (fun x => lo (cf (x 0))) := by
  intro x hx
  have e := hv x hx
  show lo (v _) = _
  rw [e]

theorem reads_hi (n : ℕ) (hv : Reads (sz := ![o]) (α := EReal) v (fun x => cf (x 0))) {one last : IVec ⟨1, ![o]⟩ 32}
    (h1 : ∀ i, one i = 1#32) (h2 : ∀ i, last i = BitVec.ofNat 32 (n - 1)) :
    Reads (sz := ![o]) (minsi (addi (fptosi 32 (Host.floor v)) one) last) (fun x => hi n (cf (x 0))) := by
  intro x hx
  have e := hv x hx
  show IntOp.minsi (IntOp.addi (lo (v _)) (one _)) (last _) = _
  rw [e, h1, h2]
  rfl

theorem reads_wt (hv : Reads (sz := ![o]) (α := EReal) v (fun x => cf (x 0))) :
    Reads (sz := ![o]) (α := EReal) (subf v (sitofp .f32 (fptosi 32 (Host.floor v)))) (fun x => wt (cf (x 0))) := by
  intro x hx
  have e := hv x hx
  show wt (v _) = _
  rw [e]

/-- A field of 160 points each way, interpolated along the three axes at the coordinates of ratio `c`. -/
def resized (c : BitVec 32) (g : ℕ → ℕ → ℕ → EReal) (i j k : ℕ) : EReal :=
  lerp 160 (pos c k) fun r => lerp 160 (pos c j) fun q => lerp 160 (pos c i) fun p => g p q r

/-- A vector set as a column. -/
theorem Reads.col {α : Type} {u : (⟨1, ![o]⟩ : Shape).Idx → α} {g : ℕ → α} (hu : Reads (sz := ![o]) u (fun x => g (x 0))) (ho : o ≠ 1)
    (h : (⟨1, ![o]⟩ : Shape).BroadcastsInDim ⟨2, ![o, 1]⟩ ![0]) :
    Reads (sz := ![o, 1]) (broadcastInDim ⟨2, ![o, 1]⟩ ![0] h u) (fun x => g (x 0)) := by
  intro x hx
  refine (broadcastInDim_apply ![0] h u _ (fun a => ⟨x 0, lt_of_lt_of_eq (hx 0) (congrArg ![o] (Subsingleton.elim 0 a))⟩) (fun a => ?_)).trans (hu (fun _ => x 0) (fun a => ?_))
  · obtain rfl : a = 0 := Subsingleton.elim _ _
    exact (if_neg ho).symm
  · obtain rfl : a = 0 := Subsingleton.elim _ _
    exact hx 0

/-- A vector laid along axis `k` of a shape of ones. -/
theorem Reads.lay {α : Type} (k : Fin 5) {u : Fin 5 → ℕ} {w : (⟨1, ![o]⟩ : Shape).Idx → α} {g : ℕ → α}
    (hw : Reads (sz := ![o]) w (fun x => g (x 0))) (hu : u = Function.update (fun _ => 1) k o)
    (h : (⟨1, ![o]⟩ : Shape).ShapeCasts ⟨5, u⟩) :
    Reads (sz := u) (shapeCast ⟨5, u⟩ w h) (fun x => g (x k)) := by
  subst hu
  intro x hx
  have hk : x k < o := by simpa using hx k
  have h1 : ∀ b, b ≠ k → x b = 0 := fun b hb => by have := hx b; rw [Function.update_of_ne hb] at this; omega
  refine (shapeCast_apply w h _ (fun _ => ⟨x k, by simpa using hk⟩) ?_).trans (hw (fun _ => x k) (fun a => ?_))
  · rw [Shape.rowMajor_val_one, Shape.rowMajor_val_five]
    fin_cases k <;> simp_all
  · obtain rfl : a = 0 := Subsingleton.elim _ _
    exact hk

/-- Spreading it over the whole shape. -/
theorem Reads.spread {α : Type} (k : Fin 5) {u t : Fin 5 → ℕ} {dims : Fin 5 → Fin 5} {w : (⟨5, u⟩ : Shape).Idx → α} {g : ℕ → α}
    (hw : Reads (sz := u) w (fun x => g (x k))) (hk : u k ≠ 1) (hd : ∀ a, dims a = a) (h : (⟨5, u⟩ : Shape).BroadcastsInDim ⟨5, t⟩ dims) :
    Reads (sz := t) (broadcastInDim ⟨5, t⟩ dims h w) (fun x => g (x k)) := by
  refine Reads.of_forall fun j => ?_
  have hlt : ∀ a, (if u a = 1 then 0 else (j (dims a)).val) < u a := by
    intro a
    split
    · omega
    · next hne =>
      have := (j (dims a)).isLt
      rcases h.2 a with e | e
      · exact absurd e hne
      · exact lt_of_lt_of_eq this e.symm
  refine (broadcastInDim_apply dims h w j (fun a => ⟨_, hlt a⟩) (fun a => rfl)).trans ((hw _ hlt).trans ?_)
  simp only [if_neg hk]
  rw [hd k]

/-- The two neighbours blended by the weights. -/
theorem reads_blend (k : Fin 5) (n : ℕ) {t u : Fin 5 → ℕ} {dims : Fin 5 → Fin 5} {A B : FVec Ideal ⟨5, t⟩ .f32} {f : (Fin 5 → ℕ) → EReal}
    (hA : Reads (sz := t) (α := EReal) A (fun x => f (Function.update x k (inside n (lo (cf (x k)))))))
    (hB : Reads (sz := t) (α := EReal) B (fun x => f (Function.update x k (inside n (hi n (cf (x k)))))))
    {w : FVec Ideal ⟨1, ![o]⟩ .f32} (hw : Reads (sz := ![o]) (α := EReal) w (fun x => wt (cf (x 0))))
    {one : FVec Ideal ⟨5, u⟩ .f32} (h1 : ∀ i, one i = Ideal.ofBits .f32 0x3F800000#32)
    (hu : u = Function.update (fun _ => 1) k o) (ho : o ≠ 1) (hd : ∀ a, dims a = a)
    (h : (⟨1, ![o]⟩ : Shape).ShapeCasts ⟨5, u⟩) (hb hb' : (⟨5, u⟩ : Shape).BroadcastsInDim ⟨5, t⟩ dims) :
    Reads (sz := t) (α := EReal) (addf (mulf A (broadcastInDim ⟨5, t⟩ dims hb (subf one (shapeCast ⟨5, u⟩ w h))))
      (mulf B (broadcastInDim ⟨5, t⟩ dims hb' (shapeCast ⟨5, u⟩ w h))))
      (fun x => lerp n (cf (x k)) (fun q => f (Function.update x k q))) := by
  have hk : u k ≠ 1 := by rw [hu]; simpa using ho
  have e1 : ∀ i, one i = (1 : EReal) := fun i => (h1 i).trans Ideal.ofBits_one_f32
  have l := Reads.lay (g := fun q => wt (cf q)) k hw hu h
  have l1 := (Reads.const e1).subf l
  exact (hA.mulf (Reads.spread k (g := fun q => 1 - wt (cf q)) l1 hk hd hb)).addf (hB.mulf (Reads.spread k (g := fun q => wt (cf q)) l hk hd hb'))

end

end Cert.Elastic

end
-- ==== Proof.Einsum.lean ====
/- The kernel's interpolation along one axis, as a product with the interpolation matrix, at coordinates. -/
module

public import proofs.«01_k».proof.Proof.Interp

@[expose] public section

set_option maxRecDepth 16384

noncomputable section

namespace Cert.Elastic

open Idealize.ShloMosaic
open scoped BigOperators

section
variable {n o p0 p1 p2 p3 p4 : ℕ} {prec : Option ContractPrecision} {c : ℕ → EReal}

theorem row_at (hn : n ≤ 1000) (hc : ∀ k, k < o → ∃ r : ℝ, c k = r ∧ 0 ≤ r ∧ r < n) (k : ℕ) (hk : k < o) (g : ℕ → EReal) :
    ∑ q : Fin n, lerpM n (c k) q.val * g q.val = lerp n (c k) g := by
  obtain ⟨r, e, h0, h1⟩ := hc k hk
  exact lerp_sum hn _ r e h0 h1 g

/-- Along the first space axis. -/
theorem reads_ax2 (hn : n ≤ 1000) (hc : ∀ k, k < o → ∃ r : ℝ, c k = r ∧ 0 ≤ r ∧ r < n)
    (wf : DotDims.WF ⟨2, ![o, n]⟩ ⟨5, ![p0, p1, n, p3, p4]⟩ ⟨5, ![o, p0, p1, p3, p4]⟩ [1] [2] [0] [0, 1, 3, 4] [] [])
    {M : FVec Ideal ⟨2, ![o, n]⟩ .f32} {v : FVec Ideal ⟨5, ![p0, p1, n, p3, p4]⟩ .f32} {f : (Fin 5 → ℕ) → EReal}
    (hM : Reads (sz := ![o, n]) (α := EReal) M (fun x => lerpM n (c (x 0)) (x 1))) (hv : Reads (sz := ![p0, p1, n, p3, p4]) (α := EReal) v f)
    (ht : Shape.Transposes ⟨5, ![o, p0, p1, p3, p4]⟩ [1, 2, 0, 3, 4] ⟨5, ![p0, p1, o, p3, p4]⟩) :
    Reads (sz := ![p0, p1, o, p3, p4]) (α := EReal) (transpose ⟨5, ![p0, p1, o, p3, p4]⟩ [1, 2, 0, 3, 4]
      (Host.dotGeneral (F := Ideal) (⟨[1], [2], [0], [0, 1, 3, 4], [], [], wf⟩ : DotDims ⟨2, ![o, n]⟩ ⟨5, ![p0, p1, n, p3, p4]⟩ ⟨5, ![o, p0, p1, p3, p4]⟩) prec M v) ht)
      (fun x => lerp n (c (x 2)) (fun q => f (Function.update x 2 q))) := by
  refine Reads.of_forall fun j => ?_
  refine (transpose_apply _ _ ht j (fun b => match b with
    | ⟨0, _⟩ => ⟨(j 2).val, (j 2).isLt⟩ | ⟨1, _⟩ => ⟨(j 0).val, (j 0).isLt⟩ | ⟨2, _⟩ => ⟨(j 1).val, (j 1).isLt⟩
    | ⟨3, _⟩ => ⟨(j 3).val, (j 3).isLt⟩ | ⟨4, _⟩ => ⟨(j 4).val, (j 4).isLt⟩) (fun b => by fin_cases b <;> rfl)).trans ?_
  refine (dot_at _ n rfl rfl prec M v _ (fun q => lerpM n (c (j 2).val) q * f (Function.update (fun a => (j a).val) 2 q)) fun q => ?_).trans
    (row_at hn hc _ (j 2).isLt fun q => f (Function.update (fun a => (j a).val) 2 q))
  exact congrArg₂ (· * ·) (hM.at _) ((hv.at _).trans (congrArg f (funext fun b => by fin_cases b <;> rfl)))

/-- Along the second. -/
theorem reads_ax3 (hn : n ≤ 1000) (hc : ∀ k, k < o → ∃ r : ℝ, c k = r ∧ 0 ≤ r ∧ r < n)
    (wf : DotDims.WF ⟨2, ![o, n]⟩ ⟨5, ![p0, p1, p2, n, p4]⟩ ⟨5, ![o, p0, p1, p2, p4]⟩ [1] [3] [0] [0, 1, 2, 4] [] [])
    {M : FVec Ideal ⟨2, ![o, n]⟩ .f32} {v : FVec Ideal ⟨5, ![p0, p1, p2, n, p4]⟩ .f32} {f : (Fin 5 → ℕ) → EReal}
    (hM : Reads (sz := ![o, n]) (α := EReal) M (fun x => lerpM n (c (x 0)) (x 1))) (hv : Reads (sz := ![p0, p1, p2, n, p4]) (α := EReal) v f)
    (ht : Shape.Transposes ⟨5, ![o, p0, p1, p2, p4]⟩ [1, 2, 3, 0, 4] ⟨5, ![p0, p1, p2, o, p4]⟩) :
    Reads (sz := ![p0, p1, p2, o, p4]) (α := EReal) (transpose ⟨5, ![p0, p1, p2, o, p4]⟩ [1, 2, 3, 0, 4]
      (Host.dotGeneral (F := Ideal) (⟨[1], [3], [0], [0, 1, 2, 4], [], [], wf⟩ : DotDims ⟨2, ![o, n]⟩ ⟨5, ![p0, p1, p2, n, p4]⟩ ⟨5, ![o, p0, p1, p2, p4]⟩) prec M v) ht)
      (fun x => lerp n (c (x 3)) (fun q => f (Function.update x 3 q))) := by
  refine Reads.of_forall fun j => ?_
  refine (transpose_apply _ _ ht j (fun b => match b with
    | ⟨0, _⟩ => ⟨(j 3).val, (j 3).isLt⟩ | ⟨1, _⟩ => ⟨(j 0).val, (j 0).isLt⟩ | ⟨2, _⟩ => ⟨(j 1).val, (j 1).isLt⟩
    | ⟨3, _⟩ => ⟨(j 2).val, (j 2).isLt⟩ | ⟨4, _⟩ => ⟨(j 4).val, (j 4).isLt⟩) (fun b => by fin_cases b <;> rfl)).trans ?_
  refine (dot_at _ n rfl rfl prec M v _ (fun q => lerpM n (c (j 3).val) q * f (Function.update (fun a => (j a).val) 3 q)) fun q => ?_).trans
    (row_at hn hc _ (j 3).isLt fun q => f (Function.update (fun a => (j a).val) 3 q))
  exact congrArg₂ (· * ·) (hM.at _) ((hv.at _).trans (congrArg f (funext fun b => by fin_cases b <;> rfl)))

/-- Along the third, the matrix on the right. -/
theorem reads_ax4 (hn : n ≤ 1000) (hc : ∀ k, k < o → ∃ r : ℝ, c k = r ∧ 0 ≤ r ∧ r < n)
    (wf : DotDims.WF ⟨5, ![p0, p1, p2, p3, n]⟩ ⟨2, ![o, n]⟩ ⟨5, ![p0, p1, p2, p3, o]⟩ [4] [1] [0, 1, 2, 3] [0] [] [])
    {M : FVec Ideal ⟨2, ![o, n]⟩ .f32} {v : FVec Ideal ⟨5, ![p0, p1, p2, p3, n]⟩ .f32} {f : (Fin 5 → ℕ) → EReal}
    (hM : Reads (sz := ![o, n]) (α := EReal) M (fun x => lerpM n (c (x 0)) (x 1))) (hv : Reads (sz := ![p0, p1, p2, p3, n]) (α := EReal) v f) :
    Reads (sz := ![p0, p1, p2, p3, o]) (α := EReal)
      (Host.dotGeneral (F := Ideal) (⟨[4], [1], [0, 1, 2, 3], [0], [], [], wf⟩ : DotDims ⟨5, ![p0, p1, p2, p3, n]⟩ ⟨2, ![o, n]⟩ ⟨5, ![p0, p1, p2, p3, o]⟩) prec v M)
      (fun x => lerp n (c (x 4)) (fun q => f (Function.update x 4 q))) := by
  refine Reads.of_forall fun j => ?_
  refine (dot_at _ n rfl rfl prec v M _ (fun q => lerpM n (c (j 4).val) q * f (Function.update (fun a => (j a).val) 4 q)) fun q => ?_).trans
    (row_at hn hc _ (j 4).isLt fun q => f (Function.update (fun a => (j a).val) 4 q))
  exact (mul_comm _ _).trans (congrArg₂ (· * ·) (hM.at _) ((hv.at _).trans (congrArg f (funext fun b => by fin_cases b <;> rfl))))

end

/-- The coordinates of the output positions are real and inside the axis. -/
theorem pos_real (b : BitVec 32) (s : ℝ) (o n : ℕ) (hs : Ideal.ofBits .f32 b = (s : EReal)) (h0 : 0 ≤ s) (ho : o ≤ 1000) (h1 : ((o : ℝ) - 1) * s < n)
    (k : ℕ) (hk : k < o) : ∃ r : ℝ, pos b k = r ∧ 0 ≤ r ∧ r < n := by
  refine ⟨(k : ℝ) * s, ?_, by positivity, ?_⟩
  · unfold pos
    rw [hs, toInt_small (by omega), EReal.coe_mul]
    simp
  · have : (k : ℝ) ≤ (o : ℝ) - 1 := by
      have : (k : ℝ) + 1 ≤ o := by exact_mod_cast hk
      linarith
    nlinarith

theorem pos80 : ∀ k, k < 80 → ∃ r : ℝ, pos 0x4000CF64#32 k = r ∧ 0 ≤ r ∧ r < (160 : ℕ) :=
  pos_real _ (8441700 * (2 ^ 22)⁻¹) 80 160 (by simp [Ideal.ofBits, Ideal.ieee, -EReal.coe_mul]) (by positivity) (by norm_num) (by norm_num)

theorem pos40 : ∀ k, k < 40 → ∃ r : ℝ, pos 0x40827627#32 k = r ∧ 0 ≤ r ∧ r < (160 : ℕ) :=
  pos_real _ (8549927 * (2 ^ 21)⁻¹) 40 160 (by simp [Ideal.ofBits, Ideal.ieee, -EReal.coe_mul]) (by positivity) (by norm_num) (by norm_num)

end Cert.Elastic

end
-- ==== Proof.Hosts.lean ====
/- The kernel's host lines at coordinates: the resized fields, the coordinates the matrices are made of, the sums of the blocks. -/
module

public import proofs.«01_k».proof.Proof.Einsum
public import proofs.«01_k».proof.Proof.Gen.KernelIdeal.Launch
public import Idealize.ShloMosaic.Lib.StableHlo.RunRead

@[expose] public section

set_option maxRecDepth 16384

noncomputable section

namespace Cert.KernelIdeal.Gen

open Idealize.ShloMosaic Idealize.ShloMosaic.TcCoe Cert.Elastic Cert.KernelIdeal
open scoped BigOperators

/-- A vector recast as a column. -/
theorem reads_column {α : Type} {o : ℕ} {u : (⟨1, ![o]⟩ : Shape).Idx → α} {g : ℕ → α} (hu : Reads (sz := ![o]) u (fun x => g (x 0)))
    (h : (⟨1, ![o]⟩ : Shape).ShapeCasts ⟨2, ![o, 1]⟩) : Reads (sz := ![o, 1]) (shapeCast ⟨2, ![o, 1]⟩ u h) (fun x => g (x 0)) := by
  intro x hx
  have hy : ∀ a : Fin 1, x 0 < (![o] : Fin 1 → ℕ) a := fun a => by
    obtain rfl : a = 0 := Subsingleton.elim _ _
    exact hx 0
  refine (shapeCast_apply u h _ (fun a => ⟨x 0, hy a⟩) ?_).trans (hu (fun _ => x 0) hy)
  have h1 : x 1 = 0 := by have := hx 1; simpa using this
  rw [Shape.rowMajor_val_one, Shape.rowMajor_val_two]
  show x 0 = x 0 * 1 + x 1
  omega

/-- One entry of each block, as a table. -/
theorem reads_entry {α : Type} {a T : ℕ} {u : (⟨4, ![a, T, 8, 128]⟩ : Shape).Idx → α} {g : ℕ → ℕ → α}
    (hu : Reads (sz := ![a, T, 8, 128]) u (fun x => g (x 0) (x 1))) (hs : Shape.Slices ⟨4, ![a, T, 8, 128]⟩ ![0, 0, 0, 0] ⟨4, ![a, T, 1, 1]⟩)
    (h : (⟨4, ![a, T, 1, 1]⟩ : Shape).ShapeCasts ⟨2, ![a, T]⟩) :
    Reads (sz := ![a, T]) (shapeCast ⟨2, ![a, T]⟩ (extractStridedSlice ⟨4, ![a, T, 1, 1]⟩ ![0, 0, 0, 0] u hs) h) (fun x => g (x 0) (x 1)) := by
  intro x hx
  have hy : ∀ b : Fin 4, (![x 0, x 1, 0, 0] : Fin 4 → ℕ) b < (![a, T, 1, 1] : Fin 4 → ℕ) b := by
    intro b
    fin_cases b
    · exact hx 0
    · exact hx 1
    · exact Nat.one_pos
    · exact Nat.one_pos
  refine (shapeCast_apply _ h _ (fun b => ⟨(![x 0, x 1, 0, 0] : Fin 4 → ℕ) b, hy b⟩) ?_).trans ((hu.slice hs _ hy).trans ?_)
  · rw [Shape.rowMajor_val_four, Shape.rowMajor_val_two]
    show ((x 0 * T + x 1) * 1 + 0) * 1 + 0 = x 0 * T + x 1
    simp
  · show g (0 + x 0) (0 + x 1) = g (x 0) (x 1)
    simp

variable (V : Valuation τ sig (Elt Ideal))

/-- The image without its axis of one. -/
theorem image160 (F : ℕ → ℕ → ℕ → ℕ → ℕ → EReal)
    (h : Reads (r := 5) (sz := ![2, 1, 160, 160, 160]) (α := EReal) (V (Proc.devRef .tc main_arg1)) (fun x => F (x 0) (x 1) (x 2) (x 3) (x 4))) :
    Reads (r := 4) (sz := ![2, 160, 160, 160]) (α := EReal) (StableHlo.after hostOps0 V (Proc.devRef .tc main_v0)) (fun x => F (x 0) 0 (x 1) (x 2) (x 3)) := by
  have e : StableHlo.after hostOps0 V (Proc.devRef .tc main_v0) = shapeCast S2x160x160x160 (V (Proc.devRef .tc main_arg1)) shapeCasts_S2x1x160x160x160_S2x160x160x160 := by
    after_reads_simp
    rfl
  rw [e]
  exact h.drop1 _

/-- The coordinates of the 80 output positions. -/
theorem coords80 : Reads (r := 2) (sz := ![80, 1]) (α := EReal) (StableHlo.after hostOps2 V (Proc.devRef .tc main_v12)) (fun x => pos 0x4000CF64#32 (x 0)) := by
  have e : StableHlo.after hostOps2 V (Proc.devRef .tc main_v12)
      = (shapeCast S80x1 (mulf (sitofp .f32 (iotaInDim S80 32 0)) (broadcastInDim S80 ![] bcast_S_S80 (constant S_ .f32 0x4000CF64#32))) shapeCasts_S80_S80x1 : FVec Ideal S80x1 .f32) := by
    after_reads_simp
    rfl
  rw [e]
  exact reads_column (g := fun k => pos 0x4000CF64#32 k) (reads_pos 0x4000CF64#32 (fun _ => rfl)) _

/-- The displacement at size 80. -/
theorem disp80 (F : ℕ → ℕ → ℕ → ℕ → ℕ → EReal)
    (hM : Reads (r := 2) (sz := ![80, 160]) (α := EReal) (V (Proc.devRef .tc main_v13)) (fun x => lerpM 160 (pos 0x4000CF64#32 (x 0)) (x 1)))
    (h : Reads (r := 5) (sz := ![2, 3, 160, 160, 160]) (α := EReal) (V (Proc.devRef .tc main_arg0)) (fun x => F (x 0) (x 1) (x 2) (x 3) (x 4))) :
    Reads (r := 5) (sz := ![2, 3, 80, 80, 80]) (α := EReal) (StableHlo.after hostOps3 V (Proc.devRef .tc main_v18))
      (fun x => resized 0x4000CF64#32 (F (x 0) (x 1)) (x 2) (x 3) (x 4)) := by
  have e : StableHlo.after hostOps3 V (Proc.devRef .tc main_v18)
      = (Host.dotGeneral (F := Ideal) (φ₁ := .f32) (φ₂ := .f32) dot_S2x3x80x80x160_S80x160_S2x3x80x80x80_4_1_0123_0_n_n (some .fp32)
          (transpose S2x3x80x80x160 [1, 2, 3, 0, 4] (Host.dotGeneral (F := Ideal) (φ₁ := .f32) (φ₂ := .f32) dot_S80x160_S2x3x80x160x160_S80x2x3x80x160_1_3_0_0124_n_n (some .fp32) (V (Proc.devRef .tc main_v13))
            (transpose S2x3x80x160x160 [1, 2, 0, 3, 4] (Host.dotGeneral (F := Ideal) (φ₁ := .f32) (φ₂ := .f32) dot_S80x160_S2x3x160x160x160_S80x2x3x160x160_1_2_0_0134_n_n (some .fp32) (V (Proc.devRef .tc main_v13)) (V (Proc.devRef .tc main_arg0)))
              transposes_S80x2x3x160x160_S2x3x80x160x160_1_2_0_3_4)) transposes_S80x2x3x80x160_S2x3x80x80x160_1_2_3_0_4)
          (V (Proc.devRef .tc main_v13)) : FVec Ideal S2x3x80x80x80 .f32) := by
    after_reads_simp
  rw [e]
  exact reads_ax4 (c := pos 0x4000CF64#32) (by decide) pos80 dot_S2x3x80x80x160_S80x160_S2x3x80x80x80_4_1_0123_0_n_n.wf hM (reads_ax3 (c := pos 0x4000CF64#32) (by decide) pos80 dot_S80x160_S2x3x80x160x160_S80x2x3x80x160_1_3_0_0124_n_n.wf hM
    (reads_ax2 (c := pos 0x4000CF64#32) (by decide) pos80 dot_S80x160_S2x3x160x160x160_S80x2x3x160x160_1_2_0_0134_n_n.wf hM h _) _)

/-- The image at size 80. -/
theorem image80 (F : ℕ → ℕ → ℕ → ℕ → ℕ → EReal)
    (hM : Reads (r := 2) (sz := ![80, 160]) (α := EReal) (V (Proc.devRef .tc main_v13)) (fun x => lerpM 160 (pos 0x4000CF64#32 (x 0)) (x 1)))
    (h : Reads (r := 5) (sz := ![2, 1, 160, 160, 160]) (α := EReal) (V (Proc.devRef .tc main_arg1)) (fun x => F (x 0) (x 1) (x 2) (x 3) (x 4))) :
    Reads (r := 4) (sz := ![2, 80, 80, 80]) (α := EReal) (StableHlo.after hostOps3 V (Proc.devRef .tc main_v24))
      (fun x => resized 0x4000CF64#32 (F (x 0) 0) (x 1) (x 2) (x 3)) := by
  have e : StableHlo.after hostOps3 V (Proc.devRef .tc main_v24)
      = (shapeCast S2x80x80x80 (Host.dotGeneral (F := Ideal) (φ₁ := .f32) (φ₂ := .f32) dot_S2x1x80x80x160_S80x160_S2x1x80x80x80_4_1_0123_0_n_n (some .fp32)
          (transpose S2x1x80x80x160 [1, 2, 3, 0, 4] (Host.dotGeneral (F := Ideal) (φ₁ := .f32) (φ₂ := .f32) dot_S80x160_S2x1x80x160x160_S80x2x1x80x160_1_3_0_0124_n_n (some .fp32) (V (Proc.devRef .tc main_v13))
            (transpose S2x1x80x160x160 [1, 2, 0, 3, 4] (Host.dotGeneral (F := Ideal) (φ₁ := .f32) (φ₂ := .f32) dot_S80x160_S2x1x160x160x160_S80x2x1x160x160_1_2_0_0134_n_n (some .fp32) (V (Proc.devRef .tc main_v13)) (V (Proc.devRef .tc main_arg1)))
              transposes_S80x2x1x160x160_S2x1x80x160x160_1_2_0_3_4)) transposes_S80x2x1x80x160_S2x1x80x80x160_1_2_3_0_4)
          (V (Proc.devRef .tc main_v13))) shapeCasts_S2x1x80x80x80_S2x80x80x80 : FVec Ideal S2x80x80x80 .f32) := by
    after_reads_simp
    rfl
  rw [e]
  exact Reads.drop1 (f := fun x => resized 0x4000CF64#32 (F (x 0) (x 1)) (x 2) (x 3) (x 4)) (reads_ax4 (c := pos 0x4000CF64#32) (by decide) pos80 dot_S2x1x80x80x160_S80x160_S2x1x80x80x80_4_1_0123_0_n_n.wf hM (reads_ax3 (c := pos 0x4000CF64#32) (by decide) pos80 dot_S80x160_S2x1x80x160x160_S80x2x1x80x160_1_3_0_0124_n_n.wf hM
    (reads_ax2 (c := pos 0x4000CF64#32) (by decide) pos80 dot_S80x160_S2x1x160x160x160_S80x2x1x160x160_1_2_0_0134_n_n.wf hM h _) _)) _

/-- The coordinates of the 40 output positions. -/
theorem coords40 : Reads (r := 2) (sz := ![40, 1]) (α := EReal) (StableHlo.after hostOps5 V (Proc.devRef .tc main_v36)) (fun x => pos 0x40827627#32 (x 0)) := by
  have e : StableHlo.after hostOps5 V (Proc.devRef .tc main_v36)
      = (shapeCast S40x1 (mulf (sitofp .f32 (iotaInDim S40 32 0)) (broadcastInDim S40 ![] bcast_S_S40 (constant S_ .f32 0x40827627#32))) shapeCasts_S40_S40x1 : FVec Ideal S40x1 .f32) := by
    after_reads_simp
    rfl
  rw [e]
  exact reads_column (g := fun k => pos 0x40827627#32 k) (reads_pos 0x40827627#32 (fun _ => rfl)) _

/-- The displacement at size 40. -/
theorem disp40 (F : ℕ → ℕ → ℕ → ℕ → ℕ → EReal)
    (hM : Reads (r := 2) (sz := ![40, 160]) (α := EReal) (V (Proc.devRef .tc main_v37)) (fun x => lerpM 160 (pos 0x40827627#32 (x 0)) (x 1)))
    (h : Reads (r := 5) (sz := ![2, 3, 160, 160, 160]) (α := EReal) (V (Proc.devRef .tc main_arg0)) (fun x => F (x 0) (x 1) (x 2) (x 3) (x 4))) :
    Reads (r := 5) (sz := ![2, 3, 40, 40, 40]) (α := EReal) (StableHlo.after hostOps6 V (Proc.devRef .tc main_v42))
      (fun x => resized 0x40827627#32 (F (x 0) (x 1)) (x 2) (x 3) (x 4)) := by
  have e : StableHlo.after hostOps6 V (Proc.devRef .tc main_v42)
      = (Host.dotGeneral (F := Ideal) (φ₁ := .f32) (φ₂ := .f32) dot_S2x3x40x40x160_S40x160_S2x3x40x40x40_4_1_0123_0_n_n (some .fp32)
          (transpose S2x3x40x40x160 [1, 2, 3, 0, 4] (Host.dotGeneral (F := Ideal) (φ₁ := .f32) (φ₂ := .f32) dot_S40x160_S2x3x40x160x160_S40x2x3x40x160_1_3_0_0124_n_n (some .fp32) (V (Proc.devRef .tc main_v37))
            (transpose S2x3x40x160x160 [1, 2, 0, 3, 4] (Host.dotGeneral (F := Ideal) (φ₁ := .f32) (φ₂ := .f32) dot_S40x160_S2x3x160x160x160_S40x2x3x160x160_1_2_0_0134_n_n (some .fp32) (V (Proc.devRef .tc main_v37)) (V (Proc.devRef .tc main_arg0)))
              transposes_S40x2x3x160x160_S2x3x40x160x160_1_2_0_3_4)) transposes_S40x2x3x40x160_S2x3x40x40x160_1_2_3_0_4)
          (V (Proc.devRef .tc main_v37)) : FVec Ideal S2x3x40x40x40 .f32) := by
    after_reads_simp
  rw [e]
  exact reads_ax4 (c := pos 0x40827627#32) (by decide) pos40 dot_S2x3x40x40x160_S40x160_S2x3x40x40x40_4_1_0123_0_n_n.wf hM (reads_ax3 (c := pos 0x40827627#32) (by decide) pos40 dot_S40x160_S2x3x40x160x160_S40x2x3x40x160_1_3_0_0124_n_n.wf hM
    (reads_ax2 (c := pos 0x40827627#32) (by decide) pos40 dot_S40x160_S2x3x160x160x160_S40x2x3x160x160_1_2_0_0134_n_n.wf hM h _) _)

/-- The image at size 40. -/
theorem image40 (F : ℕ → ℕ → ℕ → ℕ → ℕ → EReal)
    (hM : Reads (r := 2) (sz := ![40, 160]) (α := EReal) (V (Proc.devRef .tc main_v37)) (fun x => lerpM 160 (pos 0x40827627#32 (x 0)) (x 1)))
    (h : Reads (r := 5) (sz := ![2, 1, 160, 160, 160]) (α := EReal) (V (Proc.devRef .tc main_arg1)) (fun x => F (x 0) (x 1) (x 2) (x 3) (x 4))) :
    Reads (r := 4) (sz := ![2, 40, 40, 40]) (α := EReal) (StableHlo.after hostOps6 V (Proc.devRef .tc main_v48))
      (fun x => resized 0x40827627#32 (F (x 0) 0) (x 1) (x 2) (x 3)) := by
  have e : StableHlo.after hostOps6 V (Proc.devRef .tc main_v48)
      = (shapeCast S2x40x40x40 (Host.dotGeneral (F := Ideal) (φ₁ := .f32) (φ₂ := .f32) dot_S2x1x40x40x160_S40x160_S2x1x40x40x40_4_1_0123_0_n_n (some .fp32)
          (transpose S2x1x40x40x160 [1, 2, 3, 0, 4] (Host.dotGeneral (F := Ideal) (φ₁ := .f32) (φ₂ := .f32) dot_S40x160_S2x1x40x160x160_S40x2x1x40x160_1_3_0_0124_n_n (some .fp32) (V (Proc.devRef .tc main_v37))
            (transpose S2x1x40x160x160 [1, 2, 0, 3, 4] (Host.dotGeneral (F := Ideal) (φ₁ := .f32) (φ₂ := .f32) dot_S40x160_S2x1x160x160x160_S40x2x1x160x160_1_2_0_0134_n_n (some .fp32) (V (Proc.devRef .tc main_v37)) (V (Proc.devRef .tc main_arg1)))
              transposes_S40x2x1x160x160_S2x1x40x160x160_1_2_0_3_4)) transposes_S40x2x1x40x160_S2x1x40x40x160_1_2_3_0_4)
          (V (Proc.devRef .tc main_v37))) shapeCasts_S2x1x40x40x40_S2x40x40x40 : FVec Ideal S2x40x40x40 .f32) := by
    after_reads_simp
    rfl
  rw [e]
  exact Reads.drop1 (f := fun x => resized 0x40827627#32 (F (x 0) (x 1)) (x 2) (x 3) (x 4)) (reads_ax4 (c := pos 0x40827627#32) (by decide) pos40 dot_S2x1x40x40x160_S40x160_S2x1x40x40x40_4_1_0123_0_n_n.wf hM (reads_ax3 (c := pos 0x40827627#32) (by decide) pos40 dot_S40x160_S2x1x40x160x160_S40x2x1x40x160_1_3_0_0124_n_n.wf hM
    (reads_ax2 (c := pos 0x40827627#32) (by decide) pos40 dot_S40x160_S2x1x160x160x160_S40x2x1x160x160_1_2_0_0134_n_n.wf hM h _) _)) _

/-- Everything summed, over the blocks or over the points, is one number. -/
theorem total (n T : ℕ) (hn : 3 ≤ n) (hT : 8 * T = n) (D : ℕ → ℕ → ℕ → ℕ → ℕ → EReal) (I : ℕ → ℕ → ℕ → ℕ → EReal)
    {v : FVec Ideal ⟨4, ![2, n, n, n]⟩ .f32} (hv : Reads (sz := ![2, n, n, n]) (α := EReal) v (fun x => pointR n (D (x 0)) (I (x 0)) (x 1) (x 2) (x 3)))
    {w : FVec Ideal ⟨2, ![2, T]⟩ .f32} (hw : Reads (sz := ![2, T]) (α := EReal) w (fun x => blockSum n (D (x 0)) (magK n (I (x 0))) (x 1)))
    (z : FVec Ideal S_ .f32) {dv : List (Fin 4)} {dw : List (Fin 2)} (rv : Shape.ReducesTo ⟨4, ![2, n, n, n]⟩ dv S_) (rw' : Shape.ReducesTo ⟨2, ![2, T]⟩ dw S_)
    (hu : 0 < S_.numel) : Host.reduceAdd w z rw' hu = Host.reduceAdd v z rv hu := by
  funext j
  refine (Ideal.hostReduceAdd_total rw' (fun b => b.elim0) w (z (Shape.Idx.first hu)) j).trans
    (Eq.trans ?_ (Ideal.hostReduceAdd_total rv (fun b => b.elim0) v (z (Shape.Idx.first hu)) j).symm)
  exact congrArg (z (Shape.Idx.first hu) + ·) (whole_sum n T hn hT D I hv hw)

end Cert.KernelIdeal.Gen

end
-- ==== Proof.Tail.lean ====
/- The Jacobian's part: the kernel's host lines and the reference's are the same operations in the same order. -/
module

public import proofs.«01_k».proof.Proof.Gen.ReferenceIdeal.Read
public import proofs.«01_k».proof.Proof.Gen.KernelIdeal.Launch
public import Idealize.ShloMosaic.Lib.StableHlo.RunRead

@[expose] public section

set_option maxRecDepth 16384

noncomputable section

namespace Cert.KernelIdeal.Gen

open Idealize.ShloMosaic Idealize.ShloMosaic.TcCoe Cert.KernelIdeal

variable (V : Valuation τ sig (Elt Ideal)) (x0 : (⟨S2x3x160x160x160, .f32⟩ : BufTy).Contents (Elt Ideal))

set_option maxHeartbeats 4000000 in
/-- The Jacobian at the middle of the volume. -/
theorem jacobian (h : V (Proc.devRef .tc main_arg0) = x0) :
    StableHlo.after hostOps8 V (Proc.devRef .tc main_v81) = Cert.ReferenceIdeal.Read.val_main_v948 (F := Ideal) x0 := by
  have a : StableHlo.upto hostOps8 V 36 (Proc.devRef .tc main_v78) = Cert.ReferenceIdeal.Read.val_main_v945 (F := Ideal) x0 := by
    after_reads_simp
    rw [h]
    rfl
  have b : StableHlo.upto hostOps8 V 36 (Proc.devRef .tc main_v79) = Cert.ReferenceIdeal.Read.val_main_v946 (F := Ideal) x0 := by
    after_reads_simp
    rw [h]
    rfl
  have c : StableHlo.upto hostOps8 V 36 (Proc.devRef .tc main_v80) = Cert.ReferenceIdeal.Read.val_main_v947 (F := Ideal) x0 := by
    after_reads_simp
    rw [h]
    rfl
  have key : ∀ u v w : FVec Ideal S2x3x1 .f32, u = Cert.ReferenceIdeal.Read.val_main_v945 (F := Ideal) x0 → v = Cert.ReferenceIdeal.Read.val_main_v946 (F := Ideal) x0
      → w = Cert.ReferenceIdeal.Read.val_main_v947 (F := Ideal) x0 →
      (concatenate S2x3x3 2 [⟨S2x3x1, u⟩, ⟨S2x3x1, v⟩, ⟨S2x3x1, w⟩] concatenates_S2x3x1_S2x3x1_S2x3x1_S2x3x3_d2 : FVec Ideal S2x3x3 .f32)
        = Cert.ReferenceIdeal.Read.val_main_v948 (F := Ideal) x0 := by
    rintro _ _ _ rfl rfl rfl
    rfl
  after_reads_simp
  exact key _ _ _ a b c

/-! The determinant's elimination, in stretches: each takes what the ones before it left. -/

/-- Operations 0 to 6. -/
abbrev det0 : List (HloOp τ sig (Elt Ideal)) := (hostOps8_1.drop 0).take 7

set_option maxHeartbeats 1000000 in
theorem det0_v6 (hv81 : V (Proc.devRef .tc main_v81) = Cert.ReferenceIdeal.Read.val_main_v948 (F := Ideal) x0) :
    StableHlo.after det0 V (Proc.devRef .tc main_call0_v6) = Cert.ReferenceIdeal.Read.val_main_v955 (F := Ideal) x0 := by
  after_reads_simp
  simp only [hv81]
  rfl

/-- Operations 7 to 27. -/
abbrev det1 : List (HloOp τ sig (Elt Ideal)) := (hostOps8_1.drop 7).take 21

set_option maxHeartbeats 1000000 in
theorem det1_v12 (hv81 : V (Proc.devRef .tc main_v81) = Cert.ReferenceIdeal.Read.val_main_v948 (F := Ideal) x0) (hv6 : V (Proc.devRef .tc main_call0_v6) = Cert.ReferenceIdeal.Read.val_main_v955 (F := Ideal) x0) :
    StableHlo.after det1 V (Proc.devRef .tc main_call0_v12) = Cert.ReferenceIdeal.Read.val_main_v961 (F := Ideal) x0 := by
  after_reads_simp
  simp only [hv81, hv6]
  rfl

set_option maxHeartbeats 1000000 in
theorem det1_v18 (hv81 : V (Proc.devRef .tc main_v81) = Cert.ReferenceIdeal.Read.val_main_v948 (F := Ideal) x0) (hv6 : V (Proc.devRef .tc main_call0_v6) = Cert.ReferenceIdeal.Read.val_main_v955 (F := Ideal) x0) :
    StableHlo.after det1 V (Proc.devRef .tc main_call0_v18) = Cert.ReferenceIdeal.Read.val_main_v967 (F := Ideal) x0 := by
  after_reads_simp
  simp only [hv81, hv6]
  rfl

set_option maxHeartbeats 1000000 in
theorem det1_v20 (hv81 : V (Proc.devRef .tc main_v81) = Cert.ReferenceIdeal.Read.val_main_v948 (F := Ideal) x0) (hv6 : V (Proc.devRef .tc main_call0_v6) = Cert.ReferenceIdeal.Read.val_main_v955 (F := Ideal) x0) :
    StableHlo.after det1 V (Proc.devRef .tc main_call0_v20) = Cert.ReferenceIdeal.Read.val_main_v969 (F := Ideal) x0 := by
  after_reads_simp
  simp only [hv81, hv6]
  rfl

set_option maxHeartbeats 1000000 in
theorem det1_v21 (hv81 : V (Proc.devRef .tc main_v81) = Cert.ReferenceIdeal.Read.val_main_v948 (F := Ideal) x0) (hv6 : V (Proc.devRef .tc main_call0_v6) = Cert.ReferenceIdeal.Read.val_main_v955 (F := Ideal) x0) :
    StableHlo.after det1 V (Proc.devRef .tc main_call0_v21) = Cert.ReferenceIdeal.Read.val_main_v970 (F := Ideal) x0 := by
  after_reads_simp
  simp only [hv81, hv6]
  rfl

/-- Operations 28 to 42. -/
abbrev det2 : List (HloOp τ sig (Elt Ideal)) := (hostOps8_1.drop 28).take 15

set_option maxHeartbeats 1000000 in
theorem det2_v28 (hv12 : V (Proc.devRef .tc main_call0_v12) = Cert.ReferenceIdeal.Read.val_main_v961 (F := Ideal) x0) (hv18 : V (Proc.devRef .tc main_call0_v18) = Cert.ReferenceIdeal.Read.val_main_v967 (F := Ideal) x0) (hv20 : V (Proc.devRef .tc main_call0_v20) = Cert.ReferenceIdeal.Read.val_main_v969 (F := Ideal) x0) (hv21 : V (Proc.devRef .tc main_call0_v21) = Cert.ReferenceIdeal.Read.val_main_v970 (F := Ideal) x0) :
    StableHlo.after det2 V (Proc.devRef .tc main_call0_v28) = Cert.ReferenceIdeal.Read.val_main_v977 (F := Ideal) x0 := by
  after_reads_simp
  simp only [hv12, hv18, hv20, hv21]
  rfl

set_option maxHeartbeats 1000000 in
theorem det2_v30 (hv12 : V (Proc.devRef .tc main_call0_v12) = Cert.ReferenceIdeal.Read.val_main_v961 (F := Ideal) x0) (hv18 : V (Proc.devRef .tc main_call0_v18) = Cert.ReferenceIdeal.Read.val_main_v967 (F := Ideal) x0) (hv20 : V (Proc.devRef .tc main_call0_v20) = Cert.ReferenceIdeal.Read.val_main_v969 (F := Ideal) x0) (hv21 : V (Proc.devRef .tc main_call0_v21) = Cert.ReferenceIdeal.Read.val_main_v970 (F := Ideal) x0) :
    StableHlo.after det2 V (Proc.devRef .tc main_call0_v30) = Cert.ReferenceIdeal.Read.val_main_v979 (F := Ideal) x0 := by
  after_reads_simp
  simp only [hv12, hv18, hv20, hv21]
  rfl

set_option maxHeartbeats 1000000 in
theorem det2_v32 (hv12 : V (Proc.devRef .tc main_call0_v12) = Cert.ReferenceIdeal.Read.val_main_v961 (F := Ideal) x0) (hv18 : V (Proc.devRef .tc main_call0_v18) = Cert.ReferenceIdeal.Read.val_main_v967 (F := Ideal) x0) (hv20 : V (Proc.devRef .tc main_call0_v20) = Cert.ReferenceIdeal.Read.val_main_v969 (F := Ideal) x0) (hv21 : V (Proc.devRef .tc main_call0_v21) = Cert.ReferenceIdeal.Read.val_main_v970 (F := Ideal) x0) :
    StableHlo.after det2 V (Proc.devRef .tc main_call0_v32) = Cert.ReferenceIdeal.Read.val_main_v981 (F := Ideal) x0 := by
  after_reads_simp
  simp only [hv12, hv18, hv20, hv21]
  rfl

set_option maxHeartbeats 1000000 in
theorem det2_v34 (hv12 : V (Proc.devRef .tc main_call0_v12) = Cert.ReferenceIdeal.Read.val_main_v961 (F := Ideal) x0) (hv18 : V (Proc.devRef .tc main_call0_v18) = Cert.ReferenceIdeal.Read.val_main_v967 (F := Ideal) x0) (hv20 : V (Proc.devRef .tc main_call0_v20) = Cert.ReferenceIdeal.Read.val_main_v969 (F := Ideal) x0) (hv21 : V (Proc.devRef .tc main_call0_v21) = Cert.ReferenceIdeal.Read.val_main_v970 (F := Ideal) x0) :
    StableHlo.after det2 V (Proc.devRef .tc main_call0_v34) = Cert.ReferenceIdeal.Read.val_main_v983 (F := Ideal) x0 := by
  after_reads_simp
  simp only [hv12, hv18, hv20, hv21]
  rfl

/-- Operations 43 to 53. -/
abbrev det3 : List (HloOp τ sig (Elt Ideal)) := (hostOps8_1.drop 43).take 11

set_option maxHeartbeats 1000000 in
theorem det3_v41 (hv30 : V (Proc.devRef .tc main_call0_v30) = Cert.ReferenceIdeal.Read.val_main_v979 (F := Ideal) x0) :
    StableHlo.after det3 V (Proc.devRef .tc main_call0_v41) = Cert.ReferenceIdeal.Read.val_main_v990 (F := Ideal) x0 := by
  after_reads_simp
  simp only [hv30]
  rfl

/-- Operations 54 to 65. -/
abbrev det4 : List (HloOp τ sig (Elt Ideal)) := (hostOps8_1.drop 54).take 12

set_option maxHeartbeats 1000000 in
theorem det4_v49 (hv30 : V (Proc.devRef .tc main_call0_v30) = Cert.ReferenceIdeal.Read.val_main_v979 (F := Ideal) x0) (hv18 : V (Proc.devRef .tc main_call0_v18) = Cert.ReferenceIdeal.Read.val_main_v967 (F := Ideal) x0) (hv41 : V (Proc.devRef .tc main_call0_v41) = Cert.ReferenceIdeal.Read.val_main_v990 (F := Ideal) x0) :
    StableHlo.after det4 V (Proc.devRef .tc main_call0_v49) = Cert.ReferenceIdeal.Read.val_main_v998 (F := Ideal) x0 := by
  after_reads_simp
  simp only [hv30, hv18, hv41]
  rfl

/-- Operations 66 to 77. -/
abbrev det5 : List (HloOp τ sig (Elt Ideal)) := (hostOps8_1.drop 66).take 12

set_option maxHeartbeats 1000000 in
theorem det5_v57 (hv30 : V (Proc.devRef .tc main_call0_v30) = Cert.ReferenceIdeal.Read.val_main_v979 (F := Ideal) x0) (hv32 : V (Proc.devRef .tc main_call0_v32) = Cert.ReferenceIdeal.Read.val_main_v981 (F := Ideal) x0) (hv41 : V (Proc.devRef .tc main_call0_v41) = Cert.ReferenceIdeal.Read.val_main_v990 (F := Ideal) x0) :
    StableHlo.after det5 V (Proc.devRef .tc main_call0_v57) = Cert.ReferenceIdeal.Read.val_main_v1006 (F := Ideal) x0 := by
  after_reads_simp
  simp only [hv30, hv32, hv41]
  rfl

/-- Operations 78 to 85. -/
abbrev det6 : List (HloOp τ sig (Elt Ideal)) := (hostOps8_1.drop 78).take 8

set_option maxHeartbeats 1000000 in
theorem det6_v61 (hv49 : V (Proc.devRef .tc main_call0_v49) = Cert.ReferenceIdeal.Read.val_main_v998 (F := Ideal) x0) (hv57 : V (Proc.devRef .tc main_call0_v57) = Cert.ReferenceIdeal.Read.val_main_v1006 (F := Ideal) x0) (hv30 : V (Proc.devRef .tc main_call0_v30) = Cert.ReferenceIdeal.Read.val_main_v979 (F := Ideal) x0) (hv18 : V (Proc.devRef .tc main_call0_v18) = Cert.ReferenceIdeal.Read.val_main_v967 (F := Ideal) x0) (hv32 : V (Proc.devRef .tc main_call0_v32) = Cert.ReferenceIdeal.Read.val_main_v981 (F := Ideal) x0) :
    StableHlo.after det6 V (Proc.devRef .tc main_call0_v61) = Cert.ReferenceIdeal.Read.val_main_v1010 (F := Ideal) x0 := by
  after_reads_simp
  simp only [hv49, hv57, hv30, hv18, hv32]
  rfl

set_option maxHeartbeats 1000000 in
theorem det6_v65 (hv49 : V (Proc.devRef .tc main_call0_v49) = Cert.ReferenceIdeal.Read.val_main_v998 (F := Ideal) x0) (hv57 : V (Proc.devRef .tc main_call0_v57) = Cert.ReferenceIdeal.Read.val_main_v1006 (F := Ideal) x0) (hv30 : V (Proc.devRef .tc main_call0_v30) = Cert.ReferenceIdeal.Read.val_main_v979 (F := Ideal) x0) (hv18 : V (Proc.devRef .tc main_call0_v18) = Cert.ReferenceIdeal.Read.val_main_v967 (F := Ideal) x0) (hv32 : V (Proc.devRef .tc main_call0_v32) = Cert.ReferenceIdeal.Read.val_main_v981 (F := Ideal) x0) :
    StableHlo.after det6 V (Proc.devRef .tc main_call0_v65) = Cert.ReferenceIdeal.Read.val_main_v1014 (F := Ideal) x0 := by
  after_reads_simp
  simp only [hv49, hv57, hv30, hv18, hv32]
  rfl

/-- Operations 86 to 100. -/
abbrev det7 : List (HloOp τ sig (Elt Ideal)) := (hostOps8_1.drop 86).take 15

set_option maxHeartbeats 1000000 in
theorem det7_v74 (hv61 : V (Proc.devRef .tc main_call0_v61) = Cert.ReferenceIdeal.Read.val_main_v1010 (F := Ideal) x0) (hv65 : V (Proc.devRef .tc main_call0_v65) = Cert.ReferenceIdeal.Read.val_main_v1014 (F := Ideal) x0) (hv34 : V (Proc.devRef .tc main_call0_v34) = Cert.ReferenceIdeal.Read.val_main_v983 (F := Ideal) x0) :
    StableHlo.after det7 V (Proc.devRef .tc main_call0_v74) = Cert.ReferenceIdeal.Read.val_main_v1023 (F := Ideal) x0 := by
  after_reads_simp
  simp only [hv61, hv65, hv34]
  rfl

set_option maxHeartbeats 1000000 in
theorem det7_v76 (hv61 : V (Proc.devRef .tc main_call0_v61) = Cert.ReferenceIdeal.Read.val_main_v1010 (F := Ideal) x0) (hv65 : V (Proc.devRef .tc main_call0_v65) = Cert.ReferenceIdeal.Read.val_main_v1014 (F := Ideal) x0) (hv34 : V (Proc.devRef .tc main_call0_v34) = Cert.ReferenceIdeal.Read.val_main_v983 (F := Ideal) x0) :
    StableHlo.after det7 V (Proc.devRef .tc main_call0_v76) = Cert.ReferenceIdeal.Read.val_main_v1025 (F := Ideal) x0 := by
  after_reads_simp
  simp only [hv61, hv65, hv34]
  rfl

set_option maxHeartbeats 1000000 in
theorem det7_v78 (hv61 : V (Proc.devRef .tc main_call0_v61) = Cert.ReferenceIdeal.Read.val_main_v1010 (F := Ideal) x0) (hv65 : V (Proc.devRef .tc main_call0_v65) = Cert.ReferenceIdeal.Read.val_main_v1014 (F := Ideal) x0) (hv34 : V (Proc.devRef .tc main_call0_v34) = Cert.ReferenceIdeal.Read.val_main_v983 (F := Ideal) x0) :
    StableHlo.after det7 V (Proc.devRef .tc main_call0_v78) = Cert.ReferenceIdeal.Read.val_main_v1027 (F := Ideal) x0 := by
  after_reads_simp
  simp only [hv61, hv65, hv34]
  rfl

/-- Operations 101 to 111. -/
abbrev det8 : List (HloOp τ sig (Elt Ideal)) := (hostOps8_1.drop 101).take 11

set_option maxHeartbeats 1000000 in
theorem det8_v85 (hv74 : V (Proc.devRef .tc main_call0_v74) = Cert.ReferenceIdeal.Read.val_main_v1023 (F := Ideal) x0) :
    StableHlo.after det8 V (Proc.devRef .tc main_call0_v85) = Cert.ReferenceIdeal.Read.val_main_v1034 (F := Ideal) x0 := by
  after_reads_simp
  simp only [hv74]
  rfl

/-- Operations 112 to 123. -/
abbrev det9 : List (HloOp τ sig (Elt Ideal)) := (hostOps8_1.drop 112).take 12

set_option maxHeartbeats 1000000 in
theorem det9_v93 (hv74 : V (Proc.devRef .tc main_call0_v74) = Cert.ReferenceIdeal.Read.val_main_v1023 (F := Ideal) x0) (hv76 : V (Proc.devRef .tc main_call0_v76) = Cert.ReferenceIdeal.Read.val_main_v1025 (F := Ideal) x0) (hv85 : V (Proc.devRef .tc main_call0_v85) = Cert.ReferenceIdeal.Read.val_main_v1034 (F := Ideal) x0) :
    StableHlo.after det9 V (Proc.devRef .tc main_call0_v93) = Cert.ReferenceIdeal.Read.val_main_v1042 (F := Ideal) x0 := by
  after_reads_simp
  simp only [hv74, hv76, hv85]
  rfl

/-- Operations 124 to 137. -/
abbrev det10 : List (HloOp τ sig (Elt Ideal)) := (hostOps8_1.drop 124).take 14

set_option maxHeartbeats 1000000 in
theorem det10_v82 (hv74 : V (Proc.devRef .tc main_call0_v74) = Cert.ReferenceIdeal.Read.val_main_v1023 (F := Ideal) x0) (hv76 : V (Proc.devRef .tc main_call0_v76) = Cert.ReferenceIdeal.Read.val_main_v1025 (F := Ideal) x0) (hv93 : V (Proc.devRef .tc main_call0_v93) = Cert.ReferenceIdeal.Read.val_main_v1042 (F := Ideal) x0) (hv30 : V (Proc.devRef .tc main_call0_v30) = Cert.ReferenceIdeal.Read.val_main_v979 (F := Ideal) x0) (hv78 : V (Proc.devRef .tc main_call0_v78) = Cert.ReferenceIdeal.Read.val_main_v1027 (F := Ideal) x0) :
    StableHlo.after det10 V (Proc.devRef .tc main_v82) = Cert.ReferenceIdeal.Read.val_main_v1056 (F := Ideal) x0 := by
  after_reads_simp
  simp only [hv74, hv76, hv93, hv30, hv78]
  rfl

/-- What is added for it. -/
theorem fold3 (h : V (Proc.devRef .tc main_v82) = Cert.ReferenceIdeal.Read.val_main_v1056 (F := Ideal) x0) :
    StableHlo.after hostOps8_2 V (Proc.devRef .tc main_v83) = Cert.ReferenceIdeal.Read.val_main_v1057 (F := Ideal) x0 := by
  after_reads_simp
  rw [h]
  rfl

theorem fold4 (h : V (Proc.devRef .tc main_v83) = Cert.ReferenceIdeal.Read.val_main_v1057 (F := Ideal) x0) :
    StableHlo.after hostOps8_3 V (Proc.devRef .tc main_v84) = Cert.ReferenceIdeal.Read.val_main_v1058 (F := Ideal) x0 := by
  after_reads_simp
  rw [h]
  rfl

theorem fold5 (x1 : (⟨S2x1x160x160x160, .f32⟩ : BufTy).Contents (Elt Ideal))
    (h : V (Proc.devRef .tc main_v84) = Cert.ReferenceIdeal.Read.val_main_v1058 (F := Ideal) x0)
    (h' : V (Proc.devRef .tc main_v56) = Cert.ReferenceIdeal.Read.val_main_v923 (F := Ideal) x0 x1) :
    StableHlo.after hostOps8_4 V (Proc.devRef .tc main_v88) = Cert.ReferenceIdeal.Read.val_main_v1062 (F := Ideal) x0 x1 := by
  after_reads_simp
  rw [h, h']
  rfl

end Cert.KernelIdeal.Gen

end
-- ==== Proof.Det.lean ====
/- The determinant's elimination, put together from its stretches. -/
module

public import proofs.«01_k».proof.Proof.Tail

@[expose] public section

set_option maxRecDepth 16384

noncomputable section

/-!
The determinant's elimination put together from its stretches (Tail): what each leaves alone, and the whole.
-/

namespace Cert.KernelIdeal.Gen

open Idealize.ShloMosaic Idealize.ShloMosaic.TcCoe Cert.KernelIdeal

variable (V : Valuation τ sig (Elt Ideal)) (x0 : (⟨S2x3x160x160x160, .f32⟩ : BufTy).Contents (Elt Ideal))

theorem det0_keep :
    StableHlo.after det0 V (Proc.devRef .tc main_v81) = V (Proc.devRef .tc main_v81) := by
  after_reads_simp

theorem det2_keep :
    StableHlo.after det2 V (Proc.devRef .tc main_call0_v18) = V (Proc.devRef .tc main_call0_v18) := by
  after_reads_simp

theorem det3_keep :
    StableHlo.after det3 V (Proc.devRef .tc main_call0_v18) = V (Proc.devRef .tc main_call0_v18)
    ∧ StableHlo.after det3 V (Proc.devRef .tc main_call0_v30) = V (Proc.devRef .tc main_call0_v30)
    ∧ StableHlo.after det3 V (Proc.devRef .tc main_call0_v32) = V (Proc.devRef .tc main_call0_v32)
    ∧ StableHlo.after det3 V (Proc.devRef .tc main_call0_v34) = V (Proc.devRef .tc main_call0_v34) := by
  refine ⟨?_, ?_, ?_, ?_⟩ <;> after_reads_simp

theorem det4_keep :
    StableHlo.after det4 V (Proc.devRef .tc main_call0_v18) = V (Proc.devRef .tc main_call0_v18)
    ∧ StableHlo.after det4 V (Proc.devRef .tc main_call0_v30) = V (Proc.devRef .tc main_call0_v30)
    ∧ StableHlo.after det4 V (Proc.devRef .tc main_call0_v32) = V (Proc.devRef .tc main_call0_v32)
    ∧ StableHlo.after det4 V (Proc.devRef .tc main_call0_v34) = V (Proc.devRef .tc main_call0_v34)
    ∧ StableHlo.after det4 V (Proc.devRef .tc main_call0_v41) = V (Proc.devRef .tc main_call0_v41) := by
  refine ⟨?_, ?_, ?_, ?_, ?_⟩ <;> after_reads_simp

theorem det5_keep :
    StableHlo.after det5 V (Proc.devRef .tc main_call0_v18) = V (Proc.devRef .tc main_call0_v18)
    ∧ StableHlo.after det5 V (Proc.devRef .tc main_call0_v30) = V (Proc.devRef .tc main_call0_v30)
    ∧ StableHlo.after det5 V (Proc.devRef .tc main_call0_v32) = V (Proc.devRef .tc main_call0_v32)
    ∧ StableHlo.after det5 V (Proc.devRef .tc main_call0_v34) = V (Proc.devRef .tc main_call0_v34)
    ∧ StableHlo.after det5 V (Proc.devRef .tc main_call0_v49) = V (Proc.devRef .tc main_call0_v49) := by
  refine ⟨?_, ?_, ?_, ?_, ?_⟩ <;> after_reads_simp

theorem det6_keep :
    StableHlo.after det6 V (Proc.devRef .tc main_call0_v30) = V (Proc.devRef .tc main_call0_v30)
    ∧ StableHlo.after det6 V (Proc.devRef .tc main_call0_v34) = V (Proc.devRef .tc main_call0_v34) := by
  refine ⟨?_, ?_⟩ <;> after_reads_simp

theorem det7_keep :
    StableHlo.after det7 V (Proc.devRef .tc main_call0_v30) = V (Proc.devRef .tc main_call0_v30) := by
  after_reads_simp

theorem det8_keep :
    StableHlo.after det8 V (Proc.devRef .tc main_call0_v30) = V (Proc.devRef .tc main_call0_v30)
    ∧ StableHlo.after det8 V (Proc.devRef .tc main_call0_v74) = V (Proc.devRef .tc main_call0_v74)
    ∧ StableHlo.after det8 V (Proc.devRef .tc main_call0_v76) = V (Proc.devRef .tc main_call0_v76)
    ∧ StableHlo.after det8 V (Proc.devRef .tc main_call0_v78) = V (Proc.devRef .tc main_call0_v78) := by
  refine ⟨?_, ?_, ?_, ?_⟩ <;> after_reads_simp

theorem det9_keep :
    StableHlo.after det9 V (Proc.devRef .tc main_call0_v30) = V (Proc.devRef .tc main_call0_v30)
    ∧ StableHlo.after det9 V (Proc.devRef .tc main_call0_v74) = V (Proc.devRef .tc main_call0_v74)
    ∧ StableHlo.after det9 V (Proc.devRef .tc main_call0_v76) = V (Proc.devRef .tc main_call0_v76)
    ∧ StableHlo.after det9 V (Proc.devRef .tc main_call0_v78) = V (Proc.devRef .tc main_call0_v78) := by
  refine ⟨?_, ?_, ?_, ?_⟩ <;> after_reads_simp

/-- The determinant. -/
theorem determinant (h : V (Proc.devRef .tc main_v81) = Cert.ReferenceIdeal.Read.val_main_v948 (F := Ideal) x0) :
    StableHlo.after hostOps8_1 V (Proc.devRef .tc main_v82) = Cert.ReferenceIdeal.Read.val_main_v1056 (F := Ideal) x0 := by
  have e : (hostOps8_1 : List (HloOp τ sig (Elt Ideal))) = det0 ++ (det1 ++ (det2 ++ (det3 ++ (det4 ++ (det5 ++ (det6 ++ (det7 ++ (det8 ++ (det9 ++ (det10)))))))))) := rfl
  rw [e, StableHlo.after_append, StableHlo.after_append, StableHlo.after_append, StableHlo.after_append, StableHlo.after_append, StableHlo.after_append, StableHlo.after_append, StableHlo.after_append, StableHlo.after_append, StableHlo.after_append]
  have h0_v6 := det0_v6 V x0 h
  have h0_v81 := (det0_keep V).trans h
  generalize StableHlo.after det0 V = V0 at h0_v6 h0_v81 ⊢
  have h1_v12 := det1_v12 V0 x0 h0_v81 h0_v6
  have h1_v18 := det1_v18 V0 x0 h0_v81 h0_v6
  have h1_v20 := det1_v20 V0 x0 h0_v81 h0_v6
  have h1_v21 := det1_v21 V0 x0 h0_v81 h0_v6
  generalize StableHlo.after det1 V0 = V1 at h1_v12 h1_v18 h1_v20 h1_v21 ⊢
  have h2_v28 := det2_v28 V1 x0 h1_v12 h1_v18 h1_v20 h1_v21
  have h2_v30 := det2_v30 V1 x0 h1_v12 h1_v18 h1_v20 h1_v21
  have h2_v32 := det2_v32 V1 x0 h1_v12 h1_v18 h1_v20 h1_v21
  have h2_v34 := det2_v34 V1 x0 h1_v12 h1_v18 h1_v20 h1_v21
  have h2_v18 := (det2_keep V1).trans h1_v18
  generalize StableHlo.after det2 V1 = V2 at h2_v18 h2_v28 h2_v30 h2_v32 h2_v34 ⊢
  have h3_v41 := det3_v41 V2 x0 h2_v30
  have h3_v18 := (det3_keep V2).1.trans h2_v18
  have h3_v30 := (det3_keep V2).2.1.trans h2_v30
  have h3_v32 := (det3_keep V2).2.2.1.trans h2_v32
  have h3_v34 := (det3_keep V2).2.2.2.trans h2_v34
  generalize StableHlo.after det3 V2 = V3 at h3_v18 h3_v30 h3_v32 h3_v34 h3_v41 ⊢
  have h4_v49 := det4_v49 V3 x0 h3_v30 h3_v18 h3_v41
  have h4_v18 := (det4_keep V3).1.trans h3_v18
  have h4_v30 := (det4_keep V3).2.1.trans h3_v30
  have h4_v32 := (det4_keep V3).2.2.1.trans h3_v32
  have h4_v34 := (det4_keep V3).2.2.2.1.trans h3_v34
  have h4_v41 := (det4_keep V3).2.2.2.2.trans h3_v41
  generalize StableHlo.after det4 V3 = V4 at h4_v18 h4_v30 h4_v32 h4_v34 h4_v41 h4_v49 ⊢
  have h5_v57 := det5_v57 V4 x0 h4_v30 h4_v32 h4_v41
  have h5_v18 := (det5_keep V4).1.trans h4_v18
  have h5_v30 := (det5_keep V4).2.1.trans h4_v30
  have h5_v32 := (det5_keep V4).2.2.1.trans h4_v32
  have h5_v34 := (det5_keep V4).2.2.2.1.trans h4_v34
  have h5_v49 := (det5_keep V4).2.2.2.2.trans h4_v49
  generalize StableHlo.after det5 V4 = V5 at h5_v18 h5_v30 h5_v32 h5_v34 h5_v49 h5_v57 ⊢
  have h6_v61 := det6_v61 V5 x0 h5_v49 h5_v57 h5_v30 h5_v18 h5_v32
  have h6_v65 := det6_v65 V5 x0 h5_v49 h5_v57 h5_v30 h5_v18 h5_v32
  have h6_v30 := (det6_keep V5).1.trans h5_v30
  have h6_v34 := (det6_keep V5).2.trans h5_v34
  generalize StableHlo.after det6 V5 = V6 at h6_v30 h6_v34 h6_v61 h6_v65 ⊢
  have h7_v74 := det7_v74 V6 x0 h6_v61 h6_v65 h6_v34
  have h7_v76 := det7_v76 V6 x0 h6_v61 h6_v65 h6_v34
  have h7_v78 := det7_v78 V6 x0 h6_v61 h6_v65 h6_v34
  have h7_v30 := (det7_keep V6).trans h6_v30
  generalize StableHlo.after det7 V6 = V7 at h7_v30 h7_v74 h7_v76 h7_v78 ⊢
  have h8_v85 := det8_v85 V7 x0 h7_v74
  have h8_v30 := (det8_keep V7).1.trans h7_v30
  have h8_v74 := (det8_keep V7).2.1.trans h7_v74
  have h8_v76 := (det8_keep V7).2.2.1.trans h7_v76
  have h8_v78 := (det8_keep V7).2.2.2.trans h7_v78
  generalize StableHlo.after det8 V7 = V8 at h8_v30 h8_v74 h8_v76 h8_v78 h8_v85 ⊢
  have h9_v93 := det9_v93 V8 x0 h8_v74 h8_v76 h8_v85
  have h9_v30 := (det9_keep V8).1.trans h8_v30
  have h9_v74 := (det9_keep V8).2.1.trans h8_v74
  have h9_v76 := (det9_keep V8).2.2.1.trans h8_v76
  have h9_v78 := (det9_keep V8).2.2.2.trans h8_v78
  generalize StableHlo.after det9 V8 = V9 at h9_v30 h9_v74 h9_v76 h9_v78 h9_v93 ⊢
  have h10_v82 := det10_v82 V9 x0 h9_v74 h9_v76 h9_v93 h9_v30 h9_v78
  exact h10_v82

end Cert.KernelIdeal.Gen

end
-- ==== Proof.InterpK.lean ====
/- The interpolation matrices the kernel's small calls write. -/
module

public import proofs.«01_k».proof.Proof.Gen.KernelIdeal.Frame.Region2
public import proofs.«01_k».proof.Proof.Gen.KernelIdeal.Frame.Region5
public import proofs.«01_k».proof.Proof.Interp
public import proofs.«01_k».proof.Proof.Block
public import Idealize.ShloMosaic.Lib.Pipeline.ValueKit

@[expose] public section

set_option maxRecDepth 16384

noncomputable section

namespace Cert.KernelIdeal.Gen

open Idealize.ShloMosaic Cert.Elastic Cert.KernelIdeal Idealize.ShloMosaic.TcCoe

theorem zero2 : (![0, 0] : Fin 2 → ℕ) = fun _ => 0 := funext fun a => by fin_cases a <;> rfl

theorem idx_interp80 : ∀ t : Fin cfg2.N, win2_0.index t = ![0, 0] ∧ win2_1.index t = ![0, 0] :=
  (by decide +kernel : ∀ t : Fin grid2.N, _)

/-- What the body writes from the coordinates it reads. -/
theorem interp80_reads (v : Vec Ideal S80x1 .f32) (f : ℕ → EReal) (h : Reads (r := 2) (sz := ![80, 1]) (α := EReal) v (fun x => f (x 0))) :
    Reads (r := 2) (sz := ![80, 160]) (α := EReal) (out2_1 v) (fun x => lerpM 160 (f (x 0)) (x 1)) := by
  have l : View.ld v r2_0 = v := View.ld_unit_zero zero2 _ v
  unfold out2_1
  rw [View.canon_unit_zero zero2, l]
  unfold k2_pay1
  dsimp only
  rw [shapeCast_self]
  exact reads_interp h (by decide) _ _ _ _ (fun _ => rfl) _ (fun _ => rfl) _ (fun _ => Ideal.ofBits_one_f32)

/-- The interpolation matrix to size 80. -/
theorem interp80_array (V : (c : Dev nD) → (b : Ref sig .tc) → Buf (Elt Ideal) ((c : Thread nD τ).loc b)) (c : Dev nD) (f : ℕ → EReal)
    (h : Reads (r := 2) (sz := ![80, 1]) (α := EReal) (V c main_v12) (fun x => f (x 0))) :
    Reads (r := 2) (sz := ![80, 160]) (α := EReal) ((dat2 V c).arrAt 1 cfg2.N) (fun x => lerpM 160 (f (x 0)) (x 1)) := by
  have key : (dat2 V c).arrAt 1 cfg2.N = (fun i => lerpM 160 (f (i 0).val) (i 1).val : FVec Ideal S80x160 .f32) := by
    refine (dat2 V c).arrAt_eq_of_covers 1 _ (by decide +kernel) fun t _ y => ?_
    obtain ⟨i0, i1⟩ := idx_interp80 t
    have r0 : Reads (r := 2) (sz := ![80, 1]) (α := EReal) (iblk2 V c 0 t) (fun x => f (x 0)) := by
      intro x hx
      refine (h.at (((cfg2.win 0).blk t).view.emb (fun a => ⟨x a, hx a⟩))).trans ?_
      blk_simp [i0]
    have r : Reads (r := 2) (sz := ![80, 160]) (α := EReal) (out2_1 (iblk2 V c 0 t)) (fun x => lerpM 160 (f (x 0)) (x 1)) :=
      interp80_reads _ f r0
    rw [after2_1]
    simp only [cast_eq]
    generalize out2_1 (iblk2 V c 0 t) = o at r ⊢
    refine (r.at ((cfg2.win 1).xinj (cfg2.grid.coords t) y)).trans ?_
    have e0 : ((cfg2.win 1).xinj (cfg2.grid.coords t) y 0).val = (y 0).val := rfl
    have e1 : ((cfg2.win 1).xinj (cfg2.grid.coords t) y 1).val = (y 1).val := rfl
    blk_simp [i1]
  rw [key]
  exact Reads.of_forall fun _ => rfl

theorem idx_interp40 : ∀ t : Fin cfg5.N, win5_0.index t = ![0, 0] ∧ win5_1.index t = ![0, 0] :=
  (by decide +kernel : ∀ t : Fin grid5.N, _)

/-- What the body writes from the coordinates it reads. -/
theorem interp40_reads (v : Vec Ideal S40x1 .f32) (f : ℕ → EReal) (h : Reads (r := 2) (sz := ![40, 1]) (α := EReal) v (fun x => f (x 0))) :
    Reads (r := 2) (sz := ![40, 160]) (α := EReal) (out5_1 v) (fun x => lerpM 160 (f (x 0)) (x 1)) := by
  have l : View.ld v r5_0 = v := View.ld_unit_zero zero2 _ v
  unfold out5_1
  rw [View.canon_unit_zero zero2, l]
  unfold k5_pay1
  dsimp only
  rw [shapeCast_self]
  exact reads_interp h (by decide) _ _ _ _ (fun _ => rfl) _ (fun _ => rfl) _ (fun _ => Ideal.ofBits_one_f32)

/-- The interpolation matrix to size 40. -/
theorem interp40_array (V : (c : Dev nD) → (b : Ref sig .tc) → Buf (Elt Ideal) ((c : Thread nD τ).loc b)) (c : Dev nD) (f : ℕ → EReal)
    (h : Reads (r := 2) (sz := ![40, 1]) (α := EReal) (V c main_v36) (fun x => f (x 0))) :
    Reads (r := 2) (sz := ![40, 160]) (α := EReal) ((dat5 V c).arrAt 1 cfg5.N) (fun x => lerpM 160 (f (x 0)) (x 1)) := by
  have key : (dat5 V c).arrAt 1 cfg5.N = (fun i => lerpM 160 (f (i 0).val) (i 1).val : FVec Ideal S40x160 .f32) := by
    refine (dat5 V c).arrAt_eq_of_covers 1 _ (by decide +kernel) fun t _ y => ?_
    obtain ⟨i0, i1⟩ := idx_interp40 t
    have r0 : Reads (r := 2) (sz := ![40, 1]) (α := EReal) (iblk5 V c 0 t) (fun x => f (x 0)) := by
      intro x hx
      refine (h.at (((cfg5.win 0).blk t).view.emb (fun a => ⟨x a, hx a⟩))).trans ?_
      blk_simp [i0]
    have r : Reads (r := 2) (sz := ![40, 160]) (α := EReal) (out5_1 (iblk5 V c 0 t)) (fun x => lerpM 160 (f (x 0)) (x 1)) :=
      interp40_reads _ f r0
    rw [after5_1]
    simp only [cast_eq]
    generalize out5_1 (iblk5 V c 0 t) = o at r ⊢
    refine (r.at ((cfg5.win 1).xinj (cfg5.grid.coords t) y)).trans ?_
    have e0 : ((cfg5.win 1).xinj (cfg5.grid.coords t) y 0).val = (y 0).val := rfl
    have e1 : ((cfg5.win 1).xinj (cfg5.grid.coords t) y 1).val = (y 1).val := rfl
    blk_simp [i1]
  rw [key]
  exact Reads.of_forall fun _ => rfl

end Cert.KernelIdeal.Gen

end
-- ==== Proof.ResizeR.lean ====
/- The reference's coarser fields: the interpolation along the three axes. -/
module

public import proofs.«01_k».proof.Proof.Gen.ReferenceIdeal.Read
public import proofs.«01_k».proof.Proof.Interp

@[expose] public section

set_option maxRecDepth 16384

noncomputable section

namespace Cert.ReferenceIdeal.Read

open Idealize.ShloMosaic Cert.Elastic Cert.ReferenceIdeal

/-- The displacement at size 80. -/
theorem disp80R (x0 : (⟨S2x3x160x160x160, .f32⟩ : BufTy).Contents (Elt Ideal)) (F : ℕ → ℕ → ℕ → ℕ → ℕ → EReal)
    (h : Reads (r := 5) (sz := ![2, 3, 160, 160, 160]) (α := EReal) x0 (fun x => F (x 0) (x 1) (x 2) (x 3) (x 4))) :
    Reads (r := 5) (sz := ![2, 3, 80, 80, 80]) (α := EReal) (val_main_v286 (F := Ideal) x0)
      (fun x => resized 0x4000CF64#32 (F (x 0) (x 1)) (x 2) (x 3) (x 4)) := by
  have c0 : Reads (r := 1) (sz := ![80]) (α := EReal) (val_main_v226 (F := Ideal)) (fun x => pos 0x4000CF64#32 (x 0)) := reads_pos 0x4000CF64#32 (fun _ => rfl)
  have l0 : Reads (r := 2) (sz := ![80, 1]) (val_main_call2_v0 (F := Ideal)) (fun x => lo (pos 0x4000CF64#32 (x 0))) := Reads.col (g := fun q => lo (pos 0x4000CF64#32 q)) (reads_lo c0) (by decide) _
  have u0 : Reads (r := 2) (sz := ![80, 1]) (val_main_call3_v0 (F := Ideal)) (fun x => hi 160 (pos 0x4000CF64#32 (x 0))) :=
    Reads.col (g := fun q => hi 160 (pos 0x4000CF64#32 q)) (reads_hi 160 c0 (fun _ => rfl) (fun _ => rfl)) (by decide) _
  have r0 : Reads (r := 5) (sz := ![2, 3, 80, 160, 160]) (α := EReal) (val_main_v244 (F := Ideal) x0) _ :=
    reads_blend (f := fun x => F (x 0) (x 1) (x 2) (x 3) (x 4)) 2 160 (reads_take2 (g := fun q => lo (pos 0x4000CF64#32 q)) _ h l0)
      (reads_take2 (g := fun q => hi 160 (pos 0x4000CF64#32 q)) _ h u0) (reads_wt c0) (fun _ => rfl) (by decide) (by decide) (by decide) _ _ _
  have c1 : Reads (r := 1) (sz := ![80]) (α := EReal) (val_main_v247 (F := Ideal)) (fun x => pos 0x4000CF64#32 (x 0)) := reads_pos 0x4000CF64#32 (fun _ => rfl)
  have l1 : Reads (r := 2) (sz := ![80, 1]) (val_main_call4_v0 (F := Ideal)) (fun x => lo (pos 0x4000CF64#32 (x 0))) := Reads.col (g := fun q => lo (pos 0x4000CF64#32 q)) (reads_lo c1) (by decide) _
  have u1 : Reads (r := 2) (sz := ![80, 1]) (val_main_call5_v0 (F := Ideal)) (fun x => hi 160 (pos 0x4000CF64#32 (x 0))) :=
    Reads.col (g := fun q => hi 160 (pos 0x4000CF64#32 q)) (reads_hi 160 c1 (fun _ => rfl) (fun _ => rfl)) (by decide) _
  have r1 : Reads (r := 5) (sz := ![2, 3, 80, 80, 160]) (α := EReal) (val_main_v265 (F := Ideal) x0) _ :=
    reads_blend (f := fun x => lerp 160 (pos 0x4000CF64#32 (x 2)) fun p => F (x 0) (x 1) p (x 3) (x 4)) 3 160 (reads_take3 (g := fun q => lo (pos 0x4000CF64#32 q)) _ r0 l1)
      (reads_take3 (g := fun q => hi 160 (pos 0x4000CF64#32 q)) _ r0 u1) (reads_wt c1) (fun _ => rfl) (by decide) (by decide) (by decide) _ _ _
  have c2 : Reads (r := 1) (sz := ![80]) (α := EReal) (val_main_v268 (F := Ideal)) (fun x => pos 0x4000CF64#32 (x 0)) := reads_pos 0x4000CF64#32 (fun _ => rfl)
  have l2 : Reads (r := 2) (sz := ![80, 1]) (val_main_call6_v0 (F := Ideal)) (fun x => lo (pos 0x4000CF64#32 (x 0))) := Reads.col (g := fun q => lo (pos 0x4000CF64#32 q)) (reads_lo c2) (by decide) _
  have u2 : Reads (r := 2) (sz := ![80, 1]) (val_main_call7_v0 (F := Ideal)) (fun x => hi 160 (pos 0x4000CF64#32 (x 0))) :=
    Reads.col (g := fun q => hi 160 (pos 0x4000CF64#32 q)) (reads_hi 160 c2 (fun _ => rfl) (fun _ => rfl)) (by decide) _
  have r2 : Reads (r := 5) (sz := ![2, 3, 80, 80, 80]) (α := EReal) (val_main_v286 (F := Ideal) x0) _ :=
    reads_blend (f := fun x => lerp 160 (pos 0x4000CF64#32 (x 3)) fun q => lerp 160 (pos 0x4000CF64#32 (x 2)) fun p => F (x 0) (x 1) p q (x 4)) 4 160 (reads_take4 (g := fun q => lo (pos 0x4000CF64#32 q)) _ r1 l2)
      (reads_take4 (g := fun q => hi 160 (pos 0x4000CF64#32 q)) _ r1 u2) (reads_wt c2) (fun _ => rfl) (by decide) (by decide) (by decide) _ _ _
  exact r2

/-- The image at size 80. -/
theorem img80R (x1 : (⟨S2x1x160x160x160, .f32⟩ : BufTy).Contents (Elt Ideal)) (F : ℕ → ℕ → ℕ → ℕ → ℕ → EReal)
    (h : Reads (r := 5) (sz := ![2, 1, 160, 160, 160]) (α := EReal) x1 (fun x => F (x 0) (x 1) (x 2) (x 3) (x 4))) :
    Reads (r := 5) (sz := ![2, 1, 80, 80, 80]) (α := EReal) (val_main_v349 (F := Ideal) x1)
      (fun x => resized 0x4000CF64#32 (F (x 0) (x 1)) (x 2) (x 3) (x 4)) := by
  have c0 : Reads (r := 1) (sz := ![80]) (α := EReal) (val_main_v289 (F := Ideal)) (fun x => pos 0x4000CF64#32 (x 0)) := reads_pos 0x4000CF64#32 (fun _ => rfl)
  have l0 : Reads (r := 2) (sz := ![80, 1]) (val_main_call8_v0 (F := Ideal)) (fun x => lo (pos 0x4000CF64#32 (x 0))) := Reads.col (g := fun q => lo (pos 0x4000CF64#32 q)) (reads_lo c0) (by decide) _
  have u0 : Reads (r := 2) (sz := ![80, 1]) (val_main_call9_v0 (F := Ideal)) (fun x => hi 160 (pos 0x4000CF64#32 (x 0))) :=
    Reads.col (g := fun q => hi 160 (pos 0x4000CF64#32 q)) (reads_hi 160 c0 (fun _ => rfl) (fun _ => rfl)) (by decide) _
  have r0 : Reads (r := 5) (sz := ![2, 1, 80, 160, 160]) (α := EReal) (val_main_v307 (F := Ideal) x1) _ :=
    reads_blend (f := fun x => F (x 0) (x 1) (x 2) (x 3) (x 4)) 2 160 (reads_take2 (g := fun q => lo (pos 0x4000CF64#32 q)) _ h l0)
      (reads_take2 (g := fun q => hi 160 (pos 0x4000CF64#32 q)) _ h u0) (reads_wt c0) (fun _ => rfl) (by decide) (by decide) (by decide) _ _ _
  have c1 : Reads (r := 1) (sz := ![80]) (α := EReal) (val_main_v310 (F := Ideal)) (fun x => pos 0x4000CF64#32 (x 0)) := reads_pos 0x4000CF64#32 (fun _ => rfl)
  have l1 : Reads (r := 2) (sz := ![80, 1]) (val_main_call10_v0 (F := Ideal)) (fun x => lo (pos 0x4000CF64#32 (x 0))) := Reads.col (g := fun q => lo (pos 0x4000CF64#32 q)) (reads_lo c1) (by decide) _
  have u1 : Reads (r := 2) (sz := ![80, 1]) (val_main_call11_v0 (F := Ideal)) (fun x => hi 160 (pos 0x4000CF64#32 (x 0))) :=
    Reads.col (g := fun q => hi 160 (pos 0x4000CF64#32 q)) (reads_hi 160 c1 (fun _ => rfl) (fun _ => rfl)) (by decide) _
  have r1 : Reads (r := 5) (sz := ![2, 1, 80, 80, 160]) (α := EReal) (val_main_v328 (F := Ideal) x1) _ :=
    reads_blend (f := fun x => lerp 160 (pos 0x4000CF64#32 (x 2)) fun p => F (x 0) (x 1) p (x 3) (x 4)) 3 160 (reads_take3 (g := fun q => lo (pos 0x4000CF64#32 q)) _ r0 l1)
      (reads_take3 (g := fun q => hi 160 (pos 0x4000CF64#32 q)) _ r0 u1) (reads_wt c1) (fun _ => rfl) (by decide) (by decide) (by decide) _ _ _
  have c2 : Reads (r := 1) (sz := ![80]) (α := EReal) (val_main_v331 (F := Ideal)) (fun x => pos 0x4000CF64#32 (x 0)) := reads_pos 0x4000CF64#32 (fun _ => rfl)
  have l2 : Reads (r := 2) (sz := ![80, 1]) (val_main_call12_v0 (F := Ideal)) (fun x => lo (pos 0x4000CF64#32 (x 0))) := Reads.col (g := fun q => lo (pos 0x4000CF64#32 q)) (reads_lo c2) (by decide) _
  have u2 : Reads (r := 2) (sz := ![80, 1]) (val_main_call13_v0 (F := Ideal)) (fun x => hi 160 (pos 0x4000CF64#32 (x 0))) :=
    Reads.col (g := fun q => hi 160 (pos 0x4000CF64#32 q)) (reads_hi 160 c2 (fun _ => rfl) (fun _ => rfl)) (by decide) _
  have r2 : Reads (r := 5) (sz := ![2, 1, 80, 80, 80]) (α := EReal) (val_main_v349 (F := Ideal) x1) _ :=
    reads_blend (f := fun x => lerp 160 (pos 0x4000CF64#32 (x 3)) fun q => lerp 160 (pos 0x4000CF64#32 (x 2)) fun p => F (x 0) (x 1) p q (x 4)) 4 160 (reads_take4 (g := fun q => lo (pos 0x4000CF64#32 q)) _ r1 l2)
      (reads_take4 (g := fun q => hi 160 (pos 0x4000CF64#32 q)) _ r1 u2) (reads_wt c2) (fun _ => rfl) (by decide) (by decide) (by decide) _ _ _
  exact r2

/-- The displacement at size 40. -/
theorem disp40R (x0 : (⟨S2x3x160x160x160, .f32⟩ : BufTy).Contents (Elt Ideal)) (F : ℕ → ℕ → ℕ → ℕ → ℕ → EReal)
    (h : Reads (r := 5) (sz := ![2, 3, 160, 160, 160]) (α := EReal) x0 (fun x => F (x 0) (x 1) (x 2) (x 3) (x 4))) :
    Reads (r := 5) (sz := ![2, 3, 40, 40, 40]) (α := EReal) (val_main_v636 (F := Ideal) x0)
      (fun x => resized 0x40827627#32 (F (x 0) (x 1)) (x 2) (x 3) (x 4)) := by
  have c0 : Reads (r := 1) (sz := ![40]) (α := EReal) (val_main_v576 (F := Ideal)) (fun x => pos 0x40827627#32 (x 0)) := reads_pos 0x40827627#32 (fun _ => rfl)
  have l0 : Reads (r := 2) (sz := ![40, 1]) (val_main_call16_v0 (F := Ideal)) (fun x => lo (pos 0x40827627#32 (x 0))) := Reads.col (g := fun q => lo (pos 0x40827627#32 q)) (reads_lo c0) (by decide) _
  have u0 : Reads (r := 2) (sz := ![40, 1]) (val_main_call17_v0 (F := Ideal)) (fun x => hi 160 (pos 0x40827627#32 (x 0))) :=
    Reads.col (g := fun q => hi 160 (pos 0x40827627#32 q)) (reads_hi 160 c0 (fun _ => rfl) (fun _ => rfl)) (by decide) _
  have r0 : Reads (r := 5) (sz := ![2, 3, 40, 160, 160]) (α := EReal) (val_main_v594 (F := Ideal) x0) _ :=
    reads_blend (f := fun x => F (x 0) (x 1) (x 2) (x 3) (x 4)) 2 160 (reads_take2 (g := fun q => lo (pos 0x40827627#32 q)) _ h l0)
      (reads_take2 (g := fun q => hi 160 (pos 0x40827627#32 q)) _ h u0) (reads_wt c0) (fun _ => rfl) (by decide) (by decide) (by decide) _ _ _
  have c1 : Reads (r := 1) (sz := ![40]) (α := EReal) (val_main_v597 (F := Ideal)) (fun x => pos 0x40827627#32 (x 0)) := reads_pos 0x40827627#32 (fun _ => rfl)
  have l1 : Reads (r := 2) (sz := ![40, 1]) (val_main_call18_v0 (F := Ideal)) (fun x => lo (pos 0x40827627#32 (x 0))) := Reads.col (g := fun q => lo (pos 0x40827627#32 q)) (reads_lo c1) (by decide) _
  have u1 : Reads (r := 2) (sz := ![40, 1]) (val_main_call19_v0 (F := Ideal)) (fun x => hi 160 (pos 0x40827627#32 (x 0))) :=
    Reads.col (g := fun q => hi 160 (pos 0x40827627#32 q)) (reads_hi 160 c1 (fun _ => rfl) (fun _ => rfl)) (by decide) _
  have r1 : Reads (r := 5) (sz := ![2, 3, 40, 40, 160]) (α := EReal) (val_main_v615 (F := Ideal) x0) _ :=
    reads_blend (f := fun x => lerp 160 (pos 0x40827627#32 (x 2)) fun p => F (x 0) (x 1) p (x 3) (x 4)) 3 160 (reads_take3 (g := fun q => lo (pos 0x40827627#32 q)) _ r0 l1)
      (reads_take3 (g := fun q => hi 160 (pos 0x40827627#32 q)) _ r0 u1) (reads_wt c1) (fun _ => rfl) (by decide) (by decide) (by decide) _ _ _
  have c2 : Reads (r := 1) (sz := ![40]) (α := EReal) (val_main_v618 (F := Ideal)) (fun x => pos 0x40827627#32 (x 0)) := reads_pos 0x40827627#32 (fun _ => rfl)
  have l2 : Reads (r := 2) (sz := ![40, 1]) (val_main_call20_v0 (F := Ideal)) (fun x => lo (pos 0x40827627#32 (x 0))) := Reads.col (g := fun q => lo (pos 0x40827627#32 q)) (reads_lo c2) (by decide) _
  have u2 : Reads (r := 2) (sz := ![40, 1]) (val_main_call21_v0 (F := Ideal)) (fun x => hi 160 (pos 0x40827627#32 (x 0))) :=
    Reads.col (g := fun q => hi 160 (pos 0x40827627#32 q)) (reads_hi 160 c2 (fun _ => rfl) (fun _ => rfl)) (by decide) _
  have r2 : Reads (r := 5) (sz := ![2, 3, 40, 40, 40]) (α := EReal) (val_main_v636 (F := Ideal) x0) _ :=
    reads_blend (f := fun x => lerp 160 (pos 0x40827627#32 (x 3)) fun q => lerp 160 (pos 0x40827627#32 (x 2)) fun p => F (x 0) (x 1) p q (x 4)) 4 160 (reads_take4 (g := fun q => lo (pos 0x40827627#32 q)) _ r1 l2)
      (reads_take4 (g := fun q => hi 160 (pos 0x40827627#32 q)) _ r1 u2) (reads_wt c2) (fun _ => rfl) (by decide) (by decide) (by decide) _ _ _
  exact r2

/-- The image at size 40. -/
theorem img40R (x1 : (⟨S2x1x160x160x160, .f32⟩ : BufTy).Contents (Elt Ideal)) (F : ℕ → ℕ → ℕ → ℕ → ℕ → EReal)
    (h : Reads (r := 5) (sz := ![2, 1, 160, 160, 160]) (α := EReal) x1 (fun x => F (x 0) (x 1) (x 2) (x 3) (x 4))) :
    Reads (r := 5) (sz := ![2, 1, 40, 40, 40]) (α := EReal) (val_main_v699 (F := Ideal) x1)
      (fun x => resized 0x40827627#32 (F (x 0) (x 1)) (x 2) (x 3) (x 4)) := by
  have c0 : Reads (r := 1) (sz := ![40]) (α := EReal) (val_main_v639 (F := Ideal)) (fun x => pos 0x40827627#32 (x 0)) := reads_pos 0x40827627#32 (fun _ => rfl)
  have l0 : Reads (r := 2) (sz := ![40, 1]) (val_main_call22_v0 (F := Ideal)) (fun x => lo (pos 0x40827627#32 (x 0))) := Reads.col (g := fun q => lo (pos 0x40827627#32 q)) (reads_lo c0) (by decide) _
  have u0 : Reads (r := 2) (sz := ![40, 1]) (val_main_call23_v0 (F := Ideal)) (fun x => hi 160 (pos 0x40827627#32 (x 0))) :=
    Reads.col (g := fun q => hi 160 (pos 0x40827627#32 q)) (reads_hi 160 c0 (fun _ => rfl) (fun _ => rfl)) (by decide) _
  have r0 : Reads (r := 5) (sz := ![2, 1, 40, 160, 160]) (α := EReal) (val_main_v657 (F := Ideal) x1) _ :=
    reads_blend (f := fun x => F (x 0) (x 1) (x 2) (x 3) (x 4)) 2 160 (reads_take2 (g := fun q => lo (pos 0x40827627#32 q)) _ h l0)
      (reads_take2 (g := fun q => hi 160 (pos 0x40827627#32 q)) _ h u0) (reads_wt c0) (fun _ => rfl) (by decide) (by decide) (by decide) _ _ _
  have c1 : Reads (r := 1) (sz := ![40]) (α := EReal) (val_main_v660 (F := Ideal)) (fun x => pos 0x40827627#32 (x 0)) := reads_pos 0x40827627#32 (fun _ => rfl)
  have l1 : Reads (r := 2) (sz := ![40, 1]) (val_main_call24_v0 (F := Ideal)) (fun x => lo (pos 0x40827627#32 (x 0))) := Reads.col (g := fun q => lo (pos 0x40827627#32 q)) (reads_lo c1) (by decide) _
  have u1 : Reads (r := 2) (sz := ![40, 1]) (val_main_call25_v0 (F := Ideal)) (fun x => hi 160 (pos 0x40827627#32 (x 0))) :=
    Reads.col (g := fun q => hi 160 (pos 0x40827627#32 q)) (reads_hi 160 c1 (fun _ => rfl) (fun _ => rfl)) (by decide) _
  have r1 : Reads (r := 5) (sz := ![2, 1, 40, 40, 160]) (α := EReal) (val_main_v678 (F := Ideal) x1) _ :=
    reads_blend (f := fun x => lerp 160 (pos 0x40827627#32 (x 2)) fun p => F (x 0) (x 1) p (x 3) (x 4)) 3 160 (reads_take3 (g := fun q => lo (pos 0x40827627#32 q)) _ r0 l1)
      (reads_take3 (g := fun q => hi 160 (pos 0x40827627#32 q)) _ r0 u1) (reads_wt c1) (fun _ => rfl) (by decide) (by decide) (by decide) _ _ _
  have c2 : Reads (r := 1) (sz := ![40]) (α := EReal) (val_main_v681 (F := Ideal)) (fun x => pos 0x40827627#32 (x 0)) := reads_pos 0x40827627#32 (fun _ => rfl)
  have l2 : Reads (r := 2) (sz := ![40, 1]) (val_main_call26_v0 (F := Ideal)) (fun x => lo (pos 0x40827627#32 (x 0))) := Reads.col (g := fun q => lo (pos 0x40827627#32 q)) (reads_lo c2) (by decide) _
  have u2 : Reads (r := 2) (sz := ![40, 1]) (val_main_call27_v0 (F := Ideal)) (fun x => hi 160 (pos 0x40827627#32 (x 0))) :=
    Reads.col (g := fun q => hi 160 (pos 0x40827627#32 q)) (reads_hi 160 c2 (fun _ => rfl) (fun _ => rfl)) (by decide) _
  have r2 : Reads (r := 5) (sz := ![2, 1, 40, 40, 40]) (α := EReal) (val_main_v699 (F := Ideal) x1) _ :=
    reads_blend (f := fun x => lerp 160 (pos 0x40827627#32 (x 3)) fun q => lerp 160 (pos 0x40827627#32 (x 2)) fun p => F (x 0) (x 1) p q (x 4)) 4 160 (reads_take4 (g := fun q => lo (pos 0x40827627#32 q)) _ r1 l2)
      (reads_take4 (g := fun q => hi 160 (pos 0x40827627#32 q)) _ r1 u2) (reads_wt c2) (fun _ => rfl) (by decide) (by decide) (by decide) _ _ _
  exact r2

end Cert.ReferenceIdeal.Read

end
-- ==== Proof.Ref160.lean ====
/- The reference at size 160: its energy density at a point. -/
module

public import proofs.«01_k».proof.Proof.Gen.ReferenceIdeal.Read
public import proofs.«01_k».proof.Proof.HostStages

@[expose] public section

set_option maxRecDepth 16384

noncomputable section

namespace Cert.ReferenceIdeal.Read

open Idealize.ShloMosaic Cert.Elastic Cert.ReferenceIdeal

section
variable (x0 : (⟨S2x3x160x160x160, .f32⟩ : BufTy).Contents (Elt Ideal)) (x1 : (⟨S2x1x160x160x160, .f32⟩ : BufTy).Contents (Elt Ideal))

/-- The gradient magnitude of the image. -/
theorem mag160R (I : ℕ → ℕ → ℕ → ℕ → EReal)
    (h0 : Reads (r := 4) (sz := ![2, 160, 160, 160]) (α := EReal) (val_main_v0 (F := Ideal) x1) (fun x => I (x 0) (x 1) (x 2) (x 3))) :
    Reads (r := 4) (sz := ![2, 160, 160, 160]) (α := EReal) (val_main_v42 (F := Ideal) x1) (fun x => magR 160 (I (x 0)) (x 1) (x 2) (x 3)) := by
  have gx : Reads (r := 4) (sz := ![2, 160, 160, 160]) (α := EReal) (val_main_v12 (F := Ideal) x1) (fun x => grad1 160 (fun q => I (x 0) q (x 2) (x 3)) (x 1)) :=
    reads_grad (h := by decide) 1 160 h0 (fun _ => rfl) (by decide) rfl rfl
      (by decide) (by decide) (by decide) (by decide) (by decide) (by decide)
  have gy : Reads (r := 4) (sz := ![2, 160, 160, 160]) (α := EReal) (val_main_v24 (F := Ideal) x1) (fun x => grad1 160 (fun q => I (x 0) (x 1) q (x 3)) (x 2)) :=
    reads_grad (h := by decide) 2 160 h0 (fun _ => rfl) (by decide) rfl rfl
      (by decide) (by decide) (by decide) (by decide) (by decide) (by decide)
  have gz : Reads (r := 4) (sz := ![2, 160, 160, 160]) (α := EReal) (val_main_v36 (F := Ideal) x1) (fun x => grad1 160 (fun q => I (x 0) (x 1) (x 2) q) (x 3)) :=
    reads_grad (h := by decide) 3 160 h0 (fun _ => rfl) (by decide) rfl rfl
      (by decide) (by decide) (by decide) (by decide) (by decide) (by decide)
  exact (((gx.mulf gx).addf (gy.mulf gy)).addf (gz.mulf gz)).hsqrt

/-- Its smoothing along the three axes. -/
theorem smooth160R (G : ℕ → ℕ → ℕ → ℕ → EReal)
    (h : Reads (r := 4) (sz := ![2, 160, 160, 160]) (α := EReal) (val_main_v42 (F := Ideal) x1) (fun x => G (x 0) (x 1) (x 2) (x 3))) :
    Reads (r := 4) (sz := ![2, 160, 160, 160]) (α := EReal) (val_main_v120 (F := Ideal) x1) (fun x => smoothR 160 (G (x 0)) (x 1) (x 2) (x 3)) := by
  have p1 : Reads (r := 4) (sz := ![2, 164, 160, 160]) (α := EReal) (val_main_v47 (F := Ideal) x1) (fun x => G (x 0) (refl 160 (x 1)) (x 2) (x 3)) :=
    reads_pad5 (h := by decide) 1 160 h (by decide) rfl rfl (by decide) (by decide) (by decide) (by decide)
  have b1 : Reads (r := 4) (sz := ![2, 160, 160, 160]) (α := EReal) (val_main_v68 (F := Ideal) x1) (fun x => blur1 160 (fun p => G (x 0) p (x 2) (x 3)) (x 1)) :=
    reads_taps 1 p1 (fun _ => rfl) (fun _ => rfl) (fun _ => rfl) (fun _ => rfl) (fun _ => rfl) (fun _ => rfl)
      (by decide) (by decide) (by decide) (by decide) (by decide)
  have p2 : Reads (r := 4) (sz := ![2, 160, 164, 160]) (α := EReal) (val_main_v73 (F := Ideal) x1) (fun x => blur1 160 (fun p => G (x 0) p (refl 160 (x 2)) (x 3)) (x 1)) :=
    reads_pad5 (h := by decide) 2 160 b1 (by decide) rfl rfl (by decide) (by decide) (by decide) (by decide)
  have b2 : Reads (r := 4) (sz := ![2, 160, 160, 160]) (α := EReal) (val_main_v94 (F := Ideal) x1) (fun x => blur1 160 (fun q => blur1 160 (fun p => G (x 0) p q (x 3)) (x 1)) (x 2)) :=
    reads_taps 2 p2 (fun _ => rfl) (fun _ => rfl) (fun _ => rfl) (fun _ => rfl) (fun _ => rfl) (fun _ => rfl)
      (by decide) (by decide) (by decide) (by decide) (by decide)
  have p3 : Reads (r := 4) (sz := ![2, 160, 160, 164]) (α := EReal) (val_main_v99 (F := Ideal) x1)
      (fun x => blur1 160 (fun q => blur1 160 (fun p => G (x 0) p q (refl 160 (x 3))) (x 1)) (x 2)) :=
    reads_pad5 (h := by decide) 3 160 b2 (by decide) rfl rfl (by decide) (by decide) (by decide) (by decide)
  exact reads_taps 3 p3 (fun _ => rfl) (fun _ => rfl) (fun _ => rfl) (fun _ => rfl) (fun _ => rfl) (fun _ => rfl)
      (by decide) (by decide) (by decide) (by decide) (by decide)

/-- The energy density. -/
theorem point160R (D : ℕ → ℕ → ℕ → ℕ → ℕ → EReal) (I : ℕ → ℕ → ℕ → ℕ → EReal)
    (hD : Reads (r := 5) (sz := ![2, 3, 160, 160, 160]) (α := EReal) x0 (fun x => D (x 0) (x 1) (x 2) (x 3) (x 4)))
    (hI : Reads (r := 4) (sz := ![2, 160, 160, 160]) (α := EReal) (val_main_v0 (F := Ideal) x1) (fun x => I (x 0) (x 1) (x 2) (x 3))) :
    Reads (r := 4) (sz := ![2, 160, 160, 160]) (α := EReal) (val_main_v219 (F := Ideal) x0 x1) (fun x => pointR 160 (D (x 0)) (I (x 0)) (x 1) (x 2) (x 3)) := by
  have s := smooth160R x1 (fun b => magR 160 (I b)) (mag160R x1 I hI)
  have gx : Reads (r := 5) (sz := ![2, 3, 160, 160, 160]) (α := EReal) (val_main_v142 (F := Ideal) x0) (fun x => grad1 160 (fun q => D (x 0) (x 1) q (x 3) (x 4)) (x 2)) :=
    reads_grad (h := by decide) 2 160 hD (fun _ => rfl) (by decide) rfl rfl
      (by decide) (by decide) (by decide) (by decide) (by decide) (by decide)
  have gy : Reads (r := 5) (sz := ![2, 3, 160, 160, 160]) (α := EReal) (val_main_v154 (F := Ideal) x0) (fun x => grad1 160 (fun q => D (x 0) (x 1) (x 2) q (x 4)) (x 3)) :=
    reads_grad (h := by decide) 3 160 hD (fun _ => rfl) (by decide) rfl rfl
      (by decide) (by decide) (by decide) (by decide) (by decide) (by decide)
  have gz : Reads (r := 5) (sz := ![2, 3, 160, 160, 160]) (α := EReal) (val_main_v166 (F := Ideal) x0) (fun x => grad1 160 (fun q => D (x 0) (x 1) (x 2) (x 3) q) (x 4)) :=
    reads_grad (h := by decide) 4 160 hD (fun _ => rfl) (by decide) rfl rfl
      (by decide) (by decide) (by decide) (by decide) (by decide) (by decide)
  have xx : Reads (r := 4) (sz := ![2, 160, 160, 160]) (α := EReal) (val_main_v168 (F := Ideal) x0) (fun x => grad1 160 (fun q => D (x 0) 0 q (x 2) (x 3)) (x 1)) := gx.pick 0 (by decide) (by decide) (by decide)
  have yy : Reads (r := 4) (sz := ![2, 160, 160, 160]) (α := EReal) (val_main_v170 (F := Ideal) x0) (fun x => grad1 160 (fun q => D (x 0) 1 (x 1) q (x 3)) (x 2)) := gy.pick 1 (by decide) (by decide) (by decide)
  have zz : Reads (r := 4) (sz := ![2, 160, 160, 160]) (α := EReal) (val_main_v172 (F := Ideal) x0) (fun x => grad1 160 (fun q => D (x 0) 2 (x 1) (x 2) q) (x 3)) := gz.pick 2 (by decide) (by decide) (by decide)
  have xy : Reads (r := 4) (sz := ![2, 160, 160, 160]) (α := EReal) (val_main_v179 (F := Ideal) x0) (fun x => half * (grad1 160 (fun q => D (x 0) 0 (x 1) q (x 3)) (x 2) + grad1 160 (fun q => D (x 0) 1 q (x 2) (x 3)) (x 1))) :=
    (Reads.const fun _ => rfl).mulf ((gy.pick 0 (by decide) (by decide) (by decide)).addf (gx.pick 1 (by decide) (by decide) (by decide)))
  have xz : Reads (r := 4) (sz := ![2, 160, 160, 160]) (α := EReal) (val_main_v186 (F := Ideal) x0) (fun x => half * (grad1 160 (fun q => D (x 0) 0 (x 1) (x 2) q) (x 3) + grad1 160 (fun q => D (x 0) 2 q (x 2) (x 3)) (x 1))) :=
    (Reads.const fun _ => rfl).mulf ((gz.pick 0 (by decide) (by decide) (by decide)).addf (gx.pick 2 (by decide) (by decide) (by decide)))
  have yz : Reads (r := 4) (sz := ![2, 160, 160, 160]) (α := EReal) (val_main_v193 (F := Ideal) x0) (fun x => half * (grad1 160 (fun q => D (x 0) 1 (x 1) (x 2) q) (x 3) + grad1 160 (fun q => D (x 0) 2 (x 1) q (x 3)) (x 2))) :=
    (Reads.const fun _ => rfl).mulf ((gz.pick 1 (by decide) (by decide) (by decide)).addf (gy.pick 2 (by decide) (by decide) (by decide)))
  have tr : Reads (r := 4) (sz := ![2, 160, 160, 160]) (α := EReal) (val_main_v195 (F := Ideal) x0) _ := (xx.addf yy).addf zz
  have lam : Reads (r := 4) (sz := ![2, 160, 160, 160]) (α := EReal) (val_main_v125 (F := Ideal) x1) _ := (Reads.const fun _ => rfl).minimumf ((Reads.const fun _ => rfl).maximumf ((Reads.const fun _ => rfl).addf ((Reads.const fun _ => rfl).mulf s)))
  have mu : Reads (r := 4) (sz := ![2, 160, 160, 160]) (α := EReal) (val_main_v130 (F := Ideal) x1) _ := (Reads.const fun _ => rfl).minimumf ((Reads.const fun _ => rfl).maximumf ((Reads.const fun _ => rfl).addf ((Reads.const fun _ => rfl).mulf s)))
  have sq : Reads (r := 4) (sz := ![2, 160, 160, 160]) (α := EReal) (val_main_v212 (F := Ideal) x0) _ := (((xx.mulf xx).addf (yy.mulf yy)).addf (zz.mulf zz)).addf
    ((Reads.const fun _ => rfl).mulf (((xy.mulf xy).addf (xz.mulf xz)).addf (yz.mulf yz)))
  have w : Reads (r := 4) (sz := ![2, 160, 160, 160]) (α := EReal) (val_main_v218 (F := Ideal) x1) _ := (Reads.const fun _ => rfl).addf ((Reads.const fun _ => rfl).mulf s)
  exact w.mulf ((((Reads.const fun _ => rfl).mulf lam).mulf (tr.mulf tr)).addf (mu.mulf sq))

end

end Cert.ReferenceIdeal.Read

end
-- ==== Proof.Ref80.lean ====
/- The reference at size 80: its energy density at a point. -/
module

public import proofs.«01_k».proof.Proof.Gen.ReferenceIdeal.Read
public import proofs.«01_k».proof.Proof.HostStages

@[expose] public section

set_option maxRecDepth 16384

noncomputable section

namespace Cert.ReferenceIdeal.Read

open Idealize.ShloMosaic Cert.Elastic Cert.ReferenceIdeal

section
variable (x0 : (⟨S2x3x160x160x160, .f32⟩ : BufTy).Contents (Elt Ideal)) (x1 : (⟨S2x1x160x160x160, .f32⟩ : BufTy).Contents (Elt Ideal))

/-- The gradient magnitude of the image. -/
theorem mag80R (I : ℕ → ℕ → ℕ → ℕ → EReal)
    (h0 : Reads (r := 4) (sz := ![2, 80, 80, 80]) (α := EReal) (val_main_v350 (F := Ideal) x1) (fun x => I (x 0) (x 1) (x 2) (x 3))) :
    Reads (r := 4) (sz := ![2, 80, 80, 80]) (α := EReal) (val_main_v392 (F := Ideal) x1) (fun x => magR 80 (I (x 0)) (x 1) (x 2) (x 3)) := by
  have gx : Reads (r := 4) (sz := ![2, 80, 80, 80]) (α := EReal) (val_main_v362 (F := Ideal) x1) (fun x => grad1 80 (fun q => I (x 0) q (x 2) (x 3)) (x 1)) :=
    reads_grad (h := by decide) 1 80 h0 (fun _ => rfl) (by decide) rfl rfl
      (by decide) (by decide) (by decide) (by decide) (by decide) (by decide)
  have gy : Reads (r := 4) (sz := ![2, 80, 80, 80]) (α := EReal) (val_main_v374 (F := Ideal) x1) (fun x => grad1 80 (fun q => I (x 0) (x 1) q (x 3)) (x 2)) :=
    reads_grad (h := by decide) 2 80 h0 (fun _ => rfl) (by decide) rfl rfl
      (by decide) (by decide) (by decide) (by decide) (by decide) (by decide)
  have gz : Reads (r := 4) (sz := ![2, 80, 80, 80]) (α := EReal) (val_main_v386 (F := Ideal) x1) (fun x => grad1 80 (fun q => I (x 0) (x 1) (x 2) q) (x 3)) :=
    reads_grad (h := by decide) 3 80 h0 (fun _ => rfl) (by decide) rfl rfl
      (by decide) (by decide) (by decide) (by decide) (by decide) (by decide)
  exact (((gx.mulf gx).addf (gy.mulf gy)).addf (gz.mulf gz)).hsqrt

/-- Its smoothing along the three axes. -/
theorem smooth80R (G : ℕ → ℕ → ℕ → ℕ → EReal)
    (h : Reads (r := 4) (sz := ![2, 80, 80, 80]) (α := EReal) (val_main_v392 (F := Ideal) x1) (fun x => G (x 0) (x 1) (x 2) (x 3))) :
    Reads (r := 4) (sz := ![2, 80, 80, 80]) (α := EReal) (val_main_v470 (F := Ideal) x1) (fun x => smoothR 80 (G (x 0)) (x 1) (x 2) (x 3)) := by
  have p1 : Reads (r := 4) (sz := ![2, 84, 80, 80]) (α := EReal) (val_main_v397 (F := Ideal) x1) (fun x => G (x 0) (refl 80 (x 1)) (x 2) (x 3)) :=
    reads_pad5 (h := by decide) 1 80 h (by decide) rfl rfl (by decide) (by decide) (by decide) (by decide)
  have b1 : Reads (r := 4) (sz := ![2, 80, 80, 80]) (α := EReal) (val_main_v418 (F := Ideal) x1) (fun x => blur1 80 (fun p => G (x 0) p (x 2) (x 3)) (x 1)) :=
    reads_taps 1 p1 (fun _ => rfl) (fun _ => rfl) (fun _ => rfl) (fun _ => rfl) (fun _ => rfl) (fun _ => rfl)
      (by decide) (by decide) (by decide) (by decide) (by decide)
  have p2 : Reads (r := 4) (sz := ![2, 80, 84, 80]) (α := EReal) (val_main_v423 (F := Ideal) x1) (fun x => blur1 80 (fun p => G (x 0) p (refl 80 (x 2)) (x 3)) (x 1)) :=
    reads_pad5 (h := by decide) 2 80 b1 (by decide) rfl rfl (by decide) (by decide) (by decide) (by decide)
  have b2 : Reads (r := 4) (sz := ![2, 80, 80, 80]) (α := EReal) (val_main_v444 (F := Ideal) x1) (fun x => blur1 80 (fun q => blur1 80 (fun p => G (x 0) p q (x 3)) (x 1)) (x 2)) :=
    reads_taps 2 p2 (fun _ => rfl) (fun _ => rfl) (fun _ => rfl) (fun _ => rfl) (fun _ => rfl) (fun _ => rfl)
      (by decide) (by decide) (by decide) (by decide) (by decide)
  have p3 : Reads (r := 4) (sz := ![2, 80, 80, 84]) (α := EReal) (val_main_v449 (F := Ideal) x1)
      (fun x => blur1 80 (fun q => blur1 80 (fun p => G (x 0) p q (refl 80 (x 3))) (x 1)) (x 2)) :=
    reads_pad5 (h := by decide) 3 80 b2 (by decide) rfl rfl (by decide) (by decide) (by decide) (by decide)
  exact reads_taps 3 p3 (fun _ => rfl) (fun _ => rfl) (fun _ => rfl) (fun _ => rfl) (fun _ => rfl) (fun _ => rfl)
      (by decide) (by decide) (by decide) (by decide) (by decide)

/-- The energy density. -/
theorem point80R (D : ℕ → ℕ → ℕ → ℕ → ℕ → EReal) (I : ℕ → ℕ → ℕ → ℕ → EReal)
    (hD : Reads (r := 5) (sz := ![2, 3, 80, 80, 80]) (α := EReal) (val_main_v286 (F := Ideal) x0) (fun x => D (x 0) (x 1) (x 2) (x 3) (x 4)))
    (hI : Reads (r := 4) (sz := ![2, 80, 80, 80]) (α := EReal) (val_main_v350 (F := Ideal) x1) (fun x => I (x 0) (x 1) (x 2) (x 3))) :
    Reads (r := 4) (sz := ![2, 80, 80, 80]) (α := EReal) (val_main_v569 (F := Ideal) x0 x1) (fun x => pointR 80 (D (x 0)) (I (x 0)) (x 1) (x 2) (x 3)) := by
  have s := smooth80R x1 (fun b => magR 80 (I b)) (mag80R x1 I hI)
  have gx : Reads (r := 5) (sz := ![2, 3, 80, 80, 80]) (α := EReal) (val_main_v492 (F := Ideal) x0) (fun x => grad1 80 (fun q => D (x 0) (x 1) q (x 3) (x 4)) (x 2)) :=
    reads_grad (h := by decide) 2 80 hD (fun _ => rfl) (by decide) rfl rfl
      (by decide) (by decide) (by decide) (by decide) (by decide) (by decide)
  have gy : Reads (r := 5) (sz := ![2, 3, 80, 80, 80]) (α := EReal) (val_main_v504 (F := Ideal) x0) (fun x => grad1 80 (fun q => D (x 0) (x 1) (x 2) q (x 4)) (x 3)) :=
    reads_grad (h := by decide) 3 80 hD (fun _ => rfl) (by decide) rfl rfl
      (by decide) (by decide) (by decide) (by decide) (by decide) (by decide)
  have gz : Reads (r := 5) (sz := ![2, 3, 80, 80, 80]) (α := EReal) (val_main_v516 (F := Ideal) x0) (fun x => grad1 80 (fun q => D (x 0) (x 1) (x 2) (x 3) q) (x 4)) :=
    reads_grad (h := by decide) 4 80 hD (fun _ => rfl) (by decide) rfl rfl
      (by decide) (by decide) (by decide) (by decide) (by decide) (by decide)
  have xx : Reads (r := 4) (sz := ![2, 80, 80, 80]) (α := EReal) (val_main_v518 (F := Ideal) x0) (fun x => grad1 80 (fun q => D (x 0) 0 q (x 2) (x 3)) (x 1)) := gx.pick 0 (by decide) (by decide) (by decide)
  have yy : Reads (r := 4) (sz := ![2, 80, 80, 80]) (α := EReal) (val_main_v520 (F := Ideal) x0) (fun x => grad1 80 (fun q => D (x 0) 1 (x 1) q (x 3)) (x 2)) := gy.pick 1 (by decide) (by decide) (by decide)
  have zz : Reads (r := 4) (sz := ![2, 80, 80, 80]) (α := EReal) (val_main_v522 (F := Ideal) x0) (fun x => grad1 80 (fun q => D (x 0) 2 (x 1) (x 2) q) (x 3)) := gz.pick 2 (by decide) (by decide) (by decide)
  have xy : Reads (r := 4) (sz := ![2, 80, 80, 80]) (α := EReal) (val_main_v529 (F := Ideal) x0) (fun x => half * (grad1 80 (fun q => D (x 0) 0 (x 1) q (x 3)) (x 2) + grad1 80 (fun q => D (x 0) 1 q (x 2) (x 3)) (x 1))) :=
    (Reads.const fun _ => rfl).mulf ((gy.pick 0 (by decide) (by decide) (by decide)).addf (gx.pick 1 (by decide) (by decide) (by decide)))
  have xz : Reads (r := 4) (sz := ![2, 80, 80, 80]) (α := EReal) (val_main_v536 (F := Ideal) x0) (fun x => half * (grad1 80 (fun q => D (x 0) 0 (x 1) (x 2) q) (x 3) + grad1 80 (fun q => D (x 0) 2 q (x 2) (x 3)) (x 1))) :=
    (Reads.const fun _ => rfl).mulf ((gz.pick 0 (by decide) (by decide) (by decide)).addf (gx.pick 2 (by decide) (by decide) (by decide)))
  have yz : Reads (r := 4) (sz := ![2, 80, 80, 80]) (α := EReal) (val_main_v543 (F := Ideal) x0) (fun x => half * (grad1 80 (fun q => D (x 0) 1 (x 1) (x 2) q) (x 3) + grad1 80 (fun q => D (x 0) 2 (x 1) q (x 3)) (x 2))) :=
    (Reads.const fun _ => rfl).mulf ((gz.pick 1 (by decide) (by decide) (by decide)).addf (gy.pick 2 (by decide) (by decide) (by decide)))
  have tr : Reads (r := 4) (sz := ![2, 80, 80, 80]) (α := EReal) (val_main_v545 (F := Ideal) x0) _ := (xx.addf yy).addf zz
  have lam : Reads (r := 4) (sz := ![2, 80, 80, 80]) (α := EReal) (val_main_v475 (F := Ideal) x1) _ := (Reads.const fun _ => rfl).minimumf ((Reads.const fun _ => rfl).maximumf ((Reads.const fun _ => rfl).addf ((Reads.const fun _ => rfl).mulf s)))
  have mu : Reads (r := 4) (sz := ![2, 80, 80, 80]) (α := EReal) (val_main_v480 (F := Ideal) x1) _ := (Reads.const fun _ => rfl).minimumf ((Reads.const fun _ => rfl).maximumf ((Reads.const fun _ => rfl).addf ((Reads.const fun _ => rfl).mulf s)))
  have sq : Reads (r := 4) (sz := ![2, 80, 80, 80]) (α := EReal) (val_main_v562 (F := Ideal) x0) _ := (((xx.mulf xx).addf (yy.mulf yy)).addf (zz.mulf zz)).addf
    ((Reads.const fun _ => rfl).mulf (((xy.mulf xy).addf (xz.mulf xz)).addf (yz.mulf yz)))
  have w : Reads (r := 4) (sz := ![2, 80, 80, 80]) (α := EReal) (val_main_v568 (F := Ideal) x1) _ := (Reads.const fun _ => rfl).addf ((Reads.const fun _ => rfl).mulf s)
  exact w.mulf ((((Reads.const fun _ => rfl).mulf lam).mulf (tr.mulf tr)).addf (mu.mulf sq))

end

end Cert.ReferenceIdeal.Read

end
-- ==== Proof.Ref40.lean ====
/- The reference at size 40: its energy density at a point. -/
module

public import proofs.«01_k».proof.Proof.Gen.ReferenceIdeal.Read
public import proofs.«01_k».proof.Proof.HostStages

@[expose] public section

set_option maxRecDepth 16384

noncomputable section

namespace Cert.ReferenceIdeal.Read

open Idealize.ShloMosaic Cert.Elastic Cert.ReferenceIdeal

section
variable (x0 : (⟨S2x3x160x160x160, .f32⟩ : BufTy).Contents (Elt Ideal)) (x1 : (⟨S2x1x160x160x160, .f32⟩ : BufTy).Contents (Elt Ideal))

/-- The gradient magnitude of the image. -/
theorem mag40R (I : ℕ → ℕ → ℕ → ℕ → EReal)
    (h0 : Reads (r := 4) (sz := ![2, 40, 40, 40]) (α := EReal) (val_main_v700 (F := Ideal) x1) (fun x => I (x 0) (x 1) (x 2) (x 3))) :
    Reads (r := 4) (sz := ![2, 40, 40, 40]) (α := EReal) (val_main_v742 (F := Ideal) x1) (fun x => magR 40 (I (x 0)) (x 1) (x 2) (x 3)) := by
  have gx : Reads (r := 4) (sz := ![2, 40, 40, 40]) (α := EReal) (val_main_v712 (F := Ideal) x1) (fun x => grad1 40 (fun q => I (x 0) q (x 2) (x 3)) (x 1)) :=
    reads_grad (h := by decide) 1 40 h0 (fun _ => rfl) (by decide) rfl rfl
      (by decide) (by decide) (by decide) (by decide) (by decide) (by decide)
  have gy : Reads (r := 4) (sz := ![2, 40, 40, 40]) (α := EReal) (val_main_v724 (F := Ideal) x1) (fun x => grad1 40 (fun q => I (x 0) (x 1) q (x 3)) (x 2)) :=
    reads_grad (h := by decide) 2 40 h0 (fun _ => rfl) (by decide) rfl rfl
      (by decide) (by decide) (by decide) (by decide) (by decide) (by decide)
  have gz : Reads (r := 4) (sz := ![2, 40, 40, 40]) (α := EReal) (val_main_v736 (F := Ideal) x1) (fun x => grad1 40 (fun q => I (x 0) (x 1) (x 2) q) (x 3)) :=
    reads_grad (h := by decide) 3 40 h0 (fun _ => rfl) (by decide) rfl rfl
      (by decide) (by decide) (by decide) (by decide) (by decide) (by decide)
  exact (((gx.mulf gx).addf (gy.mulf gy)).addf (gz.mulf gz)).hsqrt

/-- Its smoothing along the three axes. -/
theorem smooth40R (G : ℕ → ℕ → ℕ → ℕ → EReal)
    (h : Reads (r := 4) (sz := ![2, 40, 40, 40]) (α := EReal) (val_main_v742 (F := Ideal) x1) (fun x => G (x 0) (x 1) (x 2) (x 3))) :
    Reads (r := 4) (sz := ![2, 40, 40, 40]) (α := EReal) (val_main_v820 (F := Ideal) x1) (fun x => smoothR 40 (G (x 0)) (x 1) (x 2) (x 3)) := by
  have p1 : Reads (r := 4) (sz := ![2, 44, 40, 40]) (α := EReal) (val_main_v747 (F := Ideal) x1) (fun x => G (x 0) (refl 40 (x 1)) (x 2) (x 3)) :=
    reads_pad5 (h := by decide) 1 40 h (by decide) rfl rfl (by decide) (by decide) (by decide) (by decide)
  have b1 : Reads (r := 4) (sz := ![2, 40, 40, 40]) (α := EReal) (val_main_v768 (F := Ideal) x1) (fun x => blur1 40 (fun p => G (x 0) p (x 2) (x 3)) (x 1)) :=
    reads_taps 1 p1 (fun _ => rfl) (fun _ => rfl) (fun _ => rfl) (fun _ => rfl) (fun _ => rfl) (fun _ => rfl)
      (by decide) (by decide) (by decide) (by decide) (by decide)
  have p2 : Reads (r := 4) (sz := ![2, 40, 44, 40]) (α := EReal) (val_main_v773 (F := Ideal) x1) (fun x => blur1 40 (fun p => G (x 0) p (refl 40 (x 2)) (x 3)) (x 1)) :=
    reads_pad5 (h := by decide) 2 40 b1 (by decide) rfl rfl (by decide) (by decide) (by decide) (by decide)
  have b2 : Reads (r := 4) (sz := ![2, 40, 40, 40]) (α := EReal) (val_main_v794 (F := Ideal) x1) (fun x => blur1 40 (fun q => blur1 40 (fun p => G (x 0) p q (x 3)) (x 1)) (x 2)) :=
    reads_taps 2 p2 (fun _ => rfl) (fun _ => rfl) (fun _ => rfl) (fun _ => rfl) (fun _ => rfl) (fun _ => rfl)
      (by decide) (by decide) (by decide) (by decide) (by decide)
  have p3 : Reads (r := 4) (sz := ![2, 40, 40, 44]) (α := EReal) (val_main_v799 (F := Ideal) x1)
      (fun x => blur1 40 (fun q => blur1 40 (fun p => G (x 0) p q (refl 40 (x 3))) (x 1)) (x 2)) :=
    reads_pad5 (h := by decide) 3 40 b2 (by decide) rfl rfl (by decide) (by decide) (by decide) (by decide)
  exact reads_taps 3 p3 (fun _ => rfl) (fun _ => rfl) (fun _ => rfl) (fun _ => rfl) (fun _ => rfl) (fun _ => rfl)
      (by decide) (by decide) (by decide) (by decide) (by decide)

/-- The energy density. -/
theorem point40R (D : ℕ → ℕ → ℕ → ℕ → ℕ → EReal) (I : ℕ → ℕ → ℕ → ℕ → EReal)
    (hD : Reads (r := 5) (sz := ![2, 3, 40, 40, 40]) (α := EReal) (val_main_v636 (F := Ideal) x0) (fun x => D (x 0) (x 1) (x 2) (x 3) (x 4)))
    (hI : Reads (r := 4) (sz := ![2, 40, 40, 40]) (α := EReal) (val_main_v700 (F := Ideal) x1) (fun x => I (x 0) (x 1) (x 2) (x 3))) :
    Reads (r := 4) (sz := ![2, 40, 40, 40]) (α := EReal) (val_main_v919 (F := Ideal) x0 x1) (fun x => pointR 40 (D (x 0)) (I (x 0)) (x 1) (x 2) (x 3)) := by
  have s := smooth40R x1 (fun b => magR 40 (I b)) (mag40R x1 I hI)
  have gx : Reads (r := 5) (sz := ![2, 3, 40, 40, 40]) (α := EReal) (val_main_v842 (F := Ideal) x0) (fun x => grad1 40 (fun q => D (x 0) (x 1) q (x 3) (x 4)) (x 2)) :=
    reads_grad (h := by decide) 2 40 hD (fun _ => rfl) (by decide) rfl rfl
      (by decide) (by decide) (by decide) (by decide) (by decide) (by decide)
  have gy : Reads (r := 5) (sz := ![2, 3, 40, 40, 40]) (α := EReal) (val_main_v854 (F := Ideal) x0) (fun x => grad1 40 (fun q => D (x 0) (x 1) (x 2) q (x 4)) (x 3)) :=
    reads_grad (h := by decide) 3 40 hD (fun _ => rfl) (by decide) rfl rfl
      (by decide) (by decide) (by decide) (by decide) (by decide) (by decide)
  have gz : Reads (r := 5) (sz := ![2, 3, 40, 40, 40]) (α := EReal) (val_main_v866 (F := Ideal) x0) (fun x => grad1 40 (fun q => D (x 0) (x 1) (x 2) (x 3) q) (x 4)) :=
    reads_grad (h := by decide) 4 40 hD (fun _ => rfl) (by decide) rfl rfl
      (by decide) (by decide) (by decide) (by decide) (by decide) (by decide)
  have xx : Reads (r := 4) (sz := ![2, 40, 40, 40]) (α := EReal) (val_main_v868 (F := Ideal) x0) (fun x => grad1 40 (fun q => D (x 0) 0 q (x 2) (x 3)) (x 1)) := gx.pick 0 (by decide) (by decide) (by decide)
  have yy : Reads (r := 4) (sz := ![2, 40, 40, 40]) (α := EReal) (val_main_v870 (F := Ideal) x0) (fun x => grad1 40 (fun q => D (x 0) 1 (x 1) q (x 3)) (x 2)) := gy.pick 1 (by decide) (by decide) (by decide)
  have zz : Reads (r := 4) (sz := ![2, 40, 40, 40]) (α := EReal) (val_main_v872 (F := Ideal) x0) (fun x => grad1 40 (fun q => D (x 0) 2 (x 1) (x 2) q) (x 3)) := gz.pick 2 (by decide) (by decide) (by decide)
  have xy : Reads (r := 4) (sz := ![2, 40, 40, 40]) (α := EReal) (val_main_v879 (F := Ideal) x0) (fun x => half * (grad1 40 (fun q => D (x 0) 0 (x 1) q (x 3)) (x 2) + grad1 40 (fun q => D (x 0) 1 q (x 2) (x 3)) (x 1))) :=
    (Reads.const fun _ => rfl).mulf ((gy.pick 0 (by decide) (by decide) (by decide)).addf (gx.pick 1 (by decide) (by decide) (by decide)))
  have xz : Reads (r := 4) (sz := ![2, 40, 40, 40]) (α := EReal) (val_main_v886 (F := Ideal) x0) (fun x => half * (grad1 40 (fun q => D (x 0) 0 (x 1) (x 2) q) (x 3) + grad1 40 (fun q => D (x 0) 2 q (x 2) (x 3)) (x 1))) :=
    (Reads.const fun _ => rfl).mulf ((gz.pick 0 (by decide) (by decide) (by decide)).addf (gx.pick 2 (by decide) (by decide) (by decide)))
  have yz : Reads (r := 4) (sz := ![2, 40, 40, 40]) (α := EReal) (val_main_v893 (F := Ideal) x0) (fun x => half * (grad1 40 (fun q => D (x 0) 1 (x 1) (x 2) q) (x 3) + grad1 40 (fun q => D (x 0) 2 (x 1) q (x 3)) (x 2))) :=
    (Reads.const fun _ => rfl).mulf ((gz.pick 1 (by decide) (by decide) (by decide)).addf (gy.pick 2 (by decide) (by decide) (by decide)))
  have tr : Reads (r := 4) (sz := ![2, 40, 40, 40]) (α := EReal) (val_main_v895 (F := Ideal) x0) _ := (xx.addf yy).addf zz
  have lam : Reads (r := 4) (sz := ![2, 40, 40, 40]) (α := EReal) (val_main_v825 (F := Ideal) x1) _ := (Reads.const fun _ => rfl).minimumf ((Reads.const fun _ => rfl).maximumf ((Reads.const fun _ => rfl).addf ((Reads.const fun _ => rfl).mulf s)))
  have mu : Reads (r := 4) (sz := ![2, 40, 40, 40]) (α := EReal) (val_main_v830 (F := Ideal) x1) _ := (Reads.const fun _ => rfl).minimumf ((Reads.const fun _ => rfl).maximumf ((Reads.const fun _ => rfl).addf ((Reads.const fun _ => rfl).mulf s)))
  have sq : Reads (r := 4) (sz := ![2, 40, 40, 40]) (α := EReal) (val_main_v912 (F := Ideal) x0) _ := (((xx.mulf xx).addf (yy.mulf yy)).addf (zz.mulf zz)).addf
    ((Reads.const fun _ => rfl).mulf (((xy.mulf xy).addf (xz.mulf xz)).addf (yz.mulf yz)))
  have w : Reads (r := 4) (sz := ![2, 40, 40, 40]) (α := EReal) (val_main_v918 (F := Ideal) x1) _ := (Reads.const fun _ => rfl).addf ((Reads.const fun _ => rfl).mulf s)
  exact w.mulf ((((Reads.const fun _ => rfl).mulf lam).mulf (tr.mulf tr)).addf (mu.mulf sq))

end

end Cert.ReferenceIdeal.Read

end
-- ==== Proof.KMag160.lean ====
/- Region 0 of the kernel (size 160): what one run of its body leaves, the gradient magnitude of its eight rows. -/
module

public import proofs.«01_k».proof.Proof.Gen.KernelIdeal.Frame.Region0
public import proofs.«01_k».proof.Proof.Block

@[expose] public section

set_option maxRecDepth 16384

noncomputable section

namespace Cert.KernelIdeal.Gen

open Idealize.ShloMosaic Cert.Elastic Cert.KernelIdeal

/-- The gradient magnitude of grid row `it`. -/
theorem mag160_reads (it : ℕ) (hit : 8 * it + 8 ≤ 160) (i : grid0.Coords) (hi : (i 1).val = it) (I : ℕ → ℕ → ℕ → EReal)
    (x0 : Vec Ideal S1x8x160x160 .f32) (x1 x2 : Vec Ideal S1x2x160x160 .f32)
    (h0 : Reads x0 (fun x => I (8 * it + x 1) (x 2) (x 3)))
    (h1 : Reads x1 (fun x => I (2 * (4 * it - 1) + x 1) (x 2) (x 3)))
    (h2 : Reads x2 (fun x => I (2 * min (4 * it + 4) (160 / 2 - 1) + x 1) (x 2) (x 3))) :
    Reads (out0_3 i x0 x1 x2) (fun x => magK 160 I (8 * it + x 1) (x 2) (x 3)) := by
  have b0 : Scalar.cmpi .eq (BitVec.ofNat 32 (i 1).val) 0#32 = 1 ↔ it = 0 := by
    rw [hi]; exact cmp_eq_one (b := 0) (by omega) (by omega)
  have b1 : Scalar.cmpi .eq (BitVec.ofNat 32 (i 1).val) 19#32 = 1 ↔ 8 * it + 8 = 160 := by
    rw [hi]; exact (cmp_eq_one (b := 19) (by omega) (by omega)).trans (by omega)
  have l0 : View.ld x0 r0_0 = x0 := View.ld_unit_zero zero4 _ x0
  have l1 : View.ld x1 r0_1 = x1 := View.ld_unit_zero zero4 _ x1
  have l2 : View.ld x2 r0_1 = x2 := View.ld_unit_zero zero4 _ x2
  unfold out0_3
  rw [View.canon_unit_zero zero4, l0, l1, l2]
  have g3 : Reads (k0_pay2 x0) (fun x => I (8 * it + x 0) (x 1) (x 2)) := h0.dropUnit _
  have gx : Reads (k0_pay3 i x0 x1 x2) (fun x => gradK1 160 (fun q => I q (x 1) (x 2)) (8 * it + x 0)) :=
    reads_gradx3 160 it I (reads_halo1 (h := by decide) (q0 := by decide) (q1 := by decide) (qL := by decide) (q7 := by decide) (q6 := by decide)
        (qR := by decide) 0 160 it (fun y => I (y 0) (y 1) (y 2)) g3 (h1.dropUnit _) (h2.dropUnit _) b0 b1
        (fun _ => rfl) (fun _ => rfl) rfl rfl rfl hit (by decide) (by decide) (by decide) (by decide) (by decide) (by decide))
      (fun _ => rfl) (by decide) (by decide)
  have gy : Reads (k0_pay4 x0) (fun x => grad1 160 (fun q => I (8 * it + x 0) q (x 2)) (x 1)) :=
    reads_grad (h := by decide) 1 160 g3 (fun _ => rfl) (by decide) rfl rfl
      (by decide) (by decide) (by decide) (by decide) (by decide) (by decide)
  generalize k0_pay2 (F := Ideal) _ = v3 at *
  generalize k0_pay3 (F := Ideal) _ _ _ _ = v27 at *
  generalize k0_pay4 (F := Ideal) _ = v39 at *
  have gz := reads_grad (h := by decide) (p0 := by decide) (p1 := by decide) (p2 := by decide) (p3 := by decide) (p4 := by decide) (p5 := by decide)
    (c := broadcast S8x160x158 (Scalar.ofBits .f32 0x3F000000#32)) (s1 := ![8, 160, 1]) (o0 := ![0, 0, 0]) (o1 := ![0, 0, 1]) (o2 := ![0, 0, 2]) (o3 := ![0, 0, 0])
    (o4 := ![0, 0, 159]) (o5 := ![0, 0, 158]) 2 160 g3 (fun _ => rfl) (by decide) rfl rfl
    (by decide) (by decide) (by decide) (by decide) (by decide) (by decide)
  exact ((((gx.mulf gx).addf (gy.mulf gy)).addf (gz.mulf gz)).sqrt).addUnit _

end Cert.KernelIdeal.Gen

end
-- ==== Proof.KEnergy160.lean ====
/- Region 1 of the kernel (size 160): what one run of its body leaves, as a sum over its eight rows. -/
module

public import proofs.«01_k».proof.Proof.Gen.KernelIdeal.Frame.Region1
public import proofs.«01_k».proof.Proof.Block

@[expose] public section

set_option maxRecDepth 16384

noncomputable section

namespace Cert.KernelIdeal.Gen

open Idealize.ShloMosaic Cert.Elastic Cert.KernelIdeal

/-- The partial sum of grid row `it`. -/
theorem energy160_reads (it : ℕ) (hit : 8 * it + 8 ≤ 160) (i : grid1.Coords) (hi : (i 1).val = it)
    (D : ℕ → ℕ → ℕ → ℕ → EReal) (G : ℕ → ℕ → ℕ → EReal)
    (x0 : Vec Ideal S1x3x8x160x160 .f32) (x1 x2 : Vec Ideal S1x3x2x160x160 .f32) (x3 : Vec Ideal S1x8x160x160 .f32)
    (x4 x5 : Vec Ideal S1x4x160x160 .f32)
    (h0 : Reads x0 (fun x => D (x 1) (8 * it + x 2) (x 3) (x 4)))
    (h1 : Reads x1 (fun x => D (x 1) (2 * (4 * it - 1) + x 2) (x 3) (x 4)))
    (h2 : Reads x2 (fun x => D (x 1) (2 * min (4 * it + 4) (160 / 2 - 1) + x 2) (x 3) (x 4)))
    (h3 : Reads x3 (fun x => G (8 * it + x 1) (x 2) (x 3)))
    (h4 : Reads x4 (fun x => G (4 * (2 * it - 1) + x 1) (x 2) (x 3)))
    (h5 : Reads x5 (fun x => G (4 * min (2 * it + 2) (160 / 4 - 1) + x 1) (x 2) (x 3))) :
    out1_6 i x0 x1 x2 x3 x4 x5 = fun _ => blockSum 160 D G it := by
  have b0 : Scalar.cmpi .eq (BitVec.ofNat 32 (i 1).val) 0#32 = 1 ↔ it = 0 := by
    rw [hi]; exact cmp_eq_one (b := 0) (by omega) (by omega)
  have b1 : Scalar.cmpi .eq (BitVec.ofNat 32 (i 1).val) 19#32 = 1 ↔ 8 * it + 8 = 160 := by
    rw [hi]; exact (cmp_eq_one (b := 19) (by omega) (by omega)).trans (by omega)
  have l0 : View.ld x0 r1_2 = x0 := View.ld_unit_zero zero5 _ x0
  have l1 : View.ld x1 r1_3 = x1 := View.ld_unit_zero zero5 _ x1
  have l2 : View.ld x2 r1_3 = x2 := View.ld_unit_zero zero5 _ x2
  have l3 : View.ld x3 r1_0 = x3 := View.ld_unit_zero zero4 _ x3
  have l4 : View.ld x4 r1_1 = x4 := View.ld_unit_zero zero4 _ x4
  have l5 : View.ld x5 r1_1 = x5 := View.ld_unit_zero zero4 _ x5
  unfold out1_6
  rw [View.canon_unit_zero zero4]
  simp only [k1_pay29, k1_pay30, k1_pay31, k1_pay32, k1_pay33, k1_pay34, k1_pay35, k1_pay36, k1_pay37, k1_pay38,
    k1_pay39, l0, l1, l2, l3, l4, l5]
  -- the smoothed magnitude
  have g23 : Reads (k1_pay1 i x3 x4 x5) (fun x => G (refl 160 (8 * it + x 0)) (x 1) (refl 160 (x 2))) :=
    reads_pad5 (h := by decide) 2 160 (reads_halo2 0 160 it (fun y => G (y 0) (y 1) (y 2)) (h3.dropUnit _) (h4.dropUnit _) (h5.dropUnit _) b0 b1
      rfl rfl rfl hit (by decide) (by decide) (by decide) (by decide) (by decide) (by decide))
      (by decide) rfl rfl (by decide) (by decide) (by decide) (by decide)
  have g70 : Reads (k1_pay5 (k1_pay1 i x3 x4 x5) (k1_pay2 i x3 x4 x5) (k1_pay3 i x3 x4 x5) (k1_pay4 (F := Ideal)))
      (fun x => blur1 160 (fun q => blur1 160 (fun r => G (refl 160 (8 * it + x 0)) q r) (x 2)) (x 1)) :=
    reads_taps 1 (reads_pad5 (h := by decide) 1 160 (reads_taps (p3 := by decide) (p4 := by decide) 2 g23 (fun _ => rfl) (fun _ => rfl) (fun _ => rfl) (fun _ => rfl) (fun _ => rfl) (fun _ => rfl)
      (by decide) (by decide) (by decide) (by decide) (by decide))
      (by decide) rfl rfl (by decide) (by decide) (by decide) (by decide))
      (fun _ => rfl) (fun _ => rfl) (fun _ => rfl) (fun _ => rfl) (fun _ => rfl) (fun _ => rfl)
      (by decide) (by decide) (by decide) (by decide) (by decide)
  generalize k1_pay1 i x3 x4 x5 = v23 at *
  generalize k1_pay2 i x3 x4 x5 = v36 at *
  generalize k1_pay3 i x3 x4 x5 = v37 at *
  generalize k1_pay4 (F := Ideal) = v38 at *
  have g91 : Reads (k1_pay8 (k1_pay5 v23 v36 v37 v38) (k1_pay6 v23 v36 v37 v38) (k1_pay7 v23 v36 v37 v38))
      (fun x => smoothK 160 G (8 * it + x 0) (x 1) (x 2)) :=
    (reads_taps 0 g70 (fun _ => rfl) (fun _ => rfl) (fun _ => rfl) (fun _ => rfl) (fun _ => rfl) (fun _ => rfl)
      (by decide) (by decide) (by decide) (by decide) (by decide)).congr fun x _ =>
        taps5_shift (fun p => blur1 160 (fun q => blur1 160 (fun r => G (refl 160 p) q r) (x 2)) (x 1)) (8 * it) (x 0)
  -- the strains
  have g113 : Reads (k1_pay12 x0) (fun x => D (x 0) (8 * it + x 1) (x 2) (x 3)) := h0.dropUnit _
  have g132 : Reads (k1_pay15 (Scalar.cmpi .eq (BitVec.ofNat 32 (i 1).val) 19#32) (k1_pay12 x0)
        (k1_pay13 (Scalar.cmpi .eq (BitVec.ofNat 32 (i 1).val) 0#32) x0 x1) (k1_pay14 x0) (Scalar.ofBits .f32 0x40000000#32) x2)
      (fun x => ext1 160 (fun q => D (x 0) q (x 2) (x 3)) (8 * it + x 1)) :=
    reads_halo1 (h := by decide) (q0 := by decide) (q1 := by decide) (qL := by decide) (q7 := by decide) (q6 := by decide) (qR := by decide) 1 160 it (fun y => D (y 0) (y 1) (y 2) (y 3)) g113 (h1.dropUnit _) (h2.dropUnit _) b0 b1
      (fun _ => rfl) (fun _ => rfl) rfl rfl rfl hit (by decide) (by decide) (by decide) (by decide) (by decide) (by decide)
  have gxx : Reads (k1_pay16 (Scalar.cmpi .eq (BitVec.ofNat 32 (i 1).val) 19#32) (k1_pay12 x0)
        (k1_pay13 (Scalar.cmpi .eq (BitVec.ofNat 32 (i 1).val) 0#32) x0 x1) (k1_pay14 x0) (Scalar.ofBits .f32 0x40000000#32) x2)
      (fun x => gradK1 160 (fun q => D 0 q (x 1) (x 2)) (8 * it + x 0)) :=
    reads_gradx 0 160 it D g132 (fun _ => rfl) (by decide) (by decide)
  generalize k1_pay16 (F := Ideal) _ _ _ _ _ _ = v139 at *
  generalize k1_pay15 (F := Ideal) _ _ _ _ _ _ = v132 at *
  generalize k1_pay12 (F := Ideal) _ = v113 at *
  have gyy : Reads (k1_pay17 v113) (fun x => grad1 160 (fun q => D 1 (8 * it + x 0) q (x 2)) (x 1)) :=
    reads_grad (h := by decide) 1 160 (Reads.comp (e := ![8, 160, 160]) 1 g113 _ _ (by decide)) (fun _ => rfl) (by decide) rfl rfl
      (by decide) (by decide) (by decide) (by decide) (by decide) (by decide)
  have gzz : Reads (k1_pay18 v113) (fun x => grad1 160 (fun q => D 2 (8 * it + x 0) (x 1) q) (x 2)) :=
    reads_grad (h := by decide) 2 160 (Reads.comp (e := ![8, 160, 160]) 2 g113 _ _ (by decide)) (fun _ => rfl) (by decide) rfl rfl
      (by decide) (by decide) (by decide) (by decide) (by decide) (by decide)
  have gxy : Reads (k1_pay22 v132 (k1_pay19 v113) (k1_pay20 v113) (k1_pay21 v113))
      (fun x => half * (grad1 160 (fun q => D 0 (8 * it + x 0) q (x 2)) (x 1) + gradK1 160 (fun q => D 1 q (x 1) (x 2)) (8 * it + x 0))) :=
    (Reads.const fun _ => rfl).mulf ((reads_grad (h := by decide) 1 160 (Reads.comp (e := ![8, 160, 160]) 0 g113 _ _ (by decide)) (fun _ => rfl) (by decide) rfl rfl
      (by decide) (by decide) (by decide) (by decide) (by decide) (by decide)).addf (reads_gradx 1 160 it D g132 (fun _ => rfl) (by decide) (by decide)))
  have gxz : Reads (k1_pay23 v113 v132)
      (fun x => half * (grad1 160 (fun q => D 0 (8 * it + x 0) (x 1) q) (x 2) + gradK1 160 (fun q => D 2 q (x 1) (x 2)) (8 * it + x 0))) :=
    (Reads.const fun _ => rfl).mulf ((reads_grad (h := by decide) 2 160 (Reads.comp (e := ![8, 160, 160]) 0 g113 _ _ (by decide)) (fun _ => rfl) (by decide) rfl rfl
      (by decide) (by decide) (by decide) (by decide) (by decide) (by decide)).addf (reads_gradx 2 160 it D g132 (fun _ => rfl) (by decide) (by decide)))
  generalize k1_pay22 (F := Ideal) _ _ _ _ = v191 at *
  generalize k1_pay23 (F := Ideal) _ _ = v215 at *
  generalize k1_pay17 (F := Ideal) _ = v153 at *
  generalize k1_pay18 (F := Ideal) _ = v167 at *
  exact block_reads ((reads_dens g91 gxx gyy gzz gxy gxz
    ((Reads.const fun _ => rfl).mulf ((reads_grad (h := by decide) 2 160 (Reads.comp (e := ![8, 160, 160]) 1 g113 _ _ (by decide)) (fun _ => rfl) (by decide) rfl rfl
      (by decide) (by decide) (by decide) (by decide) (by decide) (by decide)).addf
      (reads_grad (h := by decide) 1 160 (Reads.comp (e := ![8, 160, 160]) 2 g113 _ _ (by decide)) (fun _ => rfl) (by decide) rfl rfl
      (by decide) (by decide) (by decide) (by decide) (by decide) (by decide))))
    (fun _ => rfl) (fun _ => rfl) (fun _ => rfl) (fun _ => rfl) (fun _ => rfl) (fun _ => rfl) (fun _ => rfl) (fun _ => rfl) (fun _ => rfl)
    (fun _ => rfl) (fun _ => rfl) (fun _ => rfl)).addUnit _) _ _ _ _ _ _ (by decide)

end Cert.KernelIdeal.Gen

end
-- ==== Proof.Array160.lean ====
/- Size 160: the arrays the gradient and the energy calls leave, read at coordinates. -/
module

public import proofs.«01_k».proof.Proof.KMag160
public import proofs.«01_k».proof.Proof.KEnergy160
public import Idealize.ShloMosaic.Lib.Pipeline.ValueKit

@[expose] public section

set_option maxRecDepth 16384

noncomputable section

namespace Cert.KernelIdeal.Gen

open Idealize.ShloMosaic Idealize.ShloMosaic.TcCoe Cert.Elastic Cert.KernelIdeal
open Idealize.ShloMosaic.Pipeline (Dat)

theorem idx160_mag : ∀ t : Fin cfg0.N, win0_0.index t = ![(grid0.coords t 0).val, (grid0.coords t 1).val, 0, 0]
    ∧ win0_1.index t = ![(grid0.coords t 0).val, 4 * (grid0.coords t 1).val - 1, 0, 0]
    ∧ win0_2.index t = ![(grid0.coords t 0).val, min (4 * (grid0.coords t 1).val + 4) 79, 0, 0]
    ∧ win0_3.index t = ![(grid0.coords t 0).val, (grid0.coords t 1).val, 0, 0] ∧ (grid0.coords t 1).val < 20 :=
  (by decide +kernel : ∀ t : Fin grid0.N, _)

theorem idx160_energy : ∀ t : Fin cfg1.N, win1_0.index t = ![(grid1.coords t 0).val, 0, (grid1.coords t 1).val, 0, 0]
    ∧ win1_1.index t = ![(grid1.coords t 0).val, 0, 4 * (grid1.coords t 1).val - 1, 0, 0]
    ∧ win1_2.index t = ![(grid1.coords t 0).val, 0, min (4 * (grid1.coords t 1).val + 4) 79, 0, 0]
    ∧ win1_3.index t = ![(grid1.coords t 0).val, (grid1.coords t 1).val, 0, 0]
    ∧ win1_4.index t = ![(grid1.coords t 0).val, 2 * (grid1.coords t 1).val - 1, 0, 0]
    ∧ win1_5.index t = ![(grid1.coords t 0).val, min (2 * (grid1.coords t 1).val + 2) 39, 0, 0]
    ∧ win1_6.index t = ![(grid1.coords t 0).val, (grid1.coords t 1).val, 0, 0] ∧ (grid1.coords t 1).val < 20 :=
  (by decide +kernel : ∀ t : Fin grid1.N, _)

/-- The gradient magnitudes of a batch of images. -/
theorem mag160_array (V : (c : Dev nD) → (b : Ref sig .tc) → Buf (Elt Ideal) ((c : Thread nD τ).loc b)) (c : Dev nD)
    (I : ℕ → ℕ → ℕ → ℕ → EReal)
    (hI : Reads (sz := ![2, 160, 160, 160]) (α := EReal) (V c main_v0) (fun x => I (x 0) (x 1) (x 2) (x 3))) :
    Reads (sz := ![2, 160, 160, 160]) (α := EReal) ((dat0 V c).arrAt 3 cfg0.N) (fun x => magK 160 (I (x 0)) (x 1) (x 2) (x 3)) := by
  have key : (dat0 V c).arrAt 3 cfg0.N
      = (fun i => magK 160 (I (i 0).val) (i 1).val (i 2).val (i 3).val : FVec Ideal S2x160x160x160 .f32) := by
    refine (dat0 V c).arrAt_eq_of_covers 3 _ (by decide +kernel) fun t _ y => ?_
    obtain ⟨i0, i1, i2, i3, hit⟩ := idx160_mag t
    have r0 : Reads (sz := ![1, 8, 160, 160]) (α := EReal) (iblk0 V c 0 t)
        (fun x => I (grid0.coords t 0).val (8 * (grid0.coords t 1).val + x 1) (x 2) (x 3)) := by
      intro x hx
      refine (hI.at (((cfg0.win 0).blk t).view.emb (fun a => ⟨x a, hx a⟩))).trans ?_
      have h0 : x 0 < 1 := hx 0
      blk_simp [i0]
      exact cong4 I (by dsimp only; omega) (by dsimp only; omega) rfl rfl
    have r1 : Reads (sz := ![1, 2, 160, 160]) (α := EReal) (iblk0 V c 1 t)
        (fun x => I (grid0.coords t 0).val (2 * (4 * (grid0.coords t 1).val - 1) + x 1) (x 2) (x 3)) := by
      intro x hx
      refine (hI.at (((cfg0.win 1).blk t).view.emb (fun a => ⟨x a, hx a⟩))).trans ?_
      have h0 : x 0 < 1 := hx 0
      blk_simp [i1]
      exact cong4 I (by dsimp only; omega) (by dsimp only; omega) rfl rfl
    have r2 : Reads (sz := ![1, 2, 160, 160]) (α := EReal) (iblk0 V c 2 t)
        (fun x => I (grid0.coords t 0).val (2 * min (4 * (grid0.coords t 1).val + 4) (160 / 2 - 1) + x 1) (x 2) (x 3)) := by
      intro x hx
      refine (hI.at (((cfg0.win 2).blk t).view.emb (fun a => ⟨x a, hx a⟩))).trans ?_
      have h0 : x 0 < 1 := hx 0
      blk_simp [i2]
      exact cong4 I (by dsimp only; omega) (by dsimp only; omega) rfl rfl
    have r := mag160_reads (grid0.coords t 1).val (by omega) (grid0.coords t) rfl (I (grid0.coords t 0).val) _ _ _ r0 r1 r2
    rw [after0_3]
    simp only [cast_eq]
    generalize out0_3 (grid0.coords t) (iblk0 V c 0 t) (iblk0 V c 1 t) (iblk0 V c 2 t) = o at r ⊢
    refine (r.at ((cfg0.win 3).xinj (cfg0.grid.coords t) y)).trans ?_
    have h0 : (y 0).val < 1 := (y 0).isLt
    have e1 : ((cfg0.win 3).xinj (cfg0.grid.coords t) y 1).val = (y 1).val := rfl
    blk_simp [i3]
    exact cong4 (fun b => magK 160 (I b)) (by omega) (by omega) rfl rfl
  rw [key]
  exact Reads.of_forall fun _ => rfl

/-- The partial sums of the energies. -/
theorem energy160_array (V : (c : Dev nD) → (b : Ref sig .tc) → Buf (Elt Ideal) ((c : Thread nD τ).loc b)) (c : Dev nD)
    (D : ℕ → ℕ → ℕ → ℕ → ℕ → EReal) (G : ℕ → ℕ → ℕ → ℕ → EReal)
    (hD : Reads (sz := ![2, 3, 160, 160, 160]) (α := EReal) (V c main_arg0) (fun x => D (x 0) (x 1) (x 2) (x 3) (x 4)))
    (hG : Reads (sz := ![2, 160, 160, 160]) (α := EReal) (V c main_v1) (fun x => G (x 0) (x 1) (x 2) (x 3))) :
    Reads (sz := ![2, 20, 8, 128]) (α := EReal) ((dat1 V c).arrAt 6 cfg1.N) (fun x => blockSum 160 (D (x 0)) (G (x 0)) (x 1)) := by
  have key : (dat1 V c).arrAt 6 cfg1.N
      = (fun i => blockSum 160 (D (i 0).val) (G (i 0).val) (i 1).val : FVec Ideal S2x20x8x128 .f32) := by
    refine (dat1 V c).arrAt_eq_of_covers 6 _ (by decide +kernel) fun t _ y => ?_
    obtain ⟨i0, i1, i2, i3, i4, i5, i6, hit⟩ := idx160_energy t
    have r0 : Reads (sz := ![1, 3, 8, 160, 160]) (α := EReal) (iblk1 V c 0 t)
        (fun x => D (grid1.coords t 0).val (x 1) (8 * (grid1.coords t 1).val + x 2) (x 3) (x 4)) := by
      intro x hx
      refine (hD.at (((cfg1.win 0).blk t).view.emb (fun a => ⟨x a, hx a⟩))).trans ?_
      have h0 : x 0 < 1 := hx 0
      blk_simp [i0]
      exact cong5 D (by dsimp only; omega) rfl (by dsimp only; omega) rfl rfl
    have r1 : Reads (sz := ![1, 3, 2, 160, 160]) (α := EReal) (iblk1 V c 1 t)
        (fun x => D (grid1.coords t 0).val (x 1) (2 * (4 * (grid1.coords t 1).val - 1) + x 2) (x 3) (x 4)) := by
      intro x hx
      refine (hD.at (((cfg1.win 1).blk t).view.emb (fun a => ⟨x a, hx a⟩))).trans ?_
      have h0 : x 0 < 1 := hx 0
      blk_simp [i1]
      exact cong5 D (by dsimp only; omega) rfl (by dsimp only; omega) rfl rfl
    have r2 : Reads (sz := ![1, 3, 2, 160, 160]) (α := EReal) (iblk1 V c 2 t)
        (fun x => D (grid1.coords t 0).val (x 1) (2 * min (4 * (grid1.coords t 1).val + 4) (160 / 2 - 1) + x 2) (x 3) (x 4)) := by
      intro x hx
      refine (hD.at (((cfg1.win 2).blk t).view.emb (fun a => ⟨x a, hx a⟩))).trans ?_
      have h0 : x 0 < 1 := hx 0
      blk_simp [i2]
      exact cong5 D (by dsimp only; omega) rfl (by dsimp only; omega) rfl rfl
    have r3 : Reads (sz := ![1, 8, 160, 160]) (α := EReal) (iblk1 V c 3 t)
        (fun x => G (grid1.coords t 0).val (8 * (grid1.coords t 1).val + x 1) (x 2) (x 3)) := by
      intro x hx
      refine (hG.at (((cfg1.win 3).blk t).view.emb (fun a => ⟨x a, hx a⟩))).trans ?_
      have h0 : x 0 < 1 := hx 0
      blk_simp [i3]
      exact cong4 G (by dsimp only; omega) (by dsimp only; omega) rfl rfl
    have r4 : Reads (sz := ![1, 4, 160, 160]) (α := EReal) (iblk1 V c 4 t)
        (fun x => G (grid1.coords t 0).val (4 * (2 * (grid1.coords t 1).val - 1) + x 1) (x 2) (x 3)) := by
      intro x hx
      refine (hG.at (((cfg1.win 4).blk t).view.emb (fun a => ⟨x a, hx a⟩))).trans ?_
      have h0 : x 0 < 1 := hx 0
      blk_simp [i4]
      exact cong4 G (by dsimp only; omega) (by dsimp only; omega) rfl rfl
    have r5 : Reads (sz := ![1, 4, 160, 160]) (α := EReal) (iblk1 V c 5 t)
        (fun x => G (grid1.coords t 0).val (4 * min (2 * (grid1.coords t 1).val + 2) (160 / 4 - 1) + x 1) (x 2) (x 3)) := by
      intro x hx
      refine (hG.at (((cfg1.win 5).blk t).view.emb (fun a => ⟨x a, hx a⟩))).trans ?_
      have h0 : x 0 < 1 := hx 0
      blk_simp [i5]
      exact cong4 G (by dsimp only; omega) (by dsimp only; omega) rfl rfl
    have r := energy160_reads (grid1.coords t 1).val (by omega) (grid1.coords t) rfl (D (grid1.coords t 0).val) (G (grid1.coords t 0).val)
      _ _ _ _ _ _ r0 r1 r2 r3 r4 r5
    rw [after1_6]
    simp only [cast_eq]
    rw [r]
    blk_simp [i6]
  rw [key]
  exact Reads.of_forall fun _ => rfl

end Cert.KernelIdeal.Gen

end
-- ==== Proof.KMag80.lean ====
/- Region 3 of the kernel (size 80): what one run of its body leaves, the gradient magnitude of its eight rows. -/
module

public import proofs.«01_k».proof.Proof.Gen.KernelIdeal.Frame.Region3
public import proofs.«01_k».proof.Proof.Block

@[expose] public section

set_option maxRecDepth 16384

noncomputable section

namespace Cert.KernelIdeal.Gen

open Idealize.ShloMosaic Cert.Elastic Cert.KernelIdeal

/-- The gradient magnitude of grid row `it`. -/
theorem mag80_reads (it : ℕ) (hit : 8 * it + 8 ≤ 80) (i : grid3.Coords) (hi : (i 1).val = it) (I : ℕ → ℕ → ℕ → EReal)
    (x0 : Vec Ideal S1x8x80x80 .f32) (x1 x2 : Vec Ideal S1x2x80x80 .f32)
    (h0 : Reads x0 (fun x => I (8 * it + x 1) (x 2) (x 3)))
    (h1 : Reads x1 (fun x => I (2 * (4 * it - 1) + x 1) (x 2) (x 3)))
    (h2 : Reads x2 (fun x => I (2 * min (4 * it + 4) (80 / 2 - 1) + x 1) (x 2) (x 3))) :
    Reads (out3_3 i x0 x1 x2) (fun x => magK 80 I (8 * it + x 1) (x 2) (x 3)) := by
  have b0 : Scalar.cmpi .eq (BitVec.ofNat 32 (i 1).val) 0#32 = 1 ↔ it = 0 := by
    rw [hi]; exact cmp_eq_one (b := 0) (by omega) (by omega)
  have b1 : Scalar.cmpi .eq (BitVec.ofNat 32 (i 1).val) 9#32 = 1 ↔ 8 * it + 8 = 80 := by
    rw [hi]; exact (cmp_eq_one (b := 9) (by omega) (by omega)).trans (by omega)
  have l0 : View.ld x0 r3_0 = x0 := View.ld_unit_zero zero4 _ x0
  have l1 : View.ld x1 r3_1 = x1 := View.ld_unit_zero zero4 _ x1
  have l2 : View.ld x2 r3_1 = x2 := View.ld_unit_zero zero4 _ x2
  unfold out3_3
  rw [View.canon_unit_zero zero4, l0, l1, l2]
  have g3 : Reads (k3_pay2 x0) (fun x => I (8 * it + x 0) (x 1) (x 2)) := h0.dropUnit _
  have gx : Reads (k3_pay3 i x0 x1 x2) (fun x => gradK1 80 (fun q => I q (x 1) (x 2)) (8 * it + x 0)) :=
    reads_gradx3 80 it I (reads_halo1 (h := by decide) (q0 := by decide) (q1 := by decide) (qL := by decide) (q7 := by decide) (q6 := by decide)
        (qR := by decide) 0 80 it (fun y => I (y 0) (y 1) (y 2)) g3 (h1.dropUnit _) (h2.dropUnit _) b0 b1
        (fun _ => rfl) (fun _ => rfl) rfl rfl rfl hit (by decide) (by decide) (by decide) (by decide) (by decide) (by decide))
      (fun _ => rfl) (by decide) (by decide)
  have gy : Reads (k3_pay4 x0) (fun x => grad1 80 (fun q => I (8 * it + x 0) q (x 2)) (x 1)) :=
    reads_grad (h := by decide) 1 80 g3 (fun _ => rfl) (by decide) rfl rfl
      (by decide) (by decide) (by decide) (by decide) (by decide) (by decide)
  generalize k3_pay2 (F := Ideal) _ = v3 at *
  generalize k3_pay3 (F := Ideal) _ _ _ _ = v27 at *
  generalize k3_pay4 (F := Ideal) _ = v39 at *
  have gz := reads_grad (h := by decide) (p0 := by decide) (p1 := by decide) (p2 := by decide) (p3 := by decide) (p4 := by decide) (p5 := by decide)
    (c := broadcast S8x80x78 (Scalar.ofBits .f32 0x3F000000#32)) (s1 := ![8, 80, 1]) (o0 := ![0, 0, 0]) (o1 := ![0, 0, 1]) (o2 := ![0, 0, 2]) (o3 := ![0, 0, 0])
    (o4 := ![0, 0, 79]) (o5 := ![0, 0, 78]) 2 80 g3 (fun _ => rfl) (by decide) rfl rfl
    (by decide) (by decide) (by decide) (by decide) (by decide) (by decide)
  exact ((((gx.mulf gx).addf (gy.mulf gy)).addf (gz.mulf gz)).sqrt).addUnit _

end Cert.KernelIdeal.Gen

end
-- ==== Proof.KEnergy80.lean ====
/- Region 4 of the kernel (size 80): what one run of its body leaves, as a sum over its eight rows. -/
module

public import proofs.«01_k».proof.Proof.Gen.KernelIdeal.Frame.Region4
public import proofs.«01_k».proof.Proof.Block

@[expose] public section

set_option maxRecDepth 16384

noncomputable section

namespace Cert.KernelIdeal.Gen

open Idealize.ShloMosaic Cert.Elastic Cert.KernelIdeal

/-- The partial sum of grid row `it`. -/
theorem energy80_reads (it : ℕ) (hit : 8 * it + 8 ≤ 80) (i : grid4.Coords) (hi : (i 1).val = it)
    (D : ℕ → ℕ → ℕ → ℕ → EReal) (G : ℕ → ℕ → ℕ → EReal)
    (x0 : Vec Ideal S1x3x8x80x80 .f32) (x1 x2 : Vec Ideal S1x3x2x80x80 .f32) (x3 : Vec Ideal S1x8x80x80 .f32)
    (x4 x5 : Vec Ideal S1x4x80x80 .f32)
    (h0 : Reads x0 (fun x => D (x 1) (8 * it + x 2) (x 3) (x 4)))
    (h1 : Reads x1 (fun x => D (x 1) (2 * (4 * it - 1) + x 2) (x 3) (x 4)))
    (h2 : Reads x2 (fun x => D (x 1) (2 * min (4 * it + 4) (80 / 2 - 1) + x 2) (x 3) (x 4)))
    (h3 : Reads x3 (fun x => G (8 * it + x 1) (x 2) (x 3)))
    (h4 : Reads x4 (fun x => G (4 * (2 * it - 1) + x 1) (x 2) (x 3)))
    (h5 : Reads x5 (fun x => G (4 * min (2 * it + 2) (80 / 4 - 1) + x 1) (x 2) (x 3))) :
    out4_6 i x0 x1 x2 x3 x4 x5 = fun _ => blockSum 80 D G it := by
  have b0 : Scalar.cmpi .eq (BitVec.ofNat 32 (i 1).val) 0#32 = 1 ↔ it = 0 := by
    rw [hi]; exact cmp_eq_one (b := 0) (by omega) (by omega)
  have b1 : Scalar.cmpi .eq (BitVec.ofNat 32 (i 1).val) 9#32 = 1 ↔ 8 * it + 8 = 80 := by
    rw [hi]; exact (cmp_eq_one (b := 9) (by omega) (by omega)).trans (by omega)
  have l0 : View.ld x0 r4_2 = x0 := View.ld_unit_zero zero5 _ x0
  have l1 : View.ld x1 r4_3 = x1 := View.ld_unit_zero zero5 _ x1
  have l2 : View.ld x2 r4_3 = x2 := View.ld_unit_zero zero5 _ x2
  have l3 : View.ld x3 r4_0 = x3 := View.ld_unit_zero zero4 _ x3
  have l4 : View.ld x4 r4_1 = x4 := View.ld_unit_zero zero4 _ x4
  have l5 : View.ld x5 r4_1 = x5 := View.ld_unit_zero zero4 _ x5
  unfold out4_6
  rw [View.canon_unit_zero zero4]
  simp only [k4_pay29, k4_pay30, k4_pay31, k4_pay32, k4_pay33, k4_pay34, k4_pay35, k4_pay36, k4_pay37, k4_pay38,
    k4_pay39, l0, l1, l2, l3, l4, l5]
  -- the smoothed magnitude
  have g23 : Reads (k4_pay1 i x3 x4 x5) (fun x => G (refl 80 (8 * it + x 0)) (x 1) (refl 80 (x 2))) :=
    reads_pad5 (h := by decide) 2 80 (reads_halo2 0 80 it (fun y => G (y 0) (y 1) (y 2)) (h3.dropUnit _) (h4.dropUnit _) (h5.dropUnit _) b0 b1
      rfl rfl rfl hit (by decide) (by decide) (by decide) (by decide) (by decide) (by decide))
      (by decide) rfl rfl (by decide) (by decide) (by decide) (by decide)
  have g70 : Reads (k4_pay5 (k4_pay1 i x3 x4 x5) (k4_pay2 i x3 x4 x5) (k4_pay3 i x3 x4 x5) (k4_pay4 (F := Ideal)))
      (fun x => blur1 80 (fun q => blur1 80 (fun r => G (refl 80 (8 * it + x 0)) q r) (x 2)) (x 1)) :=
    reads_taps 1 (reads_pad5 (h := by decide) 1 80 (reads_taps (p3 := by decide) (p4 := by decide) 2 g23 (fun _ => rfl) (fun _ => rfl) (fun _ => rfl) (fun _ => rfl) (fun _ => rfl) (fun _ => rfl)
      (by decide) (by decide) (by decide) (by decide) (by decide))
      (by decide) rfl rfl (by decide) (by decide) (by decide) (by decide))
      (fun _ => rfl) (fun _ => rfl) (fun _ => rfl) (fun _ => rfl) (fun _ => rfl) (fun _ => rfl)
      (by decide) (by decide) (by decide) (by decide) (by decide)
  generalize k4_pay1 i x3 x4 x5 = v23 at *
  generalize k4_pay2 i x3 x4 x5 = v36 at *
  generalize k4_pay3 i x3 x4 x5 = v37 at *
  generalize k4_pay4 (F := Ideal) = v38 at *
  have g91 : Reads (k4_pay8 (k4_pay5 v23 v36 v37 v38) (k4_pay6 v23 v36 v37 v38) (k4_pay7 v23 v36 v37 v38))
      (fun x => smoothK 80 G (8 * it + x 0) (x 1) (x 2)) :=
    (reads_taps 0 g70 (fun _ => rfl) (fun _ => rfl) (fun _ => rfl) (fun _ => rfl) (fun _ => rfl) (fun _ => rfl)
      (by decide) (by decide) (by decide) (by decide) (by decide)).congr fun x _ =>
        taps5_shift (fun p => blur1 80 (fun q => blur1 80 (fun r => G (refl 80 p) q r) (x 2)) (x 1)) (8 * it) (x 0)
  -- the strains
  have g113 : Reads (k4_pay12 x0) (fun x => D (x 0) (8 * it + x 1) (x 2) (x 3)) := h0.dropUnit _
  have g132 : Reads (k4_pay15 (Scalar.cmpi .eq (BitVec.ofNat 32 (i 1).val) 9#32) (k4_pay12 x0)
        (k4_pay13 (Scalar.cmpi .eq (BitVec.ofNat 32 (i 1).val) 0#32) x0 x1) (k4_pay14 x0) (Scalar.ofBits .f32 0x40000000#32) x2)
      (fun x => ext1 80 (fun q => D (x 0) q (x 2) (x 3)) (8 * it + x 1)) :=
    reads_halo1 (h := by decide) (q0 := by decide) (q1 := by decide) (qL := by decide) (q7 := by decide) (q6 := by decide) (qR := by decide) 1 80 it (fun y => D (y 0) (y 1) (y 2) (y 3)) g113 (h1.dropUnit _) (h2.dropUnit _) b0 b1
      (fun _ => rfl) (fun _ => rfl) rfl rfl rfl hit (by decide) (by decide) (by decide) (by decide) (by decide) (by decide)
  have gxx : Reads (k4_pay16 (Scalar.cmpi .eq (BitVec.ofNat 32 (i 1).val) 9#32) (k4_pay12 x0)
        (k4_pay13 (Scalar.cmpi .eq (BitVec.ofNat 32 (i 1).val) 0#32) x0 x1) (k4_pay14 x0) (Scalar.ofBits .f32 0x40000000#32) x2)
      (fun x => gradK1 80 (fun q => D 0 q (x 1) (x 2)) (8 * it + x 0)) :=
    reads_gradx 0 80 it D g132 (fun _ => rfl) (by decide) (by decide)
  generalize k4_pay16 (F := Ideal) _ _ _ _ _ _ = v139 at *
  generalize k4_pay15 (F := Ideal) _ _ _ _ _ _ = v132 at *
  generalize k4_pay12 (F := Ideal) _ = v113 at *
  have gyy : Reads (k4_pay17 v113) (fun x => grad1 80 (fun q => D 1 (8 * it + x 0) q (x 2)) (x 1)) :=
    reads_grad (h := by decide) 1 80 (Reads.comp (e := ![8, 80, 80]) 1 g113 _ _ (by decide)) (fun _ => rfl) (by decide) rfl rfl
      (by decide) (by decide) (by decide) (by decide) (by decide) (by decide)
  have gzz : Reads (k4_pay18 v113) (fun x => grad1 80 (fun q => D 2 (8 * it + x 0) (x 1) q) (x 2)) :=
    reads_grad (h := by decide) 2 80 (Reads.comp (e := ![8, 80, 80]) 2 g113 _ _ (by decide)) (fun _ => rfl) (by decide) rfl rfl
      (by decide) (by decide) (by decide) (by decide) (by decide) (by decide)
  have gxy : Reads (k4_pay22 v132 (k4_pay19 v113) (k4_pay20 v113) (k4_pay21 v113))
      (fun x => half * (grad1 80 (fun q => D 0 (8 * it + x 0) q (x 2)) (x 1) + gradK1 80 (fun q => D 1 q (x 1) (x 2)) (8 * it + x 0))) :=
    (Reads.const fun _ => rfl).mulf ((reads_grad (h := by decide) 1 80 (Reads.comp (e := ![8, 80, 80]) 0 g113 _ _ (by decide)) (fun _ => rfl) (by decide) rfl rfl
      (by decide) (by decide) (by decide) (by decide) (by decide) (by decide)).addf (reads_gradx 1 80 it D g132 (fun _ => rfl) (by decide) (by decide)))
  have gxz : Reads (k4_pay23 v113 v132)
      (fun x => half * (grad1 80 (fun q => D 0 (8 * it + x 0) (x 1) q) (x 2) + gradK1 80 (fun q => D 2 q (x 1) (x 2)) (8 * it + x 0))) :=
    (Reads.const fun _ => rfl).mulf ((reads_grad (h := by decide) 2 80 (Reads.comp (e := ![8, 80, 80]) 0 g113 _ _ (by decide)) (fun _ => rfl) (by decide) rfl rfl
      (by decide) (by decide) (by decide) (by decide) (by decide) (by decide)).addf (reads_gradx 2 80 it D g132 (fun _ => rfl) (by decide) (by decide)))
  generalize k4_pay22 (F := Ideal) _ _ _ _ = v191 at *
  generalize k4_pay23 (F := Ideal) _ _ = v215 at *
  generalize k4_pay17 (F := Ideal) _ = v153 at *
  generalize k4_pay18 (F := Ideal) _ = v167 at *
  exact block_reads ((reads_dens g91 gxx gyy gzz gxy gxz
    ((Reads.const fun _ => rfl).mulf ((reads_grad (h := by decide) 2 80 (Reads.comp (e := ![8, 80, 80]) 1 g113 _ _ (by decide)) (fun _ => rfl) (by decide) rfl rfl
      (by decide) (by decide) (by decide) (by decide) (by decide) (by decide)).addf
      (reads_grad (h := by decide) 1 80 (Reads.comp (e := ![8, 80, 80]) 2 g113 _ _ (by decide)) (fun _ => rfl) (by decide) rfl rfl
      (by decide) (by decide) (by decide) (by decide) (by decide) (by decide))))
    (fun _ => rfl) (fun _ => rfl) (fun _ => rfl) (fun _ => rfl) (fun _ => rfl) (fun _ => rfl) (fun _ => rfl) (fun _ => rfl) (fun _ => rfl)
    (fun _ => rfl) (fun _ => rfl) (fun _ => rfl)).addUnit _) _ _ _ _ _ _ (by decide)

end Cert.KernelIdeal.Gen

end
-- ==== Proof.Array80.lean ====
/- Size 80: the arrays the gradient and the energy calls leave, read at coordinates. -/
module

public import proofs.«01_k».proof.Proof.KMag80
public import proofs.«01_k».proof.Proof.KEnergy80
public import Idealize.ShloMosaic.Lib.Pipeline.ValueKit

@[expose] public section

set_option maxRecDepth 16384

noncomputable section

namespace Cert.KernelIdeal.Gen

open Idealize.ShloMosaic Idealize.ShloMosaic.TcCoe Cert.Elastic Cert.KernelIdeal
open Idealize.ShloMosaic.Pipeline (Dat)

theorem idx80_mag : ∀ t : Fin cfg3.N, win3_0.index t = ![(grid3.coords t 0).val, (grid3.coords t 1).val, 0, 0]
    ∧ win3_1.index t = ![(grid3.coords t 0).val, 4 * (grid3.coords t 1).val - 1, 0, 0]
    ∧ win3_2.index t = ![(grid3.coords t 0).val, min (4 * (grid3.coords t 1).val + 4) 39, 0, 0]
    ∧ win3_3.index t = ![(grid3.coords t 0).val, (grid3.coords t 1).val, 0, 0] ∧ (grid3.coords t 1).val < 10 :=
  (by decide +kernel : ∀ t : Fin grid3.N, _)

theorem idx80_energy : ∀ t : Fin cfg4.N, win4_0.index t = ![(grid4.coords t 0).val, 0, (grid4.coords t 1).val, 0, 0]
    ∧ win4_1.index t = ![(grid4.coords t 0).val, 0, 4 * (grid4.coords t 1).val - 1, 0, 0]
    ∧ win4_2.index t = ![(grid4.coords t 0).val, 0, min (4 * (grid4.coords t 1).val + 4) 39, 0, 0]
    ∧ win4_3.index t = ![(grid4.coords t 0).val, (grid4.coords t 1).val, 0, 0]
    ∧ win4_4.index t = ![(grid4.coords t 0).val, 2 * (grid4.coords t 1).val - 1, 0, 0]
    ∧ win4_5.index t = ![(grid4.coords t 0).val, min (2 * (grid4.coords t 1).val + 2) 19, 0, 0]
    ∧ win4_6.index t = ![(grid4.coords t 0).val, (grid4.coords t 1).val, 0, 0] ∧ (grid4.coords t 1).val < 10 :=
  (by decide +kernel : ∀ t : Fin grid4.N, _)

/-- The gradient magnitudes of a batch of images. -/
theorem mag80_array (V : (c : Dev nD) → (b : Ref sig .tc) → Buf (Elt Ideal) ((c : Thread nD τ).loc b)) (c : Dev nD)
    (I : ℕ → ℕ → ℕ → ℕ → EReal)
    (hI : Reads (sz := ![2, 80, 80, 80]) (α := EReal) (V c main_v24) (fun x => I (x 0) (x 1) (x 2) (x 3))) :
    Reads (sz := ![2, 80, 80, 80]) (α := EReal) ((dat3 V c).arrAt 3 cfg3.N) (fun x => magK 80 (I (x 0)) (x 1) (x 2) (x 3)) := by
  have key : (dat3 V c).arrAt 3 cfg3.N
      = (fun i => magK 80 (I (i 0).val) (i 1).val (i 2).val (i 3).val : FVec Ideal S2x80x80x80 .f32) := by
    refine (dat3 V c).arrAt_eq_of_covers 3 _ (by decide +kernel) fun t _ y => ?_
    obtain ⟨i0, i1, i2, i3, hit⟩ := idx80_mag t
    have r0 : Reads (sz := ![1, 8, 80, 80]) (α := EReal) (iblk3 V c 0 t)
        (fun x => I (grid3.coords t 0).val (8 * (grid3.coords t 1).val + x 1) (x 2) (x 3)) := by
      intro x hx
      refine (hI.at (((cfg3.win 0).blk t).view.emb (fun a => ⟨x a, hx a⟩))).trans ?_
      have h0 : x 0 < 1 := hx 0
      blk_simp [i0]
      exact cong4 I (by dsimp only; omega) (by dsimp only; omega) rfl rfl
    have r1 : Reads (sz := ![1, 2, 80, 80]) (α := EReal) (iblk3 V c 1 t)
        (fun x => I (grid3.coords t 0).val (2 * (4 * (grid3.coords t 1).val - 1) + x 1) (x 2) (x 3)) := by
      intro x hx
      refine (hI.at (((cfg3.win 1).blk t).view.emb (fun a => ⟨x a, hx a⟩))).trans ?_
      have h0 : x 0 < 1 := hx 0
      blk_simp [i1]
      exact cong4 I (by dsimp only; omega) (by dsimp only; omega) rfl rfl
    have r2 : Reads (sz := ![1, 2, 80, 80]) (α := EReal) (iblk3 V c 2 t)
        (fun x => I (grid3.coords t 0).val (2 * min (4 * (grid3.coords t 1).val + 4) (80 / 2 - 1) + x 1) (x 2) (x 3)) := by
      intro x hx
      refine (hI.at (((cfg3.win 2).blk t).view.emb (fun a => ⟨x a, hx a⟩))).trans ?_
      have h0 : x 0 < 1 := hx 0
      blk_simp [i2]
      exact cong4 I (by dsimp only; omega) (by dsimp only; omega) rfl rfl
    have r := mag80_reads (grid3.coords t 1).val (by omega) (grid3.coords t) rfl (I (grid3.coords t 0).val) _ _ _ r0 r1 r2
    rw [after3_3]
    simp only [cast_eq]
    generalize out3_3 (grid3.coords t) (iblk3 V c 0 t) (iblk3 V c 1 t) (iblk3 V c 2 t) = o at r ⊢
    refine (r.at ((cfg3.win 3).xinj (cfg3.grid.coords t) y)).trans ?_
    have h0 : (y 0).val < 1 := (y 0).isLt
    have e1 : ((cfg3.win 3).xinj (cfg3.grid.coords t) y 1).val = (y 1).val := rfl
    blk_simp [i3]
    exact cong4 (fun b => magK 80 (I b)) (by omega) (by omega) rfl rfl
  rw [key]
  exact Reads.of_forall fun _ => rfl

/-- The partial sums of the energies. -/
theorem energy80_array (V : (c : Dev nD) → (b : Ref sig .tc) → Buf (Elt Ideal) ((c : Thread nD τ).loc b)) (c : Dev nD)
    (D : ℕ → ℕ → ℕ → ℕ → ℕ → EReal) (G : ℕ → ℕ → ℕ → ℕ → EReal)
    (hD : Reads (sz := ![2, 3, 80, 80, 80]) (α := EReal) (V c main_v18) (fun x => D (x 0) (x 1) (x 2) (x 3) (x 4)))
    (hG : Reads (sz := ![2, 80, 80, 80]) (α := EReal) (V c main_v25) (fun x => G (x 0) (x 1) (x 2) (x 3))) :
    Reads (sz := ![2, 10, 8, 128]) (α := EReal) ((dat4 V c).arrAt 6 cfg4.N) (fun x => blockSum 80 (D (x 0)) (G (x 0)) (x 1)) := by
  have key : (dat4 V c).arrAt 6 cfg4.N
      = (fun i => blockSum 80 (D (i 0).val) (G (i 0).val) (i 1).val : FVec Ideal S2x10x8x128 .f32) := by
    refine (dat4 V c).arrAt_eq_of_covers 6 _ (by decide +kernel) fun t _ y => ?_
    obtain ⟨i0, i1, i2, i3, i4, i5, i6, hit⟩ := idx80_energy t
    have r0 : Reads (sz := ![1, 3, 8, 80, 80]) (α := EReal) (iblk4 V c 0 t)
        (fun x => D (grid4.coords t 0).val (x 1) (8 * (grid4.coords t 1).val + x 2) (x 3) (x 4)) := by
      intro x hx
      refine (hD.at (((cfg4.win 0).blk t).view.emb (fun a => ⟨x a, hx a⟩))).trans ?_
      have h0 : x 0 < 1 := hx 0
      blk_simp [i0]
      exact cong5 D (by dsimp only; omega) rfl (by dsimp only; omega) rfl rfl
    have r1 : Reads (sz := ![1, 3, 2, 80, 80]) (α := EReal) (iblk4 V c 1 t)
        (fun x => D (grid4.coords t 0).val (x 1) (2 * (4 * (grid4.coords t 1).val - 1) + x 2) (x 3) (x 4)) := by
      intro x hx
      refine (hD.at (((cfg4.win 1).blk t).view.emb (fun a => ⟨x a, hx a⟩))).trans ?_
      have h0 : x 0 < 1 := hx 0
      blk_simp [i1]
      exact cong5 D (by dsimp only; omega) rfl (by dsimp only; omega) rfl rfl
    have r2 : Reads (sz := ![1, 3, 2, 80, 80]) (α := EReal) (iblk4 V c 2 t)
        (fun x => D (grid4.coords t 0).val (x 1) (2 * min (4 * (grid4.coords t 1).val + 4) (80 / 2 - 1) + x 2) (x 3) (x 4)) := by
      intro x hx
      refine (hD.at (((cfg4.win 2).blk t).view.emb (fun a => ⟨x a, hx a⟩))).trans ?_
      have h0 : x 0 < 1 := hx 0
      blk_simp [i2]
      exact cong5 D (by dsimp only; omega) rfl (by dsimp only; omega) rfl rfl
    have r3 : Reads (sz := ![1, 8, 80, 80]) (α := EReal) (iblk4 V c 3 t)
        (fun x => G (grid4.coords t 0).val (8 * (grid4.coords t 1).val + x 1) (x 2) (x 3)) := by
      intro x hx
      refine (hG.at (((cfg4.win 3).blk t).view.emb (fun a => ⟨x a, hx a⟩))).trans ?_
      have h0 : x 0 < 1 := hx 0
      blk_simp [i3]
      exact cong4 G (by dsimp only; omega) (by dsimp only; omega) rfl rfl
    have r4 : Reads (sz := ![1, 4, 80, 80]) (α := EReal) (iblk4 V c 4 t)
        (fun x => G (grid4.coords t 0).val (4 * (2 * (grid4.coords t 1).val - 1) + x 1) (x 2) (x 3)) := by
      intro x hx
      refine (hG.at (((cfg4.win 4).blk t).view.emb (fun a => ⟨x a, hx a⟩))).trans ?_
      have h0 : x 0 < 1 := hx 0
      blk_simp [i4]
      exact cong4 G (by dsimp only; omega) (by dsimp only; omega) rfl rfl
    have r5 : Reads (sz := ![1, 4, 80, 80]) (α := EReal) (iblk4 V c 5 t)
        (fun x => G (grid4.coords t 0).val (4 * min (2 * (grid4.coords t 1).val + 2) (80 / 4 - 1) + x 1) (x 2) (x 3)) := by
      intro x hx
      refine (hG.at (((cfg4.win 5).blk t).view.emb (fun a => ⟨x a, hx a⟩))).trans ?_
      have h0 : x 0 < 1 := hx 0
      blk_simp [i5]
      exact cong4 G (by dsimp only; omega) (by dsimp only; omega) rfl rfl
    have r := energy80_reads (grid4.coords t 1).val (by omega) (grid4.coords t) rfl (D (grid4.coords t 0).val) (G (grid4.coords t 0).val)
      _ _ _ _ _ _ r0 r1 r2 r3 r4 r5
    rw [after4_6]
    simp only [cast_eq]
    rw [r]
    blk_simp [i6]
  rw [key]
  exact Reads.of_forall fun _ => rfl

end Cert.KernelIdeal.Gen

end
-- ==== Proof.KMag40.lean ====
/- Region 6 of the kernel (size 40): what one run of its body leaves, the gradient magnitude of its eight rows. -/
module

public import proofs.«01_k».proof.Proof.Gen.KernelIdeal.Frame.Region6
public import proofs.«01_k».proof.Proof.Block

@[expose] public section

set_option maxRecDepth 16384

noncomputable section

namespace Cert.KernelIdeal.Gen

open Idealize.ShloMosaic Cert.Elastic Cert.KernelIdeal

/-- The gradient magnitude of grid row `it`. -/
theorem mag40_reads (it : ℕ) (hit : 8 * it + 8 ≤ 40) (i : grid6.Coords) (hi : (i 1).val = it) (I : ℕ → ℕ → ℕ → EReal)
    (x0 : Vec Ideal S1x8x40x40 .f32) (x1 x2 : Vec Ideal S1x2x40x40 .f32)
    (h0 : Reads x0 (fun x => I (8 * it + x 1) (x 2) (x 3)))
    (h1 : Reads x1 (fun x => I (2 * (4 * it - 1) + x 1) (x 2) (x 3)))
    (h2 : Reads x2 (fun x => I (2 * min (4 * it + 4) (40 / 2 - 1) + x 1) (x 2) (x 3))) :
    Reads (out6_3 i x0 x1 x2) (fun x => magK 40 I (8 * it + x 1) (x 2) (x 3)) := by
  have b0 : Scalar.cmpi .eq (BitVec.ofNat 32 (i 1).val) 0#32 = 1 ↔ it = 0 := by
    rw [hi]; exact cmp_eq_one (b := 0) (by omega) (by omega)
  have b1 : Scalar.cmpi .eq (BitVec.ofNat 32 (i 1).val) 4#32 = 1 ↔ 8 * it + 8 = 40 := by
    rw [hi]; exact (cmp_eq_one (b := 4) (by omega) (by omega)).trans (by omega)
  have l0 : View.ld x0 r6_0 = x0 := View.ld_unit_zero zero4 _ x0
  have l1 : View.ld x1 r6_1 = x1 := View.ld_unit_zero zero4 _ x1
  have l2 : View.ld x2 r6_1 = x2 := View.ld_unit_zero zero4 _ x2
  unfold out6_3
  rw [View.canon_unit_zero zero4, l0, l1, l2]
  have g3 : Reads (k6_pay2 x0) (fun x => I (8 * it + x 0) (x 1) (x 2)) := h0.dropUnit _
  have gx : Reads (k6_pay3 i x0 x1 x2) (fun x => gradK1 40 (fun q => I q (x 1) (x 2)) (8 * it + x 0)) :=
    reads_gradx3 40 it I (reads_halo1 (h := by decide) (q0 := by decide) (q1 := by decide) (qL := by decide) (q7 := by decide) (q6 := by decide)
        (qR := by decide) 0 40 it (fun y => I (y 0) (y 1) (y 2)) g3 (h1.dropUnit _) (h2.dropUnit _) b0 b1
        (fun _ => rfl) (fun _ => rfl) rfl rfl rfl hit (by decide) (by decide) (by decide) (by decide) (by decide) (by decide))
      (fun _ => rfl) (by decide) (by decide)
  have gy : Reads (k6_pay4 x0) (fun x => grad1 40 (fun q => I (8 * it + x 0) q (x 2)) (x 1)) :=
    reads_grad (h := by decide) 1 40 g3 (fun _ => rfl) (by decide) rfl rfl
      (by decide) (by decide) (by decide) (by decide) (by decide) (by decide)
  generalize k6_pay2 (F := Ideal) _ = v3 at *
  generalize k6_pay3 (F := Ideal) _ _ _ _ = v27 at *
  generalize k6_pay4 (F := Ideal) _ = v39 at *
  have gz := reads_grad (h := by decide) (p0 := by decide) (p1 := by decide) (p2 := by decide) (p3 := by decide) (p4 := by decide) (p5 := by decide)
    (c := broadcast S8x40x38 (Scalar.ofBits .f32 0x3F000000#32)) (s1 := ![8, 40, 1]) (o0 := ![0, 0, 0]) (o1 := ![0, 0, 1]) (o2 := ![0, 0, 2]) (o3 := ![0, 0, 0])
    (o4 := ![0, 0, 39]) (o5 := ![0, 0, 38]) 2 40 g3 (fun _ => rfl) (by decide) rfl rfl
    (by decide) (by decide) (by decide) (by decide) (by decide) (by decide)
  exact ((((gx.mulf gx).addf (gy.mulf gy)).addf (gz.mulf gz)).sqrt).addUnit _

end Cert.KernelIdeal.Gen

end
-- ==== Proof.KEnergy40.lean ====
/- Region 7 of the kernel (size 40): what one run of its body leaves, as a sum over its eight rows. -/
module

public import proofs.«01_k».proof.Proof.Gen.KernelIdeal.Frame.Region7
public import proofs.«01_k».proof.Proof.Block

@[expose] public section

set_option maxRecDepth 16384

noncomputable section

namespace Cert.KernelIdeal.Gen

open Idealize.ShloMosaic Cert.Elastic Cert.KernelIdeal

/-- The partial sum of grid row `it`. -/
theorem energy40_reads (it : ℕ) (hit : 8 * it + 8 ≤ 40) (i : grid7.Coords) (hi : (i 1).val = it)
    (D : ℕ → ℕ → ℕ → ℕ → EReal) (G : ℕ → ℕ → ℕ → EReal)
    (x0 : Vec Ideal S1x3x8x40x40 .f32) (x1 x2 : Vec Ideal S1x3x2x40x40 .f32) (x3 : Vec Ideal S1x8x40x40 .f32)
    (x4 x5 : Vec Ideal S1x4x40x40 .f32)
    (h0 : Reads x0 (fun x => D (x 1) (8 * it + x 2) (x 3) (x 4)))
    (h1 : Reads x1 (fun x => D (x 1) (2 * (4 * it - 1) + x 2) (x 3) (x 4)))
    (h2 : Reads x2 (fun x => D (x 1) (2 * min (4 * it + 4) (40 / 2 - 1) + x 2) (x 3) (x 4)))
    (h3 : Reads x3 (fun x => G (8 * it + x 1) (x 2) (x 3)))
    (h4 : Reads x4 (fun x => G (4 * (2 * it - 1) + x 1) (x 2) (x 3)))
    (h5 : Reads x5 (fun x => G (4 * min (2 * it + 2) (40 / 4 - 1) + x 1) (x 2) (x 3))) :
    out7_6 i x0 x1 x2 x3 x4 x5 = fun _ => blockSum 40 D G it := by
  have b0 : Scalar.cmpi .eq (BitVec.ofNat 32 (i 1).val) 0#32 = 1 ↔ it = 0 := by
    rw [hi]; exact cmp_eq_one (b := 0) (by omega) (by omega)
  have b1 : Scalar.cmpi .eq (BitVec.ofNat 32 (i 1).val) 4#32 = 1 ↔ 8 * it + 8 = 40 := by
    rw [hi]; exact (cmp_eq_one (b := 4) (by omega) (by omega)).trans (by omega)
  have l0 : View.ld x0 r7_2 = x0 := View.ld_unit_zero zero5 _ x0
  have l1 : View.ld x1 r7_3 = x1 := View.ld_unit_zero zero5 _ x1
  have l2 : View.ld x2 r7_3 = x2 := View.ld_unit_zero zero5 _ x2
  have l3 : View.ld x3 r7_0 = x3 := View.ld_unit_zero zero4 _ x3
  have l4 : View.ld x4 r7_1 = x4 := View.ld_unit_zero zero4 _ x4
  have l5 : View.ld x5 r7_1 = x5 := View.ld_unit_zero zero4 _ x5
  unfold out7_6
  rw [View.canon_unit_zero zero4]
  simp only [k7_pay29, k7_pay30, k7_pay31, k7_pay32, k7_pay33, k7_pay34, k7_pay35, k7_pay36, k7_pay37, k7_pay38,
    k7_pay39, l0, l1, l2, l3, l4, l5]
  -- the smoothed magnitude
  have g23 : Reads (k7_pay1 i x3 x4 x5) (fun x => G (refl 40 (8 * it + x 0)) (x 1) (refl 40 (x 2))) :=
    reads_pad5 (h := by decide) 2 40 (reads_halo2 0 40 it (fun y => G (y 0) (y 1) (y 2)) (h3.dropUnit _) (h4.dropUnit _) (h5.dropUnit _) b0 b1
      rfl rfl rfl hit (by decide) (by decide) (by decide) (by decide) (by decide) (by decide))
      (by decide) rfl rfl (by decide) (by decide) (by decide) (by decide)
  have g70 : Reads (k7_pay5 (k7_pay1 i x3 x4 x5) (k7_pay2 i x3 x4 x5) (k7_pay3 i x3 x4 x5) (k7_pay4 (F := Ideal)))
      (fun x => blur1 40 (fun q => blur1 40 (fun r => G (refl 40 (8 * it + x 0)) q r) (x 2)) (x 1)) :=
    reads_taps 1 (reads_pad5 (h := by decide) 1 40 (reads_taps (p3 := by decide) (p4 := by decide) 2 g23 (fun _ => rfl) (fun _ => rfl) (fun _ => rfl) (fun _ => rfl) (fun _ => rfl) (fun _ => rfl)
      (by decide) (by decide) (by decide) (by decide) (by decide))
      (by decide) rfl rfl (by decide) (by decide) (by decide) (by decide))
      (fun _ => rfl) (fun _ => rfl) (fun _ => rfl) (fun _ => rfl) (fun _ => rfl) (fun _ => rfl)
      (by decide) (by decide) (by decide) (by decide) (by decide)
  generalize k7_pay1 i x3 x4 x5 = v23 at *
  generalize k7_pay2 i x3 x4 x5 = v36 at *
  generalize k7_pay3 i x3 x4 x5 = v37 at *
  generalize k7_pay4 (F := Ideal) = v38 at *
  have g91 : Reads (k7_pay8 (k7_pay5 v23 v36 v37 v38) (k7_pay6 v23 v36 v37 v38) (k7_pay7 v23 v36 v37 v38))
      (fun x => smoothK 40 G (8 * it + x 0) (x 1) (x 2)) :=
    (reads_taps 0 g70 (fun _ => rfl) (fun _ => rfl) (fun _ => rfl) (fun _ => rfl) (fun _ => rfl) (fun _ => rfl)
      (by decide) (by decide) (by decide) (by decide) (by decide)).congr fun x _ =>
        taps5_shift (fun p => blur1 40 (fun q => blur1 40 (fun r => G (refl 40 p) q r) (x 2)) (x 1)) (8 * it) (x 0)
  -- the strains
  have g113 : Reads (k7_pay12 x0) (fun x => D (x 0) (8 * it + x 1) (x 2) (x 3)) := h0.dropUnit _
  have g132 : Reads (k7_pay15 (Scalar.cmpi .eq (BitVec.ofNat 32 (i 1).val) 4#32) (k7_pay12 x0)
        (k7_pay13 (Scalar.cmpi .eq (BitVec.ofNat 32 (i 1).val) 0#32) x0 x1) (k7_pay14 x0) (Scalar.ofBits .f32 0x40000000#32) x2)
      (fun x => ext1 40 (fun q => D (x 0) q (x 2) (x 3)) (8 * it + x 1)) :=
    reads_halo1 (h := by decide) (q0 := by decide) (q1 := by decide) (qL := by decide) (q7 := by decide) (q6 := by decide) (qR := by decide) 1 40 it (fun y => D (y 0) (y 1) (y 2) (y 3)) g113 (h1.dropUnit _) (h2.dropUnit _) b0 b1
      (fun _ => rfl) (fun _ => rfl) rfl rfl rfl hit (by decide) (by decide) (by decide) (by decide) (by decide) (by decide)
  have gxx : Reads (k7_pay16 (Scalar.cmpi .eq (BitVec.ofNat 32 (i 1).val) 4#32) (k7_pay12 x0)
        (k7_pay13 (Scalar.cmpi .eq (BitVec.ofNat 32 (i 1).val) 0#32) x0 x1) (k7_pay14 x0) (Scalar.ofBits .f32 0x40000000#32) x2)
      (fun x => gradK1 40 (fun q => D 0 q (x 1) (x 2)) (8 * it + x 0)) :=
    reads_gradx 0 40 it D g132 (fun _ => rfl) (by decide) (by decide)
  generalize k7_pay16 (F := Ideal) _ _ _ _ _ _ = v139 at *
  generalize k7_pay15 (F := Ideal) _ _ _ _ _ _ = v132 at *
  generalize k7_pay12 (F := Ideal) _ = v113 at *
  have gyy : Reads (k7_pay17 v113) (fun x => grad1 40 (fun q => D 1 (8 * it + x 0) q (x 2)) (x 1)) :=
    reads_grad (h := by decide) 1 40 (Reads.comp (e := ![8, 40, 40]) 1 g113 _ _ (by decide)) (fun _ => rfl) (by decide) rfl rfl
      (by decide) (by decide) (by decide) (by decide) (by decide) (by decide)
  have gzz : Reads (k7_pay18 v113) (fun x => grad1 40 (fun q => D 2 (8 * it + x 0) (x 1) q) (x 2)) :=
    reads_grad (h := by decide) 2 40 (Reads.comp (e := ![8, 40, 40]) 2 g113 _ _ (by decide)) (fun _ => rfl) (by decide) rfl rfl
      (by decide) (by decide) (by decide) (by decide) (by decide) (by decide)
  have gxy : Reads (k7_pay22 v132 (k7_pay19 v113) (k7_pay20 v113) (k7_pay21 v113))
      (fun x => half * (grad1 40 (fun q => D 0 (8 * it + x 0) q (x 2)) (x 1) + gradK1 40 (fun q => D 1 q (x 1) (x 2)) (8 * it + x 0))) :=
    (Reads.const fun _ => rfl).mulf ((reads_grad (h := by decide) 1 40 (Reads.comp (e := ![8, 40, 40]) 0 g113 _ _ (by decide)) (fun _ => rfl) (by decide) rfl rfl
      (by decide) (by decide) (by decide) (by decide) (by decide) (by decide)).addf (reads_gradx 1 40 it D g132 (fun _ => rfl) (by decide) (by decide)))
  have gxz : Reads (k7_pay23 v113 v132)
      (fun x => half * (grad1 40 (fun q => D 0 (8 * it + x 0) (x 1) q) (x 2) + gradK1 40 (fun q => D 2 q (x 1) (x 2)) (8 * it + x 0))) :=
    (Reads.const fun _ => rfl).mulf ((reads_grad (h := by decide) 2 40 (Reads.comp (e := ![8, 40, 40]) 0 g113 _ _ (by decide)) (fun _ => rfl) (by decide) rfl rfl
      (by decide) (by decide) (by decide) (by decide) (by decide) (by decide)).addf (reads_gradx 2 40 it D g132 (fun _ => rfl) (by decide) (by decide)))
  generalize k7_pay22 (F := Ideal) _ _ _ _ = v191 at *
  generalize k7_pay23 (F := Ideal) _ _ = v215 at *
  generalize k7_pay17 (F := Ideal) _ = v153 at *
  generalize k7_pay18 (F := Ideal) _ = v167 at *
  exact block_reads ((reads_dens g91 gxx gyy gzz gxy gxz
    ((Reads.const fun _ => rfl).mulf ((reads_grad (h := by decide) 2 40 (Reads.comp (e := ![8, 40, 40]) 1 g113 _ _ (by decide)) (fun _ => rfl) (by decide) rfl rfl
      (by decide) (by decide) (by decide) (by decide) (by decide) (by decide)).addf
      (reads_grad (h := by decide) 1 40 (Reads.comp (e := ![8, 40, 40]) 2 g113 _ _ (by decide)) (fun _ => rfl) (by decide) rfl rfl
      (by decide) (by decide) (by decide) (by decide) (by decide) (by decide))))
    (fun _ => rfl) (fun _ => rfl) (fun _ => rfl) (fun _ => rfl) (fun _ => rfl) (fun _ => rfl) (fun _ => rfl) (fun _ => rfl) (fun _ => rfl)
    (fun _ => rfl) (fun _ => rfl) (fun _ => rfl)).addUnit _) _ _ _ _ _ _ (by decide)

end Cert.KernelIdeal.Gen

end
-- ==== Proof.Array40.lean ====
/- Size 40: the arrays the gradient and the energy calls leave, read at coordinates. -/
module

public import proofs.«01_k».proof.Proof.KMag40
public import proofs.«01_k».proof.Proof.KEnergy40
public import Idealize.ShloMosaic.Lib.Pipeline.ValueKit

@[expose] public section

set_option maxRecDepth 16384

noncomputable section

namespace Cert.KernelIdeal.Gen

open Idealize.ShloMosaic Idealize.ShloMosaic.TcCoe Cert.Elastic Cert.KernelIdeal
open Idealize.ShloMosaic.Pipeline (Dat)

theorem idx40_mag : ∀ t : Fin cfg6.N, win6_0.index t = ![(grid6.coords t 0).val, (grid6.coords t 1).val, 0, 0]
    ∧ win6_1.index t = ![(grid6.coords t 0).val, 4 * (grid6.coords t 1).val - 1, 0, 0]
    ∧ win6_2.index t = ![(grid6.coords t 0).val, min (4 * (grid6.coords t 1).val + 4) 19, 0, 0]
    ∧ win6_3.index t = ![(grid6.coords t 0).val, (grid6.coords t 1).val, 0, 0] ∧ (grid6.coords t 1).val < 5 :=
  (by decide +kernel : ∀ t : Fin grid6.N, _)

theorem idx40_energy : ∀ t : Fin cfg7.N, win7_0.index t = ![(grid7.coords t 0).val, 0, (grid7.coords t 1).val, 0, 0]
    ∧ win7_1.index t = ![(grid7.coords t 0).val, 0, 4 * (grid7.coords t 1).val - 1, 0, 0]
    ∧ win7_2.index t = ![(grid7.coords t 0).val, 0, min (4 * (grid7.coords t 1).val + 4) 19, 0, 0]
    ∧ win7_3.index t = ![(grid7.coords t 0).val, (grid7.coords t 1).val, 0, 0]
    ∧ win7_4.index t = ![(grid7.coords t 0).val, 2 * (grid7.coords t 1).val - 1, 0, 0]
    ∧ win7_5.index t = ![(grid7.coords t 0).val, min (2 * (grid7.coords t 1).val + 2) 9, 0, 0]
    ∧ win7_6.index t = ![(grid7.coords t 0).val, (grid7.coords t 1).val, 0, 0] ∧ (grid7.coords t 1).val < 5 :=
  (by decide +kernel : ∀ t : Fin grid7.N, _)

/-- The gradient magnitudes of a batch of images. -/
theorem mag40_array (V : (c : Dev nD) → (b : Ref sig .tc) → Buf (Elt Ideal) ((c : Thread nD τ).loc b)) (c : Dev nD)
    (I : ℕ → ℕ → ℕ → ℕ → EReal)
    (hI : Reads (sz := ![2, 40, 40, 40]) (α := EReal) (V c main_v48) (fun x => I (x 0) (x 1) (x 2) (x 3))) :
    Reads (sz := ![2, 40, 40, 40]) (α := EReal) ((dat6 V c).arrAt 3 cfg6.N) (fun x => magK 40 (I (x 0)) (x 1) (x 2) (x 3)) := by
  have key : (dat6 V c).arrAt 3 cfg6.N
      = (fun i => magK 40 (I (i 0).val) (i 1).val (i 2).val (i 3).val : FVec Ideal S2x40x40x40 .f32) := by
    refine (dat6 V c).arrAt_eq_of_covers 3 _ (by decide +kernel) fun t _ y => ?_
    obtain ⟨i0, i1, i2, i3, hit⟩ := idx40_mag t
    have r0 : Reads (sz := ![1, 8, 40, 40]) (α := EReal) (iblk6 V c 0 t)
        (fun x => I (grid6.coords t 0).val (8 * (grid6.coords t 1).val + x 1) (x 2) (x 3)) := by
      intro x hx
      refine (hI.at (((cfg6.win 0).blk t).view.emb (fun a => ⟨x a, hx a⟩))).trans ?_
      have h0 : x 0 < 1 := hx 0
      blk_simp [i0]
      exact cong4 I (by dsimp only; omega) (by dsimp only; omega) rfl rfl
    have r1 : Reads (sz := ![1, 2, 40, 40]) (α := EReal) (iblk6 V c 1 t)
        (fun x => I (grid6.coords t 0).val (2 * (4 * (grid6.coords t 1).val - 1) + x 1) (x 2) (x 3)) := by
      intro x hx
      refine (hI.at (((cfg6.win 1).blk t).view.emb (fun a => ⟨x a, hx a⟩))).trans ?_
      have h0 : x 0 < 1 := hx 0
      blk_simp [i1]
      exact cong4 I (by dsimp only; omega) (by dsimp only; omega) rfl rfl
    have r2 : Reads (sz := ![1, 2, 40, 40]) (α := EReal) (iblk6 V c 2 t)
        (fun x => I (grid6.coords t 0).val (2 * min (4 * (grid6.coords t 1).val + 4) (40 / 2 - 1) + x 1) (x 2) (x 3)) := by
      intro x hx
      refine (hI.at (((cfg6.win 2).blk t).view.emb (fun a => ⟨x a, hx a⟩))).trans ?_
      have h0 : x 0 < 1 := hx 0
      blk_simp [i2]
      exact cong4 I (by dsimp only; omega) (by dsimp only; omega) rfl rfl
    have r := mag40_reads (grid6.coords t 1).val (by omega) (grid6.coords t) rfl (I (grid6.coords t 0).val) _ _ _ r0 r1 r2
    rw [after6_3]
    simp only [cast_eq]
    generalize out6_3 (grid6.coords t) (iblk6 V c 0 t) (iblk6 V c 1 t) (iblk6 V c 2 t) = o at r ⊢
    refine (r.at ((cfg6.win 3).xinj (cfg6.grid.coords t) y)).trans ?_
    have h0 : (y 0).val < 1 := (y 0).isLt
    have e1 : ((cfg6.win 3).xinj (cfg6.grid.coords t) y 1).val = (y 1).val := rfl
    blk_simp [i3]
    exact cong4 (fun b => magK 40 (I b)) (by omega) (by omega) rfl rfl
  rw [key]
  exact Reads.of_forall fun _ => rfl

/-- The partial sums of the energies. -/
theorem energy40_array (V : (c : Dev nD) → (b : Ref sig .tc) → Buf (Elt Ideal) ((c : Thread nD τ).loc b)) (c : Dev nD)
    (D : ℕ → ℕ → ℕ → ℕ → ℕ → EReal) (G : ℕ → ℕ → ℕ → ℕ → EReal)
    (hD : Reads (sz := ![2, 3, 40, 40, 40]) (α := EReal) (V c main_v42) (fun x => D (x 0) (x 1) (x 2) (x 3) (x 4)))
    (hG : Reads (sz := ![2, 40, 40, 40]) (α := EReal) (V c main_v49) (fun x => G (x 0) (x 1) (x 2) (x 3))) :
    Reads (sz := ![2, 5, 8, 128]) (α := EReal) ((dat7 V c).arrAt 6 cfg7.N) (fun x => blockSum 40 (D (x 0)) (G (x 0)) (x 1)) := by
  have key : (dat7 V c).arrAt 6 cfg7.N
      = (fun i => blockSum 40 (D (i 0).val) (G (i 0).val) (i 1).val : FVec Ideal S2x5x8x128 .f32) := by
    refine (dat7 V c).arrAt_eq_of_covers 6 _ (by decide +kernel) fun t _ y => ?_
    obtain ⟨i0, i1, i2, i3, i4, i5, i6, hit⟩ := idx40_energy t
    have r0 : Reads (sz := ![1, 3, 8, 40, 40]) (α := EReal) (iblk7 V c 0 t)
        (fun x => D (grid7.coords t 0).val (x 1) (8 * (grid7.coords t 1).val + x 2) (x 3) (x 4)) := by
      intro x hx
      refine (hD.at (((cfg7.win 0).blk t).view.emb (fun a => ⟨x a, hx a⟩))).trans ?_
      have h0 : x 0 < 1 := hx 0
      blk_simp [i0]
      exact cong5 D (by dsimp only; omega) rfl (by dsimp only; omega) rfl rfl
    have r1 : Reads (sz := ![1, 3, 2, 40, 40]) (α := EReal) (iblk7 V c 1 t)
        (fun x => D (grid7.coords t 0).val (x 1) (2 * (4 * (grid7.coords t 1).val - 1) + x 2) (x 3) (x 4)) := by
      intro x hx
      refine (hD.at (((cfg7.win 1).blk t).view.emb (fun a => ⟨x a, hx a⟩))).trans ?_
      have h0 : x 0 < 1 := hx 0
      blk_simp [i1]
      exact cong5 D (by dsimp only; omega) rfl (by dsimp only; omega) rfl rfl
    have r2 : Reads (sz := ![1, 3, 2, 40, 40]) (α := EReal) (iblk7 V c 2 t)
        (fun x => D (grid7.coords t 0).val (x 1) (2 * min (4 * (grid7.coords t 1).val + 4) (40 / 2 - 1) + x 2) (x 3) (x 4)) := by
      intro x hx
      refine (hD.at (((cfg7.win 2).blk t).view.emb (fun a => ⟨x a, hx a⟩))).trans ?_
      have h0 : x 0 < 1 := hx 0
      blk_simp [i2]
      exact cong5 D (by dsimp only; omega) rfl (by dsimp only; omega) rfl rfl
    have r3 : Reads (sz := ![1, 8, 40, 40]) (α := EReal) (iblk7 V c 3 t)
        (fun x => G (grid7.coords t 0).val (8 * (grid7.coords t 1).val + x 1) (x 2) (x 3)) := by
      intro x hx
      refine (hG.at (((cfg7.win 3).blk t).view.emb (fun a => ⟨x a, hx a⟩))).trans ?_
      have h0 : x 0 < 1 := hx 0
      blk_simp [i3]
      exact cong4 G (by dsimp only; omega) (by dsimp only; omega) rfl rfl
    have r4 : Reads (sz := ![1, 4, 40, 40]) (α := EReal) (iblk7 V c 4 t)
        (fun x => G (grid7.coords t 0).val (4 * (2 * (grid7.coords t 1).val - 1) + x 1) (x 2) (x 3)) := by
      intro x hx
      refine (hG.at (((cfg7.win 4).blk t).view.emb (fun a => ⟨x a, hx a⟩))).trans ?_
      have h0 : x 0 < 1 := hx 0
      blk_simp [i4]
      exact cong4 G (by dsimp only; omega) (by dsimp only; omega) rfl rfl
    have r5 : Reads (sz := ![1, 4, 40, 40]) (α := EReal) (iblk7 V c 5 t)
        (fun x => G (grid7.coords t 0).val (4 * min (2 * (grid7.coords t 1).val + 2) (40 / 4 - 1) + x 1) (x 2) (x 3)) := by
      intro x hx
      refine (hG.at (((cfg7.win 5).blk t).view.emb (fun a => ⟨x a, hx a⟩))).trans ?_
      have h0 : x 0 < 1 := hx 0
      blk_simp [i5]
      exact cong4 G (by dsimp only; omega) (by dsimp only; omega) rfl rfl
    have r := energy40_reads (grid7.coords t 1).val (by omega) (grid7.coords t) rfl (D (grid7.coords t 0).val) (G (grid7.coords t 0).val)
      _ _ _ _ _ _ r0 r1 r2 r3 r4 r5
    rw [after7_6]
    simp only [cast_eq]
    rw [r]
    blk_simp [i6]
  rw [key]
  exact Reads.of_forall fun _ => rfl

end Cert.KernelIdeal.Gen

end
-- ==== Proof.Values.lean ====
/- The kernel's host values, boundary by boundary, are the reference's. -/
module

public import proofs.«01_k».proof.Proof.Hosts
public import proofs.«01_k».proof.Proof.Det
public import proofs.«01_k».proof.Proof.InterpK
public import proofs.«01_k».proof.Proof.ResizeR
public import proofs.«01_k».proof.Proof.Ref160
public import proofs.«01_k».proof.Proof.Ref80
public import proofs.«01_k».proof.Proof.Ref40
public import proofs.«01_k».proof.Proof.Array160
public import proofs.«01_k».proof.Proof.Array80
public import proofs.«01_k».proof.Proof.Array40
public import proofs.«01_k».proof.Proof.Gen.KernelIdeal.Frame

@[expose] public section

set_option maxRecDepth 16384

noncomputable section

namespace Cert.KernelIdeal.Gen

open Idealize.ShloMosaic Idealize.ShloMosaic.TcCoe Cert.Elastic Cert.KernelIdeal

theorem reads_of_eq {α : Type} {r : ℕ} {sz : Fin r → ℕ} {v w : (⟨r, sz⟩ : Shape).Idx → α} {f : (Fin r → ℕ) → α} (e : v = w) (h : Reads w f) : Reads v f :=
  e ▸ h

/-- Every tensor of five axes is read by some function of five numbers. -/
theorem exists_reads5 {s : Fin 5 → ℕ} (v : (⟨5, s⟩ : Shape).Idx → EReal) :
    ∃ F : ℕ → ℕ → ℕ → ℕ → ℕ → EReal, Reads (sz := s) v (fun x => F (x 0) (x 1) (x 2) (x 3) (x 4)) := by
  refine ⟨fun a b c d e => if h : ∀ k, (![a, b, c, d, e] : Fin 5 → ℕ) k < s k then v (fun k => ⟨(![a, b, c, d, e] : Fin 5 → ℕ) k, h k⟩) else 0, fun x hx => ?_⟩
  have e : (![x 0, x 1, x 2, x 3, x 4] : Fin 5 → ℕ) = x := by
    funext k
    fin_cases k <;> rfl
  refine Eq.symm ((dif_pos (by rw [e]; exact hx)).trans (congrArg v (funext fun k => Fin.ext ?_)))
  exact congrFun e k

variable (x0 : (⟨S2x3x160x160x160, .f32⟩ : BufTy).Contents (Elt Ideal)) (x1 : (⟨S2x1x160x160x160, .f32⟩ : BufTy).Contents (Elt Ideal))

/-- The loss up to size 160. -/
theorem mean160 (V : Valuation τ sig (Elt Ideal)) (D : ℕ → ℕ → ℕ → ℕ → ℕ → EReal) (I : ℕ → ℕ → ℕ → ℕ → EReal)
    (hD : Reads (r := 5) (sz := ![2, 3, 160, 160, 160]) (α := EReal) x0 (fun x => D (x 0) (x 1) (x 2) (x 3) (x 4)))
    (hI : Reads (r := 4) (sz := ![2, 160, 160, 160]) (α := EReal) (Cert.ReferenceIdeal.Read.val_main_v0 (F := Ideal) x1) (fun x => I (x 0) (x 1) (x 2) (x 3)))
    (h : Reads (r := 4) (sz := ![2, 20, 8, 128]) (α := EReal) (V (Proc.devRef .tc main_v2)) (fun x => blockSum 160 (D (x 0)) (magK 160 (I (x 0))) (x 1))) :
    StableHlo.after hostOps2 V (Proc.devRef .tc main_v8) = Cert.ReferenceIdeal.Read.val_main_v223 (F := Ideal) x0 x1 := by
  have e := total 160 20 (by decide) (by decide) D I (Cert.ReferenceIdeal.Read.point160R x0 x1 D I hD hI)
    (reads_entry (g := fun b t => blockSum 160 (D b) (magK 160 (I b)) t) h slices_S2x20x8x128_S2x20x1x1_0_0_0_0 shapeCasts_S2x20x1x1_S2x20)
    (constant S_ .f32 0x00000000#32) Cert.ReferenceIdeal.Gen.reducesTo_S2x160x160x160_S_d0_1_2_3 reducesTo_S2x20_S_d0_1 h_S_
  after_reads_simp
  exact congrArg (fun s : FVec Ideal S_ .f32 => addf (constant (F := Ideal) S_ .f32 0x00000000#32) (mulf (constant S_ .f32 0x3F800000#32) (Host.divf s (constant S_ .f32 0x4AFA0000#32)))) e

/-- The loss up to size 80. -/
theorem mean80 (V : Valuation τ sig (Elt Ideal)) (D : ℕ → ℕ → ℕ → ℕ → ℕ → EReal) (I : ℕ → ℕ → ℕ → ℕ → EReal)
    (hD : Reads (r := 5) (sz := ![2, 3, 80, 80, 80]) (α := EReal) (Cert.ReferenceIdeal.Read.val_main_v286 (F := Ideal) x0) (fun x => D (x 0) (x 1) (x 2) (x 3) (x 4)))
    (hI : Reads (r := 4) (sz := ![2, 80, 80, 80]) (α := EReal) (Cert.ReferenceIdeal.Read.val_main_v350 (F := Ideal) x1) (fun x => I (x 0) (x 1) (x 2) (x 3)))
    (h : Reads (r := 4) (sz := ![2, 10, 8, 128]) (α := EReal) (V (Proc.devRef .tc main_v26)) (fun x => blockSum 80 (D (x 0)) (magK 80 (I (x 0))) (x 1)))
    (hp : V (Proc.devRef .tc main_v8) = Cert.ReferenceIdeal.Read.val_main_v223 (F := Ideal) x0 x1) :
    StableHlo.after hostOps5 V (Proc.devRef .tc main_v32) = Cert.ReferenceIdeal.Read.val_main_v573 (F := Ideal) x0 x1 := by
  have e := total 80 10 (by decide) (by decide) D I (Cert.ReferenceIdeal.Read.point80R x0 x1 D I hD hI)
    (reads_entry (g := fun b t => blockSum 80 (D b) (magK 80 (I b)) t) h slices_S2x10x8x128_S2x10x1x1_0_0_0_0 shapeCasts_S2x10x1x1_S2x10)
    (constant S_ .f32 0x00000000#32) Cert.ReferenceIdeal.Gen.reducesTo_S2x80x80x80_S_d0_1_2_3 reducesTo_S2x10_S_d0_1 h_S_
  after_reads_simp
  simp only [hp]
  exact congrArg (fun s : FVec Ideal S_ .f32 => addf (Cert.ReferenceIdeal.Read.val_main_v223 (F := Ideal) x0 x1) (mulf (constant S_ .f32 0x3F000000#32) (Host.divf s (constant S_ .f32 0x497A0000#32)))) e

/-- The loss up to size 40. -/
theorem mean40 (V : Valuation τ sig (Elt Ideal)) (D : ℕ → ℕ → ℕ → ℕ → ℕ → EReal) (I : ℕ → ℕ → ℕ → ℕ → EReal)
    (hD : Reads (r := 5) (sz := ![2, 3, 40, 40, 40]) (α := EReal) (Cert.ReferenceIdeal.Read.val_main_v636 (F := Ideal) x0) (fun x => D (x 0) (x 1) (x 2) (x 3) (x 4)))
    (hI : Reads (r := 4) (sz := ![2, 40, 40, 40]) (α := EReal) (Cert.ReferenceIdeal.Read.val_main_v700 (F := Ideal) x1) (fun x => I (x 0) (x 1) (x 2) (x 3)))
    (h : Reads (r := 4) (sz := ![2, 5, 8, 128]) (α := EReal) (V (Proc.devRef .tc main_v50)) (fun x => blockSum 40 (D (x 0)) (magK 40 (I (x 0))) (x 1)))
    (hp : V (Proc.devRef .tc main_v32) = Cert.ReferenceIdeal.Read.val_main_v573 (F := Ideal) x0 x1) :
    StableHlo.after hostOps8 V (Proc.devRef .tc main_v56) = Cert.ReferenceIdeal.Read.val_main_v923 (F := Ideal) x0 x1 := by
  have e := total 40 5 (by decide) (by decide) D I (Cert.ReferenceIdeal.Read.point40R x0 x1 D I hD hI)
    (reads_entry (g := fun b t => blockSum 40 (D b) (magK 40 (I b)) t) h slices_S2x5x8x128_S2x5x1x1_0_0_0_0 shapeCasts_S2x5x1x1_S2x5)
    (constant S_ .f32 0x00000000#32) Cert.ReferenceIdeal.Gen.reducesTo_S2x40x40x40_S_d0_1_2_3 reducesTo_S2x5_S_d0_1 h_S_
  after_reads_simp
  simp only [hp]
  exact congrArg (fun s : FVec Ideal S_ .f32 => addf (Cert.ReferenceIdeal.Read.val_main_v573 (F := Ideal) x0 x1) (mulf (constant S_ .f32 0x3E800000#32) (Host.divf s (constant S_ .f32 0x47FA0000#32)))) e

/-- The result's buffer at the end. -/
theorem result (m : (ℓ : Loc nD τ sig) → Buf (Elt Ideal) ℓ) (ρ : Dev nD → PrngReg) (c : Dev nD)
    (h0 : m ((c : Thread nD τ).loc main_arg0) = x0) (h1 : m ((c : Thread nD τ).loc main_arg1) = x1) :
    W18 m ρ c (Proc.devRef .tc main_v88) = Cert.ReferenceIdeal.Read.val_main_v1062 (F := Ideal) x0 x1 := by
  obtain ⟨D, hD⟩ := exists_reads5 (s := ![2, 3, 160, 160, 160]) x0
  obtain ⟨G, hG⟩ := exists_reads5 (s := ![2, 1, 160, 160, 160]) x1
  have args (W : Valuation τ sig (Elt Ideal)) (hW : ∀ a ∈ argRefs, W (Proc.devRef .tc a) = m ((c : Thread nD τ).loc a)) :
      W (Proc.devRef .tc main_arg0) = x0 ∧ W (Proc.devRef .tc main_arg1) = x1 :=
    ⟨(hW main_arg0 (by decide)).trans h0, (hW main_arg1 (by decide)).trans h1⟩
  have a0 := args _ (W0_args m ρ c)
  have a2 := args _ (W2_args m ρ c)
  have a5 := args _ (W5_args m ρ c)
  have a10 := args _ (W10_args m ρ c)
  have a13 := args _ (W13_args m ρ c)
  -- size 160
  have g0 : Reads (r := 4) (sz := ![2, 160, 160, 160]) (α := EReal) (V1 m ρ c main_v0) (fun x => G (x 0) 0 (x 1) (x 2) (x 3)) :=
    image160 (W0 m ρ c) G (reads_of_eq a0.2 hG)
  have g1 : Reads (r := 4) (sz := ![2, 160, 160, 160]) (α := EReal) (V2 m ρ c main_v1) (fun x => magK 160 (G (x 0) 0) (x 1) (x 2) (x 3)) :=
    reads_of_eq (W2_arr m ρ c 3) (mag160_array (V1 m ρ) c (fun b => G b 0) g0)
  have g2 : Reads (r := 4) (sz := ![2, 20, 8, 128]) (α := EReal) (W3 m ρ c (Proc.devRef .tc main_v2)) (fun x => blockSum 160 (D (x 0)) (magK 160 (G (x 0) 0)) (x 1)) :=
    reads_of_eq (W3_arr m ρ c 6) (energy160_array (V2 m ρ) c D (fun b => magK 160 (G b 0)) (reads_of_eq a2.1 hD) g1)
  have l4 : W4 m ρ c (Proc.devRef .tc main_v8) = Cert.ReferenceIdeal.Read.val_main_v223 (F := Ideal) x0 x1 :=
    mean160 x0 x1 (W3 m ρ c) D (fun b => G b 0) hD (hG.drop1 _) g2
  -- size 80
  have m80 : Reads (r := 2) (sz := ![80, 160]) (α := EReal) (W5 m ρ c (Proc.devRef .tc main_v13)) (fun x => lerpM 160 (pos 0x4000CF64#32 (x 0)) (x 1)) :=
    reads_of_eq (W5_arr m ρ c 1) (interp80_array (V4 m ρ) c (pos 0x4000CF64#32) (coords80 (W3 m ρ c)))
  have d80 : Reads (r := 5) (sz := ![2, 3, 80, 80, 80]) (α := EReal) (W6 m ρ c (Proc.devRef .tc main_v18)) (fun x => resized 0x4000CF64#32 (D (x 0) (x 1)) (x 2) (x 3) (x 4)) :=
    disp80 (W5 m ρ c) D m80 (reads_of_eq a5.1 hD)
  have i80 : Reads (r := 4) (sz := ![2, 80, 80, 80]) (α := EReal) (V6 m ρ c main_v24) (fun x => resized 0x4000CF64#32 (G (x 0) 0) (x 1) (x 2) (x 3)) :=
    image80 (W5 m ρ c) G m80 (reads_of_eq a5.2 hG)
  have p80 : Reads (r := 4) (sz := ![2, 80, 80, 80]) (α := EReal) (V7 m ρ c main_v25) (fun x => magK 80 (resized 0x4000CF64#32 (G (x 0) 0)) (x 1) (x 2) (x 3)) :=
    reads_of_eq (W7_arr m ρ c 3) (mag80_array (V6 m ρ) c (fun b => resized 0x4000CF64#32 (G b 0)) i80)
  have q80 : Reads (r := 4) (sz := ![2, 10, 8, 128]) (α := EReal) (W8 m ρ c (Proc.devRef .tc main_v26))
      (fun x => blockSum 80 (fun e => resized 0x4000CF64#32 (D (x 0) e)) (magK 80 (resized 0x4000CF64#32 (G (x 0) 0))) (x 1)) :=
    reads_of_eq (W8_arr m ρ c 6) (energy80_array (V7 m ρ) c (fun b e => resized 0x4000CF64#32 (D b e)) (fun b => magK 80 (resized 0x4000CF64#32 (G b 0)))
      (reads_of_eq (W7_of m ρ c main_v18 (by decide)) d80) p80)
  have k80 : W8 m ρ c (Proc.devRef .tc main_v8) = Cert.ReferenceIdeal.Read.val_main_v223 (F := Ideal) x0 x1 :=
    (W8_of m ρ c main_v8 (by decide)).trans ((W7_of m ρ c main_v8 (by decide)).trans ((W6_of m ρ c main_v8 (by decide)).trans
      ((W5_of m ρ c main_v8 (by decide)).trans l4)))
  have l9 : W9 m ρ c (Proc.devRef .tc main_v32) = Cert.ReferenceIdeal.Read.val_main_v573 (F := Ideal) x0 x1 :=
    mean80 x0 x1 (W8 m ρ c) (fun b e => resized 0x4000CF64#32 (D b e)) (fun b => resized 0x4000CF64#32 (G b 0)) (Cert.ReferenceIdeal.Read.disp80R x0 D hD)
      (Reads.drop1 (f := fun x => resized 0x4000CF64#32 (G (x 0) (x 1)) (x 2) (x 3) (x 4)) (Cert.ReferenceIdeal.Read.img80R x1 G hG) _) q80 k80
  -- size 40
  have m40 : Reads (r := 2) (sz := ![40, 160]) (α := EReal) (W10 m ρ c (Proc.devRef .tc main_v37)) (fun x => lerpM 160 (pos 0x40827627#32 (x 0)) (x 1)) :=
    reads_of_eq (W10_arr m ρ c 1) (interp40_array (V9 m ρ) c (pos 0x40827627#32) (coords40 (W8 m ρ c)))
  have d40 : Reads (r := 5) (sz := ![2, 3, 40, 40, 40]) (α := EReal) (W11 m ρ c (Proc.devRef .tc main_v42)) (fun x => resized 0x40827627#32 (D (x 0) (x 1)) (x 2) (x 3) (x 4)) :=
    disp40 (W10 m ρ c) D m40 (reads_of_eq a10.1 hD)
  have i40 : Reads (r := 4) (sz := ![2, 40, 40, 40]) (α := EReal) (V11 m ρ c main_v48) (fun x => resized 0x40827627#32 (G (x 0) 0) (x 1) (x 2) (x 3)) :=
    image40 (W10 m ρ c) G m40 (reads_of_eq a10.2 hG)
  have p40 : Reads (r := 4) (sz := ![2, 40, 40, 40]) (α := EReal) (V12 m ρ c main_v49) (fun x => magK 40 (resized 0x40827627#32 (G (x 0) 0)) (x 1) (x 2) (x 3)) :=
    reads_of_eq (W12_arr m ρ c 3) (mag40_array (V11 m ρ) c (fun b => resized 0x40827627#32 (G b 0)) i40)
  have q40 : Reads (r := 4) (sz := ![2, 5, 8, 128]) (α := EReal) (W13 m ρ c (Proc.devRef .tc main_v50))
      (fun x => blockSum 40 (fun e => resized 0x40827627#32 (D (x 0) e)) (magK 40 (resized 0x40827627#32 (G (x 0) 0))) (x 1)) :=
    reads_of_eq (W13_arr m ρ c 6) (energy40_array (V12 m ρ) c (fun b e => resized 0x40827627#32 (D b e)) (fun b => magK 40 (resized 0x40827627#32 (G b 0)))
      (reads_of_eq (W12_of m ρ c main_v42 (by decide)) d40) p40)
  have k40 : W13 m ρ c (Proc.devRef .tc main_v32) = Cert.ReferenceIdeal.Read.val_main_v573 (F := Ideal) x0 x1 :=
    (W13_of m ρ c main_v32 (by decide)).trans ((W12_of m ρ c main_v32 (by decide)).trans ((W11_of m ρ c main_v32 (by decide)).trans
      ((W10_of m ρ c main_v32 (by decide)).trans l9)))
  have l14 : W14 m ρ c (Proc.devRef .tc main_v56) = Cert.ReferenceIdeal.Read.val_main_v923 (F := Ideal) x0 x1 :=
    mean40 x0 x1 (W13 m ρ c) (fun b e => resized 0x40827627#32 (D b e)) (fun b => resized 0x40827627#32 (G b 0)) (Cert.ReferenceIdeal.Read.disp40R x0 D hD)
      (Reads.drop1 (f := fun x => resized 0x40827627#32 (G (x 0) (x 1)) (x 2) (x 3) (x 4)) (Cert.ReferenceIdeal.Read.img40R x1 G hG) _) q40 k40
  -- the Jacobian's part
  have j14 : W14 m ρ c (Proc.devRef .tc main_v81) = Cert.ReferenceIdeal.Read.val_main_v948 (F := Ideal) x0 := jacobian (W13 m ρ c) x0 a13.1
  have j15 : W15 m ρ c (Proc.devRef .tc main_v82) = Cert.ReferenceIdeal.Read.val_main_v1056 (F := Ideal) x0 := determinant (W14 m ρ c) x0 j14
  have j16 : W16 m ρ c (Proc.devRef .tc main_v83) = Cert.ReferenceIdeal.Read.val_main_v1057 (F := Ideal) x0 := fold3 (W15 m ρ c) x0 j15
  have j17 : W17 m ρ c (Proc.devRef .tc main_v84) = Cert.ReferenceIdeal.Read.val_main_v1058 (F := Ideal) x0 := fold4 (W16 m ρ c) x0 j16
  have l17 : W17 m ρ c (Proc.devRef .tc main_v56) = Cert.ReferenceIdeal.Read.val_main_v923 (F := Ideal) x0 x1 :=
    (W17_of m ρ c main_v56 (by decide)).trans ((W16_of m ρ c main_v56 (by decide)).trans ((W15_of m ρ c main_v56 (by decide)).trans l14))
  exact fold5 (W17 m ρ c) x0 x1 j17 l17

end Cert.KernelIdeal.Gen

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Launched
public import proofs.«01_k».proof.Proof.Values
public import Idealize.ShloMosaic.Adequacy
public import Idealize.ShloMosaic.Init

@[expose] public section

noncomputable section

namespace Cert.Proof

open Idealize.ShloMosaic Idealize.SL.Sem

/-- The reference's run: its generated run read at the arguments; the program declares no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The shared value is the reference's last line at the arguments' contents. -/
theorem algebraic : Cert.algebraic_KernelIdeal_ReferenceIdeal := by
  intro m ρ m' ρ' _ hagree
  refine ⟨fun c => Cert.ReferenceIdeal.Read.val_main_v1062 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun r h c => ⟨(h c).1.trans (Cert.KernelIdeal.Gen.result _ _ m ρ c rfl rfl), (h c).2⟩)
      (Cert.KernelIdeal.Gen.launched (F := Ideal) m ρ)
  · exact (θ_run Cert.ReferenceIdeal.defs _ _).mono
      (fun r h c => ⟨(h c).1.trans ((Cert.ReferenceIdeal.Read.val_main_v1062_eq _).trans
        (congrArg₂ (Cert.ReferenceIdeal.Read.val_main_v1062 (F := Ideal)) (hagree c).1 (hagree c).2)), (h c).2⟩)
      (Cert.ReferenceIdeal.Value.run (F := Ideal) m' ρ')

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
